-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  IdealRules.named_const.Statement Cert.InProjIdeal.κ "q_scale" .f32 0x3E0293EE#32 (((Real.sqrt 128)⁻¹ * (Real.log 2)⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v6_0)) (v1 : (c : Dev Cert.InProjIdeal.nD) → Buf (Elt Ideal) ((c.tc : Thread Cert.InProjIdeal.nD Cert.InProjIdeal.τ).loc Cert.InProjIdeal.main_v6_1)) (v2 : (c : Dev Cert.InProjIdeal.nD) → Buf (Elt Ideal) ((c.tc : Thread Cert.InProjIdeal.nD Cert.InProjIdeal.τ).loc Cert.InProjIdeal.main_v6_2)) (v3 : (c : Dev Cert.InProjIdeal.nD) → Buf (Elt Ideal) ((c.tc : Thread Cert.InProjIdeal.nD Cert.InProjIdeal.τ).loc Cert.InProjIdeal.main_v6_3)) (v4 : (c : Dev Cert.InProjIdeal.nD) → Buf (Elt Ideal) ((c.tc : Thread Cert.InProjIdeal.nD Cert.InProjIdeal.τ).loc Cert.InProjIdeal.main_v6_4)) (v5 : (c : Dev Cert.InProjIdeal.nD) → Buf (Elt Ideal) ((c.tc : Thread Cert.InProjIdeal.nD Cert.InProjIdeal.τ).loc Cert.InProjIdeal.main_v6_5)) (v6 : (c : Dev Cert.InProjIdeal.nD) → Buf (Elt Ideal) ((c.tc : Thread Cert.InProjIdeal.nD Cert.InProjIdeal.τ).loc Cert.InProjIdeal.main_v6_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6_0) = v0 c
          ∧ r.2.mem ((c.tc : Thread Cert.InProjIdeal.nD Cert.InProjIdeal.τ).loc Cert.InProjIdeal.main_v6_1) = v1 c
          ∧ r.2.mem ((c.tc : Thread Cert.InProjIdeal.nD Cert.InProjIdeal.τ).loc Cert.InProjIdeal.main_v6_2) = v2 c
          ∧ r.2.mem ((c.tc : Thread Cert.InProjIdeal.nD Cert.InProjIdeal.τ).loc Cert.InProjIdeal.main_v6_3) = v3 c
          ∧ r.2.mem ((c.tc : Thread Cert.InProjIdeal.nD Cert.InProjIdeal.τ).loc Cert.InProjIdeal.main_v6_4) = v4 c
          ∧ r.2.mem ((c.tc : Thread Cert.InProjIdeal.nD Cert.InProjIdeal.τ).loc Cert.InProjIdeal.main_v6_5) = v5 c
          ∧ r.2.mem ((c.tc : Thread Cert.InProjIdeal.nD Cert.InProjIdeal.τ).loc Cert.InProjIdeal.main_v6_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v27) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_v17) = v2 c
          ∧ r.2.mem ((c.tc : Thread Cert.InProjRefIdeal.nD Cert.InProjRefIdeal.τ).loc Cert.InProjRefIdeal.main_v28) = v3 c
          ∧ r.2.mem ((c.tc : Thread Cert.InProjRefIdeal.nD Cert.InProjRefIdeal.τ).loc Cert.InProjRefIdeal.main_v19) = v4 c
          ∧ r.2.mem ((c.tc : Thread Cert.InProjRefIdeal.nD Cert.InProjRefIdeal.τ).loc Cert.InProjRefIdeal.main_v29) = v5 c
          ∧ r.2.mem ((c.tc : Thread Cert.InProjRefIdeal.nD Cert.InProjRefIdeal.τ).loc Cert.InProjRefIdeal.main_v30) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Ple_PleIdeal : Prop :=
  IdealRules.named_const.Statement Cert.PleIdeal.κ "neg_log2e" .f32 0xBFB8AA3B#32 ((-((Real.log 2)⁻¹) : ℝ) : EReal)

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v23) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v11_0)) (v1 : (c : Dev Cert.OutProjIdeal.nD) → Buf (Elt Ideal) ((c.tc : Thread Cert.OutProjIdeal.nD Cert.OutProjIdeal.τ).loc Cert.OutProjIdeal.main_v11_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v11_0) = v0 c
          ∧ r.2.mem ((c.tc : Thread Cert.OutProjIdeal.nD Cert.OutProjIdeal.τ).loc Cert.OutProjIdeal.main_v11_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v43) = v0 c
          ∧ r.2.mem ((c.tc : Thread Cert.OutProjRefIdeal.nD Cert.OutProjRefIdeal.τ).loc Cert.OutProjRefIdeal.main_v44) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_InProjS_InProjSIdeal : Prop :=
  IdealRules.named_const.Statement Cert.InProjSIdeal.κ "q_scale" .f32 0x3E0293EE#32 (((Real.sqrt 128)⁻¹ * (Real.log 2)⁻¹ : ℝ) : EReal)

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v6_0)) (v1 : (c : Dev Cert.InProjSIdeal.nD) → Buf (Elt Ideal) ((c.tc : Thread Cert.InProjSIdeal.nD Cert.InProjSIdeal.τ).loc Cert.InProjSIdeal.main_v6_1)) (v2 : (c : Dev Cert.InProjSIdeal.nD) → Buf (Elt Ideal) ((c.tc : Thread Cert.InProjSIdeal.nD Cert.InProjSIdeal.τ).loc Cert.InProjSIdeal.main_v6_2)) (v3 : (c : Dev Cert.InProjSIdeal.nD) → Buf (Elt Ideal) ((c.tc : Thread Cert.InProjSIdeal.nD Cert.InProjSIdeal.τ).loc Cert.InProjSIdeal.main_v6_3)) (v4 : (c : Dev Cert.InProjSIdeal.nD) → Buf (Elt Ideal) ((c.tc : Thread Cert.InProjSIdeal.nD Cert.InProjSIdeal.τ).loc Cert.InProjSIdeal.main_v6_4)) (v5 : (c : Dev Cert.InProjSIdeal.nD) → Buf (Elt Ideal) ((c.tc : Thread Cert.InProjSIdeal.nD Cert.InProjSIdeal.τ).loc Cert.InProjSIdeal.main_v6_5)) (v6 : (c : Dev Cert.InProjSIdeal.nD) → Buf (Elt Ideal) ((c.tc : Thread Cert.InProjSIdeal.nD Cert.InProjSIdeal.τ).loc Cert.InProjSIdeal.main_v6_6)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v6_0) = v0 c
          ∧ r.2.mem ((c.tc : Thread Cert.InProjSIdeal.nD Cert.InProjSIdeal.τ).loc Cert.InProjSIdeal.main_v6_1) = v1 c
          ∧ r.2.mem ((c.tc : Thread Cert.InProjSIdeal.nD Cert.InProjSIdeal.τ).loc Cert.InProjSIdeal.main_v6_2) = v2 c
          ∧ r.2.mem ((c.tc : Thread Cert.InProjSIdeal.nD Cert.InProjSIdeal.τ).loc Cert.InProjSIdeal.main_v6_3) = v3 c
          ∧ r.2.mem ((c.tc : Thread Cert.InProjSIdeal.nD Cert.InProjSIdeal.τ).loc Cert.InProjSIdeal.main_v6_4) = v4 c
          ∧ r.2.mem ((c.tc : Thread Cert.InProjSIdeal.nD Cert.InProjSIdeal.τ).loc Cert.InProjSIdeal.main_v6_5) = v5 c
          ∧ r.2.mem ((c.tc : Thread Cert.InProjSIdeal.nD Cert.InProjSIdeal.τ).loc Cert.InProjSIdeal.main_v6_6) = v6 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v27) = v0 c
          ∧ r.2.mem ((c.tc : Thread Cert.InProjSRefIdeal.nD Cert.InProjSRefIdeal.τ).loc Cert.InProjSRefIdeal.main_v16) = v1 c
          ∧ r.2.mem ((c.tc : Thread Cert.InProjSRefIdeal.nD Cert.InProjSRefIdeal.τ).loc Cert.InProjSRefIdeal.main_v17) = v2 c
          ∧ r.2.mem ((c.tc : Thread Cert.InProjSRefIdeal.nD Cert.InProjSRefIdeal.τ).loc Cert.InProjSRefIdeal.main_v28) = v3 c
          ∧ r.2.mem ((c.tc : Thread Cert.InProjSRefIdeal.nD Cert.InProjSRefIdeal.τ).loc Cert.InProjSRefIdeal.main_v19) = v4 c
          ∧ r.2.mem ((c.tc : Thread Cert.InProjSRefIdeal.nD Cert.InProjSRefIdeal.τ).loc Cert.InProjSRefIdeal.main_v29) = v5 c
          ∧ r.2.mem ((c.tc : Thread Cert.InProjSRefIdeal.nD Cert.InProjSRefIdeal.τ).loc Cert.InProjSRefIdeal.main_v30) = v6 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hPle : Cert.Ple.Facts) (hPleIdeal : Cert.PleIdeal.Facts) (hPleRefIdeal : Cert.PleRefIdeal.Facts) (hOutProj : Cert.OutProj.Facts) (hOutProjIdeal : Cert.OutProjIdeal.Facts) (hOutProjRefIdeal : Cert.OutProjRefIdeal.Facts) (hInProjS : Cert.InProjS.Facts) (hInProjSIdeal : Cert.InProjSIdeal.Facts) (hInProjSRefIdeal : Cert.InProjSRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Ple (hPle := hPle)
    ∧ quiescent_PleIdeal (hPleIdeal := hPleIdeal)
    ∧ quiescent_PleRefIdeal (hPleRefIdeal := hPleRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_Ple_PleIdeal
    ∧ algebraic_PleIdeal_PleRefIdeal (hPleIdeal := hPleIdeal) (hPleRefIdeal := hPleRefIdeal)
    ∧ preserves_OutProj_OutProjIdeal
    ∧ algebraic_OutProjIdeal_OutProjRefIdeal (hOutProjIdeal := hOutProjIdeal) (hOutProjRefIdeal := hOutProjRefIdeal)
    ∧ preserves_InProjS_InProjSIdeal
    ∧ algebraic_InProjSIdeal_InProjSRefIdeal (hInProjSIdeal := hInProjSIdeal) (hInProjSRefIdeal := hInProjSRefIdeal)
-- ==== Pre_finite.lean ====
abbrev S8x2048x2048 : Shape := ⟨3, ![8, 2048, 2048]⟩
abbrev S_ : Shape := ⟨0, ![]⟩

class Facts : Prop where
  bitsLt_bf16_f32 : FTy.bits .bf16 < FTy.bits .f32
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x2048 .bf16) (main_arg1 : FVec F S8x2048x2048 .f32) (main_arg2 : FVec F S8x2048x2048 .f32) (main_arg3 : FVec F S8x2048x2048 .bf16) : IVec S_ 1 :=
  let main_v0 : FVec F S8x2048x2048 .f32 := (extf .f32 · bitsLt_bf16_f32) main_arg0
  let main_v1 : FVec F S8x2048x2048 .f32 := Host.absf main_v0
  let main_cst : FVec F S_ .f32 := constant S_ .f32 0x7F800000#32
  let main_v2 : FVec F S8x2048x2048 .f32 := broadcastInDim S8x2048x2048 ![] bcast_S_S8x2048x2048 main_cst
  let main_v3 : IVec S8x2048x2048 1 := cmpf .olt main_v1 main_v2
  let main_c : IVec S_ 1 := constantI S_ 1 1#1
  let main_v4 : IVec S_ 1 := (fun x v => Host.reduce IntOp.andi x v reducesTo_S8x2048x2048_S_d0_1_2 h_S_) main_v3 main_c
  let main_v5 : FVec F S8x2048x2048 .f32 := Host.absf main_arg1
  let main_cst_0 : FVec F S_ .f32 := constant S_ .f32 0x7F800000#32
  let main_v6 : FVec F S8x2048x2048 .f32 := broadcastInDim S8x2048x2048 ![] bcast_S_S8x2048x2048 main_cst_0
  let main_v7 : IVec S8x2048x2048 1 := cmpf .olt main_v5 main_v6
  let main_c_1 : IVec S_ 1 := constantI S_ 1 1#1
  let main_v8 : IVec S_ 1 := (fun x v => Host.reduce IntOp.andi x v reducesTo_S8x2048x2048_S_d0_1_2 h_S_) main_v7 main_c_1
  let main_v9 : IVec S_ 1 := andi main_v4 main_v8
  main_v9
-- ==== Kernel.lean ====
abbrev S8x2048x2048 : Shape := ⟨3, ![8, 2048, 2048]⟩
abbrev S256x256 : Shape := ⟨2, ![256, 256]⟩
abbrev S1x2048x256 : Shape := ⟨3, ![1, 2048, 256]⟩
abbrev S2048x256 : Shape := ⟨2, ![2048, 256]⟩
abbrev S2x2048x1 : Shape := ⟨3, ![2, 2048, 1]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1x512x128 : Shape := ⟨3, ![1, 512, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x768x128 : Shape := ⟨3, ![1, 768, 128]⟩
abbrev S768x128 : Shape := ⟨2, ![768, 128]⟩
abbrev S768x256 : Shape := ⟨2, ![768, 256]⟩
abbrev S768 : Shape := ⟨1, ![768]⟩
abbrev S768x1 : Shape := ⟨2, ![768, 1]⟩
abbrev S1x512x1 : Shape := ⟨3, ![1, 512, 1]⟩
abbrev S1x1024x128 : Shape := ⟨3, ![1, 1024, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1x768x1 : Shape := ⟨3, ![1, 768, 1]⟩
abbrev S1x1280x128 : Shape := ⟨3, ![1, 1280, 128]⟩
abbrev S1280x128 : Shape := ⟨2, ![1280, 128]⟩
abbrev S1280x256 : Shape := ⟨2, ![1280, 256]⟩
abbrev S1280 : Shape := ⟨1, ![1280]⟩
abbrev S1280x1 : Shape := ⟨2, ![1280, 1]⟩
abbrev S1x1024x1 : Shape := ⟨3, ![1, 1024, 1]⟩
abbrev S1x1536x128 : Shape := ⟨3, ![1, 1536, 128]⟩
abbrev S1536x128 : Shape := ⟨2, ![1536, 128]⟩
abbrev S1536x256 : Shape := ⟨2, ![1536, 256]⟩
abbrev S1536 : Shape := ⟨1, ![1536]⟩
abbrev S1536x1 : Shape := ⟨2, ![1536, 1]⟩
abbrev S1x1280x1 : Shape := ⟨3, ![1, 1280, 1]⟩
abbrev S1x1792x128 : Shape := ⟨3, ![1, 1792, 128]⟩
abbrev S1792x128 : Shape := ⟨2, ![1792, 128]⟩
abbrev S1792x256 : Shape := ⟨2, ![1792, 256]⟩
abbrev S1792 : Shape := ⟨1, ![1792]⟩
abbrev S1792x1 : Shape := ⟨2, ![1792, 1]⟩
abbrev S1x1536x1 : Shape := ⟨3, ![1, 1536, 1]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩
abbrev S1x1792x1 : Shape := ⟨3, ![1, 1792, 1]⟩

abbrev nBuf : Space → Nat
  | .hbm => 9
  | .vmem => 13
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .f32⟩
  | .hbm, ⟨2, _⟩ => ⟨S8x2048x2048, .f32⟩
  | .hbm, ⟨3, _⟩ => ⟨S8x2048x2048, .bf16⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .bf16⟩
  | .hbm, ⟨8, _⟩ => ⟨S8x2048x2048, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .bf16⟩
  | .local _ .vmem, ⟨7, _⟩ => ⟨S1x2048x256, .bf16⟩
  | .local _ .vmem, ⟨8, _⟩ => ⟨S256x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S2048x256, .f32⟩
  | .local _ .vmem, ⟨12, _⟩ => ⟨S2x2048x1, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "inv_ln2" => some (((Real.log 2)⁻¹ : ℝ) : EReal)
  | "neg_log2e" => some ((-((Real.log 2)⁻¹) : ℝ) : EReal)
  | _ => none
-- ==== ReferenceIdeal.lean ====
abbrev S8x2048x2048 : Shape := ⟨3, ![8, 2048, 2048]⟩
abbrev S2048 : Shape := ⟨1, ![2048]⟩
abbrev S8x2048x16x128 : Shape := ⟨4, ![8, 2048, 16, 128]⟩
abbrev S8x16x2048x2048 : Shape := ⟨4, ![8, 16, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x16x128x2048 : Shape := ⟨4, ![8, 16, 128, 2048]⟩

abbrev nBuf : Space → Nat
  | .hbm => 83
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .f32⟩
  | .hbm, ⟨2, _⟩ => ⟨S8x2048x2048, .f32⟩
  | .hbm, ⟨3, _⟩ => ⟨S8x2048x2048, .bf16⟩
  | .hbm, ⟨4, _⟩ => ⟨S2048, .i32⟩
  | .hbm, ⟨5, _⟩ => ⟨S8x2048x16x128, .bf16⟩
  | .hbm, ⟨6, _⟩ => ⟨S8x2048x16x128, .f32⟩
  | .hbm, ⟨7, _⟩ => ⟨S8x2048x16x128, .f32⟩
  | .hbm, ⟨8, _⟩ => ⟨S8x2048x16x128, .f32⟩
  | .hbm, ⟨9, _⟩ => ⟨S8x16x2048x2048, .f32⟩
  | .hbm, ⟨10, _⟩ => ⟨S_, .f32⟩
  | .hbm, ⟨11, _⟩ => ⟨S_, .f32⟩
  | .hbm, ⟨12, _⟩ => ⟨S8x16x2048x2048, .f32⟩
  | .hbm, ⟨13, _⟩ => ⟨S8x16x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S8x16x2048x2048, .f32⟩
  | .hbm, ⟨20, _⟩ => ⟨S8x16x2048x2048, .f32⟩
  | .hbm, ⟨21, _⟩ => ⟨S_, .f32⟩
  | .hbm, ⟨22, _⟩ => ⟨S8x16x2048x2048, .f32⟩
  | .hbm, ⟨23, _⟩ => ⟨S8x16x2048x2048, .f32⟩
  | .hbm, ⟨24, _⟩ => ⟨S8x16x2048x2048, .f32⟩
  | .hbm, ⟨25, _⟩ => ⟨S8x16x2048x2048, .f32⟩
  | .hbm, ⟨26, _⟩ => ⟨S8x16x2048x2048, .i1⟩
  | .hbm, ⟨27, _⟩ => ⟨S8x16x2048x2048, .f32⟩
  | .hbm, ⟨28, _⟩ => ⟨S8x16x2048x2048, .f32⟩
  | .hbm, ⟨29, _⟩ => ⟨S8x16x2048x2048, .f32⟩
  | .hbm, ⟨30, _⟩ => ⟨S8x16x2048x2048, .f32⟩
  | .hbm, ⟨31, _⟩ => ⟨S8x16x2048x2048, .f32⟩
  | .hbm, ⟨32, _⟩ => ⟨S8x16x2048x2048, .f32⟩
  | .hbm, ⟨33, _⟩ => ⟨S8x16x2048x2048, .f32⟩
  | .hbm, ⟨34, _⟩ => ⟨S8x16x2048x2048, .f32⟩
  | .hbm, ⟨35, _⟩ => ⟨S8x16x2048x2048, .f32⟩
  | .hbm, ⟨36, _⟩ => ⟨S_, .f32⟩
  | .hbm, ⟨37, _⟩ => ⟨S_, .f32⟩
  | .hbm, ⟨38, _⟩ => ⟨S8x16x2048x2048, .i1⟩
  | .hbm, ⟨39, _⟩ => ⟨S8x16x2048x2048, .f32⟩
  | .hbm, ⟨40, _⟩ => ⟨S8x16x2048x2048, .f32⟩
  | .hbm, ⟨41, _⟩ => ⟨S_, .f32⟩
  | .hbm, ⟨42, _⟩ => ⟨S_, .f32⟩
  | .hbm, ⟨43, _⟩ => ⟨S8x16x2048x2048, .f32⟩
  | .hbm, ⟨44, _⟩ => ⟨S8x16x2048x2048, .f32⟩
  | .hbm, ⟨45, _⟩ => ⟨S8x16x2048x2048, .f32⟩
  | .hbm, ⟨46, _⟩ => ⟨S_, .f32⟩
  | .hbm, ⟨47, _⟩ => ⟨S8x16x2048x2048, .f32⟩
  | .hbm, ⟨48, _⟩ => ⟨S8x16x2048x2048, .f32⟩
  | .hbm, ⟨49, _⟩ => ⟨S8x16x2048x2048, .f32⟩
  | .hbm, ⟨50, _⟩ => ⟨S8x16x2048x2048, .f32⟩
  | .hbm, ⟨51, _⟩ => ⟨S8x16x2048x2048, .i1⟩
  | .hbm, ⟨52, _⟩ => ⟨S8x16x2048x2048, .f32⟩
  | .hbm, ⟨53, _⟩ => ⟨S8x16x2048x2048, .f32⟩
  | .hbm, ⟨54, _⟩ => ⟨S8x16x2048x2048, .f32⟩
  | .hbm, ⟨55, _⟩ => ⟨S8x16x2048x2048, .f32⟩
  | .hbm, ⟨56, _⟩ => ⟨S8x16x2048x2048, .f32⟩
  | .hbm, ⟨57, _⟩ => ⟨S8x16x2048x2048, .f32⟩
  | .hbm, ⟨58, _⟩ => ⟨S8x16x2048x2048, .f32⟩
  | .hbm, ⟨59, _⟩ => ⟨S8x16x2048x2048, .f32⟩
  | .hbm, ⟨60, _⟩ => ⟨S8x16x2048x2048, .f32⟩
  | .hbm, ⟨61, _⟩ => ⟨S8x16x2048x2048, .f32⟩
  | .hbm, ⟨62, _⟩ => ⟨S8x16x2048x2048, .f32⟩
  | .hbm, ⟨63, _⟩ => ⟨S_, .f32⟩
  | .hbm, ⟨64, _⟩ => ⟨S_, .f32⟩
  | .hbm, ⟨65, _⟩ => ⟨S8x16x2048x2048, .i1⟩
  | .hbm, ⟨66, _⟩ => ⟨S8x16x2048x2048, .f32⟩
  | .hbm, ⟨67, _⟩ => ⟨S8x16x2048x2048, .f32⟩
  | .hbm, ⟨68, _⟩ => ⟨S8x16x128x2048, .f32⟩
  | .hbm, ⟨69, _⟩ => ⟨S8x2048x16x128, .f32⟩
  | .hbm, ⟨70, _⟩ => ⟨S8x2048x2048, .f32⟩
  | .hbm, ⟨71, _⟩ => ⟨S8x2048x2048, .f32⟩
  | .hbm, ⟨72, _⟩ => ⟨S8x2048x2048, .f32⟩
  | .hbm, ⟨73, _⟩ => ⟨S8x2048x2048, .f32⟩
  | .hbm, ⟨74, _⟩ => ⟨S_, .f32⟩
  | .hbm, ⟨75, _⟩ => ⟨S8x2048x2048, .f32⟩
  | .hbm, ⟨76, _⟩ => ⟨S8x2048x2048, .f32⟩
  | .hbm, ⟨77, _⟩ => ⟨S_, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S8x2048x2048, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v15 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v16 : Ref sig .tc := ⟨.hbm, 40, rfl⟩
abbrev main_call2_cst : Ref sig .tc := ⟨.hbm, 41, rfl⟩
abbrev main_call2_v0 : Ref sig .tc := ⟨.hbm, 42, rfl⟩
abbrev main_v17 : Ref sig .tc := ⟨.hbm, 43, rfl⟩
abbrev main_v18 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_call5_v0 : Ref sig .tc := ⟨.hbm, 72, rfl⟩
abbrev main_call5_v1 : Ref sig .tc := ⟨.hbm, 73, rfl⟩
abbrev main_call5_cst : Ref sig .tc := ⟨.hbm, 74, rfl⟩
abbrev main_call5_v2 : Ref sig .tc := ⟨.hbm, 75, rfl⟩
abbrev main_call5_v3 : Ref sig .tc := ⟨.hbm, 76, rfl⟩
abbrev main_call5_cst_0 : Ref sig .tc := ⟨.hbm, 77, rfl⟩
abbrev main_call5_v4 : Ref sig .tc := ⟨.hbm, 78, rfl⟩
abbrev main_call5_v5 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩

abbrev nD : Nat := 1
abbrev τ : Topo := Topo.v7x

variable {F : FTy → Type} [FloatOps F]
-- ==== InProj.lean ====
abbrev S8x2048x4096 : Shape := ⟨3, ![8, 2048, 4096]⟩
abbrev S4096 : Shape := ⟨1, ![4096]⟩
abbrev S4096x14368 : Shape := ⟨2, ![4096, 14368]⟩
abbrev S14368x4096 : Shape := ⟨2, ![14368, 4096]⟩
abbrev S32x4096 : Shape := ⟨2, ![32, 4096]⟩
abbrev S_ : Shape := ⟨0, ![]⟩
abbrev S128x4096 : Shape := ⟨2, ![128, 4096]⟩
abbrev S16384x4096 : Shape := ⟨2, ![16384, 4096]⟩
abbrev S1x4096 : Shape := ⟨2, ![1, 4096]⟩
abbrev S16384x2048 : Shape := ⟨2, ![16384, 2048]⟩
abbrev S16384x128 : Shape := ⟨2, ![16384, 128]⟩
abbrev S512x4096 : Shape := ⟨2, ![512, 4096]⟩
abbrev S1024x512 : Shape := ⟨2, ![1024, 512]⟩
abbrev S1024x128 : Shape := ⟨2, ![1024, 128]⟩
abbrev S1024x4096 : Shape := ⟨2, ![1024, 4096]⟩
abbrev S128 : Shape := ⟨1, ![128]⟩
abbrev S128x1 : Shape := ⟨2, ![128, 1]⟩

abbrev nBuf : Space → Nat
  | .hbm => 18
  | .vmem => 22
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S4096x14368, .f32⟩
  | .hbm, ⟨3, _⟩ => ⟨S14368x4096, .f32⟩
  | .hbm, ⟨4, _⟩ => ⟨S14368x4096, .bf16⟩
  | .hbm, ⟨5, _⟩ => ⟨S32x4096, .bf16⟩
  | .hbm, ⟨6, _⟩ => ⟨S_, .i32⟩
  | .hbm, ⟨7, _⟩ => ⟨S_, .bf16⟩
  | .hbm, ⟨8, _⟩ => ⟨S128x4096, .bf16⟩
  | .hbm, ⟨9, _⟩ => ⟨S16384x4096, .f32⟩
  | .hbm, ⟨10, _⟩ => ⟨S1x4096, .f32⟩
  | .hbm, ⟨11, _⟩ => ⟨S16384x2048, .bf16⟩
  | .hbm, ⟨12, _⟩ => ⟨S16384x2048, .f32⟩
  | .hbm, ⟨13, _⟩ => ⟨S16384x2048, .f32⟩
  | .hbm, ⟨14, _⟩ => ⟨S16384x2048, .bf16⟩
  | .hbm, ⟨15, _⟩ => ⟨S16384x4096, .f32⟩
  | .hbm, ⟨16, _⟩ => ⟨S16384x2048, .bf16⟩
  | .hbm, ⟨17, _⟩ => ⟨S16384x128, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S128x4096, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | .local _ .vmem, ⟨18, _⟩ => ⟨S1024x128, .f32⟩
  | .local _ .vmem, ⟨19, _⟩ => ⟨S1024x128, .f32⟩
  | .local _ .vmem, ⟨20, _⟩ => ⟨S1024x4096, .bf16⟩
  | .local _ .vmem, ⟨21, _⟩ => ⟨S1024x4096, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![17, 29], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c8_i32 : BitVec 32 := 8#32
  let v6 : BitVec 1 := Scalar.cmpi .slt arg1 c8_i32
  let v7 : BitVec 1 := Scalar.andi v5 v6
  let v8 : BitVec 32 := Scalar.extui v7
  let c0_i32_3 : BitVec 32 := 0#32
  let v9 : BitVec 1 := Scalar.cmpi .ne v8 c0_i32_3
  v9

def k0_mult1 (i : grid0.Coords) : BitVec 32 :=
  let arg1 : BitVec 32 := BitVec.ofNat 32 (i 1).val
  let c128_i32 : BitVec 32 := 128#32
  let v64 : BitVec 32 := Scalar.muli arg1 c128_i32
  v64
def k0_off1 (i : grid0.Coords) : Fin 2 → Nat :=
  let arg1 : BitVec 32 := BitVec.ofNat 32 (i 1).val
  let c128_i32 : BitVec 32 := 128#32
  let v64 : BitVec 32 := Scalar.muli arg1 c128_i32
  let v65 : BitVec 32 := v64
  let v76 : Index := Scalar.indexCast v65
  let c0_31 : Index := 0#32
  ![v76.toNat, 0]
def k0_cond3 (i : grid0.Coords) : BitVec 1 :=
  let arg1 : BitVec 32 := BitVec.ofNat 32 (i 1).val
  let c0_i32_4 : BitVec 32 := 0#32
  let v10 : BitVec 1 := Scalar.cmpi .sge arg1 c0_i32_4
  let c4_i32 : BitVec 32 := 4#32
  let v11 : BitVec 1 := Scalar.cmpi .slt arg1 c4_i32
  let v12 : BitVec 1 := Scalar.andi v10 v11
  let arg0 : BitVec 32 := BitVec.ofNat 32 (i 0).val
  let c0_i32_5 : BitVec 32 := 0#32
  let v13 : BitVec 1 := Scalar.cmpi .sgt arg0 c0_i32_5
  let v14 : BitVec 1 := Scalar.andi v12 v13
  let v15 : BitVec 32 := Scalar.extui v14
  let c0_i32_6 : BitVec 32 := 0#32
  let v16 : BitVec 1 := Scalar.cmpi .ne v15 c0_i32_6
  v16

def k0_mult2 (i : grid0.Coords) : BitVec 32 :=
  let arg1 : BitVec 32 := BitVec.ofNat 32 (i 1).val
  let c128_i32 : BitVec 32 := 128#32
  let v72 : BitVec 32 := Scalar.muli arg1 c128_i32
  v72
def k0_off2 (i : grid0.Coords) : Fin 2 → Nat :=
  let arg1 : BitVec 32 := BitVec.ofNat 32 (i 1).val
  let c128_i32 : BitVec 32 := 128#32
  let v72 : BitVec 32 := Scalar.muli arg1 c128_i32
  let v73 : BitVec 32 := v72
  let v84 : Index := Scalar.indexCast v73
  let c0_39 : Index := 0#32
  ![v84.toNat, 0]
def k0_cond4 (i : grid0.Coords) : BitVec 1 :=
  let arg1 : BitVec 32 := BitVec.ofNat 32 (i 1).val
  let c4_i32_7 : BitVec 32 := 4#32
  let v17 : BitVec 1 := Scalar.cmpi .sge arg1 c4_i32_7
  let c8_i32_8 : BitVec 32 := 8#32
  let v18 : BitVec 1 := Scalar.cmpi .slt arg1 c8_i32_8
  let v19 : BitVec 1 := Scalar.andi v17 v18
  let arg0 : BitVec 32 := BitVec.ofNat 32 (i 0).val
  let c0_i32_9 : BitVec 32 := 0#32
  let v20 : BitVec 1 := Scalar.cmpi .sgt arg0 c0_i32_9
  let v21 : BitVec 1 := Scalar.andi v19 v20
  let v22 : BitVec 32 := Scalar.extui v21
  let c0_i32_10 : BitVec 32 := 0#32
  let v23 : BitVec 1 := Scalar.cmpi .ne v22 c0_i32_10
  v23

def k0_mult3 (i : grid0.Coords) : BitVec 32 :=
  let arg1 : BitVec 32 := BitVec.ofNat 32 (i 1).val
  let c128_i32 : BitVec 32 := 128#32
  let v69 : BitVec 32 := Scalar.muli arg1 c128_i32
  v69
def k0_off3 (i : grid0.Coords) : Fin 2 → Nat :=
  let arg1 : BitVec 32 := BitVec.ofNat 32 (i 1).val
  let c128_i32 : BitVec 32 := 128#32
  let v69 : BitVec 32 := Scalar.muli arg1 c128_i32
  let v70 : BitVec 32 := v69
  let v81 : Index := Scalar.indexCast v70
  let c0_38 : Index := 0#32
  ![v81.toNat, 0]
def k0_cond5 (i : grid0.Coords) : BitVec 1 :=
  let arg1 : BitVec 32 := BitVec.ofNat 32 (i 1).val
  let c8_i32_11 : BitVec 32 := 8#32
  let v24 : BitVec 1 := Scalar.cmpi .sge arg1 c8_i32_11
  let c12_i32 : BitVec 32 := 12#32
  let v25 : BitVec 1 := Scalar.cmpi .slt arg1 c12_i32
  let v26 : BitVec 1 := Scalar.andi v24 v25
  let arg0 : BitVec 32 := BitVec.ofNat 32 (i 0).val
  let c0_i32_12 : BitVec 32 := 0#32
  let v27 : BitVec 1 := Scalar.cmpi .sgt arg0 c0_i32_12
  let v28 : BitVec 1 := Scalar.andi v26 v27
  let v29 : BitVec 32 := Scalar.extui v28
  let c0_i32_13 : BitVec 32 := 0#32
  let v30 : BitVec 1 := Scalar.cmpi .ne v29 c0_i32_13
  v30

def k0_cond6 (i : grid0.Coords) : BitVec 1 :=
  let arg1 : BitVec 32 := BitVec.ofNat 32 (i 1).val
  let c12_i32_14 : BitVec 32 := 12#32
  let v31 : BitVec 1 := Scalar.cmpi .sge arg1 c12_i32_14
  let c16_i32 : BitVec 32 := 16#32
  let v32 : BitVec 1 := Scalar.cmpi .slt arg1 c16_i32
  let v33 : BitVec 1 := Scalar.andi v31 v32
  let arg0 : BitVec 32 := BitVec.ofNat 32 (i 0).val
  let c0_i32_15 : BitVec 32 := 0#32
  let v34 : BitVec 1 := Scalar.cmpi .sgt arg0 c0_i32_15
  let v35 : BitVec 1 := Scalar.andi v33 v34
  let v36 : BitVec 32 := Scalar.extui v35
  let c0_i32_16 : BitVec 32 := 0#32
  let v37 : BitVec 1 := Scalar.cmpi .ne v36 c0_i32_16
  v37

def k0_cond7 (i : grid0.Coords) : BitVec 1 :=
  let arg1 : BitVec 32 := BitVec.ofNat 32 (i 1).val
  let c16_i32_17 : BitVec 32 := 16#32
  let v38 : BitVec 1 := Scalar.cmpi .sge arg1 c16_i32_17
  let c24_i32 : BitVec 32 := 24#32
  let v39 : BitVec 1 := Scalar.cmpi .slt arg1 c24_i32
  let v40 : BitVec 1 := Scalar.andi v38 v39
  let arg0 : BitVec 32 := BitVec.ofNat 32 (i 0).val
  let c0_i32_18 : BitVec 32 := 0#32
  let v41 : BitVec 1 := Scalar.cmpi .sgt arg0 c0_i32_18
  let v42 : BitVec 1 := Scalar.andi v40 v41
  let v43 : BitVec 32 := Scalar.extui v42
  let c0_i32_19 : BitVec 32 := 0#32
  let v44 : BitVec 1 := Scalar.cmpi .ne v43 c0_i32_19
  v44

def k0_cond8 (i : grid0.Coords) : BitVec 1 :=
  let arg1 : BitVec 32 := BitVec.ofNat 32 (i 1).val
  let c24_i32_20 : BitVec 32 := 24#32
  let v45 : BitVec 1 := Scalar.cmpi .sge arg1 c24_i32_20
  let c28_i32 : BitVec 32 := 28#32
  let v46 : BitVec 1 := Scalar.cmpi .slt arg1 c28_i32
  let v47 : BitVec 1 := Scalar.andi v45 v46
  let arg0 : BitVec 32 := BitVec.ofNat 32 (i 0).val
  let c0_i32_21 : BitVec 32 := 0#32
  let v48 : BitVec 1 := Scalar.cmpi .sgt arg0 c0_i32_21
  let v49 : BitVec 1 := Scalar.andi v47 v48
  let v50 : BitVec 32 := Scalar.extui v49
  let c0_i32_22 : BitVec 32 := 0#32
  let v51 : BitVec 1 := Scalar.cmpi .ne v50 c0_i32_22
  v51

def k0_cond9 (i : grid0.Coords) : BitVec 1 :=
  let arg1 : BitVec 32 := BitVec.ofNat 32 (i 1).val
  let c28_i32_23 : BitVec 32 := 28#32
  let v52 : BitVec 1 := Scalar.cmpi .eq arg1 c28_i32_23
  let arg0 : BitVec 32 := BitVec.ofNat 32 (i 0).val
  let c0_i32_24 : BitVec 32 := 0#32
  let v53 : BitVec 1 := Scalar.cmpi .sgt arg0 c0_i32_24
  let v54 : BitVec 1 := Scalar.andi v52 v53
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c8_i32 : BitVec 32 := 8#32
  let v1 : BitVec 32 := Scalar.muli v0 c8_i32
  let c7_i32 : BitVec 32 := 7#32
  let v2 : BitVec 32 := Scalar.minsi arg1 c7_i32
  let v3 : BitVec 32 := Scalar.addi v1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c27_i32 : BitVec 32 := 27#32
  let v1 : BitVec 32 := Scalar.minsi arg1 c27_i32
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.subi arg1 c0_i32_1
  let c0_i32_2 : BitVec 32 := 0#32
  let c3_i32 : BitVec 32 := 3#32
  let v4 : BitVec 32 := Scalar.maxsi c0_i32_2 v3
  let v5 : BitVec 32 := Scalar.minsi c3_i32 v4
  let c0_i32_3 : BitVec 32 := 0#32
  let v6 : BitVec 32 := Scalar.select v2 v5 c0_i32_3
  let c0_i32_4 : BitVec 32 := 0#32
  ![v1.toNat, v6.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c4_i32 : BitVec 32 := 4#32
  let v3 : BitVec 32 := Scalar.subi arg1 c4_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c8_i32 : BitVec 32 := 8#32
  let v3 : BitVec 32 := Scalar.subi arg1 c8_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c12_i32 : BitVec 32 := 12#32
  let v3 : BitVec 32 := Scalar.subi arg1 c12_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c16_i32 : BitVec 32 := 16#32
  let v3 : BitVec 32 := Scalar.subi arg1 c16_i32
  let c0_i32_1 : BitVec 32 := 0#32
  let c7_i32 : BitVec 32 := 7#32
  let v4 : BitVec 32 := Scalar.maxsi c0_i32_1 v3
  let v5 : BitVec 32 := Scalar.minsi c7_i32 v4
  let c0_i32_2 : BitVec 32 := 0#32
  let v6 : BitVec 32 := Scalar.select v2 v5 c0_i32_2
  let c0_i32_3 : BitVec 32 := 0#32
  ![v1.toNat, v6.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c24_i32 : BitVec 32 := 24#32
  let v3 : BitVec 32 := Scalar.subi arg1 c24_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== InProjIdeal.lean ====
abbrev S8x2048x4096 : Shape := ⟨3, ![8, 2048, 4096]⟩
abbrev S4096 : Shape := ⟨1, ![4096]⟩
abbrev S4096x14368 : Shape := ⟨2, ![4096, 14368]⟩
abbrev S14368x4096 : Shape := ⟨2, ![14368, 4096]⟩
abbrev S32x4096 : Shape := ⟨2, ![32, 4096]⟩
abbrev S_ : Shape := ⟨0, ![]⟩
abbrev S128x4096 : Shape := ⟨2, ![128, 4096]⟩
abbrev S16384x4096 : Shape := ⟨2, ![16384, 4096]⟩
abbrev S1x4096 : Shape := ⟨2, ![1, 4096]⟩
abbrev S16384x2048 : Shape := ⟨2, ![16384, 2048]⟩
abbrev S16384x128 : Shape := ⟨2, ![16384, 128]⟩
abbrev S512x4096 : Shape := ⟨2, ![512, 4096]⟩
abbrev S1024x512 : Shape := ⟨2, ![1024, 512]⟩
abbrev S1024x128 : Shape := ⟨2, ![1024, 128]⟩
abbrev S1024x4096 : Shape := ⟨2, ![1024, 4096]⟩
abbrev S128 : Shape := ⟨1, ![128]⟩
abbrev S128x1 : Shape := ⟨2, ![128, 1]⟩

abbrev nBuf : Space → Nat
  | .hbm => 18
  | .vmem => 22
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S4096x14368, .f32⟩
  | .hbm, ⟨3, _⟩ => ⟨S14368x4096, .f32⟩
  | .hbm, ⟨4, _⟩ => ⟨S14368x4096, .bf16⟩
  | .hbm, ⟨5, _⟩ => ⟨S32x4096, .bf16⟩
  | .hbm, ⟨6, _⟩ => ⟨S_, .i32⟩
  | .hbm, ⟨7, _⟩ => ⟨S_, .bf16⟩
  | .hbm, ⟨8, _⟩ => ⟨S128x4096, .bf16⟩
  | .hbm, ⟨9, _⟩ => ⟨S16384x4096, .f32⟩
  | .hbm, ⟨10, _⟩ => ⟨S1x4096, .f32⟩
  | .hbm, ⟨11, _⟩ => ⟨S16384x2048, .bf16⟩
  | .hbm, ⟨12, _⟩ => ⟨S16384x2048, .f32⟩
  | .hbm, ⟨13, _⟩ => ⟨S16384x2048, .f32⟩
  | .hbm, ⟨14, _⟩ => ⟨S16384x2048, .bf16⟩
  | .hbm, ⟨15, _⟩ => ⟨S16384x4096, .f32⟩
  | .hbm, ⟨16, _⟩ => ⟨S16384x2048, .bf16⟩
  | .hbm, ⟨17, _⟩ => ⟨S16384x128, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S128x4096, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | .local _ .vmem, ⟨18, _⟩ => ⟨S1024x128, .f32⟩
  | .local _ .vmem, ⟨19, _⟩ => ⟨S1024x128, .f32⟩
  | .local _ .vmem, ⟨20, _⟩ => ⟨S1024x4096, .bf16⟩
  | .local _ .vmem, ⟨21, _⟩ => ⟨S1024x4096, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F] [Named F]

def κ : String → Option EReal := fun
  | "q_scale" => some (((Real.sqrt 128)⁻¹ * (Real.log 2)⁻¹ : ℝ) : EReal)
  | _ => none

abbrev grid0 : Pipeline.Grid := ⟨2, ![17, 29], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c8_i32 : BitVec 32 := 8#32
  let v6 : BitVec 1 := Scalar.cmpi .slt arg1 c8_i32
  let v7 : BitVec 1 := Scalar.andi v5 v6
  let v8 : BitVec 32 := Scalar.extui v7
  let c0_i32_3 : BitVec 32 := 0#32
  let v9 : BitVec 1 := Scalar.cmpi .ne v8 c0_i32_3
  v9

def k0_mult1 (i : grid0.Coords) : BitVec 32 :=
  let arg1 : BitVec 32 := BitVec.ofNat 32 (i 1).val
  let c128_i32 : BitVec 32 := 128#32
  let v64 : BitVec 32 := Scalar.muli arg1 c128_i32
  v64
def k0_off1 (i : grid0.Coords) : Fin 2 → Nat :=
  let arg1 : BitVec 32 := BitVec.ofNat 32 (i 1).val
  let c128_i32 : BitVec 32 := 128#32
  let v64 : BitVec 32 := Scalar.muli arg1 c128_i32
  let v65 : BitVec 32 := v64
  let v76 : Index := Scalar.indexCast v65
  let c0_31 : Index := 0#32
  ![v76.toNat, 0]
def k0_cond3 (i : grid0.Coords) : BitVec 1 :=
  let arg1 : BitVec 32 := BitVec.ofNat 32 (i 1).val
  let c0_i32_4 : BitVec 32 := 0#32
  let v10 : BitVec 1 := Scalar.cmpi .sge arg1 c0_i32_4
  let c4_i32 : BitVec 32 := 4#32
  let v11 : BitVec 1 := Scalar.cmpi .slt arg1 c4_i32
  let v12 : BitVec 1 := Scalar.andi v10 v11
  let arg0 : BitVec 32 := BitVec.ofNat 32 (i 0).val
  let c0_i32_5 : BitVec 32 := 0#32
  let v13 : BitVec 1 := Scalar.cmpi .sgt arg0 c0_i32_5
  let v14 : BitVec 1 := Scalar.andi v12 v13
  let v15 : BitVec 32 := Scalar.extui v14
  let c0_i32_6 : BitVec 32 := 0#32
  let v16 : BitVec 1 := Scalar.cmpi .ne v15 c0_i32_6
  v16

def k0_mult2 (i : grid0.Coords) : BitVec 32 :=
  let arg1 : BitVec 32 := BitVec.ofNat 32 (i 1).val
  let c128_i32 : BitVec 32 := 128#32
  let v72 : BitVec 32 := Scalar.muli arg1 c128_i32
  v72
def k0_off2 (i : grid0.Coords) : Fin 2 → Nat :=
  let arg1 : BitVec 32 := BitVec.ofNat 32 (i 1).val
  let c128_i32 : BitVec 32 := 128#32
  let v72 : BitVec 32 := Scalar.muli arg1 c128_i32
  let v73 : BitVec 32 := v72
  let v84 : Index := Scalar.indexCast v73
  let c0_39 : Index := 0#32
  ![v84.toNat, 0]
def k0_cond4 (i : grid0.Coords) : BitVec 1 :=
  let arg1 : BitVec 32 := BitVec.ofNat 32 (i 1).val
  let c4_i32_7 : BitVec 32 := 4#32
  let v17 : BitVec 1 := Scalar.cmpi .sge arg1 c4_i32_7
  let c8_i32_8 : BitVec 32 := 8#32
  let v18 : BitVec 1 := Scalar.cmpi .slt arg1 c8_i32_8
  let v19 : BitVec 1 := Scalar.andi v17 v18
  let arg0 : BitVec 32 := BitVec.ofNat 32 (i 0).val
  let c0_i32_9 : BitVec 32 := 0#32
  let v20 : BitVec 1 := Scalar.cmpi .sgt arg0 c0_i32_9
  let v21 : BitVec 1 := Scalar.andi v19 v20
  let v22 : BitVec 32 := Scalar.extui v21
  let c0_i32_10 : BitVec 32 := 0#32
  let v23 : BitVec 1 := Scalar.cmpi .ne v22 c0_i32_10
  v23

def k0_mult3 (i : grid0.Coords) : BitVec 32 :=
  let arg1 : BitVec 32 := BitVec.ofNat 32 (i 1).val
  let c128_i32 : BitVec 32 := 128#32
  let v69 : BitVec 32 := Scalar.muli arg1 c128_i32
  v69
def k0_off3 (i : grid0.Coords) : Fin 2 → Nat :=
  let arg1 : BitVec 32 := BitVec.ofNat 32 (i 1).val
  let c128_i32 : BitVec 32 := 128#32
  let v69 : BitVec 32 := Scalar.muli arg1 c128_i32
  let v70 : BitVec 32 := v69
  let v81 : Index := Scalar.indexCast v70
  let c0_38 : Index := 0#32
  ![v81.toNat, 0]
def k0_cond5 (i : grid0.Coords) : BitVec 1 :=
  let arg1 : BitVec 32 := BitVec.ofNat 32 (i 1).val
  let c8_i32_11 : BitVec 32 := 8#32
  let v24 : BitVec 1 := Scalar.cmpi .sge arg1 c8_i32_11
  let c12_i32 : BitVec 32 := 12#32
  let v25 : BitVec 1 := Scalar.cmpi .slt arg1 c12_i32
  let v26 : BitVec 1 := Scalar.andi v24 v25
  let arg0 : BitVec 32 := BitVec.ofNat 32 (i 0).val
  let c0_i32_12 : BitVec 32 := 0#32
  let v27 : BitVec 1 := Scalar.cmpi .sgt arg0 c0_i32_12
  let v28 : BitVec 1 := Scalar.andi v26 v27
  let v29 : BitVec 32 := Scalar.extui v28
  let c0_i32_13 : BitVec 32 := 0#32
  let v30 : BitVec 1 := Scalar.cmpi .ne v29 c0_i32_13
  v30

def k0_cond6 (i : grid0.Coords) : BitVec 1 :=
  let arg1 : BitVec 32 := BitVec.ofNat 32 (i 1).val
  let c12_i32_14 : BitVec 32 := 12#32
  let v31 : BitVec 1 := Scalar.cmpi .sge arg1 c12_i32_14
  let c16_i32 : BitVec 32 := 16#32
  let v32 : BitVec 1 := Scalar.cmpi .slt arg1 c16_i32
  let v33 : BitVec 1 := Scalar.andi v31 v32
  let arg0 : BitVec 32 := BitVec.ofNat 32 (i 0).val
  let c0_i32_15 : BitVec 32 := 0#32
  let v34 : BitVec 1 := Scalar.cmpi .sgt arg0 c0_i32_15
  let v35 : BitVec 1 := Scalar.andi v33 v34
  let v36 : BitVec 32 := Scalar.extui v35
  let c0_i32_16 : BitVec 32 := 0#32
  let v37 : BitVec 1 := Scalar.cmpi .ne v36 c0_i32_16
  v37

def k0_cond7 (i : grid0.Coords) : BitVec 1 :=
  let arg1 : BitVec 32 := BitVec.ofNat 32 (i 1).val
  let c16_i32_17 : BitVec 32 := 16#32
  let v38 : BitVec 1 := Scalar.cmpi .sge arg1 c16_i32_17
  let c24_i32 : BitVec 32 := 24#32
  let v39 : BitVec 1 := Scalar.cmpi .slt arg1 c24_i32
  let v40 : BitVec 1 := Scalar.andi v38 v39
  let arg0 : BitVec 32 := BitVec.ofNat 32 (i 0).val
  let c0_i32_18 : BitVec 32 := 0#32
  let v41 : BitVec 1 := Scalar.cmpi .sgt arg0 c0_i32_18
  let v42 : BitVec 1 := Scalar.andi v40 v41
  let v43 : BitVec 32 := Scalar.extui v42
  let c0_i32_19 : BitVec 32 := 0#32
  let v44 : BitVec 1 := Scalar.cmpi .ne v43 c0_i32_19
  v44

def k0_cond8 (i : grid0.Coords) : BitVec 1 :=
  let arg1 : BitVec 32 := BitVec.ofNat 32 (i 1).val
  let c24_i32_20 : BitVec 32 := 24#32
  let v45 : BitVec 1 := Scalar.cmpi .sge arg1 c24_i32_20
  let c28_i32 : BitVec 32 := 28#32
  let v46 : BitVec 1 := Scalar.cmpi .slt arg1 c28_i32
  let v47 : BitVec 1 := Scalar.andi v45 v46
  let arg0 : BitVec 32 := BitVec.ofNat 32 (i 0).val
  let c0_i32_21 : BitVec 32 := 0#32
  let v48 : BitVec 1 := Scalar.cmpi .sgt arg0 c0_i32_21
  let v49 : BitVec 1 := Scalar.andi v47 v48
  let v50 : BitVec 32 := Scalar.extui v49
  let c0_i32_22 : BitVec 32 := 0#32
  let v51 : BitVec 1 := Scalar.cmpi .ne v50 c0_i32_22
  v51

def k0_cond9 (i : grid0.Coords) : BitVec 1 :=
  let arg1 : BitVec 32 := BitVec.ofNat 32 (i 1).val
  let c28_i32_23 : BitVec 32 := 28#32
  let v52 : BitVec 1 := Scalar.cmpi .eq arg1 c28_i32_23
  let arg0 : BitVec 32 := BitVec.ofNat 32 (i 0).val
  let c0_i32_24 : BitVec 32 := 0#32
  let v53 : BitVec 1 := Scalar.cmpi .sgt arg0 c0_i32_24
  let v54 : BitVec 1 := Scalar.andi v52 v53
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c8_i32 : BitVec 32 := 8#32
  let v1 : BitVec 32 := Scalar.muli v0 c8_i32
  let c7_i32 : BitVec 32 := 7#32
  let v2 : BitVec 32 := Scalar.minsi arg1 c7_i32
  let v3 : BitVec 32 := Scalar.addi v1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c27_i32 : BitVec 32 := 27#32
  let v1 : BitVec 32 := Scalar.minsi arg1 c27_i32
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.subi arg1 c0_i32_1
  let c0_i32_2 : BitVec 32 := 0#32
  let c3_i32 : BitVec 32 := 3#32
  let v4 : BitVec 32 := Scalar.maxsi c0_i32_2 v3
  let v5 : BitVec 32 := Scalar.minsi c3_i32 v4
  let c0_i32_3 : BitVec 32 := 0#32
  let v6 : BitVec 32 := Scalar.select v2 v5 c0_i32_3
  let c0_i32_4 : BitVec 32 := 0#32
  ![v1.toNat, v6.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c4_i32 : BitVec 32 := 4#32
  let v3 : BitVec 32 := Scalar.subi arg1 c4_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c8_i32 : BitVec 32 := 8#32
  let v3 : BitVec 32 := Scalar.subi arg1 c8_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c12_i32 : BitVec 32 := 12#32
  let v3 : BitVec 32 := Scalar.subi arg1 c12_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c16_i32 : BitVec 32 := 16#32
  let v3 : BitVec 32 := Scalar.subi arg1 c16_i32
  let c0_i32_1 : BitVec 32 := 0#32
  let c7_i32 : BitVec 32 := 7#32
  let v4 : BitVec 32 := Scalar.maxsi c0_i32_1 v3
  let v5 : BitVec 32 := Scalar.minsi c7_i32 v4
  let c0_i32_2 : BitVec 32 := 0#32
  let v6 : BitVec 32 := Scalar.select v2 v5 c0_i32_2
  let c0_i32_3 : BitVec 32 := 0#32
  ![v1.toNat, v6.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c24_i32 : BitVec 32 := 24#32
  let v3 : BitVec 32 := Scalar.subi arg1 c24_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== InProjRefIdeal.lean ====
abbrev S8x2048x4096 : Shape := ⟨3, ![8, 2048, 4096]⟩
abbrev S4096 : Shape := ⟨1, ![4096]⟩
abbrev S4096x14368 : Shape := ⟨2, ![4096, 14368]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S8x2048x14368 : Shape := ⟨3, ![8, 2048, 14368]⟩
abbrev S16384x14368 : Shape := ⟨2, ![16384, 14368]⟩
abbrev S16384x2048 : Shape := ⟨2, ![16384, 2048]⟩
abbrev S16384x4096 : Shape := ⟨2, ![16384, 4096]⟩
abbrev S16384x32 : Shape := ⟨2, ![16384, 32]⟩
abbrev S16384x128 : Shape := ⟨2, ![16384, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S4096x14368, .f32⟩
  | .hbm, ⟨3, _⟩ => ⟨S8x2048x4096, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x4096, .f32⟩
  | .hbm, ⟨15, _⟩ => ⟨S8x2048x4096, .f32⟩
  | .hbm, ⟨16, _⟩ => ⟨S1x1x4096, .f32⟩
  | .hbm, ⟨17, _⟩ => ⟨S8x2048x4096, .f32⟩
  | .hbm, ⟨18, _⟩ => ⟨S8x2048x4096, .f32⟩
  | .hbm, ⟨19, _⟩ => ⟨S8x2048x14368, .f32⟩
  | .hbm, ⟨20, _⟩ => ⟨S16384x14368, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x4096, .f32⟩
  | .hbm, ⟨26, _⟩ => ⟨S16384x2048, .f32⟩
  | .hbm, ⟨27, _⟩ => ⟨S16384x32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2048, .bf16⟩
  | .hbm, ⟨36, _⟩ => ⟨S16384x2048, .bf16⟩
  | .hbm, ⟨37, _⟩ => ⟨S16384x2048, .bf16⟩
  | .hbm, ⟨38, _⟩ => ⟨S_, .i32⟩
  | .hbm, ⟨39, _⟩ => ⟨S_, .f32⟩
  | .hbm, ⟨40, _⟩ => ⟨S16384x128, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Ple.lean ====
abbrev S16384x4096 : Shape := ⟨2, ![16384, 4096]⟩
abbrev S8x2048x256 : Shape := ⟨3, ![8, 2048, 256]⟩
abbrev S4096x4096 : Shape := ⟨2, ![4096, 4096]⟩
abbrev S256x4096 : Shape := ⟨2, ![256, 4096]⟩
abbrev S4096 : Shape := ⟨1, ![4096]⟩
abbrev S16384x256 : Shape := ⟨2, ![16384, 256]⟩
abbrev S1x4096 : Shape := ⟨2, ![1, 4096]⟩
abbrev S1024x4096 : Shape := ⟨2, ![1024, 4096]⟩
abbrev S4096x512 : Shape := ⟨2, ![4096, 512]⟩
abbrev S1024x256 : Shape := ⟨2, ![1024, 256]⟩
abbrev S256x512 : Shape := ⟨2, ![256, 512]⟩
abbrev S1024x512 : Shape := ⟨2, ![1024, 512]⟩
abbrev S1x512 : Shape := ⟨2, ![1, 512]⟩
abbrev S8x1024x512 : Shape := ⟨3, ![8, 1024, 512]⟩
abbrev S1024x1 : Shape := ⟨2, ![1024, 1]⟩
abbrev S1x1024x512 : Shape := ⟨3, ![1, 1024, 512]⟩
abbrev S4096x256 : Shape := ⟨2, ![4096, 256]⟩
abbrev S256x256 : Shape := ⟨2, ![256, 256]⟩
abbrev S1x1024x256 : Shape := ⟨3, ![1, 1024, 256]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S16384x4096, .f32⟩
  | .hbm, ⟨1, _⟩ => ⟨S8x2048x256, .f32⟩
  | .hbm, ⟨2, _⟩ => ⟨S4096x4096, .f32⟩
  | .hbm, ⟨3, _⟩ => ⟨S256x4096, .f32⟩
  | .hbm, ⟨4, _⟩ => ⟨S4096, .f32⟩
  | .hbm, ⟨5, _⟩ => ⟨S16384x4096, .bf16⟩
  | .hbm, ⟨6, _⟩ => ⟨S4096x4096, .bf16⟩
  | .hbm, ⟨7, _⟩ => ⟨S16384x256, .f32⟩
  | .hbm, ⟨8, _⟩ => ⟨S256x4096, .bf16⟩
  | .hbm, ⟨9, _⟩ => ⟨S1x4096, .f32⟩
  | .hbm, ⟨10, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x256, .f32⟩
  | .local _ .vmem, ⟨5, _⟩ => ⟨S1024x256, .f32⟩
  | .local _ .vmem, ⟨6, _⟩ => ⟨S256x512, .bf16⟩
  | .local _ .vmem, ⟨7, _⟩ => ⟨S256x512, .bf16⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S8x1024x512, .f32⟩
  | .local _ .vmem, ⟨15, _⟩ => ⟨S1024x1, .f32⟩
  | .local _ .vmem, ⟨16, _⟩ => ⟨S1024x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![17, 8], ![false, false]⟩

def k0_cond3 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg1 : BitVec 32 := BitVec.ofNat 32 (i 1).val
  let v15 : Index := Scalar.indexCast arg1
  let c0_8 : Index := 0#32
  let c0_9 : Index := 0#32
  ![v15.toNat, 0, 0]
def k0_off2 (i : grid0.Coords) : Fin 3 → Nat :=
  let arg1 : BitVec 32 := BitVec.ofNat 32 (i 1).val
  let v47 : Index := Scalar.indexCast arg1
  let c0_30 : Index := 0#32
  let c0_31 : Index := 0#32
  ![v47.toNat, 0, 0]
def k0_off3 (i : grid0.Coords) : Fin 3 → Nat :=
  let arg1 : BitVec 32 := BitVec.ofNat 32 (i 1).val
  let v71 : Index := Scalar.indexCast arg1
  let c0_43 : Index := 0#32
  let c256_44 : Index := 256#32
  ![v71.toNat, 0, 256]
def k0_cond4 (i : grid0.Coords) : BitVec 1 :=
  let arg0 : BitVec 32 := BitVec.ofNat 32 (i 0).val
  let c0_i32_3 : BitVec 32 := 0#32
  let v8 : BitVec 1 := Scalar.cmpi .eq arg0 c0_i32_3
  let v9 : BitVec 32 := Scalar.extui v8
  let c0_i32_4 : BitVec 32 := 0#32
  let v10 : BitVec 1 := Scalar.cmpi .ne v9 c0_i32_4
  v10

def k0_off4 (i : grid0.Coords) : Fin 3 → Nat :=
  let arg1 : BitVec 32 := BitVec.ofNat 32 (i 1).val
  let v34 : Index := Scalar.indexCast arg1
  let c0_20 : Index := 0#32
  let c0_21 : Index := 0#32
  ![v34.toNat, 0, 0]
def k0_off5 (i : grid0.Coords) : Fin 3 → Nat :=
  let arg1 : BitVec 32 := BitVec.ofNat 32 (i 1).val
  let v58 : Index := Scalar.indexCast arg1
  let c0_33 : Index := 0#32
  let c256_34 : Index := 256#32
  ![v58.toNat, 0, 256]
def k0_cond5 (i : grid0.Coords) : BitVec 1 :=
  let arg0 : BitVec 32 := BitVec.ofNat 32 (i 0).val
  let c16_i32_5 : BitVec 32 := 16#32
  let v11 : BitVec 1 := Scalar.cmpi .eq arg0 c16_i32_5
  let v12 : BitVec 32 := Scalar.extui v11
  let c0_i32_6 : BitVec 32 := 0#32
  let v13 : BitVec 1 := Scalar.cmpi .ne v12 c0_i32_6
  v13

def k0_off6 (i : grid0.Coords) : Fin 3 → Nat :=
  let arg1 : BitVec 32 := BitVec.ofNat 32 (i 1).val
  let v15 : Index := Scalar.indexCast arg1
  let c0_8 : Index := 0#32
  let c0_9 : Index := 0#32
  ![v15.toNat, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c7_i32 : BitVec 32 := 7#32
  let v1 : BitVec 32 := Scalar.select v0 arg1 c7_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c7_i32 : BitVec 32 := 7#32
  let v1 : BitVec 32 := Scalar.select v0 arg1 c7_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleIdeal.lean ====
variable {F : FTy → Type} [FloatOps F] [Named F]
def κ : String → Option EReal := fun
  | "neg_log2e" => some ((-((Real.log 2)⁻¹) : ℝ) : EReal)
  | _ => none
-- ==== PleRefIdeal.lean ====
abbrev S16384x4096 : Shape := ⟨2, ![16384, 4096]⟩
abbrev S8x2048x256 : Shape := ⟨3, ![8, 2048, 256]⟩
abbrev S4096x4096 : Shape := ⟨2, ![4096, 4096]⟩
abbrev S256x4096 : Shape := ⟨2, ![256, 4096]⟩
abbrev S4096 : Shape := ⟨1, ![4096]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x2048x256, .f32⟩
  | .hbm, ⟨2, _⟩ => ⟨S4096x4096, .f32⟩
  | .hbm, ⟨3, _⟩ => ⟨S256x4096, .f32⟩
  | .hbm, ⟨4, _⟩ => ⟨S4096, .f32⟩
  | .hbm, ⟨5, _⟩ => ⟨S16384x256, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x4096, .f32⟩
  | .hbm, ⟨29, _⟩ => ⟨S16384x4096, .f32⟩
  | .hbm, ⟨30, _⟩ => ⟨S1x4096, .f32⟩
  | .hbm, ⟨31, _⟩ => ⟨S16384x4096, .f32⟩
  | .hbm, ⟨32, _⟩ => ⟨S16384x4096, .f32⟩
  | .hbm, ⟨33, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== OutProj.lean ====
abbrev S16384x2048 : Shape := ⟨2, ![16384, 2048]⟩
abbrev S2048 : Shape := ⟨1, ![2048]⟩
abbrev S4096x4096 : Shape := ⟨2, ![4096, 4096]⟩
abbrev S16384x4096 : Shape := ⟨2, ![16384, 4096]⟩
abbrev S4096 : Shape := ⟨1, ![4096]⟩
abbrev S2048x1 : Shape := ⟨2, ![2048, 1]⟩
abbrev S2048x4096 : Shape := ⟨2, ![2048, 4096]⟩
abbrev S1x4096 : Shape := ⟨2, ![1, 4096]⟩
abbrev S1024x2048 : Shape := ⟨2, ![1024, 2048]⟩
abbrev S2048x512 : Shape := ⟨2, ![2048, 512]⟩
abbrev S1024x512 : Shape := ⟨2, ![1024, 512]⟩
abbrev S1x512 : Shape := ⟨2, ![1, 512]⟩
abbrev S8x1024x512 : Shape := ⟨3, ![8, 1024, 512]⟩
abbrev S1024x1 : Shape := ⟨2, ![1024, 1]⟩
abbrev S2x1024x1 : Shape := ⟨3, ![2, 1024, 1]⟩
abbrev S1x1024x512 : Shape := ⟨3, ![1, 1024, 512]⟩
abbrev S1024 : Shape := ⟨1, ![1024]⟩
abbrev S1x1024x1 : Shape := ⟨3, ![1, 1024, 1]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 20
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048, .f32⟩
  | .hbm, ⟨3, _⟩ => ⟨S2048, .f32⟩
  | .hbm, ⟨4, _⟩ => ⟨S4096x4096, .f32⟩
  | .hbm, ⟨5, _⟩ => ⟨S16384x4096, .f32⟩
  | .hbm, ⟨6, _⟩ => ⟨S4096, .f32⟩
  | .hbm, ⟨7, _⟩ => ⟨S2048x1, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .bf16⟩
  | .hbm, ⟨12, _⟩ => ⟨S2048x1, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .bf16⟩
  | .hbm, ⟨17, _⟩ => ⟨S1x4096, .f32⟩
  | .hbm, ⟨18, _⟩ => ⟨S16384x4096, .f32⟩
  | .hbm, ⟨19, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S8x1024x512, .f32⟩
  | .local _ .vmem, ⟨17, _⟩ => ⟨S1024x1, .f32⟩
  | .local _ .vmem, ⟨18, _⟩ => ⟨S1024x1, .f32⟩
  | .local _ .vmem, ⟨19, _⟩ => ⟨S2x1024x1, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![17, 8], ![false, false]⟩

def k0_cond3 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c_m1_i32 : BitVec 32 := 4294967295#32
  let v4 : BitVec 32 := Scalar.select v3 arg0 c_m1_i32
  let c0_i32_2 : BitVec 32 := 0#32
  let v5 : BitVec 1 := Scalar.cmpi .sgt v4 c0_i32_2
  let c16_i32 : BitVec 32 := 16#32
  let v6 : BitVec 1 := Scalar.cmpi .slt v4 c16_i32
  let v7 : BitVec 1 := Scalar.andi v5 v6
  let v8 : BitVec 32 := Scalar.extui v7
  let c0_i32_3 : BitVec 32 := 0#32
  let v9 : BitVec 1 := Scalar.cmpi .ne v8 c0_i32_3
  v9

def k0_off1 (i : grid0.Coords) : Fin 3 → Nat :=
  let arg1 : BitVec 32 := BitVec.ofNat 32 (i 1).val
  let v30 : Index := Scalar.indexCast arg1
  let c0_18 : Index := 0#32
  let c0_19 : Index := 0#32
  ![v30.toNat, 0, 0]
def k0_off2 (i : grid0.Coords) : Fin 3 → Nat :=
  let arg1 : BitVec 32 := BitVec.ofNat 32 (i 1).val
  let v84 : Index := Scalar.indexCast arg1
  let c0_54 : Index := 0#32
  let c0_55 : Index := 0#32
  ![v84.toNat, 0, 0]
def k0_off3 (i : grid0.Coords) : Fin 3 → Nat :=
  let arg1 : BitVec 32 := BitVec.ofNat 32 (i 1).val
  let v105 : Index := Scalar.indexCast arg1
  let c0_66 : Index := 0#32
  let c256_67 : Index := 256#32
  ![v105.toNat, 0, 256]
def k0_cond4 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c_m1_i32 : BitVec 32 := 4294967295#32
  let v4 : BitVec 32 := Scalar.select v3 arg0 c_m1_i32
  let c0_i32_4 : BitVec 32 := 0#32
  let v10 : BitVec 1 := Scalar.cmpi .eq v4 c0_i32_4
  let v11 : BitVec 32 := Scalar.extui v10
  let c0_i32_5 : BitVec 32 := 0#32
  let v12 : BitVec 1 := Scalar.cmpi .ne v11 c0_i32_5
  v12

def k0_off4 (i : grid0.Coords) : Fin 3 → Nat :=
  let arg1 : BitVec 32 := BitVec.ofNat 32 (i 1).val
  let v69 : Index := Scalar.indexCast arg1
  let c0_42 : Index := 0#32
  let c0_43 : Index := 0#32
  ![v69.toNat, 0, 0]
def k0_off5 (i : grid0.Coords) : Fin 3 → Nat :=
  let arg1 : BitVec 32 := BitVec.ofNat 32 (i 1).val
  let v90 : Index := Scalar.indexCast arg1
  let c0_54 : Index := 0#32
  let c256_55 : Index := 256#32
  ![v90.toNat, 0, 256]
def k0_cond5 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c_m1_i32 : BitVec 32 := 4294967295#32
  let v4 : BitVec 32 := Scalar.select v3 arg0 c_m1_i32
  let c16_i32_6 : BitVec 32 := 16#32
  let v13 : BitVec 1 := Scalar.cmpi .eq v4 c16_i32_6
  let v14 : BitVec 32 := Scalar.extui v13
  let c0_i32_7 : BitVec 32 := 0#32
  let v15 : BitVec 1 := Scalar.cmpi .ne v14 c0_i32_7
  v15

def k0_off6 (i : grid0.Coords) : Fin 3 → Nat :=
  let arg1 : BitVec 32 := BitVec.ofNat 32 (i 1).val
  let v30 : Index := Scalar.indexCast arg1
  let c0_18 : Index := 0#32
  let c0_19 : Index := 0#32
  ![v30.toNat, 0, 0]
def k0_cond6 (i : grid0.Coords) : BitVec 1 :=
  let arg1 : BitVec 32 := BitVec.ofNat 32 (i 1).val
  let c0_i32_8 : BitVec 32 := 0#32
  let v16 : BitVec 1 := Scalar.cmpi .sgt arg1 c0_i32_8
  let arg0 : BitVec 32 := BitVec.ofNat 32 (i 0).val
  let c_m1_i32_9 : BitVec 32 := 4294967295#32
  let v17 : BitVec 32 := Scalar.select v16 arg0 c_m1_i32_9
  let c0_i32_10 : BitVec 32 := 0#32
  let v18 : BitVec 1 := Scalar.cmpi .sgt v17 c0_i32_10
  let c16_i32_11 : BitVec 32 := 16#32
  let v19 : BitVec 1 := Scalar.cmpi .slt v17 c16_i32_11
  let v20 : BitVec 1 := Scalar.andi v18 v19
  let v21 : BitVec 32 := Scalar.extui v20
  let c0_i32_12 : BitVec 32 := 0#32
  let v22 : BitVec 1 := Scalar.cmpi .ne v21 c0_i32_12
  v22

def k0_off7 (i : grid0.Coords) : Fin 3 → Nat :=
  let arg1 : BitVec 32 := BitVec.ofNat 32 (i 1).val
  let v30 : Index := Scalar.indexCast arg1
  let c0_18 : Index := 0#32
  let c0_19 : Index := 0#32
  ![v30.toNat, 0, 0]
def k0_off8 (i : grid0.Coords) : Fin 3 → Nat :=
  let arg1 : BitVec 32 := BitVec.ofNat 32 (i 1).val
  let v62 : Index := Scalar.indexCast arg1
  let c0_44 : Index := 0#32
  let c0_45 : Index := 0#32
  ![v62.toNat, 0, 0]
def k0_off9 (i : grid0.Coords) : Fin 3 → Nat :=
  let arg1 : BitVec 32 := BitVec.ofNat 32 (i 1).val
  let v83 : Index := Scalar.indexCast arg1
  let c0_56 : Index := 0#32
  let c256_57 : Index := 256#32
  ![v83.toNat, 0, 256]
def k0_cond7 (i : grid0.Coords) : BitVec 1 :=
  let arg1 : BitVec 32 := BitVec.ofNat 32 (i 1).val
  let c0_i32_8 : BitVec 32 := 0#32
  let v16 : BitVec 1 := Scalar.cmpi .sgt arg1 c0_i32_8
  let arg0 : BitVec 32 := BitVec.ofNat 32 (i 0).val
  let c_m1_i32_9 : BitVec 32 := 4294967295#32
  let v17 : BitVec 32 := Scalar.select v16 arg0 c_m1_i32_9
  let c0_i32_13 : BitVec 32 := 0#32
  let v23 : BitVec 1 := Scalar.cmpi .eq v17 c0_i32_13
  let v24 : BitVec 32 := Scalar.extui v23
  let c0_i32_14 : BitVec 32 := 0#32
  let v25 : BitVec 1 := Scalar.cmpi .ne v24 c0_i32_14
  v25

def k0_off10 (i : grid0.Coords) : Fin 3 → Nat :=
  let arg1 : BitVec 32 := BitVec.ofNat 32 (i 1).val
  let v47 : Index := Scalar.indexCast arg1
  let c0_32 : Index := 0#32
  let c0_33 : Index := 0#32
  ![v47.toNat, 0, 0]
def k0_off11 (i : grid0.Coords) : Fin 3 → Nat :=
  let arg1 : BitVec 32 := BitVec.ofNat 32 (i 1).val
  let v68 : Index := Scalar.indexCast arg1
  let c0_44 : Index := 0#32
  let c256_45 : Index := 256#32
  ![v68.toNat, 0, 256]
def k0_cond8 (i : grid0.Coords) : BitVec 1 :=
  let arg1 : BitVec 32 := BitVec.ofNat 32 (i 1).val
  let c0_i32_8 : BitVec 32 := 0#32
  let v16 : BitVec 1 := Scalar.cmpi .sgt arg1 c0_i32_8
  let arg0 : BitVec 32 := BitVec.ofNat 32 (i 0).val
  let c_m1_i32_9 : BitVec 32 := 4294967295#32
  let v17 : BitVec 32 := Scalar.select v16 arg0 c_m1_i32_9
  let c16_i32_15 : BitVec 32 := 16#32
  let v26 : BitVec 1 := Scalar.cmpi .eq v17 c16_i32_15
  let v27 : BitVec 32 := Scalar.extui v26
  let c0_i32_16 : BitVec 32 := 0#32
  let v28 : BitVec 1 := Scalar.cmpi .ne v27 c0_i32_16
  v28

def k0_off12 (i : grid0.Coords) : Fin 3 → Nat :=
  let arg1 : BitVec 32 := BitVec.ofNat 32 (i 1).val
  let v30 : Index := Scalar.indexCast arg1
  let c0_18 : Index := 0#32
  let c0_19 : Index := 0#32
  ![v30.toNat, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c7_i32 : BitVec 32 := 7#32
  let v1 : BitVec 32 := Scalar.select v0 arg1 c7_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c7_i32 : BitVec 32 := 7#32
  let v1 : BitVec 32 := Scalar.select v0 arg1 c7_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutProjRefIdeal.lean ====
abbrev S16384x2048 : Shape := ⟨2, ![16384, 2048]⟩
abbrev S2048 : Shape := ⟨1, ![2048]⟩
abbrev S4096x4096 : Shape := ⟨2, ![4096, 4096]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x4096 : Shape := ⟨2, ![1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048, .f32⟩
  | .hbm, ⟨3, _⟩ => ⟨S2048, .f32⟩
  | .hbm, ⟨4, _⟩ => ⟨S4096x4096, .f32⟩
  | .hbm, ⟨5, _⟩ => ⟨S16384x4096, .f32⟩
  | .hbm, ⟨6, _⟩ => ⟨S4096, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x4096, .f32⟩
  | .hbm, ⟨55, _⟩ => ⟨S16384x4096, .f32⟩
  | .hbm, ⟨56, _⟩ => ⟨S1x4096, .f32⟩
  | .hbm, ⟨57, _⟩ => ⟨S16384x4096, .f32⟩
  | .hbm, ⟨58, _⟩ => ⟨S16384x4096, .f32⟩
  | .hbm, ⟨59, _⟩ => ⟨S16384x4096, .f32⟩
  | .hbm, ⟨60, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== InProjS.lean ====
abbrev S8x64x4096 : Shape := ⟨3, ![8, 64, 4096]⟩
abbrev S4096 : Shape := ⟨1, ![4096]⟩
abbrev S4096x14368 : Shape := ⟨2, ![4096, 14368]⟩
abbrev S14368x4096 : Shape := ⟨2, ![14368, 4096]⟩
abbrev S32x4096 : Shape := ⟨2, ![32, 4096]⟩
abbrev S_ : Shape := ⟨0, ![]⟩
abbrev S128x4096 : Shape := ⟨2, ![128, 4096]⟩
abbrev S512x4096 : Shape := ⟨2, ![512, 4096]⟩
abbrev S1x4096 : Shape := ⟨2, ![1, 4096]⟩
abbrev S512x2048 : Shape := ⟨2, ![512, 2048]⟩
abbrev S512x128 : Shape := ⟨2, ![512, 128]⟩
abbrev S64x4096 : Shape := ⟨2, ![64, 4096]⟩
abbrev S512x512 : Shape := ⟨2, ![512, 512]⟩
abbrev S64 : Shape := ⟨1, ![64]⟩
abbrev S64x1 : Shape := ⟨2, ![64, 1]⟩

abbrev nBuf : Space → Nat
  | .hbm => 18
  | .vmem => 22
  | .smem => 0
  | _ => 0

abbrev bufTy : (tb : Table) → Fin (tcTables nBuf tb) → BufTy
  | .hbm, ⟨0, _⟩ => ⟨S8x64x4096, .f32⟩
  | .hbm, ⟨1, _⟩ => ⟨S4096, .f32⟩
  | .hbm, ⟨2, _⟩ => ⟨S4096x14368, .f32⟩
  | .hbm, ⟨3, _⟩ => ⟨S14368x4096, .f32⟩
  | .hbm, ⟨4, _⟩ => ⟨S14368x4096, .bf16⟩
  | .hbm, ⟨5, _⟩ => ⟨S32x4096, .bf16⟩
  | .hbm, ⟨6, _⟩ => ⟨S_, .i32⟩
  | .hbm, ⟨7, _⟩ => ⟨S_, .bf16⟩
  | .hbm, ⟨8, _⟩ => ⟨S128x4096, .bf16⟩
  | .hbm, ⟨9, _⟩ => ⟨S512x4096, .f32⟩
  | .hbm, ⟨10, _⟩ => ⟨S1x4096, .f32⟩
  | .hbm, ⟨11, _⟩ => ⟨S512x2048, .bf16⟩
  | .hbm, ⟨12, _⟩ => ⟨S512x2048, .f32⟩
  | .hbm, ⟨13, _⟩ => ⟨S512x2048, .f32⟩
  | .hbm, ⟨14, _⟩ => ⟨S512x2048, .bf16⟩
  | .hbm, ⟨15, _⟩ => ⟨S512x4096, .f32⟩
  | .hbm, ⟨16, _⟩ => ⟨S512x2048, .bf16⟩
  | .hbm, ⟨17, _⟩ => ⟨S512x128, .f32⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S128x4096, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | .local _ .vmem, ⟨20, _⟩ => ⟨S512x4096, .bf16⟩
  | .local _ .vmem, ⟨21, _⟩ => ⟨S512x4096, .bf16⟩
  | _, _ => ⟨S8x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 29], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c8_i32 : BitVec 32 := 8#32
  let v6 : BitVec 1 := Scalar.cmpi .slt arg1 c8_i32
  let v7 : BitVec 1 := Scalar.andi v5 v6
  let v8 : BitVec 32 := Scalar.extui v7
  let c0_i32_3 : BitVec 32 := 0#32
  let v9 : BitVec 1 := Scalar.cmpi .ne v8 c0_i32_3
  v9

def k0_mult1 (i : grid0.Coords) : BitVec 32 :=
  let arg1 : BitVec 32 := BitVec.ofNat 32 (i 1).val
  let c64_i32 : BitVec 32 := 64#32
  let v64 : BitVec 32 := Scalar.muli arg1 c64_i32
  v64
def k0_off1 (i : grid0.Coords) : Fin 2 → Nat :=
  let arg1 : BitVec 32 := BitVec.ofNat 32 (i 1).val
  let c64_i32 : BitVec 32 := 64#32
  let v64 : BitVec 32 := Scalar.muli arg1 c64_i32
  let v65 : BitVec 32 := v64
  let v76 : Index := Scalar.indexCast v65
  let c0_31 : Index := 0#32
  ![v76.toNat, 0]
def k0_cond3 (i : grid0.Coords) : BitVec 1 :=
  let arg1 : BitVec 32 := BitVec.ofNat 32 (i 1).val
  let c0_i32_4 : BitVec 32 := 0#32
  let v10 : BitVec 1 := Scalar.cmpi .sge arg1 c0_i32_4
  let c4_i32 : BitVec 32 := 4#32
  let v11 : BitVec 1 := Scalar.cmpi .slt arg1 c4_i32
  let v12 : BitVec 1 := Scalar.andi v10 v11
  let arg0 : BitVec 32 := BitVec.ofNat 32 (i 0).val
  let c0_i32_5 : BitVec 32 := 0#32
  let v13 : BitVec 1 := Scalar.cmpi .sgt arg0 c0_i32_5
  let v14 : BitVec 1 := Scalar.andi v12 v13
  let v15 : BitVec 32 := Scalar.extui v14
  let c0_i32_6 : BitVec 32 := 0#32
  let v16 : BitVec 1 := Scalar.cmpi .ne v15 c0_i32_6
  v16

def k0_mult2 (i : grid0.Coords) : BitVec 32 :=
  let arg1 : BitVec 32 := BitVec.ofNat 32 (i 1).val
  let c64_i32 : BitVec 32 := 64#32
  let v72 : BitVec 32 := Scalar.muli arg1 c64_i32
  v72
def k0_off2 (i : grid0.Coords) : Fin 2 → Nat :=
  let arg1 : BitVec 32 := BitVec.ofNat 32 (i 1).val
  let c64_i32 : BitVec 32 := 64#32
  let v72 : BitVec 32 := Scalar.muli arg1 c64_i32
  let v73 : BitVec 32 := v72
  let v84 : Index := Scalar.indexCast v73
  let c0_39 : Index := 0#32
  ![v84.toNat, 0]
def k0_cond4 (i : grid0.Coords) : BitVec 1 :=
  let arg1 : BitVec 32 := BitVec.ofNat 32 (i 1).val
  let c4_i32_7 : BitVec 32 := 4#32
  let v17 : BitVec 1 := Scalar.cmpi .sge arg1 c4_i32_7
  let c8_i32_8 : BitVec 32 := 8#32
  let v18 : BitVec 1 := Scalar.cmpi .slt arg1 c8_i32_8
  let v19 : BitVec 1 := Scalar.andi v17 v18
  let arg0 : BitVec 32 := BitVec.ofNat 32 (i 0).val
  let c0_i32_9 : BitVec 32 := 0#32
  let v20 : BitVec 1 := Scalar.cmpi .sgt arg0 c0_i32_9
  let v21 : BitVec 1 := Scalar.andi v19 v20
  let v22 : BitVec 32 := Scalar.extui v21
  let c0_i32_10 : BitVec 32 := 0#32
  let v23 : BitVec 1 := Scalar.cmpi .ne v22 c0_i32_10
  v23

def k0_mult3 (i : grid0.Coords) : BitVec 32 :=
  let arg1 : BitVec 32 := BitVec.ofNat 32 (i 1).val
  let c64_i32 : BitVec 32 := 64#32
  let v69 : BitVec 32 := Scalar.muli arg1 c64_i32
  v69
def k0_off3 (i : grid0.Coords) : Fin 2 → Nat :=
  let arg1 : BitVec 32 := BitVec.ofNat 32 (i 1).val
  let c64_i32 : BitVec 32 := 64#32
  let v69 : BitVec 32 := Scalar.muli arg1 c64_i32
  let v70 : BitVec 32 := v69
  let v81 : Index := Scalar.indexCast v70
  let c0_38 : Index := 0#32
  ![v81.toNat, 0]
def k0_cond5 (i : grid0.Coords) : BitVec 1 :=
  let arg1 : BitVec 32 := BitVec.ofNat 32 (i 1).val
  let c8_i32_11 : BitVec 32 := 8#32
  let v24 : BitVec 1 := Scalar.cmpi .sge arg1 c8_i32_11
  let c12_i32 : BitVec 32 := 12#32
  let v25 : BitVec 1 := Scalar.cmpi .slt arg1 c12_i32
  let v26 : BitVec 1 := Scalar.andi v24 v25
  let arg0 : BitVec 32 := BitVec.ofNat 32 (i 0).val
  let c0_i32_12 : BitVec 32 := 0#32
  let v27 : BitVec 1 := Scalar.cmpi .sgt arg0 c0_i32_12
  let v28 : BitVec 1 := Scalar.andi v26 v27
  let v29 : BitVec 32 := Scalar.extui v28
  let c0_i32_13 : BitVec 32 := 0#32
  let v30 : BitVec 1 := Scalar.cmpi .ne v29 c0_i32_13
  v30

def k0_cond6 (i : grid0.Coords) : BitVec 1 :=
  let arg1 : BitVec 32 := BitVec.ofNat 32 (i 1).val
  let c12_i32_14 : BitVec 32 := 12#32
  let v31 : BitVec 1 := Scalar.cmpi .sge arg1 c12_i32_14
  let c16_i32 : BitVec 32 := 16#32
  let v32 : BitVec 1 := Scalar.cmpi .slt arg1 c16_i32
  let v33 : BitVec 1 := Scalar.andi v31 v32
  let arg0 : BitVec 32 := BitVec.ofNat 32 (i 0).val
  let c0_i32_15 : BitVec 32 := 0#32
  let v34 : BitVec 1 := Scalar.cmpi .sgt arg0 c0_i32_15
  let v35 : BitVec 1 := Scalar.andi v33 v34
  let v36 : BitVec 32 := Scalar.extui v35
  let c0_i32_16 : BitVec 32 := 0#32
  let v37 : BitVec 1 := Scalar.cmpi .ne v36 c0_i32_16
  v37

def k0_cond7 (i : grid0.Coords) : BitVec 1 :=
  let arg1 : BitVec 32 := BitVec.ofNat 32 (i 1).val
  let c16_i32_17 : BitVec 32 := 16#32
  let v38 : BitVec 1 := Scalar.cmpi .sge arg1 c16_i32_17
  let c24_i32 : BitVec 32 := 24#32
  let v39 : BitVec 1 := Scalar.cmpi .slt arg1 c24_i32
  let v40 : BitVec 1 := Scalar.andi v38 v39
  let arg0 : BitVec 32 := BitVec.ofNat 32 (i 0).val
  let c0_i32_18 : BitVec 32 := 0#32
  let v41 : BitVec 1 := Scalar.cmpi .sgt arg0 c0_i32_18
  let v42 : BitVec 1 := Scalar.andi v40 v41
  let v43 : BitVec 32 := Scalar.extui v42
  let c0_i32_19 : BitVec 32 := 0#32
  let v44 : BitVec 1 := Scalar.cmpi .ne v43 c0_i32_19
  v44

def k0_cond8 (i : grid0.Coords) : BitVec 1 :=
  let arg1 : BitVec 32 := BitVec.ofNat 32 (i 1).val
  let c24_i32_20 : BitVec 32 := 24#32
  let v45 : BitVec 1 := Scalar.cmpi .sge arg1 c24_i32_20
  let c28_i32 : BitVec 32 := 28#32
  let v46 : BitVec 1 := Scalar.cmpi .slt arg1 c28_i32
  let v47 : BitVec 1 := Scalar.andi v45 v46
  let arg0 : BitVec 32 := BitVec.ofNat 32 (i 0).val
  let c0_i32_21 : BitVec 32 := 0#32
  let v48 : BitVec 1 := Scalar.cmpi .sgt arg0 c0_i32_21
  let v49 : BitVec 1 := Scalar.andi v47 v48
  let v50 : BitVec 32 := Scalar.extui v49
  let c0_i32_22 : BitVec 32 := 0#32
  let v51 : BitVec 1 := Scalar.cmpi .ne v50 c0_i32_22
  v51

def k0_cond9 (i : grid0.Coords) : BitVec 1 :=
  let arg1 : BitVec 32 := BitVec.ofNat 32 (i 1).val
  let c28_i32_23 : BitVec 32 := 28#32
  let v52 : BitVec 1 := Scalar.cmpi .eq arg1 c28_i32_23
  let arg0 : BitVec 32 := BitVec.ofNat 32 (i 0).val
  let c0_i32_24 : BitVec 32 := 0#32
  let v53 : BitVec 1 := Scalar.cmpi .sgt arg0 c0_i32_24
  let v54 : BitVec 1 := Scalar.andi v52 v53
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg0 c0_i32
  let c8_i32 : BitVec 32 := 8#32
  let v1 : BitVec 32 := Scalar.muli v0 c8_i32
  let c7_i32 : BitVec 32 := 7#32
  let v2 : BitVec 32 := Scalar.minsi arg1 c7_i32
  let v3 : BitVec 32 := Scalar.addi v1 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c27_i32 : BitVec 32 := 27#32
  let v1 : BitVec 32 := Scalar.minsi arg1 c27_i32
  let c0_i32_0 : BitVec 32 := 0#32
  let v2 : BitVec 32 := Scalar.select v0 v1 c0_i32_0
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.subi arg1 c0_i32_1
  let c0_i32_2 : BitVec 32 := 0#32
  let c3_i32 : BitVec 32 := 3#32
  let v4 : BitVec 32 := Scalar.maxsi c0_i32_2 v3
  let v5 : BitVec 32 := Scalar.minsi c3_i32 v4
  let c0_i32_3 : BitVec 32 := 0#32
  let v6 : BitVec 32 := Scalar.select v2 v5 c0_i32_3
  let c0_i32_4 : BitVec 32 := 0#32
  ![v1.toNat, v6.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c4_i32 : BitVec 32 := 4#32
  let v3 : BitVec 32 := Scalar.subi arg1 c4_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c8_i32 : BitVec 32 := 8#32
  let v3 : BitVec 32 := Scalar.subi arg1 c8_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c12_i32 : BitVec 32 := 12#32
  let v3 : BitVec 32 := Scalar.subi arg1 c12_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c16_i32 : BitVec 32 := 16#32
  let v3 : BitVec 32 := Scalar.subi arg1 c16_i32
  let c0_i32_1 : BitVec 32 := 0#32
  let c7_i32 : BitVec 32 := 7#32
  let v4 : BitVec 32 := Scalar.maxsi c0_i32_1 v3
  let v5 : BitVec 32 := Scalar.minsi c7_i32 v4
  let c0_i32_2 : BitVec 32 := 0#32
  let v6 : BitVec 32 := Scalar.select v2 v5 c0_i32_2
  let c0_i32_3 : BitVec 32 := 0#32
  ![v1.toNat, v6.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c24_i32 : BitVec 32 := 24#32
  let v3 : BitVec 32 := Scalar.subi arg1 c24_i32
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let v6 : BitVec 32 := Scalar.select v2 v5 c0_i32_2
  let c0_i32_3 : BitVec 32 := 0#32
  ![v1.toNat, v6.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== InProjSIdeal.lean ====
variable {F : FTy → Type} [FloatOps F] [Named F]
def κ : String → Option EReal := fun
  | "q_scale" => some (((Real.sqrt 128)⁻¹ * (Real.log 2)⁻¹ : ℝ) : EReal)
  | _ => none
-- ==== InProjSRefIdeal.lean ====
abbrev S8x64x4096 : Shape := ⟨3, ![8, 64, 4096]⟩
abbrev S4096 : Shape := ⟨1, ![4096]⟩
abbrev S4096x14368 : Shape := ⟨2, ![4096, 14368]⟩
abbrev S_ : Shape := ⟨0, ![]⟩
abbrev S8x64 : Shape := ⟨2, ![8, 64]⟩
abbrev S8x64x1 : Shape := ⟨3, ![8, 64, 1]⟩
abbrev S1x1x4096 : Shape := ⟨3, ![1, 1, 4096]⟩
abbrev S8x64x14368 : Shape := ⟨3, ![8, 64, 14368]⟩
abbrev S512x14368 : Shape := ⟨2, ![512, 14368]⟩
abbrev S512x2048 : Shape := ⟨2, ![512, 2048]⟩
abbrev S512x4096 : Shape := ⟨2, ![512, 4096]⟩
abbrev S512x32 : Shape := ⟨2, ![512, 32]⟩
abbrev S512x128 : Shape := ⟨2, ![512, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x64x4096, .f32⟩
  | .hbm, ⟨1, _⟩ => ⟨S4096, .f32⟩
  | .hbm, ⟨2, _⟩ => ⟨S4096x14368, .f32⟩
  | .hbm, ⟨3, _⟩ => ⟨S8x64x4096, .f32⟩
  | .hbm, ⟨4, _⟩ => ⟨S_, .f32⟩
  | .hbm, ⟨5, _⟩ => ⟨S8x64, .f32⟩
  | .hbm, ⟨6, _⟩ => ⟨S8x64x1, .f32⟩
  | .hbm, ⟨7, _⟩ => ⟨S_, .f32⟩
  | .hbm, ⟨8, _⟩ => ⟨S8x64x1, .f32⟩
  | .hbm, ⟨9, _⟩ => ⟨S8x64x1, .f32⟩
  | .hbm, ⟨10, _⟩ => ⟨S_, .f32⟩
  | .hbm, ⟨11, _⟩ => ⟨S8x64x1, .f32⟩
  | .hbm, ⟨12, _⟩ => ⟨S8x64x1, .f32⟩
  | .hbm, ⟨13, _⟩ => ⟨S8x64x1, .f32⟩
  | .hbm, ⟨14, _⟩ => ⟨S8x64x4096, .f32⟩
  | .hbm, ⟨15, _⟩ => ⟨S8x64x4096, .f32⟩
  | .hbm, ⟨16, _⟩ => ⟨S1x1x4096, .f32⟩
  | .hbm, ⟨17, _⟩ => ⟨S8x64x4096, .f32⟩
  | .hbm, ⟨18, _⟩ => ⟨S8x64x4096, .f32⟩
  | .hbm, ⟨19, _⟩ => ⟨S8x64x14368, .f32⟩
  | .hbm, ⟨20, _⟩ => ⟨S512x14368, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S512x4096, .f32⟩
  | .hbm, ⟨26, _⟩ => ⟨S512x2048, .f32⟩
  | .hbm, ⟨27, _⟩ => ⟨S512x32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .bf16⟩
  | .hbm, ⟨36, _⟩ => ⟨S512x2048, .bf16⟩
  | .hbm, ⟨37, _⟩ => ⟨S512x2048, .bf16⟩
  | .hbm, ⟨38, _⟩ => ⟨S_, .i32⟩
  | .hbm, ⟨39, _⟩ => ⟨S_, .f32⟩
  | .hbm, ⟨40, _⟩ => ⟨S512x128, .f32⟩
  | _, _ => ⟨S8x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Att.Row.lean ====
module
public import proofs.«01_k».proof.Proof.Gen.KernelIdeal.Skeleton
public import Idealize.ShloMosaic.Lib.Pointwise

/-! One row of the attention, against one block of 256 keys: the words the strips of the kernel are read in. -/

@[expose] public section
noncomputable section
namespace Cert.Att
open Cert.KernelIdeal Cert.KernelIdeal.Gen Idealize.ShloMosaic Idealize.ShloMosaic.TcCoe Idealize.SL.Sem

/-- The logarithm, base two, of the logistic function of a score: `min z 0 - log2 (1 + 2^(-|z|))`. -/
def lstop (z : Ideal .f32) : Ideal .f32 :=
  min z 0 - Ideal.log (1 + FloatOps.exp2 (0 - FloatOps.absf z)) * Named.named κ "inv_ln2" 1069066811#32

/-- The bit that says whether key `k` of a diagonal block lies before row `r` of that block. -/
abbrev bit (r k : Fin 256) : BitVec 1 := IntOp.cmpi .slt (BitVec.ofNat 32 ↑k) (BitVec.ofNat 32 ↑r)

/-- A row of a diagonal block: the attention weights times the values. -/
def pvD (r : Fin 256) (z : Fin 256 → Ideal .f32) (u : Fin 256 → Fin 256 → Ideal .bf16) (v : Fin 256 → Ideal .f32) : Ideal .f32 :=
  ∑ k : Fin 256, Scalar.select (bit r k)
    ((FloatOps.exp2 (lstop (z k) + ∑ y : Fin 256, Scalar.select (bit r y) ((lstop (z y) - z y) * u y k) 0) : Ideal .f32) * v k) 0

/-- A row of a diagonal block: the sum of its logarithms of staying. -/
def totD (r : Fin 256) (z : Fin 256 → Ideal .f32) : Ideal .f32 :=
  ∑ k : Fin 256, Scalar.select (bit r k) (lstop (z k) - z k) 0

/-- A row below the diagonal block, whose later keys have already summed to `c`: the attention weights times the values. -/
def pvB (z : Fin 256 → Ideal .f32) (u : Fin 256 → Fin 256 → Ideal .bf16) (c : Ideal .f32) (v : Fin 256 → Ideal .f32) : Ideal .f32 :=
  ∑ k : Fin 256, (FloatOps.exp2 (lstop (z k) + ∑ y : Fin 256, (lstop (z y) - z y) * u y k + c) : Ideal .f32) * v k

/-- A row below the diagonal block: the sum of its logarithms of staying, over the block. -/
def totB (z : Fin 256 → Ideal .f32) : Ideal .f32 :=
  ∑ k : Fin 256, (lstop (z k) - z k)

end Cert.Att
end
end
-- ==== Proof.Att.Closed.lean ====
module
public import proofs.«01_k».proof.Proof.Att.Row

/-! The attention in closed form, and how the sum over the keys from a block on is built up block by block, the last block first. -/

@[expose] public section
noncomputable section
namespace Cert.Att
open Cert.KernelIdeal Cert.KernelIdeal.Gen Idealize.ShloMosaic Idealize.ShloMosaic.TcCoe Idealize.SL.Sem

/-- The logarithm (base two) that a query at `r` passes key `k` by: of a key before it, and zero of any other. -/
def stay (z : Fin 2048 → Ideal .f32) (r k : Fin 2048) : Ideal .f32 := if k < r then lstop (z k) - z k else 0

/-- The stay logarithms of the keys from number `256 * lo` on, summed. -/
def carryG (lo : Nat) (z : Fin 2048 → Ideal .f32) (r : Fin 2048) : Ideal .f32 :=
  ∑ k : Fin 2048, if 256 * lo ≤ k.val then stay z r k else 0

/-- The stay logarithms of the keys later than `k`, summed. -/
def laterG (z : Fin 2048 → Ideal .f32) (r k : Fin 2048) : Ideal .f32 :=
  ∑ x : Fin 2048, if k < x then stay z r x else 0

/-- The weight that a query at `r` gives key `k`. -/
def attG (z : Fin 2048 → Ideal .f32) (r k : Fin 2048) : Ideal .f32 :=
  if k < r then FloatOps.exp2 (lstop (z k) + laterG z r k) else 0

/-- The weighted values of the keys from number `256 * lo` on, summed. -/
def accG (lo : Nat) (z : Fin 2048 → Ideal .f32) (v : Fin 2048 → Ideal .f32) (r : Fin 2048) : Ideal .f32 :=
  ∑ k : Fin 2048, if 256 * lo ≤ k.val then attG z r k * v k else 0

/-- A number below 256 read as a signed word is itself. -/
theorem toInt_small (k : Fin 256) : (BitVec.ofNat 32 k.val).toInt = (k.val : Int) := by
  have hk := k.isLt
  rw [BitVec.toInt_eq_toNat_of_lt (by rw [BitVec.toNat_ofNat, Nat.mod_eq_of_lt (by omega)]; omega), BitVec.toNat_ofNat,
    Nat.mod_eq_of_lt (by omega)]

/-- The bit of the diagonal block is the comparison of the two numbers. -/
theorem select_bit (r k : Fin 256) (a b : Ideal .f32) : Scalar.select (bit r k) a b = if k < r then a else b := by
  have hk := k.isLt
  have hr := r.isLt
  have h : (BitVec.ofNat 32 k.val).slt (BitVec.ofNat 32 r.val) = decide (k.val < r.val) := by
    rw [BitVec.slt_eq_decide, toInt_small k, toInt_small r]
    simp only [Nat.cast_lt]
  by_cases hlt : k.val < r.val
  · simp [Scalar.select, bit, IntOp.cmpi, h, hlt, Fin.lt_def]
  · simp [Scalar.select, bit, IntOp.cmpi, h, hlt, Fin.lt_def]

/-- Key `j` of block `c`. -/
abbrev key (c : Nat) (hc : c < 8) (j : Fin 256) : Fin 2048 := ⟨256 * c + j, by omega⟩

/-- A sum over the keys from block `c` on is that over block `c`, and that over the later blocks. -/
theorem sum_block (c : Nat) (hc : c < 8) (f : Fin 2048 → Ideal .f32) :
    (∑ k : Fin 2048, if 256 * c ≤ k.val then f k else 0)
      = (∑ k : Fin 2048, if 256 * (c + 1) ≤ k.val then f k else 0) + ∑ j : Fin 256, f (key c hc j) := by
  have h1 : ∀ k : Fin 2048, (if 256 * c ≤ k.val then f k else 0)
      = (if 256 * (c + 1) ≤ k.val then f k else 0) + (if 256 * c ≤ k.val ∧ k.val < 256 * (c + 1) then f k else 0) := by
    intro k
    by_cases ha : 256 * c ≤ k.val <;> by_cases hb : 256 * (c + 1) ≤ k.val
    · simp [ha, hb, Nat.not_lt.mpr hb]
    · simp [ha, hb, Nat.lt_of_not_le hb]
    · omega
    · simp [ha, hb]
  rw [Finset.sum_congr rfl fun k _ => h1 k, Finset.sum_add_distrib]
  congr 1
  rw [← Finset.sum_filter]
  symm
  refine Finset.sum_bij' (fun j _ => key c hc j) (fun k hk => ⟨k.val - 256 * c, ?_⟩) ?_ ?_ ?_ ?_ ?_
  · have := (Finset.mem_filter.mp hk).2; omega
  · intro j _
    simp only [Finset.mem_filter, Finset.mem_univ, true_and]
    omega
  · intro k hk; exact Finset.mem_univ _
  · intro j _; apply Fin.ext; show 256 * c + j.val - 256 * c = j.val; omega
  · intro k hk
    have := (Finset.mem_filter.mp hk).2
    apply Fin.ext
    show 256 * c + (k.val - 256 * c) = k.val
    omega
  · intro j _; rfl

/-- No key of the blocks after the row's own stands before the row: the stay logarithms of those sum to zero. -/
theorem carryG_zero (lo : Nat) (z : Fin 2048 → Ideal .f32) (r : Fin 2048) (h : r.val < 256 * lo) : carryG lo z r = 0 := by
  refine Finset.sum_eq_zero fun k _ => ?_
  by_cases hk : 256 * lo ≤ k.val
  · rw [if_pos hk, stay, if_neg (by rw [Fin.lt_def]; omega)]
  · rw [if_neg hk]

/-- No key of the blocks after the row's own stands before the row: their weighted values sum to zero. -/
theorem accG_zero (lo : Nat) (z v : Fin 2048 → Ideal .f32) (r : Fin 2048) (h : r.val < 256 * lo) : accG lo z v r = 0 := by
  refine Finset.sum_eq_zero fun k _ => ?_
  by_cases hk : 256 * lo ≤ k.val
  · rw [if_pos hk, attG, if_neg (by rw [Fin.lt_def]; omega)]
    exact zero_mul (M₀ := EReal) _
  · rw [if_neg hk]

/-- What follows key `j` of block `c`: the rest of its block, then the later blocks. -/
theorem laterG_block (c : Nat) (hc : c < 8) (z : Fin 2048 → Ideal .f32) (r : Fin 2048) (j : Fin 256) :
    laterG z r (key c hc j) = carryG (c + 1) z r + ∑ y : Fin 256, if j < y then stay z r (key c hc y) else 0 := by
  have h1 : laterG z r (key c hc j) = ∑ x : Fin 2048, if 256 * c ≤ x.val then (if key c hc j < x then stay z r x else 0) else 0 := by
    refine Finset.sum_congr rfl fun x _ => ?_
    by_cases hx : 256 * c ≤ x.val
    · rw [if_pos hx]
    · rw [if_neg hx, if_neg (by rw [Fin.lt_def]; simp only [key]; omega)]
  rw [h1, sum_block c hc, carryG]
  refine congrArg₂ (fun a b : Ideal .f32 => a + b) ?_ ?_
  · refine Finset.sum_congr rfl fun x _ => ?_
    by_cases hx : 256 * (c + 1) ≤ x.val
    · rw [if_pos hx, if_pos hx, if_pos (by rw [Fin.lt_def]; simp only [key]; omega)]
    · rw [if_neg hx, if_neg hx]
  · refine Finset.sum_congr rfl fun y _ => ?_
    by_cases hy : j < y
    · rw [if_pos hy, if_pos (by rw [Fin.lt_def] at hy ⊢; simp only [key]; omega)]
    · rw [if_neg hy, if_neg (by rw [Fin.lt_def] at hy ⊢; simp only [key]; omega)]

/-- The matrix the kernel multiplies by to sum the later keys of a block: one where the row is later than the column. -/
def IsLater (u : Fin 256 → Fin 256 → Ideal .bf16) : Prop := ∀ y k : Fin 256, u y k = if k < y then 1 else 0

/-- A product with an entry of that matrix. -/
theorem IsLater.mul {u : Fin 256 → Fin 256 → Ideal .bf16} (hu : IsLater u) (a : Ideal .f32) (y k : Fin 256) :
    (a * u y k : Ideal .f32) = if k < y then a else 0 := by
  rw [hu y k]
  by_cases h : k < y
  · rw [if_pos h, if_pos h]; exact mul_one (M := EReal) a
  · rw [if_neg h, if_neg h]; exact mul_zero (M₀ := EReal) a

/-- A row of the diagonal block: its stay logarithms are all that there are. -/
theorem totD_eq (c : Nat) (hc : c < 8) (z : Fin 2048 → Ideal .f32) (i : Fin 256) :
    totD i (fun j => z (key c hc j)) = carryG c z (key c hc i) := by
  rw [carryG, sum_block c hc, show (∑ k : Fin 2048, if 256 * (c + 1) ≤ k.val then stay z (key c hc i) k else 0) = 0 from
    carryG_zero (c + 1) z _ (by simp only [key]; omega), totD]
  refine (Finset.sum_congr rfl fun k _ => ?_).trans (zero_add (M := EReal) _).symm
  rw [select_bit, stay]
  by_cases h : k < i
  · rw [if_pos h, if_pos (by rw [Fin.lt_def] at h ⊢; simp only [key]; omega)]
  · rw [if_neg h, if_neg (by rw [Fin.lt_def] at h ⊢; simp only [key]; omega)]

/-- A row below the diagonal block: the block's stay logarithms join those of the later blocks. -/
theorem totB_eq (c : Nat) (hc : c < 8) (z : Fin 2048 → Ideal .f32) (r : Fin 2048) (hr : 256 * (c + 1) ≤ r.val) :
    carryG (c + 1) z r + totB (fun j => z (key c hc j)) = carryG c z r := by
  rw [carryG, carryG, sum_block c hc, totB]
  congr 1
  refine Finset.sum_congr rfl fun k _ => ?_
  rw [stay, if_pos (by rw [Fin.lt_def]; simp only [key]; omega)]

/-- A row of the diagonal block: its weighted values are all that there are. -/
theorem pvD_eq (c : Nat) (hc : c < 8) (z v : Fin 2048 → Ideal .f32) (u : Fin 256 → Fin 256 → Ideal .bf16) (hu : IsLater u) (i : Fin 256) :
    pvD i (fun j => z (key c hc j)) u (fun j => v (key c hc j)) = accG c z v (key c hc i) := by
  rw [accG, sum_block c hc, show (∑ k : Fin 2048, if 256 * (c + 1) ≤ k.val then attG z (key c hc i) k * v k else 0) = 0 from
    accG_zero (c + 1) z v _ (by simp only [key]; omega), pvD]
  refine (Finset.sum_congr rfl fun k _ => ?_).trans (zero_add (M := EReal) _).symm
  rw [select_bit, attG]
  by_cases h : k < i
  · rw [if_pos h, if_pos (by rw [Fin.lt_def] at h ⊢; simp only [key]; omega), laterG_block c hc,
      carryG_zero (c + 1) z _ (by simp only [key]; omega)]
    congr 2
    congr 1
    refine (Finset.sum_congr rfl fun y _ => ?_).trans (zero_add (M := EReal) _).symm
    rw [select_bit, hu.mul, stay]
    by_cases hy : y < i
    · rw [if_pos hy, if_pos (show key c hc y < key c hc i by rw [Fin.lt_def] at hy ⊢; simp only [key]; omega)]
    · rw [if_neg hy, if_neg (show ¬ key c hc y < key c hc i by rw [Fin.lt_def] at hy ⊢; simp only [key]; omega), ite_self]
  · rw [if_neg h, if_neg (by rw [Fin.lt_def] at h ⊢; simp only [key]; omega)]
    exact (zero_mul (M₀ := EReal) _).symm

/-- A row below the diagonal block: the block's weighted values join those of the later blocks. -/
theorem pvB_eq (c : Nat) (hc : c < 8) (z v : Fin 2048 → Ideal .f32) (u : Fin 256 → Fin 256 → Ideal .bf16) (hu : IsLater u) (r : Fin 2048)
    (hr : 256 * (c + 1) ≤ r.val) :
    accG (c + 1) z v r + pvB (fun j => z (key c hc j)) u (carryG (c + 1) z r) (fun j => v (key c hc j)) = accG c z v r := by
  rw [accG, accG, sum_block c hc, pvB]
  congr 1
  refine Finset.sum_congr rfl fun k _ => ?_
  rw [attG, if_pos (by rw [Fin.lt_def]; simp only [key]; omega), laterG_block c hc]
  congr 2
  refine (add_assoc (G := EReal) _ _ _).trans ?_
  congr 1
  refine (add_comm (G := EReal) _ _).trans ?_
  congr 1
  refine Finset.sum_congr rfl fun y _ => ?_
  rw [hu.mul, stay, if_pos (show key c hc y < r by rw [Fin.lt_def]; simp only [key]; omega)]

end Cert.Att
end
end
-- ==== Proof.Att.Read.lean ====
module
public import proofs.«01_k».proof.Proof.Att.Closed
public import proofs.«01_k».proof.Proof.Gen.KernelIdeal.Frame
public import Idealize.ShloMosaic.Lib.Pipeline.ReadBack
public import Idealize.ShloMosaic.Lib.Pipeline.ValueKit

/-! Loads of the kernel's blocks, and loads of what earlier stores left in its two scratch buffers, read at an index; and a strip's row in closed form. -/

@[expose] public section
noncomputable section
namespace Cert.Att
open Cert.KernelIdeal Cert.KernelIdeal.Gen Idealize.ShloMosaic Idealize.ShloMosaic.TcCoe Idealize.SL.Sem

/-- Column `d` of head `n` of the two a block holds. -/
abbrev col (n : Nat) (hn : n < 2) (d : Fin 128) : Fin 256 := ⟨128 * n + d, by omega⟩

/-- The score of a query at `r` against key `k`, for head `n`. -/
def zzG (x0 : Vec Ideal S1x2048x256 .bf16) (x1 : Vec Ideal S1x2048x256 .f32) (n : Nat) (hn : n < 2) (r k : Fin 2048) : Ideal .f32 :=
  ∑ d : Fin 128, (x0 (ix3 0 r (col n hn d)) : Ideal .f32) * x1 (ix3 0 k (col n hn d))

/-- The weighted values of the keys from block `lo` on, at a row and column. -/
def GA' (x0 : Vec Ideal S1x2048x256 .bf16) (x1 x2 : Vec Ideal S1x2048x256 .f32) (lo : Nat) (r : Fin 2048) (q : Fin 256) : Ideal .f32 :=
  accG lo (zzG x0 x1 (q / 128) (by omega) r) (fun k => x2 (ix3 0 k q)) r

/-- The same, as what the accumulating buffer holds. -/
def GA (x0 : Vec Ideal S1x2048x256 .bf16) (x1 x2 : Vec Ideal S1x2048x256 .f32) (lo : Nat) : Vec Ideal S2048x256 .f32 :=
  fun x => GA' x0 x1 x2 lo (x 0) (x 1)

/-- The stay logarithms of the keys from block `lo` on, as the other buffer holds them. -/
def GC (x0 : Vec Ideal S1x2048x256 .bf16) (x1 : Vec Ideal S1x2048x256 .f32) (lo : Nat) : Vec Ideal S2x2048x1 .f32 :=
  fun x => carryG lo (zzG x0 x1 (x 0).val (x 0).isLt (x 1)) (x 1)

/-- The place in a block that a load of rows from `a` and columns from `b` takes its element from. -/
theorem read3 {N : Nat} {e : EltTy} (m : Memref sig .tc .vmem S1x2048x256 e) (h : m.IsWhole) (x : Vec Ideal S1x2048x256 e) {a b : Nat}
    {inb : ∀ t, (![0, a, b] : Fin 3 → Nat) t + (⟨3, ![1, N, 128]⟩ : Shape).size t ≤ S1x2048x256.size t} (i : Fin N) (d : Fin 128)
    (r : Fin 2048) (q : Fin 256) (hr : r.val = a + i) (hq : q.val = b + d) :
    View.readAt (Elt Ideal) m.view (Rect.unit (s := S1x2048x256) ![0, a, b] (⟨3, ![1, N, 128]⟩ : Shape).size inb).toLoadRect (h.unread x) (ix3 0 i d)
      = x (ix3 0 r q) := by
  rw [View.readAt_eq_ld, h.read_unread]
  refine View.ld_unit_apply_of x _ _ _ _ _ fun t => ?_
  match t with
  | ⟨0, _⟩ => rfl
  | ⟨1, _⟩ => exact hr
  | ⟨2, _⟩ => exact hq

/-- The place in a buffer of two axes that a rectangle's index names. -/
theorem emb2 {N M : Nat} {a b : Nat} {inb : ∀ t, (![a, b] : Fin 2 → Nat) t + (⟨2, ![N, M]⟩ : Shape).size t ≤ S2048x256.size t}
    (i : Fin N) (j : Fin M) (r : Fin 2048) (q : Fin 256) (hr : r.val = a + i) (hq : q.val = b + j) :
    (Rect.unit (s := S2048x256) ![a, b] (⟨2, ![N, M]⟩ : Shape).size inb).emb (ix2 i j) = ix2 r q := by
  funext t
  match t with
  | ⟨0, _⟩ => exact Fin.ext (show a + 1 * i.val = r.val by omega)
  | ⟨1, _⟩ => exact Fin.ext (show b + 1 * j.val = q.val by omega)

/-- The place in a buffer of three axes that a rectangle's index names. -/
theorem emb3 {N : Nat} {n a : Nat} {inb : ∀ t, (![n, a, 0] : Fin 3 → Nat) t + (⟨3, ![1, N, 1]⟩ : Shape).size t ≤ S2x2048x1.size t}
    (i : Fin N) (hn : n < 2) (r : Fin 2048) (hr : r.val = a + i) :
    (Rect.unit (s := S2x2048x1) ![n, a, 0] (⟨3, ![1, N, 1]⟩ : Shape).size inb).emb (ix3 0 i 0) = ix3 ⟨n, hn⟩ r 0 := by
  funext t
  match t with
  | ⟨0, _⟩ => exact Fin.ext (show n + 1 * 0 = n by omega)
  | ⟨1, _⟩ => exact Fin.ext (show a + 1 * i.val = r.val by omega)
  | ⟨2, _⟩ => rfl

/-- A load that the last two stores cover, both of them blocks of `G`, reads `G`. -/
theorem read_two {sg : RefSig} {κ : Kind} {sp : Space} {s : Shape} {e : EltTy} {Val : EltTy → Type} [∀ e, Nonempty (Val e)] (v : View sg κ sp s e)
    (G : s.Idx → Val e) (r1 r2 B : Rect s) (w1 : r1.shape.Idx → Val e) (w2 : r2.shape.Idx → Val e) (L : List (View.Piece Val s e))
    (h1 : ∀ x, w1 x = G (r1.emb x)) (h2 : ∀ x, w2 x = G (r2.emb x)) (hc : ∀ y, B.emb y ∈ r1.set ∨ B.emb y ∈ r2.set) :
    v.readCov (⟨r1, w1⟩ :: ⟨r2, w2⟩ :: L) B.toLoadRect = fun y => G (B.emb y) := by
  rw [View.readCov_eq_canon']
  funext y
  refine View.canon_append_of_piecesOf G L [⟨r1, w1⟩, ⟨r2, w2⟩] ⟨h1, h2, trivial⟩ _ ?_
  rcases hc y with h | h
  · exact ⟨⟨r1, w1⟩, List.mem_cons_self, h⟩
  · exact ⟨⟨r2, w2⟩, List.mem_cons_of_mem _ List.mem_cons_self, h⟩

/-- A load that the last four stores cover, all of them blocks of `G`, reads `G`. -/
theorem read_four {sg : RefSig} {κ : Kind} {sp : Space} {s : Shape} {e : EltTy} {Val : EltTy → Type} [∀ e, Nonempty (Val e)] (v : View sg κ sp s e)
    (G : s.Idx → Val e) (r1 r2 r3 r4 B : Rect s) (w1 : r1.shape.Idx → Val e) (w2 : r2.shape.Idx → Val e) (w3 : r3.shape.Idx → Val e)
    (w4 : r4.shape.Idx → Val e) (L : List (View.Piece Val s e)) (h1 : ∀ x, w1 x = G (r1.emb x)) (h2 : ∀ x, w2 x = G (r2.emb x))
    (h3 : ∀ x, w3 x = G (r3.emb x)) (h4 : ∀ x, w4 x = G (r4.emb x))
    (hc : ∀ y, (y ∈ r1.set ∨ y ∈ r2.set) ∨ (y ∈ r3.set ∨ y ∈ r4.set)) :
    v.readCov (⟨r1, w1⟩ :: ⟨r2, w2⟩ :: ⟨r3, w3⟩ :: ⟨r4, w4⟩ :: L) B.toLoadRect = fun y => G (B.emb y) := by
  rw [View.readCov_eq_canon']
  funext y
  refine View.canon_append_of_piecesOf G L [⟨r1, w1⟩, ⟨r2, w2⟩, ⟨r3, w3⟩, ⟨r4, w4⟩] ⟨h1, h2, h3, h4, trivial⟩ _ ?_
  rcases hc (B.emb y) with (h | h) | (h | h)
  · exact ⟨⟨r1, w1⟩, List.mem_cons_self, h⟩
  · exact ⟨⟨r2, w2⟩, List.mem_cons_of_mem _ List.mem_cons_self, h⟩
  · exact ⟨⟨r3, w3⟩, List.mem_cons_of_mem _ (List.mem_cons_of_mem _ List.mem_cons_self), h⟩
  · exact ⟨⟨r4, w4⟩, List.mem_cons_of_mem _ (List.mem_cons_of_mem _ (List.mem_cons_of_mem _ List.mem_cons_self)), h⟩

/-- Rows from `a` on are the 256 from `a` on and those from `a + 256` on: in the buffer of two axes. -/
theorem cover2 {a a' b N N' : Nat} {i1 i2 i3} (ha : a' = a + 256) (hN : N = N' + 256)
    (y : (Rect.unit (s := S2048x256) ![a, b] (⟨2, ![N, 128]⟩ : Shape).size i3).shape.Idx) :
    (Rect.unit (s := S2048x256) ![a, b] (⟨2, ![N, 128]⟩ : Shape).size i3).emb y
        ∈ (Rect.unit (s := S2048x256) ![a', b] (⟨2, ![N', 128]⟩ : Shape).size i1).set
    ∨ (Rect.unit (s := S2048x256) ![a, b] (⟨2, ![N, 128]⟩ : Shape).size i3).emb y
        ∈ (Rect.unit (s := S2048x256) ![a, b] (⟨2, ![256, 128]⟩ : Shape).size i2).set := by
  subst ha hN
  have h0 := Rect.idx_unit_val _ _ i3 y 0
  have h1 := Rect.idx_unit_val _ _ i3 y 1
  have l0 : (y 0).val < N' + 256 := (y 0).isLt
  have l1 : (y 1).val < 128 := (y 1).isLt
  change _ = a + _ at h0
  change _ = b + _ at h1
  by_cases hlt : (y 0).val < 256
  · right
    refine Rect.mem_set_unit.mpr fun t => ?_
    match t with
    | ⟨0, _⟩ => exact ⟨h0 ▸ Nat.le_add_right _ _, lt_of_eq_of_lt h0 (Nat.add_lt_add_left hlt a)⟩
    | ⟨1, _⟩ => exact ⟨h1 ▸ Nat.le_add_right _ _, lt_of_eq_of_lt h1 (Nat.add_lt_add_left l1 b)⟩
  · left
    refine Rect.mem_set_unit.mpr fun t => ?_
    match t with
    | ⟨0, _⟩ => exact ⟨le_of_le_of_eq (show a + 256 ≤ a + (y 0).val by omega) h0.symm,
        lt_of_eq_of_lt h0 (show a + (y 0).val < a + 256 + N' by omega)⟩
    | ⟨1, _⟩ => exact ⟨h1 ▸ Nat.le_add_right _ _, lt_of_eq_of_lt h1 (Nat.add_lt_add_left l1 b)⟩

/-- Rows from `a` on are the 256 from `a` on and those from `a + 256` on: in the buffer of three axes. -/
theorem cover3 {a a' n N N' : Nat} {i1 i2 i3} (ha : a' = a + 256) (hN : N = N' + 256)
    (y : (Rect.unit (s := S2x2048x1) ![n, a, 0] (⟨3, ![1, N, 1]⟩ : Shape).size i3).shape.Idx) :
    (Rect.unit (s := S2x2048x1) ![n, a, 0] (⟨3, ![1, N, 1]⟩ : Shape).size i3).emb y
        ∈ (Rect.unit (s := S2x2048x1) ![n, a', 0] (⟨3, ![1, N', 1]⟩ : Shape).size i1).set
    ∨ (Rect.unit (s := S2x2048x1) ![n, a, 0] (⟨3, ![1, N, 1]⟩ : Shape).size i3).emb y
        ∈ (Rect.unit (s := S2x2048x1) ![n, a, 0] (⟨3, ![1, 256, 1]⟩ : Shape).size i2).set := by
  subst ha hN
  have h0 := Rect.idx_unit_val _ _ i3 y 0
  have h1 := Rect.idx_unit_val _ _ i3 y 1
  have h2 := Rect.idx_unit_val _ _ i3 y 2
  have l0 : (y 0).val < 1 := (y 0).isLt
  have l1 : (y 1).val < N' + 256 := (y 1).isLt
  have l2 : (y 2).val < 1 := (y 2).isLt
  change _ = n + _ at h0
  change _ = a + _ at h1
  change _ = 0 + _ at h2
  by_cases hlt : (y 1).val < 256
  · right
    refine Rect.mem_set_unit.mpr fun t => ?_
    match t with
    | ⟨0, _⟩ => exact ⟨h0 ▸ Nat.le_add_right _ _, lt_of_eq_of_lt h0 (Nat.add_lt_add_left l0 n)⟩
    | ⟨1, _⟩ => exact ⟨h1 ▸ Nat.le_add_right _ _, lt_of_eq_of_lt h1 (Nat.add_lt_add_left hlt a)⟩
    | ⟨2, _⟩ => exact ⟨h2 ▸ Nat.le_add_right _ _, lt_of_eq_of_lt h2 (Nat.add_lt_add_left l2 0)⟩
  · left
    refine Rect.mem_set_unit.mpr fun t => ?_
    match t with
    | ⟨0, _⟩ => exact ⟨h0 ▸ Nat.le_add_right _ _, lt_of_eq_of_lt h0 (Nat.add_lt_add_left l0 n)⟩
    | ⟨1, _⟩ => exact ⟨le_of_le_of_eq (show a + 256 ≤ a + (y 1).val by omega) h1.symm,
        lt_of_eq_of_lt h1 (show a + (y 1).val < a + 256 + N' by omega)⟩
    | ⟨2, _⟩ => exact ⟨h2 ▸ Nat.le_add_right _ _, lt_of_eq_of_lt h2 (Nat.add_lt_add_left l2 0)⟩

/-- The first 256 rows and the rest, of one head's columns. -/
theorem cover_head {b : Nat} {i1 i2} (y : S2048x256.Idx) (h0 : b ≤ (y 1).val) (h1 : (y 1).val < b + 128) :
    y ∈ (Rect.unit (s := S2048x256) ![256, b] (⟨2, ![1792, 128]⟩ : Shape).size i1).set
    ∨ y ∈ (Rect.unit (s := S2048x256) ![0, b] (⟨2, ![256, 128]⟩ : Shape).size i2).set := by
  have l0 : (y 0).val < 2048 := (y 0).isLt
  by_cases hlt : (y 0).val < 256
  · right
    refine Rect.mem_set_unit.mpr fun t => ?_
    match t with
    | ⟨0, _⟩ => exact ⟨Nat.zero_le _, show (y 0).val < 0 + 256 by omega⟩
    | ⟨1, _⟩ => exact ⟨h0, h1⟩
  · left
    refine Rect.mem_set_unit.mpr fun t => ?_
    match t with
    | ⟨0, _⟩ => exact ⟨show 256 ≤ (y 0).val by omega, show (y 0).val < 256 + 1792 by omega⟩
    | ⟨1, _⟩ => exact ⟨h0, h1⟩

/-- The four of them are the whole buffer. -/
theorem cover_all {i1 i2 i3 i4} (y : S2048x256.Idx) :
    (y ∈ (Rect.unit (s := S2048x256) ![256, 128] (⟨2, ![1792, 128]⟩ : Shape).size i1).set
      ∨ y ∈ (Rect.unit (s := S2048x256) ![0, 128] (⟨2, ![256, 128]⟩ : Shape).size i2).set)
    ∨ (y ∈ (Rect.unit (s := S2048x256) ![256, 0] (⟨2, ![1792, 128]⟩ : Shape).size i3).set
      ∨ y ∈ (Rect.unit (s := S2048x256) ![0, 0] (⟨2, ![256, 128]⟩ : Shape).size i4).set) := by
  have l1 : (y 1).val < 256 := (y 1).isLt
  by_cases h : (y 1).val < 128
  · exact Or.inr (cover_head y (Nat.zero_le _) (by omega))
  · exact Or.inl (cover_head y (by omega) (by omega))

section Rows
variable (x0 : Vec Ideal S1x2048x256 .bf16) (x1 x2 : Vec Ideal S1x2048x256 .f32) (c : Nat) (hc : c < 8) (n : Nat) (hn : n < 2)

/-- The closed form at a column of head `n`. -/
theorem GA'_col (lo : Nat) (r : Fin 2048) (j : Fin 128) :
    GA' x0 x1 x2 lo r (col n hn j) = accG lo (zzG x0 x1 n hn r) (fun k => x2 (ix3 0 k (col n hn j))) r := by
  have h : ∀ (p : Nat) (hp : p < 2), p = n →
      accG lo (zzG x0 x1 p hp r) (fun k => x2 (ix3 0 k (col n hn j))) r
        = accG lo (zzG x0 x1 n hn r) (fun k => x2 (ix3 0 k (col n hn j))) r := by
    rintro p hp rfl; rfl
  exact h _ _ (show (128 * n + j.val) / 128 = n by omega)

variable (q : Fin 128 → Ideal .bf16) (kk : Fin 256 → Fin 128 → Ideal .f32) (u : Fin 256 → Fin 256 → Ideal .bf16) (v : Fin 256 → Ideal .f32)

/-- The scores of a row against a block, of the loaded queries and keys. -/
theorem scores_eq (r : Fin 2048) (hq : ∀ d, q d = x0 (ix3 0 r (col n hn d))) (hk : ∀ k d, kk k d = x1 (ix3 0 (key c hc k) (col n hn d))) :
    (fun k => ∑ d : Fin 128, (q d : Ideal .f32) * kk k d) = fun k => zzG x0 x1 n hn r (key c hc k) := by
  funext k
  exact Finset.sum_congr rfl fun d _ => by rw [hq d, hk k d]

/-- A diagonal row's weighted values are the closed form. -/
theorem close_accD (hu : IsLater u) (i : Fin 256) (j : Fin 128) (hq : ∀ d, q d = x0 (ix3 0 (key c hc i) (col n hn d)))
    (hk : ∀ k d, kk k d = x1 (ix3 0 (key c hc k) (col n hn d))) (hv : ∀ k, v k = x2 (ix3 0 (key c hc k) (col n hn j))) :
    pvD i (fun k => ∑ d : Fin 128, (q d : Ideal .f32) * kk k d) u v = GA x0 x1 x2 c (ix2 (key c hc i) (col n hn j)) := by
  rw [scores_eq x0 x1 c hc n hn q kk _ hq hk, funext hv]
  exact (pvD_eq c hc (zzG x0 x1 n hn (key c hc i)) (fun k => x2 (ix3 0 k (col n hn j))) u hu i).trans (GA'_col x0 x1 x2 n hn c _ j).symm

/-- A diagonal row's stay logarithms are the closed form. -/
theorem close_carD (i : Fin 256) (hq : ∀ d, q d = x0 (ix3 0 (key c hc i) (col n hn d)))
    (hk : ∀ k d, kk k d = x1 (ix3 0 (key c hc k) (col n hn d))) :
    totD i (fun k => ∑ d : Fin 128, (q d : Ideal .f32) * kk k d) = GC x0 x1 c (ix3 ⟨n, hn⟩ (key c hc i) 0) := by
  rw [scores_eq x0 x1 c hc n hn q kk _ hq hk]
  exact totD_eq c hc (zzG x0 x1 n hn (key c hc i)) i

/-- A lower row's weighted values, added to the later blocks', are the closed form. -/
theorem close_accB (hu : IsLater u) (r : Fin 2048) (hr : 256 * (c + 1) ≤ r.val) (j : Fin 128) (hq : ∀ d, q d = x0 (ix3 0 r (col n hn d)))
    (hk : ∀ k d, kk k d = x1 (ix3 0 (key c hc k) (col n hn d))) (hv : ∀ k, v k = x2 (ix3 0 (key c hc k) (col n hn j)))
    (a b : Ideal .f32) (ha : a = GA x0 x1 x2 (c + 1) (ix2 r (col n hn j))) (hb : b = GC x0 x1 (c + 1) (ix3 ⟨n, hn⟩ r 0)) :
    a + pvB (fun k => ∑ d : Fin 128, (q d : Ideal .f32) * kk k d) u b v = GA x0 x1 x2 c (ix2 r (col n hn j)) := by
  have ha' : a = accG (c + 1) (zzG x0 x1 n hn r) (fun k => x2 (ix3 0 k (col n hn j))) r := ha.trans (GA'_col x0 x1 x2 n hn (c + 1) r j)
  have hb' : b = carryG (c + 1) (zzG x0 x1 n hn r) r := hb
  rw [scores_eq x0 x1 c hc n hn q kk _ hq hk, funext hv, ha', hb']
  exact (pvB_eq c hc (zzG x0 x1 n hn r) (fun k => x2 (ix3 0 k (col n hn j))) u hu r hr).trans (GA'_col x0 x1 x2 n hn c _ j).symm

/-- A lower row's stay logarithms, added to the later blocks', are the closed form. -/
theorem close_carB (r : Fin 2048) (hr : 256 * (c + 1) ≤ r.val) (hq : ∀ d, q d = x0 (ix3 0 r (col n hn d)))
    (hk : ∀ k d, kk k d = x1 (ix3 0 (key c hc k) (col n hn d))) (b : Ideal .f32) (hb : b = GC x0 x1 (c + 1) (ix3 ⟨n, hn⟩ r 0)) :
    b + totB (fun k => ∑ d : Fin 128, (q d : Ideal .f32) * kk k d) = GC x0 x1 c (ix3 ⟨n, hn⟩ r 0) := by
  rw [scores_eq x0 x1 c hc n hn q kk _ hq hk, hb]
  exact totB_eq c hc (zzG x0 x1 n hn r) r hr

end Rows

/-- A run of the body: the core, the buffers it is given, and the blocks of queries, keys, values and the matrix that sums later keys. -/
structure Run where
  c : Dev nD
  arg2 : Memref sig .tc .vmem S1x2048x256 .bf16
  harg2 : arg2.IsWhole
  arg3 : Memref sig .tc .vmem S1x2048x256 .f32
  harg3 : arg3.IsWhole
  arg4 : Memref sig .tc .vmem S1x2048x256 .f32
  harg4 : arg4.IsWhole
  arg6 : Memref sig .tc .vmem S256x256 .bf16
  harg6 : arg6.IsWhole
  arg8 : Memref sig .tc .vmem S2048x256 .f32
  arg9 : Memref sig .tc .vmem S2x2048x1 .f32
  x0 : Vec Ideal S1x2048x256 .bf16
  x1 : Vec Ideal S1x2048x256 .f32
  x2 : Vec Ideal S1x2048x256 .f32
  x4 : Vec Ideal S256x256 .bf16
  later : IsLater fun y k => x4 (ix2 y k)

/-- The loaded matrix is the given one. -/
theorem Run.isLater (e : Run) : IsLater fun y k => View.readAt (Elt Ideal) e.arg6.view
    (Rect.unit ![0, 0] S256x256.size inb_S256x256_S256x256_0_0).toLoadRect (e.harg6.unread e.x4) (ix2 y k) := by
  intro y k
  refine Eq.trans ?_ (e.later y k)
  rw [View.readAt_eq_ld, e.harg6.read_unread]
  refine View.ld_unit_apply_of e.x4 _ _ _ _ _ fun t => ?_
  match t with
  | ⟨0, _⟩ => exact (Nat.zero_add _).symm
  | ⟨1, _⟩ => exact (Nat.zero_add _).symm

end Cert.Att
end
end
-- ==== Proof.Att.Strips1.lean ====
module
public import proofs.«01_k».proof.Proof.Att.Row

/-! The strips of the first 1024 keys: what the kernel stores, read at an index, from the blocks it loads. -/

@[expose] public section
set_option maxRecDepth 16384
noncomputable section
namespace Cert.Att
open Cert.KernelIdeal Cert.KernelIdeal.Gen Idealize.ShloMosaic Idealize.ShloMosaic.TcCoe Idealize.SL.Sem

/-- Strip 3, head 0: the weighted values of a row of the diagonal block. -/
theorem accD_3_0 (Q : Vec Ideal S1x1280x128 .bf16) (K : Vec Ideal S1x256x128 .f32) (V : Vec Ideal S1x256x128 .f32) (U : Vec Ideal S256x256 .bf16) (ca : Vec Ideal S1x1024x1 .f32) (i : Fin 256) (j : Fin 128) :
    k0_pay108 (k0_pay105 k0_pay2 (k0_pay3 U) (k0_pay99 Q) K ca) (k0_pay106 V) (constant S1280x128 FTy.f32 0#32) (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay99, k0_pay100, k0_pay101, k0_pay102, k0_pay104, k0_pay105, k0_pay106, k0_pay107, k0_pay108]
  rfl

/-- Strip 3, head 0: a row below the diagonal block adds its weighted values to those of the later keys. -/
theorem accB_3_0 (Q : Vec Ideal S1x1280x128 .bf16) (K : Vec Ideal S1x256x128 .f32) (V : Vec Ideal S1x256x128 .f32) (U : Vec Ideal S256x256 .bf16) (ca : Vec Ideal S1x1024x1 .f32) (ac : Vec Ideal S1024x128 .f32) (i : Fin 1024) (j : Fin 128) :
    k0_pay110 (k0_pay105 k0_pay2 (k0_pay3 U) (k0_pay99 Q) K ca) (k0_pay106 V) (constant S1280x128 FTy.f32 0#32) ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay99, k0_pay100, k0_pay101, k0_pay102, k0_pay104, k0_pay105, k0_pay106, k0_pay107, k0_pay110]
  rfl

/-- Strip 3, head 0: the stay logarithms of a row of the diagonal block, summed. -/
theorem carD_3_0 (Q : Vec Ideal S1x1280x128 .bf16) (K : Vec Ideal S1x256x128 .f32) (i : Fin 256) :
    k0_pay109 (k0_pay103 k0_pay2 (k0_pay99 Q) K) (ix3 0 i 0) =
      totD i (fun k => ∑ d : Fin 128, Q (ix3 0 ⟨↑i, by omega⟩ d) * K (ix3 0 k d)) := by
  pointwise [k0_pay2, k0_pay99, k0_pay100, k0_pay101, k0_pay102, k0_pay103, k0_pay109]
  rfl

/-- Strip 3, head 0: a row below the diagonal block adds its stay logarithms to those of the later keys. -/
theorem carB_3_0 (Q : Vec Ideal S1x1280x128 .bf16) (K : Vec Ideal S1x256x128 .f32) (ca : Vec Ideal S1x1024x1 .f32) (i : Fin 1024) :
    k0_pay111 (k0_pay103 k0_pay2 (k0_pay99 Q) K) (k0_pay104 ca) (ix3 0 i 0) =
      ca (ix3 0 i 0) + totB (fun k => ∑ d : Fin 128, Q (ix3 0 ⟨256 + ↑i, by omega⟩ d) * K (ix3 0 k d)) := by
  pointwise [k0_pay2, k0_pay99, k0_pay100, k0_pay101, k0_pay102, k0_pay103, k0_pay104, k0_pay111]
  rfl

/-- Strip 3, head 1: the weighted values of a row of the diagonal block. -/
theorem accD_3_1 (Q : Vec Ideal S1x1280x128 .bf16) (K : Vec Ideal S1x256x128 .f32) (V : Vec Ideal S1x256x128 .f32) (U : Vec Ideal S256x256 .bf16) (ca : Vec Ideal S1x1024x1 .f32) (i : Fin 256) (j : Fin 128) :
    k0_pay120 k0_pay2 (k0_pay3 U) (k0_pay112 V) (k0_pay113 Q K) (k0_pay114 Q K) (FloatOps.ofBits FTy.f32 1065353216#32) ca (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay112, k0_pay113, k0_pay114, k0_pay115, k0_pay116, k0_pay118, k0_pay119, k0_pay120]
  rfl

/-- Strip 3, head 1: a row below the diagonal block adds its weighted values to those of the later keys. -/
theorem accB_3_1 (Q : Vec Ideal S1x1280x128 .bf16) (K : Vec Ideal S1x256x128 .f32) (V : Vec Ideal S1x256x128 .f32) (U : Vec Ideal S256x256 .bf16) (ca : Vec Ideal S1x1024x1 .f32) (ac : Vec Ideal S1024x128 .f32) (i : Fin 1024) (j : Fin 128) :
    k0_pay122 (k0_pay119 k0_pay2 (k0_pay3 U) (k0_pay112 V) (k0_pay113 Q K) (k0_pay114 Q K) (FloatOps.ofBits FTy.f32 1065353216#32) ca) ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay112, k0_pay113, k0_pay114, k0_pay115, k0_pay116, k0_pay118, k0_pay119, k0_pay122]
  rfl

/-- Strip 3, head 1: the stay logarithms of a row of the diagonal block, summed. -/
theorem carD_3_1 (Q : Vec Ideal S1x1280x128 .bf16) (K : Vec Ideal S1x256x128 .f32) (i : Fin 256) :
    k0_pay121 k0_pay2 (k0_pay113 Q K) (k0_pay114 Q K) (FloatOps.ofBits FTy.f32 1065353216#32) (ix3 0 i 0) =
      totD i (fun k => ∑ d : Fin 128, Q (ix3 0 ⟨↑i, by omega⟩ d) * K (ix3 0 k d)) := by
  pointwise [k0_pay2, k0_pay113, k0_pay114, k0_pay115, k0_pay116, k0_pay117, k0_pay121]
  rfl

/-- Strip 3, head 1: a row below the diagonal block adds its stay logarithms to those of the later keys. -/
theorem carB_3_1 (Q : Vec Ideal S1x1280x128 .bf16) (K : Vec Ideal S1x256x128 .f32) (ca : Vec Ideal S1x1024x1 .f32) (i : Fin 1024) :
    k0_pay123 (k0_pay117 k0_pay2 (k0_pay113 Q K) (k0_pay114 Q K) (FloatOps.ofBits FTy.f32 1065353216#32)) (k0_pay118 ca) (ix3 0 i 0) =
      ca (ix3 0 i 0) + totB (fun k => ∑ d : Fin 128, Q (ix3 0 ⟨256 + ↑i, by omega⟩ d) * K (ix3 0 k d)) := by
  pointwise [k0_pay2, k0_pay113, k0_pay114, k0_pay115, k0_pay116, k0_pay117, k0_pay118, k0_pay123]
  rfl

/-- Strip 2, head 0: the weighted values of a row of the diagonal block. -/
theorem accD_2_0 (Q : Vec Ideal S1x1536x128 .bf16) (K : Vec Ideal S1x256x128 .f32) (V : Vec Ideal S1x256x128 .f32) (U : Vec Ideal S256x256 .bf16) (ca : Vec Ideal S1x1280x1 .f32) (i : Fin 256) (j : Fin 128) :
    k0_pay133 k0_pay2 (k0_pay3 U) (k0_pay124 V) (k0_pay126 Q K) (k0_pay127 Q K) (k0_pay128 k0_pay2 Q K) ca (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay124, k0_pay125, k0_pay126, k0_pay127, k0_pay128, k0_pay129, k0_pay131, k0_pay132, k0_pay133]
  rfl

/-- Strip 2, head 0: a row below the diagonal block adds its weighted values to those of the later keys. -/
theorem accB_2_0 (Q : Vec Ideal S1x1536x128 .bf16) (K : Vec Ideal S1x256x128 .f32) (V : Vec Ideal S1x256x128 .f32) (U : Vec Ideal S256x256 .bf16) (ca : Vec Ideal S1x1280x1 .f32) (ac : Vec Ideal S1280x128 .f32) (i : Fin 1280) (j : Fin 128) :
    k0_pay135 k0_pay2 (k0_pay3 U) (k0_pay124 V) (k0_pay126 Q K) (k0_pay127 Q K) (k0_pay128 k0_pay2 Q K) ca ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay124, k0_pay125, k0_pay126, k0_pay127, k0_pay128, k0_pay129, k0_pay131, k0_pay132, k0_pay135]
  rfl

/-- Strip 2, head 0: the stay logarithms of a row of the diagonal block, summed. -/
theorem carD_2_0 (Q : Vec Ideal S1x1536x128 .bf16) (K : Vec Ideal S1x256x128 .f32) (i : Fin 256) :
    k0_pay134 (k0_pay127 Q K) (k0_pay128 k0_pay2 Q K) (ix3 0 i 0) =
      totD i (fun k => ∑ d : Fin 128, Q (ix3 0 ⟨↑i, by omega⟩ d) * K (ix3 0 k d)) := by
  pointwise [k0_pay2, k0_pay125, k0_pay126, k0_pay127, k0_pay128, k0_pay129, k0_pay130, k0_pay134]
  rfl

/-- Strip 2, head 0: a row below the diagonal block adds its stay logarithms to those of the later keys. -/
theorem carB_2_0 (Q : Vec Ideal S1x1536x128 .bf16) (K : Vec Ideal S1x256x128 .f32) (ca : Vec Ideal S1x1280x1 .f32) (i : Fin 1280) :
    k0_pay137 (k0_pay136 (k0_pay127 Q K) (k0_pay128 k0_pay2 Q K) ca) (ix3 0 i 0) =
      ca (ix3 0 i 0) + totB (fun k => ∑ d : Fin 128, Q (ix3 0 ⟨256 + ↑i, by omega⟩ d) * K (ix3 0 k d)) := by
  pointwise [k0_pay2, k0_pay125, k0_pay126, k0_pay127, k0_pay128, k0_pay129, k0_pay130, k0_pay131, k0_pay136, k0_pay137]
  rfl

/-- Strip 2, head 1: the weighted values of a row of the diagonal block. -/
theorem accD_2_1 (Q : Vec Ideal S1x1536x128 .bf16) (K : Vec Ideal S1x256x128 .f32) (V : Vec Ideal S1x256x128 .f32) (U : Vec Ideal S256x256 .bf16) (ca : Vec Ideal S1x1280x1 .f32) (i : Fin 256) (j : Fin 128) :
    k0_pay147 (k0_pay138 V) (k0_pay140 Q K) (k0_pay142 k0_pay2 (k0_pay3 U) Q K) (k0_pay144 k0_pay2 (k0_pay3 U) Q K) ca (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay138, k0_pay139, k0_pay140, k0_pay141, k0_pay142, k0_pay144, k0_pay145, k0_pay146, k0_pay147]
  rfl

/-- Strip 2, head 1: a row below the diagonal block adds its weighted values to those of the later keys. -/
theorem accB_2_1 (Q : Vec Ideal S1x1536x128 .bf16) (K : Vec Ideal S1x256x128 .f32) (V : Vec Ideal S1x256x128 .f32) (U : Vec Ideal S256x256 .bf16) (ca : Vec Ideal S1x1280x1 .f32) (ac : Vec Ideal S1280x128 .f32) (i : Fin 1280) (j : Fin 128) :
    k0_pay149 (k0_pay138 V) (k0_pay140 Q K) (k0_pay142 k0_pay2 (k0_pay3 U) Q K) (k0_pay144 k0_pay2 (k0_pay3 U) Q K) ca ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay138, k0_pay139, k0_pay140, k0_pay141, k0_pay142, k0_pay144, k0_pay145, k0_pay146, k0_pay149]
  rfl

/-- Strip 2, head 1: the stay logarithms of a row of the diagonal block, summed. -/
theorem carD_2_1 (Q : Vec Ideal S1x1536x128 .bf16) (K : Vec Ideal S1x256x128 .f32) (i : Fin 256) :
    k0_pay148 (k0_pay143 k0_pay2 Q K) (ix3 0 i 0) =
      totD i (fun k => ∑ d : Fin 128, Q (ix3 0 ⟨↑i, by omega⟩ d) * K (ix3 0 k d)) := by
  pointwise [k0_pay2, k0_pay139, k0_pay140, k0_pay141, k0_pay143, k0_pay148]
  rfl

/-- Strip 2, head 1: a row below the diagonal block adds its stay logarithms to those of the later keys. -/
theorem carB_2_1 (Q : Vec Ideal S1x1536x128 .bf16) (K : Vec Ideal S1x256x128 .f32) (ca : Vec Ideal S1x1280x1 .f32) (i : Fin 1280) :
    k0_pay150 (k0_pay143 k0_pay2 Q K) ca (ix3 0 i 0) =
      ca (ix3 0 i 0) + totB (fun k => ∑ d : Fin 128, Q (ix3 0 ⟨256 + ↑i, by omega⟩ d) * K (ix3 0 k d)) := by
  pointwise [k0_pay2, k0_pay139, k0_pay140, k0_pay141, k0_pay143, k0_pay145, k0_pay150]
  rfl

/-- Strip 1, head 0: the weighted values of a row of the diagonal block. -/
theorem accD_1_0 (Q : Vec Ideal S1x1792x128 .bf16) (K : Vec Ideal S1x256x128 .f32) (V : Vec Ideal S1x256x128 .f32) (U : Vec Ideal S256x256 .bf16) (ca : Vec Ideal S1x1536x1 .f32) (i : Fin 256) (j : Fin 128) :
    k0_pay160 (k0_pay157 k0_pay2 (k0_pay3 U) (k0_pay151 Q) K ca) (k0_pay158 V) (constant S1792x128 FTy.f32 0#32) (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay151, k0_pay152, k0_pay153, k0_pay154, k0_pay156, k0_pay157, k0_pay158, k0_pay159, k0_pay160]
  rfl

/-- Strip 1, head 0: a row below the diagonal block adds its weighted values to those of the later keys. -/
theorem accB_1_0 (Q : Vec Ideal S1x1792x128 .bf16) (K : Vec Ideal S1x256x128 .f32) (V : Vec Ideal S1x256x128 .f32) (U : Vec Ideal S256x256 .bf16) (ca : Vec Ideal S1x1536x1 .f32) (ac : Vec Ideal S1536x128 .f32) (i : Fin 1536) (j : Fin 128) :
    k0_pay162 (k0_pay157 k0_pay2 (k0_pay3 U) (k0_pay151 Q) K ca) (k0_pay158 V) (constant S1792x128 FTy.f32 0#32) ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay151, k0_pay152, k0_pay153, k0_pay154, k0_pay156, k0_pay157, k0_pay158, k0_pay159, k0_pay162]
  rfl

/-- Strip 1, head 0: the stay logarithms of a row of the diagonal block, summed. -/
theorem carD_1_0 (Q : Vec Ideal S1x1792x128 .bf16) (K : Vec Ideal S1x256x128 .f32) (i : Fin 256) :
    k0_pay161 (k0_pay155 k0_pay2 (k0_pay151 Q) K) (ix3 0 i 0) =
      totD i (fun k => ∑ d : Fin 128, Q (ix3 0 ⟨↑i, by omega⟩ d) * K (ix3 0 k d)) := by
  pointwise [k0_pay2, k0_pay151, k0_pay152, k0_pay153, k0_pay154, k0_pay155, k0_pay161]
  rfl

/-- Strip 1, head 0: a row below the diagonal block adds its stay logarithms to those of the later keys. -/
theorem carB_1_0 (Q : Vec Ideal S1x1792x128 .bf16) (K : Vec Ideal S1x256x128 .f32) (ca : Vec Ideal S1x1536x1 .f32) (i : Fin 1536) :
    k0_pay163 (k0_pay155 k0_pay2 (k0_pay151 Q) K) (k0_pay156 ca) (ix3 0 i 0) =
      ca (ix3 0 i 0) + totB (fun k => ∑ d : Fin 128, Q (ix3 0 ⟨256 + ↑i, by omega⟩ d) * K (ix3 0 k d)) := by
  pointwise [k0_pay2, k0_pay151, k0_pay152, k0_pay153, k0_pay154, k0_pay155, k0_pay156, k0_pay163]
  rfl

/-- Strip 1, head 1: the weighted values of a row of the diagonal block. -/
theorem accD_1_1 (Q : Vec Ideal S1x1792x128 .bf16) (K : Vec Ideal S1x256x128 .f32) (V : Vec Ideal S1x256x128 .f32) (U : Vec Ideal S256x256 .bf16) (ca : Vec Ideal S1x1536x1 .f32) (i : Fin 256) (j : Fin 128) :
    k0_pay172 k0_pay2 (k0_pay3 U) (k0_pay164 V) (k0_pay165 Q K) (k0_pay166 Q K) (FloatOps.ofBits FTy.f32 1065353216#32) ca (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay164, k0_pay165, k0_pay166, k0_pay167, k0_pay168, k0_pay170, k0_pay171, k0_pay172]
  rfl

/-- Strip 1, head 1: a row below the diagonal block adds its weighted values to those of the later keys. -/
theorem accB_1_1 (Q : Vec Ideal S1x1792x128 .bf16) (K : Vec Ideal S1x256x128 .f32) (V : Vec Ideal S1x256x128 .f32) (U : Vec Ideal S256x256 .bf16) (ca : Vec Ideal S1x1536x1 .f32) (ac : Vec Ideal S1536x128 .f32) (i : Fin 1536) (j : Fin 128) :
    k0_pay174 (k0_pay171 k0_pay2 (k0_pay3 U) (k0_pay164 V) (k0_pay165 Q K) (k0_pay166 Q K) (FloatOps.ofBits FTy.f32 1065353216#32) ca) ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay164, k0_pay165, k0_pay166, k0_pay167, k0_pay168, k0_pay170, k0_pay171, k0_pay174]
  rfl

/-- Strip 1, head 1: the stay logarithms of a row of the diagonal block, summed. -/
theorem carD_1_1 (Q : Vec Ideal S1x1792x128 .bf16) (K : Vec Ideal S1x256x128 .f32) (i : Fin 256) :
    k0_pay173 k0_pay2 (k0_pay165 Q K) (k0_pay166 Q K) (FloatOps.ofBits FTy.f32 1065353216#32) (ix3 0 i 0) =
      totD i (fun k => ∑ d : Fin 128, Q (ix3 0 ⟨↑i, by omega⟩ d) * K (ix3 0 k d)) := by
  pointwise [k0_pay2, k0_pay165, k0_pay166, k0_pay167, k0_pay168, k0_pay169, k0_pay173]
  rfl

/-- Strip 1, head 1: a row below the diagonal block adds its stay logarithms to those of the later keys. -/
theorem carB_1_1 (Q : Vec Ideal S1x1792x128 .bf16) (K : Vec Ideal S1x256x128 .f32) (ca : Vec Ideal S1x1536x1 .f32) (i : Fin 1536) :
    k0_pay175 (k0_pay169 k0_pay2 (k0_pay165 Q K) (k0_pay166 Q K) (FloatOps.ofBits FTy.f32 1065353216#32)) (k0_pay170 ca) (ix3 0 i 0) =
      ca (ix3 0 i 0) + totB (fun k => ∑ d : Fin 128, Q (ix3 0 ⟨256 + ↑i, by omega⟩ d) * K (ix3 0 k d)) := by
  pointwise [k0_pay2, k0_pay165, k0_pay166, k0_pay167, k0_pay168, k0_pay169, k0_pay170, k0_pay175]
  rfl

/-- Strip 0, head 0: the weighted values of a row of the diagonal block. -/
theorem accD_0_0 (Q : Vec Ideal S1x2048x128 .bf16) (K : Vec Ideal S1x256x128 .f32) (V : Vec Ideal S1x256x128 .f32) (U : Vec Ideal S256x256 .bf16) (ca : Vec Ideal S1x1792x1 .f32) (i : Fin 256) (j : Fin 128) :
    k0_pay185 k0_pay2 (k0_pay3 U) (k0_pay176 V) (k0_pay178 Q K) (k0_pay179 Q K) (k0_pay180 k0_pay2 Q K) ca (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay176, k0_pay177, k0_pay178, k0_pay179, k0_pay180, k0_pay181, k0_pay183, k0_pay184, k0_pay185]
  rfl

/-- Strip 0, head 0: a row below the diagonal block adds its weighted values to those of the later keys. -/
theorem accB_0_0 (Q : Vec Ideal S1x2048x128 .bf16) (K : Vec Ideal S1x256x128 .f32) (V : Vec Ideal S1x256x128 .f32) (U : Vec Ideal S256x256 .bf16) (ca : Vec Ideal S1x1792x1 .f32) (ac : Vec Ideal S1792x128 .f32) (i : Fin 1792) (j : Fin 128) :
    k0_pay187 k0_pay2 (k0_pay3 U) (k0_pay176 V) (k0_pay178 Q K) (k0_pay179 Q K) (k0_pay180 k0_pay2 Q K) ca ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay176, k0_pay177, k0_pay178, k0_pay179, k0_pay180, k0_pay181, k0_pay183, k0_pay184, k0_pay187]
  rfl

/-- Strip 0, head 0: the stay logarithms of a row of the diagonal block, summed. -/
theorem carD_0_0 (Q : Vec Ideal S1x2048x128 .bf16) (K : Vec Ideal S1x256x128 .f32) (i : Fin 256) :
    k0_pay186 (k0_pay179 Q K) (k0_pay180 k0_pay2 Q K) (ix3 0 i 0) =
      totD i (fun k => ∑ d : Fin 128, Q (ix3 0 ⟨↑i, by omega⟩ d) * K (ix3 0 k d)) := by
  pointwise [k0_pay2, k0_pay177, k0_pay178, k0_pay179, k0_pay180, k0_pay181, k0_pay182, k0_pay186]
  rfl

/-- Strip 0, head 0: a row below the diagonal block adds its stay logarithms to those of the later keys. -/
theorem carB_0_0 (Q : Vec Ideal S1x2048x128 .bf16) (K : Vec Ideal S1x256x128 .f32) (ca : Vec Ideal S1x1792x1 .f32) (i : Fin 1792) :
    k0_pay189 (k0_pay188 (k0_pay179 Q K) (k0_pay180 k0_pay2 Q K) ca) (ix3 0 i 0) =
      ca (ix3 0 i 0) + totB (fun k => ∑ d : Fin 128, Q (ix3 0 ⟨256 + ↑i, by omega⟩ d) * K (ix3 0 k d)) := by
  pointwise [k0_pay2, k0_pay177, k0_pay178, k0_pay179, k0_pay180, k0_pay181, k0_pay182, k0_pay183, k0_pay188, k0_pay189]
  rfl

/-- Strip 0, head 1: the weighted values of a row of the diagonal block. -/
theorem accD_0_1 (Q : Vec Ideal S1x2048x128 .bf16) (K : Vec Ideal S1x256x128 .f32) (V : Vec Ideal S1x256x128 .f32) (U : Vec Ideal S256x256 .bf16) (ca : Vec Ideal S1x1792x1 .f32) (i : Fin 256) (j : Fin 128) :
    k0_pay199 (k0_pay190 V) (k0_pay192 Q K) (k0_pay194 k0_pay2 (k0_pay3 U) Q K) (k0_pay196 k0_pay2 (k0_pay3 U) Q K) ca (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay190, k0_pay191, k0_pay192, k0_pay193, k0_pay194, k0_pay196, k0_pay197, k0_pay198, k0_pay199]
  rfl

/-- Strip 0, head 1: a row below the diagonal block adds its weighted values to those of the later keys. -/
theorem accB_0_1 (Q : Vec Ideal S1x2048x128 .bf16) (K : Vec Ideal S1x256x128 .f32) (V : Vec Ideal S1x256x128 .f32) (U : Vec Ideal S256x256 .bf16) (ca : Vec Ideal S1x1792x1 .f32) (ac : Vec Ideal S1792x128 .f32) (i : Fin 1792) (j : Fin 128) :
    k0_pay201 (k0_pay190 V) (k0_pay192 Q K) (k0_pay194 k0_pay2 (k0_pay3 U) Q K) (k0_pay196 k0_pay2 (k0_pay3 U) Q K) ca ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay190, k0_pay191, k0_pay192, k0_pay193, k0_pay194, k0_pay196, k0_pay197, k0_pay198, k0_pay201]
  rfl

end Cert.Att
end
end
-- ==== Proof.Att.Strips0.lean ====
module
public import proofs.«01_k».proof.Proof.Att.Row

/-! The strips of the last 1024 keys: what the kernel stores, read at an index, from the blocks it loads. -/

@[expose] public section
set_option maxRecDepth 16384
noncomputable section
namespace Cert.Att
open Cert.KernelIdeal Cert.KernelIdeal.Gen Idealize.ShloMosaic Idealize.ShloMosaic.TcCoe Idealize.SL.Sem

/-- Strip 7, head 0: the weighted values of a row of the diagonal block. -/
theorem accD_7_0 (Q : Vec Ideal S1x256x128 .bf16) (K : Vec Ideal S1x256x128 .f32) (V : Vec Ideal S1x256x128 .f32) (U : Vec Ideal S256x256 .bf16) (i : Fin 256) (j : Fin 128) :
    k0_pay10 (k0_pay8 U Q K) (k0_pay9 V) (ix2 i j) =
      pvD i (fun k => ∑ d : Fin 128, Q (ix3 0 i d) * K (ix3 0 k d)) (fun y k => U (ix2 y k)) (fun k => V (ix3 0 k j)) := by
  pointwise [k0_pay2, k0_pay3, k0_pay4, k0_pay5, k0_pay6, k0_pay8, k0_pay9, k0_pay10]
  rfl

/-- Strip 7, head 0: the stay logarithms of a row of the diagonal block, summed. -/
theorem carD_7_0 (Q : Vec Ideal S1x256x128 .bf16) (K : Vec Ideal S1x256x128 .f32) (i : Fin 256) :
    k0_pay11 (k0_pay7 Q K) (ix3 0 i 0) =
      totD i (fun k => ∑ d : Fin 128, Q (ix3 0 i d) * K (ix3 0 k d)) := by
  pointwise [k0_pay2, k0_pay4, k0_pay5, k0_pay6, k0_pay7, k0_pay11]
  rfl

/-- Strip 7, head 1: the weighted values of a row of the diagonal block. -/
theorem accD_7_1 (Q : Vec Ideal S1x256x128 .bf16) (K : Vec Ideal S1x256x128 .f32) (V : Vec Ideal S1x256x128 .f32) (U : Vec Ideal S256x256 .bf16) (i : Fin 256) (j : Fin 128) :
    k0_pay18 k0_pay2 (k0_pay12 V) (k0_pay17 k0_pay2 (k0_pay3 U) Q K) (ix2 i j) =
      pvD i (fun k => ∑ d : Fin 128, Q (ix3 0 i d) * K (ix3 0 k d)) (fun y k => U (ix2 y k)) (fun k => V (ix3 0 k j)) := by
  pointwise [k0_pay2, k0_pay3, k0_pay12, k0_pay13, k0_pay14, k0_pay15, k0_pay17, k0_pay18]
  rfl

/-- Strip 7, head 1: the stay logarithms of a row of the diagonal block, summed. -/
theorem carD_7_1 (Q : Vec Ideal S1x256x128 .bf16) (K : Vec Ideal S1x256x128 .f32) (i : Fin 256) :
    k0_pay19 (k0_pay16 k0_pay2 Q K) (ix3 0 i 0) =
      totD i (fun k => ∑ d : Fin 128, Q (ix3 0 i d) * K (ix3 0 k d)) := by
  pointwise [k0_pay2, k0_pay13, k0_pay14, k0_pay15, k0_pay16, k0_pay19]
  rfl

/-- Strip 6, head 0: the weighted values of a row of the diagonal block. -/
theorem accD_6_0 (Q : Vec Ideal S1x512x128 .bf16) (K : Vec Ideal S1x256x128 .f32) (V : Vec Ideal S1x256x128 .f32) (U : Vec Ideal S256x256 .bf16) (ca : Vec Ideal S1x256x1 .f32) (i : Fin 256) (j : Fin 128) :
    k0_pay29 k0_pay2 (k0_pay3 U) (k0_pay20 V) (k0_pay22 Q K) (k0_pay23 Q K) (k0_pay24 k0_pay2 Q K) ca (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay20, k0_pay21, k0_pay22, k0_pay23, k0_pay24, k0_pay25, k0_pay27, k0_pay28, k0_pay29]
  rfl

/-- Strip 6, head 0: a row below the diagonal block adds its weighted values to those of the later keys. -/
theorem accB_6_0 (Q : Vec Ideal S1x512x128 .bf16) (K : Vec Ideal S1x256x128 .f32) (V : Vec Ideal S1x256x128 .f32) (U : Vec Ideal S256x256 .bf16) (ca : Vec Ideal S1x256x1 .f32) (ac : Vec Ideal S256x128 .f32) (i : Fin 256) (j : Fin 128) :
    k0_pay31 k0_pay2 (k0_pay3 U) (k0_pay20 V) (k0_pay22 Q K) (k0_pay23 Q K) (k0_pay24 k0_pay2 Q K) ca ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay20, k0_pay21, k0_pay22, k0_pay23, k0_pay24, k0_pay25, k0_pay27, k0_pay28, k0_pay31]
  rfl

/-- Strip 6, head 0: the stay logarithms of a row of the diagonal block, summed. -/
theorem carD_6_0 (Q : Vec Ideal S1x512x128 .bf16) (K : Vec Ideal S1x256x128 .f32) (i : Fin 256) :
    k0_pay30 (k0_pay23 Q K) (k0_pay24 k0_pay2 Q K) (ix3 0 i 0) =
      totD i (fun k => ∑ d : Fin 128, Q (ix3 0 ⟨↑i, by omega⟩ d) * K (ix3 0 k d)) := by
  pointwise [k0_pay2, k0_pay21, k0_pay22, k0_pay23, k0_pay24, k0_pay25, k0_pay26, k0_pay30]
  rfl

/-- Strip 6, head 0: a row below the diagonal block adds its stay logarithms to those of the later keys. -/
theorem carB_6_0 (Q : Vec Ideal S1x512x128 .bf16) (K : Vec Ideal S1x256x128 .f32) (ca : Vec Ideal S1x256x1 .f32) (i : Fin 256) :
    k0_pay33 (k0_pay32 (k0_pay23 Q K) (k0_pay24 k0_pay2 Q K) ca) (ix3 0 i 0) =
      ca (ix3 0 i 0) + totB (fun k => ∑ d : Fin 128, Q (ix3 0 ⟨256 + ↑i, by omega⟩ d) * K (ix3 0 k d)) := by
  pointwise [k0_pay2, k0_pay21, k0_pay22, k0_pay23, k0_pay24, k0_pay25, k0_pay26, k0_pay27, k0_pay32, k0_pay33]
  rfl

/-- Strip 6, head 1: the weighted values of a row of the diagonal block. -/
theorem accD_6_1 (Q : Vec Ideal S1x512x128 .bf16) (K : Vec Ideal S1x256x128 .f32) (V : Vec Ideal S1x256x128 .f32) (U : Vec Ideal S256x256 .bf16) (ca : Vec Ideal S1x256x1 .f32) (i : Fin 256) (j : Fin 128) :
    k0_pay43 (k0_pay34 V) (k0_pay36 Q K) (k0_pay38 k0_pay2 (k0_pay3 U) Q K) (k0_pay40 k0_pay2 (k0_pay3 U) Q K) ca (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay34, k0_pay35, k0_pay36, k0_pay37, k0_pay38, k0_pay40, k0_pay41, k0_pay42, k0_pay43]
  rfl

/-- Strip 6, head 1: a row below the diagonal block adds its weighted values to those of the later keys. -/
theorem accB_6_1 (Q : Vec Ideal S1x512x128 .bf16) (K : Vec Ideal S1x256x128 .f32) (V : Vec Ideal S1x256x128 .f32) (U : Vec Ideal S256x256 .bf16) (ca : Vec Ideal S1x256x1 .f32) (ac : Vec Ideal S256x128 .f32) (i : Fin 256) (j : Fin 128) :
    k0_pay45 (k0_pay34 V) (k0_pay36 Q K) (k0_pay38 k0_pay2 (k0_pay3 U) Q K) (k0_pay40 k0_pay2 (k0_pay3 U) Q K) ca ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay34, k0_pay35, k0_pay36, k0_pay37, k0_pay38, k0_pay40, k0_pay41, k0_pay42, k0_pay45]
  rfl

/-- Strip 6, head 1: the stay logarithms of a row of the diagonal block, summed. -/
theorem carD_6_1 (Q : Vec Ideal S1x512x128 .bf16) (K : Vec Ideal S1x256x128 .f32) (i : Fin 256) :
    k0_pay44 (k0_pay39 k0_pay2 Q K) (ix3 0 i 0) =
      totD i (fun k => ∑ d : Fin 128, Q (ix3 0 ⟨↑i, by omega⟩ d) * K (ix3 0 k d)) := by
  pointwise [k0_pay2, k0_pay35, k0_pay36, k0_pay37, k0_pay39, k0_pay44]
  rfl

/-- Strip 6, head 1: a row below the diagonal block adds its stay logarithms to those of the later keys. -/
theorem carB_6_1 (Q : Vec Ideal S1x512x128 .bf16) (K : Vec Ideal S1x256x128 .f32) (ca : Vec Ideal S1x256x1 .f32) (i : Fin 256) :
    k0_pay46 (k0_pay39 k0_pay2 Q K) ca (ix3 0 i 0) =
      ca (ix3 0 i 0) + totB (fun k => ∑ d : Fin 128, Q (ix3 0 ⟨256 + ↑i, by omega⟩ d) * K (ix3 0 k d)) := by
  pointwise [k0_pay2, k0_pay35, k0_pay36, k0_pay37, k0_pay39, k0_pay41, k0_pay46]
  rfl

/-- Strip 5, head 0: the weighted values of a row of the diagonal block. -/
theorem accD_5_0 (Q : Vec Ideal S1x768x128 .bf16) (K : Vec Ideal S1x256x128 .f32) (V : Vec Ideal S1x256x128 .f32) (U : Vec Ideal S256x256 .bf16) (ca : Vec Ideal S1x512x1 .f32) (i : Fin 256) (j : Fin 128) :
    k0_pay56 (k0_pay53 k0_pay2 (k0_pay3 U) (k0_pay47 Q) K ca) (k0_pay54 V) (constant S768x128 FTy.f32 0#32) (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay47, k0_pay48, k0_pay49, k0_pay50, k0_pay52, k0_pay53, k0_pay54, k0_pay55, k0_pay56]
  rfl

/-- Strip 5, head 0: a row below the diagonal block adds its weighted values to those of the later keys. -/
theorem accB_5_0 (Q : Vec Ideal S1x768x128 .bf16) (K : Vec Ideal S1x256x128 .f32) (V : Vec Ideal S1x256x128 .f32) (U : Vec Ideal S256x256 .bf16) (ca : Vec Ideal S1x512x1 .f32) (ac : Vec Ideal S512x128 .f32) (i : Fin 512) (j : Fin 128) :
    k0_pay58 (k0_pay53 k0_pay2 (k0_pay3 U) (k0_pay47 Q) K ca) (k0_pay54 V) (constant S768x128 FTy.f32 0#32) ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay47, k0_pay48, k0_pay49, k0_pay50, k0_pay52, k0_pay53, k0_pay54, k0_pay55, k0_pay58]
  rfl

/-- Strip 5, head 0: the stay logarithms of a row of the diagonal block, summed. -/
theorem carD_5_0 (Q : Vec Ideal S1x768x128 .bf16) (K : Vec Ideal S1x256x128 .f32) (i : Fin 256) :
    k0_pay57 (k0_pay51 k0_pay2 (k0_pay47 Q) K) (ix3 0 i 0) =
      totD i (fun k => ∑ d : Fin 128, Q (ix3 0 ⟨↑i, by omega⟩ d) * K (ix3 0 k d)) := by
  pointwise [k0_pay2, k0_pay47, k0_pay48, k0_pay49, k0_pay50, k0_pay51, k0_pay57]
  rfl

/-- Strip 5, head 0: a row below the diagonal block adds its stay logarithms to those of the later keys. -/
theorem carB_5_0 (Q : Vec Ideal S1x768x128 .bf16) (K : Vec Ideal S1x256x128 .f32) (ca : Vec Ideal S1x512x1 .f32) (i : Fin 512) :
    k0_pay59 (k0_pay51 k0_pay2 (k0_pay47 Q) K) (k0_pay52 ca) (ix3 0 i 0) =
      ca (ix3 0 i 0) + totB (fun k => ∑ d : Fin 128, Q (ix3 0 ⟨256 + ↑i, by omega⟩ d) * K (ix3 0 k d)) := by
  pointwise [k0_pay2, k0_pay47, k0_pay48, k0_pay49, k0_pay50, k0_pay51, k0_pay52, k0_pay59]
  rfl

/-- Strip 5, head 1: the weighted values of a row of the diagonal block. -/
theorem accD_5_1 (Q : Vec Ideal S1x768x128 .bf16) (K : Vec Ideal S1x256x128 .f32) (V : Vec Ideal S1x256x128 .f32) (U : Vec Ideal S256x256 .bf16) (ca : Vec Ideal S1x512x1 .f32) (i : Fin 256) (j : Fin 128) :
    k0_pay68 k0_pay2 (k0_pay3 U) (k0_pay60 V) (k0_pay61 Q K) (k0_pay62 Q K) (FloatOps.ofBits FTy.f32 1065353216#32) ca (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay60, k0_pay61, k0_pay62, k0_pay63, k0_pay64, k0_pay66, k0_pay67, k0_pay68]
  rfl

/-- Strip 5, head 1: a row below the diagonal block adds its weighted values to those of the later keys. -/
theorem accB_5_1 (Q : Vec Ideal S1x768x128 .bf16) (K : Vec Ideal S1x256x128 .f32) (V : Vec Ideal S1x256x128 .f32) (U : Vec Ideal S256x256 .bf16) (ca : Vec Ideal S1x512x1 .f32) (ac : Vec Ideal S512x128 .f32) (i : Fin 512) (j : Fin 128) :
    k0_pay70 (k0_pay67 k0_pay2 (k0_pay3 U) (k0_pay60 V) (k0_pay61 Q K) (k0_pay62 Q K) (FloatOps.ofBits FTy.f32 1065353216#32) ca) ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay60, k0_pay61, k0_pay62, k0_pay63, k0_pay64, k0_pay66, k0_pay67, k0_pay70]
  rfl

/-- Strip 5, head 1: the stay logarithms of a row of the diagonal block, summed. -/
theorem carD_5_1 (Q : Vec Ideal S1x768x128 .bf16) (K : Vec Ideal S1x256x128 .f32) (i : Fin 256) :
    k0_pay69 k0_pay2 (k0_pay61 Q K) (k0_pay62 Q K) (FloatOps.ofBits FTy.f32 1065353216#32) (ix3 0 i 0) =
      totD i (fun k => ∑ d : Fin 128, Q (ix3 0 ⟨↑i, by omega⟩ d) * K (ix3 0 k d)) := by
  pointwise [k0_pay2, k0_pay61, k0_pay62, k0_pay63, k0_pay64, k0_pay65, k0_pay69]
  rfl

/-- Strip 5, head 1: a row below the diagonal block adds its stay logarithms to those of the later keys. -/
theorem carB_5_1 (Q : Vec Ideal S1x768x128 .bf16) (K : Vec Ideal S1x256x128 .f32) (ca : Vec Ideal S1x512x1 .f32) (i : Fin 512) :
    k0_pay71 (k0_pay65 k0_pay2 (k0_pay61 Q K) (k0_pay62 Q K) (FloatOps.ofBits FTy.f32 1065353216#32)) (k0_pay66 ca) (ix3 0 i 0) =
      ca (ix3 0 i 0) + totB (fun k => ∑ d : Fin 128, Q (ix3 0 ⟨256 + ↑i, by omega⟩ d) * K (ix3 0 k d)) := by
  pointwise [k0_pay2, k0_pay61, k0_pay62, k0_pay63, k0_pay64, k0_pay65, k0_pay66, k0_pay71]
  rfl

/-- Strip 4, head 0: the weighted values of a row of the diagonal block. -/
theorem accD_4_0 (Q : Vec Ideal S1x1024x128 .bf16) (K : Vec Ideal S1x256x128 .f32) (V : Vec Ideal S1x256x128 .f32) (U : Vec Ideal S256x256 .bf16) (ca : Vec Ideal S1x768x1 .f32) (i : Fin 256) (j : Fin 128) :
    k0_pay81 k0_pay2 (k0_pay3 U) (k0_pay72 V) (k0_pay74 Q K) (k0_pay75 Q K) (k0_pay76 k0_pay2 Q K) ca (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay72, k0_pay73, k0_pay74, k0_pay75, k0_pay76, k0_pay77, k0_pay79, k0_pay80, k0_pay81]
  rfl

/-- Strip 4, head 0: a row below the diagonal block adds its weighted values to those of the later keys. -/
theorem accB_4_0 (Q : Vec Ideal S1x1024x128 .bf16) (K : Vec Ideal S1x256x128 .f32) (V : Vec Ideal S1x256x128 .f32) (U : Vec Ideal S256x256 .bf16) (ca : Vec Ideal S1x768x1 .f32) (ac : Vec Ideal S768x128 .f32) (i : Fin 768) (j : Fin 128) :
    k0_pay83 k0_pay2 (k0_pay3 U) (k0_pay72 V) (k0_pay74 Q K) (k0_pay75 Q K) (k0_pay76 k0_pay2 Q K) ca ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay72, k0_pay73, k0_pay74, k0_pay75, k0_pay76, k0_pay77, k0_pay79, k0_pay80, k0_pay83]
  rfl

/-- Strip 4, head 0: the stay logarithms of a row of the diagonal block, summed. -/
theorem carD_4_0 (Q : Vec Ideal S1x1024x128 .bf16) (K : Vec Ideal S1x256x128 .f32) (i : Fin 256) :
    k0_pay82 (k0_pay75 Q K) (k0_pay76 k0_pay2 Q K) (ix3 0 i 0) =
      totD i (fun k => ∑ d : Fin 128, Q (ix3 0 ⟨↑i, by omega⟩ d) * K (ix3 0 k d)) := by
  pointwise [k0_pay2, k0_pay73, k0_pay74, k0_pay75, k0_pay76, k0_pay77, k0_pay78, k0_pay82]
  rfl

/-- Strip 4, head 0: a row below the diagonal block adds its stay logarithms to those of the later keys. -/
theorem carB_4_0 (Q : Vec Ideal S1x1024x128 .bf16) (K : Vec Ideal S1x256x128 .f32) (ca : Vec Ideal S1x768x1 .f32) (i : Fin 768) :
    k0_pay85 (k0_pay84 (k0_pay75 Q K) (k0_pay76 k0_pay2 Q K) ca) (ix3 0 i 0) =
      ca (ix3 0 i 0) + totB (fun k => ∑ d : Fin 128, Q (ix3 0 ⟨256 + ↑i, by omega⟩ d) * K (ix3 0 k d)) := by
  pointwise [k0_pay2, k0_pay73, k0_pay74, k0_pay75, k0_pay76, k0_pay77, k0_pay78, k0_pay79, k0_pay84, k0_pay85]
  rfl

/-- Strip 4, head 1: the weighted values of a row of the diagonal block. -/
theorem accD_4_1 (Q : Vec Ideal S1x1024x128 .bf16) (K : Vec Ideal S1x256x128 .f32) (V : Vec Ideal S1x256x128 .f32) (U : Vec Ideal S256x256 .bf16) (ca : Vec Ideal S1x768x1 .f32) (i : Fin 256) (j : Fin 128) :
    k0_pay95 (k0_pay86 V) (k0_pay88 Q K) (k0_pay90 k0_pay2 (k0_pay3 U) Q K) (k0_pay92 k0_pay2 (k0_pay3 U) Q K) ca (ix2 i j) =
      pvD i (fun k => ∑ d : Fin 128, Q (ix3 0 ⟨↑i, by omega⟩ d) * K (ix3 0 k d)) (fun y k => U (ix2 y k)) (fun k => V (ix3 0 k j)) := by
  pointwise [k0_pay2, k0_pay3, k0_pay86, k0_pay87, k0_pay88, k0_pay89, k0_pay90, k0_pay92, k0_pay93, k0_pay94, k0_pay95]
  rfl

/-- Strip 4, head 1: a row below the diagonal block adds its weighted values to those of the later keys. -/
theorem accB_4_1 (Q : Vec Ideal S1x1024x128 .bf16) (K : Vec Ideal S1x256x128 .f32) (V : Vec Ideal S1x256x128 .f32) (U : Vec Ideal S256x256 .bf16) (ca : Vec Ideal S1x768x1 .f32) (ac : Vec Ideal S768x128 .f32) (i : Fin 768) (j : Fin 128) :
    k0_pay97 (k0_pay86 V) (k0_pay88 Q K) (k0_pay90 k0_pay2 (k0_pay3 U) Q K) (k0_pay92 k0_pay2 (k0_pay3 U) Q K) ca ac (ix2 i j) =
      ac (ix2 i j) + pvB (fun k => ∑ d : Fin 128, Q (ix3 0 ⟨256 + ↑i, by omega⟩ d) * K (ix3 0 k d)) (fun y k => U (ix2 y k)) (ca (ix3 0 i 0)) (fun k => V (ix3 0 k j)) := by
  pointwise [k0_pay2, k0_pay3, k0_pay86, k0_pay87, k0_pay88, k0_pay89, k0_pay90, k0_pay92, k0_pay93, k0_pay94, k0_pay97]
  rfl

/-- Strip 4, head 1: the stay logarithms of a row of the diagonal block, summed. -/
theorem carD_4_1 (Q : Vec Ideal S1x1024x128 .bf16) (K : Vec Ideal S1x256x128 .f32) (i : Fin 256) :
    k0_pay96 (k0_pay91 k0_pay2 Q K) (ix3 0 i 0) =
      totD i (fun k => ∑ d : Fin 128, Q (ix3 0 ⟨↑i, by omega⟩ d) * K (ix3 0 k d)) := by
  pointwise [k0_pay2, k0_pay87, k0_pay88, k0_pay89, k0_pay91, k0_pay96]
  rfl

/-- Strip 4, head 1: a row below the diagonal block adds its stay logarithms to those of the later keys. -/
theorem carB_4_1 (Q : Vec Ideal S1x1024x128 .bf16) (K : Vec Ideal S1x256x128 .f32) (ca : Vec Ideal S1x768x1 .f32) (i : Fin 768) :
    k0_pay98 (k0_pay91 k0_pay2 Q K) ca (ix3 0 i 0) =
      ca (ix3 0 i 0) + totB (fun k => ∑ d : Fin 128, Q (ix3 0 ⟨256 + ↑i, by omega⟩ d) * K (ix3 0 k d)) := by
  pointwise [k0_pay2, k0_pay87, k0_pay88, k0_pay89, k0_pay91, k0_pay93, k0_pay98]
  rfl

end Cert.Att
end
end
-- ==== Proof.Att.Stores0.lean ====
module
public import proofs.«01_k».proof.Proof.Att.Read
public import proofs.«01_k».proof.Proof.Att.Strips0

/-! The strips of the last 1024 keys, run in order: every load of a scratch buffer and every store into one, in closed form. -/

@[expose] public section
set_option maxRecDepth 16384
noncomputable section
namespace Cert.Att
open Cert.KernelIdeal Cert.KernelIdeal.Gen Idealize.ShloMosaic Idealize.ShloMosaic.TcCoe Idealize.SL.Sem

/-- Strip 7, head 0: what it stores in the accumulating buffer for its diagonal rows. -/
theorem accD_run_7_0 (e : Run) : ∀ x : (Rect.unit (s := S2048x256) ![1792, 0] S256x128.size inb_S2048x256_S256x128_1792_0).shape.Idx,
    (k0_pay10 (kernelRun0_A.sl.r_2 e.c e.arg2 e.harg2 e.arg3 e.harg3 e.arg6 e.harg6 e.x0 e.x1 e.x4) (kernelRun0_A.sl.r_3 e.c e.arg4
      e.harg4 e.x2)) x =
      GA e.x0 e.x1 e.x2 7 ((Rect.unit (s := S2048x256) ![1792, 0] S256x128.size inb_S2048x256_S256x128_1792_0).emb x) := by
  intro x
  obtain ⟨i, j, rfl⟩ : ∃ (i : Fin 256) (j : Fin 128), x = ix2 i j := ⟨x 0, x 1, eq_ix2 x⟩
  refine (accD_7_0 _ _ _ _ i j).trans ?_
  rw [emb2 i j (key 7 (by omega) i) (col 0 (by omega) j) rfl rfl]
  exact close_accD e.x0 e.x1 e.x2 7 (by omega) 0 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 7, head 0: what it stores in the other buffer for its diagonal rows. -/
theorem carD_run_7_0 (e : Run) : ∀ x : (Rect.unit (s := S2x2048x1) ![0, 1792, 0] S1x256x1.size inb_S2x2048x1_S1x256x1_0_1792_0).shape.Idx,
    (k0_pay11 (kernelRun0_A.sl.r_1 e.c e.arg2 e.harg2 e.arg3 e.harg3 e.x0 e.x1)) x =
      GC e.x0 e.x1 7 ((Rect.unit (s := S2x2048x1) ![0, 1792, 0] S1x256x1.size inb_S2x2048x1_S1x256x1_0_1792_0).emb x) := by
  intro x
  obtain ⟨i, rfl⟩ : ∃ i : Fin 256, x = ix3 0 i 0 := ⟨x 1, by rw [eq_ix3 x]; congr 1 <;> exact Subsingleton.elim (α := Fin 1) _ _⟩
  refine (carD_7_0 _ _ i).trans ?_
  rw [emb3 i (by omega) (key 7 (by omega) i) rfl]
  exact close_carD e.x0 e.x1 7 (by omega) 0 (by omega) _ _ i
    (fun d => read3 e.arg2 e.harg2 e.x0 _ _ _ _ rfl rfl) (fun k d => read3 e.arg3 e.harg3 e.x1 _ _ _ _ rfl rfl)

/-- Strip 7, head 1: what it stores in the accumulating buffer for its diagonal rows. -/
theorem accD_run_7_1 (e : Run) : ∀ x : (Rect.unit (s := S2048x256) ![1792, 128] S256x128.size inb_S2048x256_S256x128_1792_128).shape.Idx,
    (k0_pay18 k0_pay2 (kernelRun0_A.sl.r_4 e.c e.arg4 e.harg4 e.x2) (kernelRun0_A.sl.r_6 e.c e.arg2 e.harg2 e.arg3 e.harg3 e.arg6 e.harg6
      e.x0 e.x1 e.x4)) x =
      GA e.x0 e.x1 e.x2 7 ((Rect.unit (s := S2048x256) ![1792, 128] S256x128.size inb_S2048x256_S256x128_1792_128).emb x) := by
  intro x
  obtain ⟨i, j, rfl⟩ : ∃ (i : Fin 256) (j : Fin 128), x = ix2 i j := ⟨x 0, x 1, eq_ix2 x⟩
  refine (accD_7_1 _ _ _ _ i j).trans ?_
  rw [emb2 i j (key 7 (by omega) i) (col 1 (by omega) j) rfl rfl]
  exact close_accD e.x0 e.x1 e.x2 7 (by omega) 1 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 7, head 1: what it stores in the other buffer for its diagonal rows. -/
theorem carD_run_7_1 (e : Run) : ∀ x : (Rect.unit (s := S2x2048x1) ![1, 1792, 0] S1x256x1.size inb_S2x2048x1_S1x256x1_1_1792_0).shape.Idx,
    (k0_pay19 (kernelRun0_A.sl.r_5 e.c e.arg2 e.harg2 e.arg3 e.harg3 e.x0 e.x1)) x =
      GC e.x0 e.x1 7 ((Rect.unit (s := S2x2048x1) ![1, 1792, 0] S1x256x1.size inb_S2x2048x1_S1x256x1_1_1792_0).emb x) := by
  intro x
  obtain ⟨i, rfl⟩ : ∃ i : Fin 256, x = ix3 0 i 0 := ⟨x 1, by rw [eq_ix3 x]; congr 1 <;> exact Subsingleton.elim (α := Fin 1) _ _⟩
  refine (carD_7_1 _ _ i).trans ?_
  rw [emb3 i (by omega) (key 7 (by omega) i) rfl]
  exact close_carD e.x0 e.x1 7 (by omega) 1 (by omega) _ _ i
    (fun d => read3 e.arg2 e.harg2 e.x0 _ _ _ _ rfl rfl) (fun k d => read3 e.arg3 e.harg3 e.x1 _ _ _ _ rfl rfl)

/-- What the load before strip 6, head 0, takes from the other buffer. -/
theorem read_v121 (e : Run) : kernelRun0_A.sl.v121 e.c e.arg2 e.harg2 e.arg3 e.harg3 e.arg9 e.x0 e.x1 =
    fun y => GC e.x0 e.x1 7 ((Rect.unit (s := S2x2048x1) ![0, 1792, 0] S1x256x1.size inb_S2x2048x1_S1x256x1_0_1792_0).emb y) := by
  refine (View.readCov_skip _ _ _ _ _ ?s0).trans ((View.readCov_cons_toLoadRect _ _ _ _).trans (funext (carD_run_7_0 e)))
  case s0 => decide

/-- What the load before strip 6, head 0, takes from the accumulating buffer. -/
theorem read_v141 (e : Run) : kernelRun0_A.sl.v141 e.c e.arg2 e.harg2 e.arg3 e.harg3 e.arg4 e.harg4 e.arg6 e.harg6 e.arg8 e.arg9 e.x0 e.x1 e.x2 e.x4 =
    fun y => GA e.x0 e.x1 e.x2 7 ((Rect.unit (s := S2048x256) ![1792, 0] S256x128.size inb_S2048x256_S256x128_1792_0).emb y) := by
  refine (View.readCov_skip _ _ _ _ _ ?s0).trans ((View.readCov_skip _ _ _ _ _ ?s1).trans ((View.readCov_cons_toLoadRect _ _ _ _).trans (funext (accD_run_7_0 e))))
  case s0 => decide
  case s1 => decide

/-- Strip 6, head 0: what it stores in the accumulating buffer for its diagonal rows. -/
theorem accD_run_6_0 (e : Run) : ∀ x : (Rect.unit (s := S2048x256) ![1536, 0] S256x128.size inb_S2048x256_S256x128_1536_0).shape.Idx,
    (k0_pay29 k0_pay2 (kernelRun0_A.sl.r e.c e.arg6 e.harg6 e.x4) (kernelRun0_A.sl.r_7 e.c e.arg4 e.harg4 e.x2) (kernelRun0_A.sl.r_8 e.c
      e.arg2 e.harg2 e.arg3 e.harg3 e.x0 e.x1) (kernelRun0_A.sl.r_9 e.c e.arg2 e.harg2 e.arg3 e.harg3 e.x0 e.x1) (kernelRun0_A.sl.r_10 e.c
      e.arg2 e.harg2 e.arg3 e.harg3 e.x0 e.x1) (kernelRun0_A.sl.v121 e.c e.arg2 e.harg2 e.arg3 e.harg3 e.arg9 e.x0 e.x1)) x =
      GA e.x0 e.x1 e.x2 6 ((Rect.unit (s := S2048x256) ![1536, 0] S256x128.size inb_S2048x256_S256x128_1536_0).emb x) := by
  intro x
  obtain ⟨i, j, rfl⟩ : ∃ (i : Fin 256) (j : Fin 128), x = ix2 i j := ⟨x 0, x 1, eq_ix2 x⟩
  refine (accD_6_0 _ _ _ _ _ i j).trans ?_
  rw [emb2 i j (key 6 (by omega) i) (col 0 (by omega) j) rfl rfl]
  exact close_accD e.x0 e.x1 e.x2 6 (by omega) 0 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 6, head 0: what it stores in the accumulating buffer for its lower rows. -/
theorem accB_run_6_0 (e : Run) : ∀ x : (Rect.unit (s := S2048x256) ![1792, 0] S256x128.size inb_S2048x256_S256x128_1792_0).shape.Idx,
    (k0_pay31 k0_pay2 (kernelRun0_A.sl.r e.c e.arg6 e.harg6 e.x4) (kernelRun0_A.sl.r_7 e.c e.arg4 e.harg4 e.x2) (kernelRun0_A.sl.r_8 e.c
      e.arg2 e.harg2 e.arg3 e.harg3 e.x0 e.x1) (kernelRun0_A.sl.r_9 e.c e.arg2 e.harg2 e.arg3 e.harg3 e.x0 e.x1) (kernelRun0_A.sl.r_10 e.c
      e.arg2 e.harg2 e.arg3 e.harg3 e.x0 e.x1) (kernelRun0_A.sl.v121 e.c e.arg2 e.harg2 e.arg3 e.harg3 e.arg9 e.x0 e.x1)
      (kernelRun0_A.sl.v141 e.c e.arg2 e.harg2 e.arg3 e.harg3 e.arg4 e.harg4 e.arg6 e.harg6 e.arg8 e.arg9 e.x0 e.x1 e.x2 e.x4)) x =
      GA e.x0 e.x1 e.x2 6 ((Rect.unit (s := S2048x256) ![1792, 0] S256x128.size inb_S2048x256_S256x128_1792_0).emb x) := by
  intro x
  obtain ⟨i, j, rfl⟩ : ∃ (i : Fin 256) (j : Fin 128), x = ix2 i j := ⟨x 0, x 1, eq_ix2 x⟩
  refine (accB_6_0 _ _ _ _ _ _ i j).trans ?_
  rw [emb2 i j ⟨1792 + ↑i, by omega⟩ (col 0 (by omega) j) rfl rfl]
  exact close_accB e.x0 e.x1 e.x2 6 (by omega) 0 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v141 e) (ix2 i j)).trans (congrArg _ (emb2 i j _ _ rfl rfl)))
    ((congrFun (read_v121 e) (ix3 0 i 0)).trans (congrArg _ (emb3 i (by omega) _ rfl)))

/-- Strip 6, head 0: what it stores in the other buffer for its diagonal rows. -/
theorem carD_run_6_0 (e : Run) : ∀ x : (Rect.unit (s := S2x2048x1) ![0, 1536, 0] S1x256x1.size inb_S2x2048x1_S1x256x1_0_1536_0).shape.Idx,
    (k0_pay30 (kernelRun0_A.sl.r_9 e.c e.arg2 e.harg2 e.arg3 e.harg3 e.x0 e.x1) (kernelRun0_A.sl.r_10 e.c e.arg2 e.harg2 e.arg3 e.harg3
      e.x0 e.x1)) x =
      GC e.x0 e.x1 6 ((Rect.unit (s := S2x2048x1) ![0, 1536, 0] S1x256x1.size inb_S2x2048x1_S1x256x1_0_1536_0).emb x) := by
  intro x
  obtain ⟨i, rfl⟩ : ∃ i : Fin 256, x = ix3 0 i 0 := ⟨x 1, by rw [eq_ix3 x]; congr 1 <;> exact Subsingleton.elim (α := Fin 1) _ _⟩
  refine (carD_6_0 _ _ i).trans ?_
  rw [emb3 i (by omega) (key 6 (by omega) i) rfl]
  exact close_carD e.x0 e.x1 6 (by omega) 0 (by omega) _ _ i
    (fun d => read3 e.arg2 e.harg2 e.x0 _ _ _ _ rfl rfl) (fun k d => read3 e.arg3 e.harg3 e.x1 _ _ _ _ rfl rfl)

/-- Strip 6, head 0: what it stores in the other buffer for its lower rows. -/
theorem carB_run_6_0 (e : Run) : ∀ x : (Rect.unit (s := S2x2048x1) ![0, 1792, 0] S1x256x1.size inb_S2x2048x1_S1x256x1_0_1792_0).shape.Idx,
    (k0_pay33 (kernelRun0_A.sl.r_11 e.c e.arg2 e.harg2 e.arg3 e.harg3 e.arg9 e.x0 e.x1)) x =
      GC e.x0 e.x1 6 ((Rect.unit (s := S2x2048x1) ![0, 1792, 0] S1x256x1.size inb_S2x2048x1_S1x256x1_0_1792_0).emb x) := by
  intro x
  obtain ⟨i, rfl⟩ : ∃ i : Fin 256, x = ix3 0 i 0 := ⟨x 1, by rw [eq_ix3 x]; congr 1 <;> exact Subsingleton.elim (α := Fin 1) _ _⟩
  refine (carB_6_0 _ _ _ i).trans ?_
  rw [emb3 i (by omega) ⟨1792 + ↑i, by omega⟩ rfl]
  exact close_carB e.x0 e.x1 6 (by omega) 0 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v121 e) (ix3 0 i 0)).trans (congrArg _ (emb3 i (by omega) _ rfl)))

/-- What the load before strip 6, head 1, takes from the other buffer. -/
theorem read_v188 (e : Run) : kernelRun0_A.sl.v188 e.c e.arg2 e.harg2 e.arg3 e.harg3 e.arg9 e.x0 e.x1 =
    fun y => GC e.x0 e.x1 7 ((Rect.unit (s := S2x2048x1) ![1, 1792, 0] S1x256x1.size inb_S2x2048x1_S1x256x1_1_1792_0).emb y) := by
  refine (View.readCov_skip _ _ _ _ _ ?s0).trans ((View.readCov_skip _ _ _ _ _ ?s1).trans ((View.readCov_cons_toLoadRect _ _ _ _).trans (funext (carD_run_7_1 e))))
  case s0 => decide
  case s1 => decide

/-- What the load before strip 6, head 1, takes from the accumulating buffer. -/
theorem read_v208 (e : Run) : kernelRun0_A.sl.v208 e.c e.arg2 e.harg2 e.arg3 e.harg3 e.arg4 e.harg4 e.arg6 e.harg6 e.arg8 e.arg9 e.x0 e.x1 e.x2 e.x4 =
    fun y => GA e.x0 e.x1 e.x2 7 ((Rect.unit (s := S2048x256) ![1792, 128] S256x128.size inb_S2048x256_S256x128_1792_128).emb y) := by
  refine (View.readCov_skip _ _ _ _ _ ?s0).trans ((View.readCov_skip _ _ _ _ _ ?s1).trans ((View.readCov_skip _ _ _ _ _ ?s2).trans ((View.readCov_cons_toLoadRect _ _ _ _).trans (funext (accD_run_7_1 e)))))
  case s0 => decide
  case s1 => decide
  case s2 => decide

/-- Strip 6, head 1: what it stores in the accumulating buffer for its diagonal rows. -/
theorem accD_run_6_1 (e : Run) : ∀ x : (Rect.unit (s := S2048x256) ![1536, 128] S256x128.size inb_S2048x256_S256x128_1536_128).shape.Idx,
    (k0_pay43 (kernelRun0_A.sl.r_12 e.c e.arg4 e.harg4 e.x2) (kernelRun0_A.sl.r_13 e.c e.arg2 e.harg2 e.arg3 e.harg3 e.x0 e.x1)
      (kernelRun0_A.sl.r_14 e.c e.arg2 e.harg2 e.arg3 e.harg3 e.arg6 e.harg6 e.x0 e.x1 e.x4) (kernelRun0_A.sl.r_16 e.c e.arg2 e.harg2
      e.arg3 e.harg3 e.arg6 e.harg6 e.x0 e.x1 e.x4) (kernelRun0_A.sl.v188 e.c e.arg2 e.harg2 e.arg3 e.harg3 e.arg9 e.x0 e.x1)) x =
      GA e.x0 e.x1 e.x2 6 ((Rect.unit (s := S2048x256) ![1536, 128] S256x128.size inb_S2048x256_S256x128_1536_128).emb x) := by
  intro x
  obtain ⟨i, j, rfl⟩ : ∃ (i : Fin 256) (j : Fin 128), x = ix2 i j := ⟨x 0, x 1, eq_ix2 x⟩
  refine (accD_6_1 _ _ _ _ _ i j).trans ?_
  rw [emb2 i j (key 6 (by omega) i) (col 1 (by omega) j) rfl rfl]
  exact close_accD e.x0 e.x1 e.x2 6 (by omega) 1 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 6, head 1: what it stores in the accumulating buffer for its lower rows. -/
theorem accB_run_6_1 (e : Run) : ∀ x : (Rect.unit (s := S2048x256) ![1792, 128] S256x128.size inb_S2048x256_S256x128_1792_128).shape.Idx,
    (k0_pay45 (kernelRun0_A.sl.r_12 e.c e.arg4 e.harg4 e.x2) (kernelRun0_A.sl.r_13 e.c e.arg2 e.harg2 e.arg3 e.harg3 e.x0 e.x1)
      (kernelRun0_A.sl.r_14 e.c e.arg2 e.harg2 e.arg3 e.harg3 e.arg6 e.harg6 e.x0 e.x1 e.x4) (kernelRun0_A.sl.r_16 e.c e.arg2 e.harg2
      e.arg3 e.harg3 e.arg6 e.harg6 e.x0 e.x1 e.x4) (kernelRun0_A.sl.v188 e.c e.arg2 e.harg2 e.arg3 e.harg3 e.arg9 e.x0 e.x1)
      (kernelRun0_A.sl.v208 e.c e.arg2 e.harg2 e.arg3 e.harg3 e.arg4 e.harg4 e.arg6 e.harg6 e.arg8 e.arg9 e.x0 e.x1 e.x2 e.x4)) x =
      GA e.x0 e.x1 e.x2 6 ((Rect.unit (s := S2048x256) ![1792, 128] S256x128.size inb_S2048x256_S256x128_1792_128).emb x) := by
  intro x
  obtain ⟨i, j, rfl⟩ : ∃ (i : Fin 256) (j : Fin 128), x = ix2 i j := ⟨x 0, x 1, eq_ix2 x⟩
  refine (accB_6_1 _ _ _ _ _ _ i j).trans ?_
  rw [emb2 i j ⟨1792 + ↑i, by omega⟩ (col 1 (by omega) j) rfl rfl]
  exact close_accB e.x0 e.x1 e.x2 6 (by omega) 1 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v208 e) (ix2 i j)).trans (congrArg _ (emb2 i j _ _ rfl rfl)))
    ((congrFun (read_v188 e) (ix3 0 i 0)).trans (congrArg _ (emb3 i (by omega) _ rfl)))

/-- Strip 6, head 1: what it stores in the other buffer for its diagonal rows. -/
theorem carD_run_6_1 (e : Run) : ∀ x : (Rect.unit (s := S2x2048x1) ![1, 1536, 0] S1x256x1.size inb_S2x2048x1_S1x256x1_1_1536_0).shape.Idx,
    (k0_pay44 (kernelRun0_A.sl.r_15 e.c e.arg2 e.harg2 e.arg3 e.harg3 e.x0 e.x1)) x =
      GC e.x0 e.x1 6 ((Rect.unit (s := S2x2048x1) ![1, 1536, 0] S1x256x1.size inb_S2x2048x1_S1x256x1_1_1536_0).emb x) := by
  intro x
  obtain ⟨i, rfl⟩ : ∃ i : Fin 256, x = ix3 0 i 0 := ⟨x 1, by rw [eq_ix3 x]; congr 1 <;> exact Subsingleton.elim (α := Fin 1) _ _⟩
  refine (carD_6_1 _ _ i).trans ?_
  rw [emb3 i (by omega) (key 6 (by omega) i) rfl]
  exact close_carD e.x0 e.x1 6 (by omega) 1 (by omega) _ _ i
    (fun d => read3 e.arg2 e.harg2 e.x0 _ _ _ _ rfl rfl) (fun k d => read3 e.arg3 e.harg3 e.x1 _ _ _ _ rfl rfl)

/-- Strip 6, head 1: what it stores in the other buffer for its lower rows. -/
theorem carB_run_6_1 (e : Run) : ∀ x : (Rect.unit (s := S2x2048x1) ![1, 1792, 0] S1x256x1.size inb_S2x2048x1_S1x256x1_1_1792_0).shape.Idx,
    (k0_pay46 (kernelRun0_A.sl.r_15 e.c e.arg2 e.harg2 e.arg3 e.harg3 e.x0 e.x1) (kernelRun0_A.sl.v188 e.c e.arg2 e.harg2 e.arg3 e.harg3
      e.arg9 e.x0 e.x1)) x =
      GC e.x0 e.x1 6 ((Rect.unit (s := S2x2048x1) ![1, 1792, 0] S1x256x1.size inb_S2x2048x1_S1x256x1_1_1792_0).emb x) := by
  intro x
  obtain ⟨i, rfl⟩ : ∃ i : Fin 256, x = ix3 0 i 0 := ⟨x 1, by rw [eq_ix3 x]; congr 1 <;> exact Subsingleton.elim (α := Fin 1) _ _⟩
  refine (carB_6_1 _ _ _ i).trans ?_
  rw [emb3 i (by omega) ⟨1792 + ↑i, by omega⟩ rfl]
  exact close_carB e.x0 e.x1 6 (by omega) 1 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v188 e) (ix3 0 i 0)).trans (congrArg _ (emb3 i (by omega) _ rfl)))

/-- What the load before strip 5, head 0, takes from the other buffer. -/
theorem read_v255 (e : Run) : kernelRun0_A.sl.v255 e.c e.arg2 e.harg2 e.arg3 e.harg3 e.arg9 e.x0 e.x1 =
    fun y => GC e.x0 e.x1 6 ((Rect.unit (s := S2x2048x1) ![0, 1536, 0] S1x512x1.size inb_S2x2048x1_S1x512x1_0_1536_0).emb y) := by
  refine (View.readCov_skip _ _ _ _ _ ?s0).trans ((View.readCov_skip _ _ _ _ _ ?s1).trans (read_two _ (GC e.x0 e.x1 6) _ _ _ _ _ _
    (carB_run_6_0 e) (carD_run_6_0 e) (cover3 rfl rfl)))
  case s0 => decide
  case s1 => decide

/-- What the load before strip 5, head 0, takes from the accumulating buffer. -/
theorem read_v275 (e : Run) : kernelRun0_A.sl.v275 e.c e.arg2 e.harg2 e.arg3 e.harg3 e.arg4 e.harg4 e.arg6 e.harg6 e.arg8 e.arg9 e.x0 e.x1 e.x2 e.x4 =
    fun y => GA e.x0 e.x1 e.x2 6 ((Rect.unit (s := S2048x256) ![1536, 0] S512x128.size inb_S2048x256_S512x128_1536_0).emb y) := by
  refine (View.readCov_skip _ _ _ _ _ ?s0).trans ((View.readCov_skip _ _ _ _ _ ?s1).trans ((View.readCov_skip _ _ _ _ _ ?s2).trans (read_two _ (GA e.x0 e.x1 e.x2 6) _ _ _ _ _ _
    (accB_run_6_0 e) (accD_run_6_0 e) (cover2 rfl rfl))))
  case s0 => decide
  case s1 => decide
  case s2 => decide

/-- Strip 5, head 0: what it stores in the accumulating buffer for its diagonal rows. -/
theorem accD_run_5_0 (e : Run) : ∀ x : (Rect.unit (s := S2048x256) ![1280, 0] S256x128.size inb_S2048x256_S256x128_1280_0).shape.Idx,
    (k0_pay56 (kernelRun0_A.sl.r_21 e.c e.arg2 e.harg2 e.arg3 e.harg3 e.arg6 e.harg6 e.arg9 e.x0 e.x1 e.x4) (kernelRun0_A.sl.r_22 e.c
      e.arg4 e.harg4 e.x2) kernelRun0_A.sl.cst_132) x =
      GA e.x0 e.x1 e.x2 5 ((Rect.unit (s := S2048x256) ![1280, 0] S256x128.size inb_S2048x256_S256x128_1280_0).emb x) := by
  intro x
  obtain ⟨i, j, rfl⟩ : ∃ (i : Fin 256) (j : Fin 128), x = ix2 i j := ⟨x 0, x 1, eq_ix2 x⟩
  refine (accD_5_0 _ _ _ _ _ i j).trans ?_
  rw [emb2 i j (key 5 (by omega) i) (col 0 (by omega) j) rfl rfl]
  exact close_accD e.x0 e.x1 e.x2 5 (by omega) 0 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 5, head 0: what it stores in the accumulating buffer for its lower rows. -/
theorem accB_run_5_0 (e : Run) : ∀ x : (Rect.unit (s := S2048x256) ![1536, 0] S512x128.size inb_S2048x256_S512x128_1536_0).shape.Idx,
    (k0_pay58 (kernelRun0_A.sl.r_21 e.c e.arg2 e.harg2 e.arg3 e.harg3 e.arg6 e.harg6 e.arg9 e.x0 e.x1 e.x4) (kernelRun0_A.sl.r_22 e.c
      e.arg4 e.harg4 e.x2) kernelRun0_A.sl.cst_132 (kernelRun0_A.sl.v275 e.c e.arg2 e.harg2 e.arg3 e.harg3 e.arg4 e.harg4 e.arg6 e.harg6
      e.arg8 e.arg9 e.x0 e.x1 e.x2 e.x4)) x =
      GA e.x0 e.x1 e.x2 5 ((Rect.unit (s := S2048x256) ![1536, 0] S512x128.size inb_S2048x256_S512x128_1536_0).emb x) := by
  intro x
  obtain ⟨i, j, rfl⟩ : ∃ (i : Fin 512) (j : Fin 128), x = ix2 i j := ⟨x 0, x 1, eq_ix2 x⟩
  refine (accB_5_0 _ _ _ _ _ _ i j).trans ?_
  rw [emb2 i j ⟨1536 + ↑i, by omega⟩ (col 0 (by omega) j) rfl rfl]
  exact close_accB e.x0 e.x1 e.x2 5 (by omega) 0 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v275 e) (ix2 i j)).trans (congrArg _ (emb2 i j _ _ rfl rfl)))
    ((congrFun (read_v255 e) (ix3 0 i 0)).trans (congrArg _ (emb3 i (by omega) _ rfl)))

/-- Strip 5, head 0: what it stores in the other buffer for its diagonal rows. -/
theorem carD_run_5_0 (e : Run) : ∀ x : (Rect.unit (s := S2x2048x1) ![0, 1280, 0] S1x256x1.size inb_S2x2048x1_S1x256x1_0_1280_0).shape.Idx,
    (k0_pay57 (kernelRun0_A.sl.r_19 e.c e.arg2 e.harg2 e.arg3 e.harg3 e.x0 e.x1)) x =
      GC e.x0 e.x1 5 ((Rect.unit (s := S2x2048x1) ![0, 1280, 0] S1x256x1.size inb_S2x2048x1_S1x256x1_0_1280_0).emb x) := by
  intro x
  obtain ⟨i, rfl⟩ : ∃ i : Fin 256, x = ix3 0 i 0 := ⟨x 1, by rw [eq_ix3 x]; congr 1 <;> exact Subsingleton.elim (α := Fin 1) _ _⟩
  refine (carD_5_0 _ _ i).trans ?_
  rw [emb3 i (by omega) (key 5 (by omega) i) rfl]
  exact close_carD e.x0 e.x1 5 (by omega) 0 (by omega) _ _ i
    (fun d => read3 e.arg2 e.harg2 e.x0 _ _ _ _ rfl rfl) (fun k d => read3 e.arg3 e.harg3 e.x1 _ _ _ _ rfl rfl)

/-- Strip 5, head 0: what it stores in the other buffer for its lower rows. -/
theorem carB_run_5_0 (e : Run) : ∀ x : (Rect.unit (s := S2x2048x1) ![0, 1536, 0] S1x512x1.size inb_S2x2048x1_S1x512x1_0_1536_0).shape.Idx,
    (k0_pay59 (kernelRun0_A.sl.r_19 e.c e.arg2 e.harg2 e.arg3 e.harg3 e.x0 e.x1) (kernelRun0_A.sl.r_20 e.c e.arg2 e.harg2 e.arg3 e.harg3
      e.arg9 e.x0 e.x1)) x =
      GC e.x0 e.x1 5 ((Rect.unit (s := S2x2048x1) ![0, 1536, 0] S1x512x1.size inb_S2x2048x1_S1x512x1_0_1536_0).emb x) := by
  intro x
  obtain ⟨i, rfl⟩ : ∃ i : Fin 512, x = ix3 0 i 0 := ⟨x 1, by rw [eq_ix3 x]; congr 1 <;> exact Subsingleton.elim (α := Fin 1) _ _⟩
  refine (carB_5_0 _ _ _ i).trans ?_
  rw [emb3 i (by omega) ⟨1536 + ↑i, by omega⟩ rfl]
  exact close_carB e.x0 e.x1 5 (by omega) 0 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v255 e) (ix3 0 i 0)).trans (congrArg _ (emb3 i (by omega) _ rfl)))

/-- What the load before strip 5, head 1, takes from the other buffer. -/
theorem read_v322 (e : Run) : kernelRun0_A.sl.v322 e.c e.arg2 e.harg2 e.arg3 e.harg3 e.arg9 e.x0 e.x1 =
    fun y => GC e.x0 e.x1 6 ((Rect.unit (s := S2x2048x1) ![1, 1536, 0] S1x512x1.size inb_S2x2048x1_S1x512x1_1_1536_0).emb y) := by
  refine (View.readCov_skip _ _ _ _ _ ?s0).trans ((View.readCov_skip _ _ _ _ _ ?s1).trans (read_two _ (GC e.x0 e.x1 6) _ _ _ _ _ _
    (carB_run_6_1 e) (carD_run_6_1 e) (cover3 rfl rfl)))
  case s0 => decide
  case s1 => decide

/-- What the load before strip 5, head 1, takes from the accumulating buffer. -/
theorem read_v342 (e : Run) : kernelRun0_A.sl.v342 e.c e.arg2 e.harg2 e.arg3 e.harg3 e.arg4 e.harg4 e.arg6 e.harg6 e.arg8 e.arg9 e.x0 e.x1 e.x2 e.x4 =
    fun y => GA e.x0 e.x1 e.x2 6 ((Rect.unit (s := S2048x256) ![1536, 128] S512x128.size inb_S2048x256_S512x128_1536_128).emb y) := by
  refine (View.readCov_skip _ _ _ _ _ ?s0).trans ((View.readCov_skip _ _ _ _ _ ?s1).trans ((View.readCov_skip _ _ _ _ _ ?s2).trans (read_two _ (GA e.x0 e.x1 e.x2 6) _ _ _ _ _ _
    (accB_run_6_1 e) (accD_run_6_1 e) (cover2 rfl rfl))))
  case s0 => decide
  case s1 => decide
  case s2 => decide

/-- Strip 5, head 1: what it stores in the accumulating buffer for its diagonal rows. -/
theorem accD_run_5_1 (e : Run) : ∀ x : (Rect.unit (s := S2048x256) ![1280, 128] S256x128.size inb_S2048x256_S256x128_1280_128).shape.Idx,
    (k0_pay68 k0_pay2 (kernelRun0_A.sl.r e.c e.arg6 e.harg6 e.x4) (kernelRun0_A.sl.r_23 e.c e.arg4 e.harg4 e.x2) (kernelRun0_A.sl.r_24 e.c
      e.arg2 e.harg2 e.arg3 e.harg3 e.x0 e.x1) (kernelRun0_A.sl.r_25 e.c e.arg2 e.harg2 e.arg3 e.harg3 e.x0 e.x1) kernelRun0_A.sl.cst_156
      (kernelRun0_A.sl.v322 e.c e.arg2 e.harg2 e.arg3 e.harg3 e.arg9 e.x0 e.x1)) x =
      GA e.x0 e.x1 e.x2 5 ((Rect.unit (s := S2048x256) ![1280, 128] S256x128.size inb_S2048x256_S256x128_1280_128).emb x) := by
  intro x
  obtain ⟨i, j, rfl⟩ : ∃ (i : Fin 256) (j : Fin 128), x = ix2 i j := ⟨x 0, x 1, eq_ix2 x⟩
  refine (accD_5_1 _ _ _ _ _ i j).trans ?_
  rw [emb2 i j (key 5 (by omega) i) (col 1 (by omega) j) rfl rfl]
  exact close_accD e.x0 e.x1 e.x2 5 (by omega) 1 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 5, head 1: what it stores in the accumulating buffer for its lower rows. -/
theorem accB_run_5_1 (e : Run) : ∀ x : (Rect.unit (s := S2048x256) ![1536, 128] S512x128.size inb_S2048x256_S512x128_1536_128).shape.Idx,
    (k0_pay70 (kernelRun0_A.sl.r_28 e.c e.arg2 e.harg2 e.arg3 e.harg3 e.arg4 e.harg4 e.arg6 e.harg6 e.arg9 e.x0 e.x1 e.x2 e.x4)
      (kernelRun0_A.sl.v342 e.c e.arg2 e.harg2 e.arg3 e.harg3 e.arg4 e.harg4 e.arg6 e.harg6 e.arg8 e.arg9 e.x0 e.x1 e.x2 e.x4)) x =
      GA e.x0 e.x1 e.x2 5 ((Rect.unit (s := S2048x256) ![1536, 128] S512x128.size inb_S2048x256_S512x128_1536_128).emb x) := by
  intro x
  obtain ⟨i, j, rfl⟩ : ∃ (i : Fin 512) (j : Fin 128), x = ix2 i j := ⟨x 0, x 1, eq_ix2 x⟩
  refine (accB_5_1 _ _ _ _ _ _ i j).trans ?_
  rw [emb2 i j ⟨1536 + ↑i, by omega⟩ (col 1 (by omega) j) rfl rfl]
  exact close_accB e.x0 e.x1 e.x2 5 (by omega) 1 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v342 e) (ix2 i j)).trans (congrArg _ (emb2 i j _ _ rfl rfl)))
    ((congrFun (read_v322 e) (ix3 0 i 0)).trans (congrArg _ (emb3 i (by omega) _ rfl)))

/-- Strip 5, head 1: what it stores in the other buffer for its diagonal rows. -/
theorem carD_run_5_1 (e : Run) : ∀ x : (Rect.unit (s := S2x2048x1) ![1, 1280, 0] S1x256x1.size inb_S2x2048x1_S1x256x1_1_1280_0).shape.Idx,
    (kernelRun0_A.sl.r_29 e.c e.arg2 e.harg2 e.arg3 e.harg3 e.x0 e.x1) x =
      GC e.x0 e.x1 5 ((Rect.unit (s := S2x2048x1) ![1, 1280, 0] S1x256x1.size inb_S2x2048x1_S1x256x1_1_1280_0).emb x) := by
  intro x
  obtain ⟨i, rfl⟩ : ∃ i : Fin 256, x = ix3 0 i 0 := ⟨x 1, by rw [eq_ix3 x]; congr 1 <;> exact Subsingleton.elim (α := Fin 1) _ _⟩
  refine (carD_5_1 _ _ i).trans ?_
  rw [emb3 i (by omega) (key 5 (by omega) i) rfl]
  exact close_carD e.x0 e.x1 5 (by omega) 1 (by omega) _ _ i
    (fun d => read3 e.arg2 e.harg2 e.x0 _ _ _ _ rfl rfl) (fun k d => read3 e.arg3 e.harg3 e.x1 _ _ _ _ rfl rfl)

/-- Strip 5, head 1: what it stores in the other buffer for its lower rows. -/
theorem carB_run_5_1 (e : Run) : ∀ x : (Rect.unit (s := S2x2048x1) ![1, 1536, 0] S1x512x1.size inb_S2x2048x1_S1x512x1_1_1536_0).shape.Idx,
    (k0_pay71 (kernelRun0_A.sl.r_26 e.c e.arg2 e.harg2 e.arg3 e.harg3 e.x0 e.x1) (kernelRun0_A.sl.r_27 e.c e.arg2 e.harg2 e.arg3 e.harg3
      e.arg9 e.x0 e.x1)) x =
      GC e.x0 e.x1 5 ((Rect.unit (s := S2x2048x1) ![1, 1536, 0] S1x512x1.size inb_S2x2048x1_S1x512x1_1_1536_0).emb x) := by
  intro x
  obtain ⟨i, rfl⟩ : ∃ i : Fin 512, x = ix3 0 i 0 := ⟨x 1, by rw [eq_ix3 x]; congr 1 <;> exact Subsingleton.elim (α := Fin 1) _ _⟩
  refine (carB_5_1 _ _ _ i).trans ?_
  rw [emb3 i (by omega) ⟨1536 + ↑i, by omega⟩ rfl]
  exact close_carB e.x0 e.x1 5 (by omega) 1 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v322 e) (ix3 0 i 0)).trans (congrArg _ (emb3 i (by omega) _ rfl)))

/-- What the load before strip 4, head 0, takes from the other buffer. -/
theorem read_v389 (e : Run) : kernelRun0_A.sl.v389 e.c e.arg2 e.harg2 e.arg3 e.harg3 e.arg9 e.x0 e.x1 =
    fun y => GC e.x0 e.x1 5 ((Rect.unit (s := S2x2048x1) ![0, 1280, 0] S1x768x1.size inb_S2x2048x1_S1x768x1_0_1280_0).emb y) := by
  refine (View.readCov_skip _ _ _ _ _ ?s0).trans ((View.readCov_skip _ _ _ _ _ ?s1).trans (read_two _ (GC e.x0 e.x1 5) _ _ _ _ _ _
    (carB_run_5_0 e) (carD_run_5_0 e) (cover3 rfl rfl)))
  case s0 => decide
  case s1 => decide

/-- What the load before strip 4, head 0, takes from the accumulating buffer. -/
theorem read_v409 (e : Run) : kernelRun0_A.sl.v409 e.c e.arg2 e.harg2 e.arg3 e.harg3 e.arg4 e.harg4 e.arg6 e.harg6 e.arg8 e.arg9 e.x0 e.x1 e.x2 e.x4 =
    fun y => GA e.x0 e.x1 e.x2 5 ((Rect.unit (s := S2048x256) ![1280, 0] S768x128.size inb_S2048x256_S768x128_1280_0).emb y) := by
  refine (View.readCov_skip _ _ _ _ _ ?s0).trans ((View.readCov_skip _ _ _ _ _ ?s1).trans ((View.readCov_skip _ _ _ _ _ ?s2).trans (read_two _ (GA e.x0 e.x1 e.x2 5) _ _ _ _ _ _
    (accB_run_5_0 e) (accD_run_5_0 e) (cover2 rfl rfl))))
  case s0 => decide
  case s1 => decide
  case s2 => decide

/-- Strip 4, head 0: what it stores in the accumulating buffer for its diagonal rows. -/
theorem accD_run_4_0 (e : Run) : ∀ x : (Rect.unit (s := S2048x256) ![1024, 0] S256x128.size inb_S2048x256_S256x128_1024_0).shape.Idx,
    (k0_pay81 k0_pay2 (kernelRun0_A.sl.r e.c e.arg6 e.harg6 e.x4) (kernelRun0_A.sl.r_30 e.c e.arg4 e.harg4 e.x2) (kernelRun0_A.sl.r_31 e.c
      e.arg2 e.harg2 e.arg3 e.harg3 e.x0 e.x1) (kernelRun0_A.sl.r_32 e.c e.arg2 e.harg2 e.arg3 e.harg3 e.x0 e.x1) (kernelRun0_A.sl.r_33 e.c
      e.arg2 e.harg2 e.arg3 e.harg3 e.x0 e.x1) (kernelRun0_A.sl.v389 e.c e.arg2 e.harg2 e.arg3 e.harg3 e.arg9 e.x0 e.x1)) x =
      GA e.x0 e.x1 e.x2 4 ((Rect.unit (s := S2048x256) ![1024, 0] S256x128.size inb_S2048x256_S256x128_1024_0).emb x) := by
  intro x
  obtain ⟨i, j, rfl⟩ : ∃ (i : Fin 256) (j : Fin 128), x = ix2 i j := ⟨x 0, x 1, eq_ix2 x⟩
  refine (accD_4_0 _ _ _ _ _ i j).trans ?_
  rw [emb2 i j (key 4 (by omega) i) (col 0 (by omega) j) rfl rfl]
  exact close_accD e.x0 e.x1 e.x2 4 (by omega) 0 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 4, head 0: what it stores in the accumulating buffer for its lower rows. -/
theorem accB_run_4_0 (e : Run) : ∀ x : (Rect.unit (s := S2048x256) ![1280, 0] S768x128.size inb_S2048x256_S768x128_1280_0).shape.Idx,
    (k0_pay83 k0_pay2 (kernelRun0_A.sl.r e.c e.arg6 e.harg6 e.x4) (kernelRun0_A.sl.r_30 e.c e.arg4 e.harg4 e.x2) (kernelRun0_A.sl.r_31 e.c
      e.arg2 e.harg2 e.arg3 e.harg3 e.x0 e.x1) (kernelRun0_A.sl.r_32 e.c e.arg2 e.harg2 e.arg3 e.harg3 e.x0 e.x1) (kernelRun0_A.sl.r_33 e.c
      e.arg2 e.harg2 e.arg3 e.harg3 e.x0 e.x1) (kernelRun0_A.sl.v389 e.c e.arg2 e.harg2 e.arg3 e.harg3 e.arg9 e.x0 e.x1)
      (kernelRun0_A.sl.v409 e.c e.arg2 e.harg2 e.arg3 e.harg3 e.arg4 e.harg4 e.arg6 e.harg6 e.arg8 e.arg9 e.x0 e.x1 e.x2 e.x4)) x =
      GA e.x0 e.x1 e.x2 4 ((Rect.unit (s := S2048x256) ![1280, 0] S768x128.size inb_S2048x256_S768x128_1280_0).emb x) := by
  intro x
  obtain ⟨i, j, rfl⟩ : ∃ (i : Fin 768) (j : Fin 128), x = ix2 i j := ⟨x 0, x 1, eq_ix2 x⟩
  refine (accB_4_0 _ _ _ _ _ _ i j).trans ?_
  rw [emb2 i j ⟨1280 + ↑i, by omega⟩ (col 0 (by omega) j) rfl rfl]
  exact close_accB e.x0 e.x1 e.x2 4 (by omega) 0 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v409 e) (ix2 i j)).trans (congrArg _ (emb2 i j _ _ rfl rfl)))
    ((congrFun (read_v389 e) (ix3 0 i 0)).trans (congrArg _ (emb3 i (by omega) _ rfl)))

/-- Strip 4, head 0: what it stores in the other buffer for its diagonal rows. -/
theorem carD_run_4_0 (e : Run) : ∀ x : (Rect.unit (s := S2x2048x1) ![0, 1024, 0] S1x256x1.size inb_S2x2048x1_S1x256x1_0_1024_0).shape.Idx,
    (k0_pay82 (kernelRun0_A.sl.r_32 e.c e.arg2 e.harg2 e.arg3 e.harg3 e.x0 e.x1) (kernelRun0_A.sl.r_33 e.c e.arg2 e.harg2 e.arg3 e.harg3
      e.x0 e.x1)) x =
      GC e.x0 e.x1 4 ((Rect.unit (s := S2x2048x1) ![0, 1024, 0] S1x256x1.size inb_S2x2048x1_S1x256x1_0_1024_0).emb x) := by
  intro x
  obtain ⟨i, rfl⟩ : ∃ i : Fin 256, x = ix3 0 i 0 := ⟨x 1, by rw [eq_ix3 x]; congr 1 <;> exact Subsingleton.elim (α := Fin 1) _ _⟩
  refine (carD_4_0 _ _ i).trans ?_
  rw [emb3 i (by omega) (key 4 (by omega) i) rfl]
  exact close_carD e.x0 e.x1 4 (by omega) 0 (by omega) _ _ i
    (fun d => read3 e.arg2 e.harg2 e.x0 _ _ _ _ rfl rfl) (fun k d => read3 e.arg3 e.harg3 e.x1 _ _ _ _ rfl rfl)

/-- Strip 4, head 0: what it stores in the other buffer for its lower rows. -/
theorem carB_run_4_0 (e : Run) : ∀ x : (Rect.unit (s := S2x2048x1) ![0, 1280, 0] S1x768x1.size inb_S2x2048x1_S1x768x1_0_1280_0).shape.Idx,
    (k0_pay85 (kernelRun0_A.sl.r_34 e.c e.arg2 e.harg2 e.arg3 e.harg3 e.arg9 e.x0 e.x1)) x =
      GC e.x0 e.x1 4 ((Rect.unit (s := S2x2048x1) ![0, 1280, 0] S1x768x1.size inb_S2x2048x1_S1x768x1_0_1280_0).emb x) := by
  intro x
  obtain ⟨i, rfl⟩ : ∃ i : Fin 768, x = ix3 0 i 0 := ⟨x 1, by rw [eq_ix3 x]; congr 1 <;> exact Subsingleton.elim (α := Fin 1) _ _⟩
  refine (carB_4_0 _ _ _ i).trans ?_
  rw [emb3 i (by omega) ⟨1280 + ↑i, by omega⟩ rfl]
  exact close_carB e.x0 e.x1 4 (by omega) 0 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v389 e) (ix3 0 i 0)).trans (congrArg _ (emb3 i (by omega) _ rfl)))

/-- What the load before strip 4, head 1, takes from the other buffer. -/
theorem read_v456 (e : Run) : kernelRun0_A.sl.v456 e.c e.arg2 e.harg2 e.arg3 e.harg3 e.arg9 e.x0 e.x1 =
    fun y => GC e.x0 e.x1 5 ((Rect.unit (s := S2x2048x1) ![1, 1280, 0] S1x768x1.size inb_S2x2048x1_S1x768x1_1_1280_0).emb y) := by
  refine (View.readCov_skip _ _ _ _ _ ?s0).trans ((View.readCov_skip _ _ _ _ _ ?s1).trans (read_two _ (GC e.x0 e.x1 5) _ _ _ _ _ _
    (carB_run_5_1 e) (carD_run_5_1 e) (cover3 rfl rfl)))
  case s0 => decide
  case s1 => decide

/-- What the load before strip 4, head 1, takes from the accumulating buffer. -/
theorem read_v476 (e : Run) : kernelRun0_A.sl.v476 e.c e.arg2 e.harg2 e.arg3 e.harg3 e.arg4 e.harg4 e.arg6 e.harg6 e.arg8 e.arg9 e.x0 e.x1 e.x2 e.x4 =
    fun y => GA e.x0 e.x1 e.x2 5 ((Rect.unit (s := S2048x256) ![1280, 128] S768x128.size inb_S2048x256_S768x128_1280_128).emb y) := by
  refine (View.readCov_skip _ _ _ _ _ ?s0).trans ((View.readCov_skip _ _ _ _ _ ?s1).trans ((View.readCov_skip _ _ _ _ _ ?s2).trans (read_two _ (GA e.x0 e.x1 e.x2 5) _ _ _ _ _ _
    (accB_run_5_1 e) (accD_run_5_1 e) (cover2 rfl rfl))))
  case s0 => decide
  case s1 => decide
  case s2 => decide

/-- Strip 4, head 1: what it stores in the accumulating buffer for its diagonal rows. -/
theorem accD_run_4_1 (e : Run) : ∀ x : (Rect.unit (s := S2048x256) ![1024, 128] S256x128.size inb_S2048x256_S256x128_1024_128).shape.Idx,
    (k0_pay95 (kernelRun0_A.sl.r_35 e.c e.arg4 e.harg4 e.x2) (kernelRun0_A.sl.r_36 e.c e.arg2 e.harg2 e.arg3 e.harg3 e.x0 e.x1)
      (kernelRun0_A.sl.r_37 e.c e.arg2 e.harg2 e.arg3 e.harg3 e.arg6 e.harg6 e.x0 e.x1 e.x4) (kernelRun0_A.sl.r_39 e.c e.arg2 e.harg2
      e.arg3 e.harg3 e.arg6 e.harg6 e.x0 e.x1 e.x4) (kernelRun0_A.sl.v456 e.c e.arg2 e.harg2 e.arg3 e.harg3 e.arg9 e.x0 e.x1)) x =
      GA e.x0 e.x1 e.x2 4 ((Rect.unit (s := S2048x256) ![1024, 128] S256x128.size inb_S2048x256_S256x128_1024_128).emb x) := by
  intro x
  obtain ⟨i, j, rfl⟩ : ∃ (i : Fin 256) (j : Fin 128), x = ix2 i j := ⟨x 0, x 1, eq_ix2 x⟩
  refine (accD_4_1 _ _ _ _ _ i j).trans ?_
  rw [emb2 i j (key 4 (by omega) i) (col 1 (by omega) j) rfl rfl]
  exact close_accD e.x0 e.x1 e.x2 4 (by omega) 1 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 4, head 1: what it stores in the accumulating buffer for its lower rows. -/
theorem accB_run_4_1 (e : Run) : ∀ x : (Rect.unit (s := S2048x256) ![1280, 128] S768x128.size inb_S2048x256_S768x128_1280_128).shape.Idx,
    (k0_pay97 (kernelRun0_A.sl.r_35 e.c e.arg4 e.harg4 e.x2) (kernelRun0_A.sl.r_36 e.c e.arg2 e.harg2 e.arg3 e.harg3 e.x0 e.x1)
      (kernelRun0_A.sl.r_37 e.c e.arg2 e.harg2 e.arg3 e.harg3 e.arg6 e.harg6 e.x0 e.x1 e.x4) (kernelRun0_A.sl.r_39 e.c e.arg2 e.harg2
      e.arg3 e.harg3 e.arg6 e.harg6 e.x0 e.x1 e.x4) (kernelRun0_A.sl.v456 e.c e.arg2 e.harg2 e.arg3 e.harg3 e.arg9 e.x0 e.x1)
      (kernelRun0_A.sl.v476 e.c e.arg2 e.harg2 e.arg3 e.harg3 e.arg4 e.harg4 e.arg6 e.harg6 e.arg8 e.arg9 e.x0 e.x1 e.x2 e.x4)) x =
      GA e.x0 e.x1 e.x2 4 ((Rect.unit (s := S2048x256) ![1280, 128] S768x128.size inb_S2048x256_S768x128_1280_128).emb x) := by
  intro x
  obtain ⟨i, j, rfl⟩ : ∃ (i : Fin 768) (j : Fin 128), x = ix2 i j := ⟨x 0, x 1, eq_ix2 x⟩
  refine (accB_4_1 _ _ _ _ _ _ i j).trans ?_
  rw [emb2 i j ⟨1280 + ↑i, by omega⟩ (col 1 (by omega) j) rfl rfl]
  exact close_accB e.x0 e.x1 e.x2 4 (by omega) 1 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v476 e) (ix2 i j)).trans (congrArg _ (emb2 i j _ _ rfl rfl)))
    ((congrFun (read_v456 e) (ix3 0 i 0)).trans (congrArg _ (emb3 i (by omega) _ rfl)))

/-- Strip 4, head 1: what it stores in the other buffer for its diagonal rows. -/
theorem carD_run_4_1 (e : Run) : ∀ x : (Rect.unit (s := S2x2048x1) ![1, 1024, 0] S1x256x1.size inb_S2x2048x1_S1x256x1_1_1024_0).shape.Idx,
    (k0_pay96 (kernelRun0_A.sl.r_38 e.c e.arg2 e.harg2 e.arg3 e.harg3 e.x0 e.x1)) x =
      GC e.x0 e.x1 4 ((Rect.unit (s := S2x2048x1) ![1, 1024, 0] S1x256x1.size inb_S2x2048x1_S1x256x1_1_1024_0).emb x) := by
  intro x
  obtain ⟨i, rfl⟩ : ∃ i : Fin 256, x = ix3 0 i 0 := ⟨x 1, by rw [eq_ix3 x]; congr 1 <;> exact Subsingleton.elim (α := Fin 1) _ _⟩
  refine (carD_4_1 _ _ i).trans ?_
  rw [emb3 i (by omega) (key 4 (by omega) i) rfl]
  exact close_carD e.x0 e.x1 4 (by omega) 1 (by omega) _ _ i
    (fun d => read3 e.arg2 e.harg2 e.x0 _ _ _ _ rfl rfl) (fun k d => read3 e.arg3 e.harg3 e.x1 _ _ _ _ rfl rfl)

/-- Strip 4, head 1: what it stores in the other buffer for its lower rows. -/
theorem carB_run_4_1 (e : Run) : ∀ x : (Rect.unit (s := S2x2048x1) ![1, 1280, 0] S1x768x1.size inb_S2x2048x1_S1x768x1_1_1280_0).shape.Idx,
    (k0_pay98 (kernelRun0_A.sl.r_38 e.c e.arg2 e.harg2 e.arg3 e.harg3 e.x0 e.x1) (kernelRun0_A.sl.v456 e.c e.arg2 e.harg2 e.arg3 e.harg3
      e.arg9 e.x0 e.x1)) x =
      GC e.x0 e.x1 4 ((Rect.unit (s := S2x2048x1) ![1, 1280, 0] S1x768x1.size inb_S2x2048x1_S1x768x1_1_1280_0).emb x) := by
  intro x
  obtain ⟨i, rfl⟩ : ∃ i : Fin 768, x = ix3 0 i 0 := ⟨x 1, by rw [eq_ix3 x]; congr 1 <;> exact Subsingleton.elim (α := Fin 1) _ _⟩
  refine (carB_4_1 _ _ _ i).trans ?_
  rw [emb3 i (by omega) ⟨1280 + ↑i, by omega⟩ rfl]
  exact close_carB e.x0 e.x1 4 (by omega) 1 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v456 e) (ix3 0 i 0)).trans (congrArg _ (emb3 i (by omega) _ rfl)))

end Cert.Att
end
end
-- ==== Proof.Att.Stores1.lean ====
module
public import proofs.«01_k».proof.Proof.Att.Read
public import proofs.«01_k».proof.Proof.Att.Strips1
public import proofs.«01_k».proof.Proof.Att.Stores0

/-! The strips of the first 1024 keys, run in order: every load of a scratch buffer and every store into one, in closed form. -/

@[expose] public section
set_option maxRecDepth 16384
noncomputable section
namespace Cert.Att
open Cert.KernelIdeal Cert.KernelIdeal.Gen Idealize.ShloMosaic Idealize.ShloMosaic.TcCoe Idealize.SL.Sem

/-- What the load before strip 3, head 0, takes from the other buffer. -/
theorem read_v523 (e : Run) : kernelRun0_A.sl.v523 e.c e.arg2 e.harg2 e.arg3 e.harg3 e.arg9 e.x0 e.x1 =
    fun y => GC e.x0 e.x1 4 ((Rect.unit (s := S2x2048x1) ![0, 1024, 0] S1x1024x1.size inb_S2x2048x1_S1x1024x1_0_1024_0).emb y) := by
  refine (View.readCov_skip _ _ _ _ _ ?s0).trans ((View.readCov_skip _ _ _ _ _ ?s1).trans (read_two _ (GC e.x0 e.x1 4) _ _ _ _ _ _
    (carB_run_4_0 e) (carD_run_4_0 e) (cover3 rfl rfl)))
  case s0 => decide
  case s1 => decide

/-- What the load before strip 3, head 0, takes from the accumulating buffer. -/
theorem read_v543 (e : Run) : kernelRun0_A.sl.v543 e.c e.arg2 e.harg2 e.arg3 e.harg3 e.arg4 e.harg4 e.arg6 e.harg6 e.arg8 e.arg9 e.x0 e.x1 e.x2 e.x4 =
    fun y => GA e.x0 e.x1 e.x2 4 ((Rect.unit (s := S2048x256) ![1024, 0] S1024x128.size inb_S2048x256_S1024x128_1024_0).emb y) := by
  refine (View.readCov_skip _ _ _ _ _ ?s0).trans ((View.readCov_skip _ _ _ _ _ ?s1).trans ((View.readCov_skip _ _ _ _ _ ?s2).trans (read_two _ (GA e.x0 e.x1 e.x2 4) _ _ _ _ _ _
    (accB_run_4_0 e) (accD_run_4_0 e) (cover2 rfl rfl))))
  case s0 => decide
  case s1 => decide
  case s2 => decide

/-- Strip 3, head 0: what it stores in the accumulating buffer for its diagonal rows. -/
theorem accD_run_3_0 (e : Run) : ∀ x : (Rect.unit (s := S2048x256) ![768, 0] S256x128.size inb_S2048x256_S256x128_768_0).shape.Idx,
    (k0_pay108 (kernelRun0_A.sl.r_44 e.c e.arg2 e.harg2 e.arg3 e.harg3 e.arg6 e.harg6 e.arg9 e.x0 e.x1 e.x4) (kernelRun0_A.sl.r_45 e.c
      e.arg4 e.harg4 e.x2) kernelRun0_A.sl.cst_266) x =
      GA e.x0 e.x1 e.x2 3 ((Rect.unit (s := S2048x256) ![768, 0] S256x128.size inb_S2048x256_S256x128_768_0).emb x) := by
  intro x
  obtain ⟨i, j, rfl⟩ : ∃ (i : Fin 256) (j : Fin 128), x = ix2 i j := ⟨x 0, x 1, eq_ix2 x⟩
  refine (accD_3_0 _ _ _ _ _ i j).trans ?_
  rw [emb2 i j (key 3 (by omega) i) (col 0 (by omega) j) rfl rfl]
  exact close_accD e.x0 e.x1 e.x2 3 (by omega) 0 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 3, head 0: what it stores in the accumulating buffer for its lower rows. -/
theorem accB_run_3_0 (e : Run) : ∀ x : (Rect.unit (s := S2048x256) ![1024, 0] S1024x128.size inb_S2048x256_S1024x128_1024_0).shape.Idx,
    (k0_pay110 (kernelRun0_A.sl.r_44 e.c e.arg2 e.harg2 e.arg3 e.harg3 e.arg6 e.harg6 e.arg9 e.x0 e.x1 e.x4) (kernelRun0_A.sl.r_45 e.c
      e.arg4 e.harg4 e.x2) kernelRun0_A.sl.cst_266 (kernelRun0_A.sl.v543 e.c e.arg2 e.harg2 e.arg3 e.harg3 e.arg4 e.harg4 e.arg6 e.harg6
      e.arg8 e.arg9 e.x0 e.x1 e.x2 e.x4)) x =
      GA e.x0 e.x1 e.x2 3 ((Rect.unit (s := S2048x256) ![1024, 0] S1024x128.size inb_S2048x256_S1024x128_1024_0).emb x) := by
  intro x
  obtain ⟨i, j, rfl⟩ : ∃ (i : Fin 1024) (j : Fin 128), x = ix2 i j := ⟨x 0, x 1, eq_ix2 x⟩
  refine (accB_3_0 _ _ _ _ _ _ i j).trans ?_
  rw [emb2 i j ⟨1024 + ↑i, by omega⟩ (col 0 (by omega) j) rfl rfl]
  exact close_accB e.x0 e.x1 e.x2 3 (by omega) 0 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v543 e) (ix2 i j)).trans (congrArg _ (emb2 i j _ _ rfl rfl)))
    ((congrFun (read_v523 e) (ix3 0 i 0)).trans (congrArg _ (emb3 i (by omega) _ rfl)))

/-- Strip 3, head 0: what it stores in the other buffer for its diagonal rows. -/
theorem carD_run_3_0 (e : Run) : ∀ x : (Rect.unit (s := S2x2048x1) ![0, 768, 0] S1x256x1.size inb_S2x2048x1_S1x256x1_0_768_0).shape.Idx,
    (k0_pay109 (kernelRun0_A.sl.r_42 e.c e.arg2 e.harg2 e.arg3 e.harg3 e.x0 e.x1)) x =
      GC e.x0 e.x1 3 ((Rect.unit (s := S2x2048x1) ![0, 768, 0] S1x256x1.size inb_S2x2048x1_S1x256x1_0_768_0).emb x) := by
  intro x
  obtain ⟨i, rfl⟩ : ∃ i : Fin 256, x = ix3 0 i 0 := ⟨x 1, by rw [eq_ix3 x]; congr 1 <;> exact Subsingleton.elim (α := Fin 1) _ _⟩
  refine (carD_3_0 _ _ i).trans ?_
  rw [emb3 i (by omega) (key 3 (by omega) i) rfl]
  exact close_carD e.x0 e.x1 3 (by omega) 0 (by omega) _ _ i
    (fun d => read3 e.arg2 e.harg2 e.x0 _ _ _ _ rfl rfl) (fun k d => read3 e.arg3 e.harg3 e.x1 _ _ _ _ rfl rfl)

/-- Strip 3, head 0: what it stores in the other buffer for its lower rows. -/
theorem carB_run_3_0 (e : Run) : ∀ x : (Rect.unit (s := S2x2048x1) ![0, 1024, 0] S1x1024x1.size inb_S2x2048x1_S1x1024x1_0_1024_0).shape.Idx,
    (k0_pay111 (kernelRun0_A.sl.r_42 e.c e.arg2 e.harg2 e.arg3 e.harg3 e.x0 e.x1) (kernelRun0_A.sl.r_43 e.c e.arg2 e.harg2 e.arg3 e.harg3
      e.arg9 e.x0 e.x1)) x =
      GC e.x0 e.x1 3 ((Rect.unit (s := S2x2048x1) ![0, 1024, 0] S1x1024x1.size inb_S2x2048x1_S1x1024x1_0_1024_0).emb x) := by
  intro x
  obtain ⟨i, rfl⟩ : ∃ i : Fin 1024, x = ix3 0 i 0 := ⟨x 1, by rw [eq_ix3 x]; congr 1 <;> exact Subsingleton.elim (α := Fin 1) _ _⟩
  refine (carB_3_0 _ _ _ i).trans ?_
  rw [emb3 i (by omega) ⟨1024 + ↑i, by omega⟩ rfl]
  exact close_carB e.x0 e.x1 3 (by omega) 0 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v523 e) (ix3 0 i 0)).trans (congrArg _ (emb3 i (by omega) _ rfl)))

/-- What the load before strip 3, head 1, takes from the other buffer. -/
theorem read_v590 (e : Run) : kernelRun0_A.sl.v590 e.c e.arg2 e.harg2 e.arg3 e.harg3 e.arg9 e.x0 e.x1 =
    fun y => GC e.x0 e.x1 4 ((Rect.unit (s := S2x2048x1) ![1, 1024, 0] S1x1024x1.size inb_S2x2048x1_S1x1024x1_1_1024_0).emb y) := by
  refine (View.readCov_skip _ _ _ _ _ ?s0).trans ((View.readCov_skip _ _ _ _ _ ?s1).trans (read_two _ (GC e.x0 e.x1 4) _ _ _ _ _ _
    (carB_run_4_1 e) (carD_run_4_1 e) (cover3 rfl rfl)))
  case s0 => decide
  case s1 => decide

/-- What the load before strip 3, head 1, takes from the accumulating buffer. -/
theorem read_v610 (e : Run) : kernelRun0_A.sl.v610 e.c e.arg2 e.harg2 e.arg3 e.harg3 e.arg4 e.harg4 e.arg6 e.harg6 e.arg8 e.arg9 e.x0 e.x1 e.x2 e.x4 =
    fun y => GA e.x0 e.x1 e.x2 4 ((Rect.unit (s := S2048x256) ![1024, 128] S1024x128.size inb_S2048x256_S1024x128_1024_128).emb y) := by
  refine (View.readCov_skip _ _ _ _ _ ?s0).trans ((View.readCov_skip _ _ _ _ _ ?s1).trans ((View.readCov_skip _ _ _ _ _ ?s2).trans (read_two _ (GA e.x0 e.x1 e.x2 4) _ _ _ _ _ _
    (accB_run_4_1 e) (accD_run_4_1 e) (cover2 rfl rfl))))
  case s0 => decide
  case s1 => decide
  case s2 => decide

/-- Strip 3, head 1: what it stores in the accumulating buffer for its diagonal rows. -/
theorem accD_run_3_1 (e : Run) : ∀ x : (Rect.unit (s := S2048x256) ![768, 128] S256x128.size inb_S2048x256_S256x128_768_128).shape.Idx,
    (k0_pay120 k0_pay2 (kernelRun0_A.sl.r e.c e.arg6 e.harg6 e.x4) (kernelRun0_A.sl.r_46 e.c e.arg4 e.harg4 e.x2) (kernelRun0_A.sl.r_47
      e.c e.arg2 e.harg2 e.arg3 e.harg3 e.x0 e.x1) (kernelRun0_A.sl.r_48 e.c e.arg2 e.harg2 e.arg3 e.harg3 e.x0 e.x1)
      kernelRun0_A.sl.cst_156 (kernelRun0_A.sl.v590 e.c e.arg2 e.harg2 e.arg3 e.harg3 e.arg9 e.x0 e.x1)) x =
      GA e.x0 e.x1 e.x2 3 ((Rect.unit (s := S2048x256) ![768, 128] S256x128.size inb_S2048x256_S256x128_768_128).emb x) := by
  intro x
  obtain ⟨i, j, rfl⟩ : ∃ (i : Fin 256) (j : Fin 128), x = ix2 i j := ⟨x 0, x 1, eq_ix2 x⟩
  refine (accD_3_1 _ _ _ _ _ i j).trans ?_
  rw [emb2 i j (key 3 (by omega) i) (col 1 (by omega) j) rfl rfl]
  exact close_accD e.x0 e.x1 e.x2 3 (by omega) 1 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 3, head 1: what it stores in the accumulating buffer for its lower rows. -/
theorem accB_run_3_1 (e : Run) : ∀ x : (Rect.unit (s := S2048x256) ![1024, 128] S1024x128.size inb_S2048x256_S1024x128_1024_128).shape.Idx,
    (k0_pay122 (kernelRun0_A.sl.r_51 e.c e.arg2 e.harg2 e.arg3 e.harg3 e.arg4 e.harg4 e.arg6 e.harg6 e.arg9 e.x0 e.x1 e.x2 e.x4)
      (kernelRun0_A.sl.v610 e.c e.arg2 e.harg2 e.arg3 e.harg3 e.arg4 e.harg4 e.arg6 e.harg6 e.arg8 e.arg9 e.x0 e.x1 e.x2 e.x4)) x =
      GA e.x0 e.x1 e.x2 3 ((Rect.unit (s := S2048x256) ![1024, 128] S1024x128.size inb_S2048x256_S1024x128_1024_128).emb x) := by
  intro x
  obtain ⟨i, j, rfl⟩ : ∃ (i : Fin 1024) (j : Fin 128), x = ix2 i j := ⟨x 0, x 1, eq_ix2 x⟩
  refine (accB_3_1 _ _ _ _ _ _ i j).trans ?_
  rw [emb2 i j ⟨1024 + ↑i, by omega⟩ (col 1 (by omega) j) rfl rfl]
  exact close_accB e.x0 e.x1 e.x2 3 (by omega) 1 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v610 e) (ix2 i j)).trans (congrArg _ (emb2 i j _ _ rfl rfl)))
    ((congrFun (read_v590 e) (ix3 0 i 0)).trans (congrArg _ (emb3 i (by omega) _ rfl)))

/-- Strip 3, head 1: what it stores in the other buffer for its diagonal rows. -/
theorem carD_run_3_1 (e : Run) : ∀ x : (Rect.unit (s := S2x2048x1) ![1, 768, 0] S1x256x1.size inb_S2x2048x1_S1x256x1_1_768_0).shape.Idx,
    (kernelRun0_A.sl.r_52 e.c e.arg2 e.harg2 e.arg3 e.harg3 e.x0 e.x1) x =
      GC e.x0 e.x1 3 ((Rect.unit (s := S2x2048x1) ![1, 768, 0] S1x256x1.size inb_S2x2048x1_S1x256x1_1_768_0).emb x) := by
  intro x
  obtain ⟨i, rfl⟩ : ∃ i : Fin 256, x = ix3 0 i 0 := ⟨x 1, by rw [eq_ix3 x]; congr 1 <;> exact Subsingleton.elim (α := Fin 1) _ _⟩
  refine (carD_3_1 _ _ i).trans ?_
  rw [emb3 i (by omega) (key 3 (by omega) i) rfl]
  exact close_carD e.x0 e.x1 3 (by omega) 1 (by omega) _ _ i
    (fun d => read3 e.arg2 e.harg2 e.x0 _ _ _ _ rfl rfl) (fun k d => read3 e.arg3 e.harg3 e.x1 _ _ _ _ rfl rfl)

/-- Strip 3, head 1: what it stores in the other buffer for its lower rows. -/
theorem carB_run_3_1 (e : Run) : ∀ x : (Rect.unit (s := S2x2048x1) ![1, 1024, 0] S1x1024x1.size inb_S2x2048x1_S1x1024x1_1_1024_0).shape.Idx,
    (k0_pay123 (kernelRun0_A.sl.r_49 e.c e.arg2 e.harg2 e.arg3 e.harg3 e.x0 e.x1) (kernelRun0_A.sl.r_50 e.c e.arg2 e.harg2 e.arg3 e.harg3
      e.arg9 e.x0 e.x1)) x =
      GC e.x0 e.x1 3 ((Rect.unit (s := S2x2048x1) ![1, 1024, 0] S1x1024x1.size inb_S2x2048x1_S1x1024x1_1_1024_0).emb x) := by
  intro x
  obtain ⟨i, rfl⟩ : ∃ i : Fin 1024, x = ix3 0 i 0 := ⟨x 1, by rw [eq_ix3 x]; congr 1 <;> exact Subsingleton.elim (α := Fin 1) _ _⟩
  refine (carB_3_1 _ _ _ i).trans ?_
  rw [emb3 i (by omega) ⟨1024 + ↑i, by omega⟩ rfl]
  exact close_carB e.x0 e.x1 3 (by omega) 1 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v590 e) (ix3 0 i 0)).trans (congrArg _ (emb3 i (by omega) _ rfl)))

/-- What the load before strip 2, head 0, takes from the other buffer. -/
theorem read_v657 (e : Run) : kernelRun0_A.sl.v657 e.c e.arg2 e.harg2 e.arg3 e.harg3 e.arg9 e.x0 e.x1 =
    fun y => GC e.x0 e.x1 3 ((Rect.unit (s := S2x2048x1) ![0, 768, 0] S1x1280x1.size inb_S2x2048x1_S1x1280x1_0_768_0).emb y) := by
  refine (View.readCov_skip _ _ _ _ _ ?s0).trans ((View.readCov_skip _ _ _ _ _ ?s1).trans (read_two _ (GC e.x0 e.x1 3) _ _ _ _ _ _
    (carB_run_3_0 e) (carD_run_3_0 e) (cover3 rfl rfl)))
  case s0 => decide
  case s1 => decide

/-- What the load before strip 2, head 0, takes from the accumulating buffer. -/
theorem read_v677 (e : Run) : kernelRun0_A.sl.v677 e.c e.arg2 e.harg2 e.arg3 e.harg3 e.arg4 e.harg4 e.arg6 e.harg6 e.arg8 e.arg9 e.x0 e.x1 e.x2 e.x4 =
    fun y => GA e.x0 e.x1 e.x2 3 ((Rect.unit (s := S2048x256) ![768, 0] S1280x128.size inb_S2048x256_S1280x128_768_0).emb y) := by
  refine (View.readCov_skip _ _ _ _ _ ?s0).trans ((View.readCov_skip _ _ _ _ _ ?s1).trans ((View.readCov_skip _ _ _ _ _ ?s2).trans (read_two _ (GA e.x0 e.x1 e.x2 3) _ _ _ _ _ _
    (accB_run_3_0 e) (accD_run_3_0 e) (cover2 rfl rfl))))
  case s0 => decide
  case s1 => decide
  case s2 => decide

/-- Strip 2, head 0: what it stores in the accumulating buffer for its diagonal rows. -/
theorem accD_run_2_0 (e : Run) : ∀ x : (Rect.unit (s := S2048x256) ![512, 0] S256x128.size inb_S2048x256_S256x128_512_0).shape.Idx,
    (k0_pay133 k0_pay2 (kernelRun0_A.sl.r e.c e.arg6 e.harg6 e.x4) (kernelRun0_A.sl.r_53 e.c e.arg4 e.harg4 e.x2) (kernelRun0_A.sl.r_54
      e.c e.arg2 e.harg2 e.arg3 e.harg3 e.x0 e.x1) (kernelRun0_A.sl.r_55 e.c e.arg2 e.harg2 e.arg3 e.harg3 e.x0 e.x1) (kernelRun0_A.sl.r_56
      e.c e.arg2 e.harg2 e.arg3 e.harg3 e.x0 e.x1) (kernelRun0_A.sl.v657 e.c e.arg2 e.harg2 e.arg3 e.harg3 e.arg9 e.x0 e.x1)) x =
      GA e.x0 e.x1 e.x2 2 ((Rect.unit (s := S2048x256) ![512, 0] S256x128.size inb_S2048x256_S256x128_512_0).emb x) := by
  intro x
  obtain ⟨i, j, rfl⟩ : ∃ (i : Fin 256) (j : Fin 128), x = ix2 i j := ⟨x 0, x 1, eq_ix2 x⟩
  refine (accD_2_0 _ _ _ _ _ i j).trans ?_
  rw [emb2 i j (key 2 (by omega) i) (col 0 (by omega) j) rfl rfl]
  exact close_accD e.x0 e.x1 e.x2 2 (by omega) 0 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 2, head 0: what it stores in the accumulating buffer for its lower rows. -/
theorem accB_run_2_0 (e : Run) : ∀ x : (Rect.unit (s := S2048x256) ![768, 0] S1280x128.size inb_S2048x256_S1280x128_768_0).shape.Idx,
    (k0_pay135 k0_pay2 (kernelRun0_A.sl.r e.c e.arg6 e.harg6 e.x4) (kernelRun0_A.sl.r_53 e.c e.arg4 e.harg4 e.x2) (kernelRun0_A.sl.r_54
      e.c e.arg2 e.harg2 e.arg3 e.harg3 e.x0 e.x1) (kernelRun0_A.sl.r_55 e.c e.arg2 e.harg2 e.arg3 e.harg3 e.x0 e.x1) (kernelRun0_A.sl.r_56
      e.c e.arg2 e.harg2 e.arg3 e.harg3 e.x0 e.x1) (kernelRun0_A.sl.v657 e.c e.arg2 e.harg2 e.arg3 e.harg3 e.arg9 e.x0 e.x1)
      (kernelRun0_A.sl.v677 e.c e.arg2 e.harg2 e.arg3 e.harg3 e.arg4 e.harg4 e.arg6 e.harg6 e.arg8 e.arg9 e.x0 e.x1 e.x2 e.x4)) x =
      GA e.x0 e.x1 e.x2 2 ((Rect.unit (s := S2048x256) ![768, 0] S1280x128.size inb_S2048x256_S1280x128_768_0).emb x) := by
  intro x
  obtain ⟨i, j, rfl⟩ : ∃ (i : Fin 1280) (j : Fin 128), x = ix2 i j := ⟨x 0, x 1, eq_ix2 x⟩
  refine (accB_2_0 _ _ _ _ _ _ i j).trans ?_
  rw [emb2 i j ⟨768 + ↑i, by omega⟩ (col 0 (by omega) j) rfl rfl]
  exact close_accB e.x0 e.x1 e.x2 2 (by omega) 0 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v677 e) (ix2 i j)).trans (congrArg _ (emb2 i j _ _ rfl rfl)))
    ((congrFun (read_v657 e) (ix3 0 i 0)).trans (congrArg _ (emb3 i (by omega) _ rfl)))

/-- Strip 2, head 0: what it stores in the other buffer for its diagonal rows. -/
theorem carD_run_2_0 (e : Run) : ∀ x : (Rect.unit (s := S2x2048x1) ![0, 512, 0] S1x256x1.size inb_S2x2048x1_S1x256x1_0_512_0).shape.Idx,
    (k0_pay134 (kernelRun0_A.sl.r_55 e.c e.arg2 e.harg2 e.arg3 e.harg3 e.x0 e.x1) (kernelRun0_A.sl.r_56 e.c e.arg2 e.harg2 e.arg3 e.harg3
      e.x0 e.x1)) x =
      GC e.x0 e.x1 2 ((Rect.unit (s := S2x2048x1) ![0, 512, 0] S1x256x1.size inb_S2x2048x1_S1x256x1_0_512_0).emb x) := by
  intro x
  obtain ⟨i, rfl⟩ : ∃ i : Fin 256, x = ix3 0 i 0 := ⟨x 1, by rw [eq_ix3 x]; congr 1 <;> exact Subsingleton.elim (α := Fin 1) _ _⟩
  refine (carD_2_0 _ _ i).trans ?_
  rw [emb3 i (by omega) (key 2 (by omega) i) rfl]
  exact close_carD e.x0 e.x1 2 (by omega) 0 (by omega) _ _ i
    (fun d => read3 e.arg2 e.harg2 e.x0 _ _ _ _ rfl rfl) (fun k d => read3 e.arg3 e.harg3 e.x1 _ _ _ _ rfl rfl)

/-- Strip 2, head 0: what it stores in the other buffer for its lower rows. -/
theorem carB_run_2_0 (e : Run) : ∀ x : (Rect.unit (s := S2x2048x1) ![0, 768, 0] S1x1280x1.size inb_S2x2048x1_S1x1280x1_0_768_0).shape.Idx,
    (k0_pay137 (kernelRun0_A.sl.r_57 e.c e.arg2 e.harg2 e.arg3 e.harg3 e.arg9 e.x0 e.x1)) x =
      GC e.x0 e.x1 2 ((Rect.unit (s := S2x2048x1) ![0, 768, 0] S1x1280x1.size inb_S2x2048x1_S1x1280x1_0_768_0).emb x) := by
  intro x
  obtain ⟨i, rfl⟩ : ∃ i : Fin 1280, x = ix3 0 i 0 := ⟨x 1, by rw [eq_ix3 x]; congr 1 <;> exact Subsingleton.elim (α := Fin 1) _ _⟩
  refine (carB_2_0 _ _ _ i).trans ?_
  rw [emb3 i (by omega) ⟨768 + ↑i, by omega⟩ rfl]
  exact close_carB e.x0 e.x1 2 (by omega) 0 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v657 e) (ix3 0 i 0)).trans (congrArg _ (emb3 i (by omega) _ rfl)))

/-- What the load before strip 2, head 1, takes from the other buffer. -/
theorem read_v724 (e : Run) : kernelRun0_A.sl.v724 e.c e.arg2 e.harg2 e.arg3 e.harg3 e.arg9 e.x0 e.x1 =
    fun y => GC e.x0 e.x1 3 ((Rect.unit (s := S2x2048x1) ![1, 768, 0] S1x1280x1.size inb_S2x2048x1_S1x1280x1_1_768_0).emb y) := by
  refine (View.readCov_skip _ _ _ _ _ ?s0).trans ((View.readCov_skip _ _ _ _ _ ?s1).trans (read_two _ (GC e.x0 e.x1 3) _ _ _ _ _ _
    (carB_run_3_1 e) (carD_run_3_1 e) (cover3 rfl rfl)))
  case s0 => decide
  case s1 => decide

/-- What the load before strip 2, head 1, takes from the accumulating buffer. -/
theorem read_v744 (e : Run) : kernelRun0_A.sl.v744 e.c e.arg2 e.harg2 e.arg3 e.harg3 e.arg4 e.harg4 e.arg6 e.harg6 e.arg8 e.arg9 e.x0 e.x1 e.x2 e.x4 =
    fun y => GA e.x0 e.x1 e.x2 3 ((Rect.unit (s := S2048x256) ![768, 128] S1280x128.size inb_S2048x256_S1280x128_768_128).emb y) := by
  refine (View.readCov_skip _ _ _ _ _ ?s0).trans ((View.readCov_skip _ _ _ _ _ ?s1).trans ((View.readCov_skip _ _ _ _ _ ?s2).trans (read_two _ (GA e.x0 e.x1 e.x2 3) _ _ _ _ _ _
    (accB_run_3_1 e) (accD_run_3_1 e) (cover2 rfl rfl))))
  case s0 => decide
  case s1 => decide
  case s2 => decide

/-- Strip 2, head 1: what it stores in the accumulating buffer for its diagonal rows. -/
theorem accD_run_2_1 (e : Run) : ∀ x : (Rect.unit (s := S2048x256) ![512, 128] S256x128.size inb_S2048x256_S256x128_512_128).shape.Idx,
    (k0_pay147 (kernelRun0_A.sl.r_58 e.c e.arg4 e.harg4 e.x2) (kernelRun0_A.sl.r_59 e.c e.arg2 e.harg2 e.arg3 e.harg3 e.x0 e.x1)
      (kernelRun0_A.sl.r_60 e.c e.arg2 e.harg2 e.arg3 e.harg3 e.arg6 e.harg6 e.x0 e.x1 e.x4) (kernelRun0_A.sl.r_62 e.c e.arg2 e.harg2
      e.arg3 e.harg3 e.arg6 e.harg6 e.x0 e.x1 e.x4) (kernelRun0_A.sl.v724 e.c e.arg2 e.harg2 e.arg3 e.harg3 e.arg9 e.x0 e.x1)) x =
      GA e.x0 e.x1 e.x2 2 ((Rect.unit (s := S2048x256) ![512, 128] S256x128.size inb_S2048x256_S256x128_512_128).emb x) := by
  intro x
  obtain ⟨i, j, rfl⟩ : ∃ (i : Fin 256) (j : Fin 128), x = ix2 i j := ⟨x 0, x 1, eq_ix2 x⟩
  refine (accD_2_1 _ _ _ _ _ i j).trans ?_
  rw [emb2 i j (key 2 (by omega) i) (col 1 (by omega) j) rfl rfl]
  exact close_accD e.x0 e.x1 e.x2 2 (by omega) 1 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 2, head 1: what it stores in the accumulating buffer for its lower rows. -/
theorem accB_run_2_1 (e : Run) : ∀ x : (Rect.unit (s := S2048x256) ![768, 128] S1280x128.size inb_S2048x256_S1280x128_768_128).shape.Idx,
    (k0_pay149 (kernelRun0_A.sl.r_58 e.c e.arg4 e.harg4 e.x2) (kernelRun0_A.sl.r_59 e.c e.arg2 e.harg2 e.arg3 e.harg3 e.x0 e.x1)
      (kernelRun0_A.sl.r_60 e.c e.arg2 e.harg2 e.arg3 e.harg3 e.arg6 e.harg6 e.x0 e.x1 e.x4) (kernelRun0_A.sl.r_62 e.c e.arg2 e.harg2
      e.arg3 e.harg3 e.arg6 e.harg6 e.x0 e.x1 e.x4) (kernelRun0_A.sl.v724 e.c e.arg2 e.harg2 e.arg3 e.harg3 e.arg9 e.x0 e.x1)
      (kernelRun0_A.sl.v744 e.c e.arg2 e.harg2 e.arg3 e.harg3 e.arg4 e.harg4 e.arg6 e.harg6 e.arg8 e.arg9 e.x0 e.x1 e.x2 e.x4)) x =
      GA e.x0 e.x1 e.x2 2 ((Rect.unit (s := S2048x256) ![768, 128] S1280x128.size inb_S2048x256_S1280x128_768_128).emb x) := by
  intro x
  obtain ⟨i, j, rfl⟩ : ∃ (i : Fin 1280) (j : Fin 128), x = ix2 i j := ⟨x 0, x 1, eq_ix2 x⟩
  refine (accB_2_1 _ _ _ _ _ _ i j).trans ?_
  rw [emb2 i j ⟨768 + ↑i, by omega⟩ (col 1 (by omega) j) rfl rfl]
  exact close_accB e.x0 e.x1 e.x2 2 (by omega) 1 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v744 e) (ix2 i j)).trans (congrArg _ (emb2 i j _ _ rfl rfl)))
    ((congrFun (read_v724 e) (ix3 0 i 0)).trans (congrArg _ (emb3 i (by omega) _ rfl)))

/-- Strip 2, head 1: what it stores in the other buffer for its diagonal rows. -/
theorem carD_run_2_1 (e : Run) : ∀ x : (Rect.unit (s := S2x2048x1) ![1, 512, 0] S1x256x1.size inb_S2x2048x1_S1x256x1_1_512_0).shape.Idx,
    (k0_pay148 (kernelRun0_A.sl.r_61 e.c e.arg2 e.harg2 e.arg3 e.harg3 e.x0 e.x1)) x =
      GC e.x0 e.x1 2 ((Rect.unit (s := S2x2048x1) ![1, 512, 0] S1x256x1.size inb_S2x2048x1_S1x256x1_1_512_0).emb x) := by
  intro x
  obtain ⟨i, rfl⟩ : ∃ i : Fin 256, x = ix3 0 i 0 := ⟨x 1, by rw [eq_ix3 x]; congr 1 <;> exact Subsingleton.elim (α := Fin 1) _ _⟩
  refine (carD_2_1 _ _ i).trans ?_
  rw [emb3 i (by omega) (key 2 (by omega) i) rfl]
  exact close_carD e.x0 e.x1 2 (by omega) 1 (by omega) _ _ i
    (fun d => read3 e.arg2 e.harg2 e.x0 _ _ _ _ rfl rfl) (fun k d => read3 e.arg3 e.harg3 e.x1 _ _ _ _ rfl rfl)

/-- Strip 2, head 1: what it stores in the other buffer for its lower rows. -/
theorem carB_run_2_1 (e : Run) : ∀ x : (Rect.unit (s := S2x2048x1) ![1, 768, 0] S1x1280x1.size inb_S2x2048x1_S1x1280x1_1_768_0).shape.Idx,
    (k0_pay150 (kernelRun0_A.sl.r_61 e.c e.arg2 e.harg2 e.arg3 e.harg3 e.x0 e.x1) (kernelRun0_A.sl.v724 e.c e.arg2 e.harg2 e.arg3 e.harg3
      e.arg9 e.x0 e.x1)) x =
      GC e.x0 e.x1 2 ((Rect.unit (s := S2x2048x1) ![1, 768, 0] S1x1280x1.size inb_S2x2048x1_S1x1280x1_1_768_0).emb x) := by
  intro x
  obtain ⟨i, rfl⟩ : ∃ i : Fin 1280, x = ix3 0 i 0 := ⟨x 1, by rw [eq_ix3 x]; congr 1 <;> exact Subsingleton.elim (α := Fin 1) _ _⟩
  refine (carB_2_1 _ _ _ i).trans ?_
  rw [emb3 i (by omega) ⟨768 + ↑i, by omega⟩ rfl]
  exact close_carB e.x0 e.x1 2 (by omega) 1 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v724 e) (ix3 0 i 0)).trans (congrArg _ (emb3 i (by omega) _ rfl)))

/-- What the load before strip 1, head 0, takes from the other buffer. -/
theorem read_v791 (e : Run) : kernelRun0_A.sl.v791 e.c e.arg2 e.harg2 e.arg3 e.harg3 e.arg9 e.x0 e.x1 =
    fun y => GC e.x0 e.x1 2 ((Rect.unit (s := S2x2048x1) ![0, 512, 0] S1x1536x1.size inb_S2x2048x1_S1x1536x1_0_512_0).emb y) := by
  refine (View.readCov_skip _ _ _ _ _ ?s0).trans ((View.readCov_skip _ _ _ _ _ ?s1).trans (read_two _ (GC e.x0 e.x1 2) _ _ _ _ _ _
    (carB_run_2_0 e) (carD_run_2_0 e) (cover3 rfl rfl)))
  case s0 => decide
  case s1 => decide

/-- What the load before strip 1, head 0, takes from the accumulating buffer. -/
theorem read_v811 (e : Run) : kernelRun0_A.sl.v811 e.c e.arg2 e.harg2 e.arg3 e.harg3 e.arg4 e.harg4 e.arg6 e.harg6 e.arg8 e.arg9 e.x0 e.x1 e.x2 e.x4 =
    fun y => GA e.x0 e.x1 e.x2 2 ((Rect.unit (s := S2048x256) ![512, 0] S1536x128.size inb_S2048x256_S1536x128_512_0).emb y) := by
  refine (View.readCov_skip _ _ _ _ _ ?s0).trans ((View.readCov_skip _ _ _ _ _ ?s1).trans ((View.readCov_skip _ _ _ _ _ ?s2).trans (read_two _ (GA e.x0 e.x1 e.x2 2) _ _ _ _ _ _
    (accB_run_2_0 e) (accD_run_2_0 e) (cover2 rfl rfl))))
  case s0 => decide
  case s1 => decide
  case s2 => decide

/-- Strip 1, head 0: what it stores in the accumulating buffer for its diagonal rows. -/
theorem accD_run_1_0 (e : Run) : ∀ x : (Rect.unit (s := S2048x256) ![256, 0] S256x128.size inb_S2048x256_S256x128_256_0).shape.Idx,
    (k0_pay160 (kernelRun0_A.sl.r_67 e.c e.arg2 e.harg2 e.arg3 e.harg3 e.arg6 e.harg6 e.arg9 e.x0 e.x1 e.x4) (kernelRun0_A.sl.r_68 e.c
      e.arg4 e.harg4 e.x2) kernelRun0_A.sl.cst_400) x =
      GA e.x0 e.x1 e.x2 1 ((Rect.unit (s := S2048x256) ![256, 0] S256x128.size inb_S2048x256_S256x128_256_0).emb x) := by
  intro x
  obtain ⟨i, j, rfl⟩ : ∃ (i : Fin 256) (j : Fin 128), x = ix2 i j := ⟨x 0, x 1, eq_ix2 x⟩
  refine (accD_1_0 _ _ _ _ _ i j).trans ?_
  rw [emb2 i j (key 1 (by omega) i) (col 0 (by omega) j) rfl rfl]
  exact close_accD e.x0 e.x1 e.x2 1 (by omega) 0 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 1, head 0: what it stores in the accumulating buffer for its lower rows. -/
theorem accB_run_1_0 (e : Run) : ∀ x : (Rect.unit (s := S2048x256) ![512, 0] S1536x128.size inb_S2048x256_S1536x128_512_0).shape.Idx,
    (k0_pay162 (kernelRun0_A.sl.r_67 e.c e.arg2 e.harg2 e.arg3 e.harg3 e.arg6 e.harg6 e.arg9 e.x0 e.x1 e.x4) (kernelRun0_A.sl.r_68 e.c
      e.arg4 e.harg4 e.x2) kernelRun0_A.sl.cst_400 (kernelRun0_A.sl.v811 e.c e.arg2 e.harg2 e.arg3 e.harg3 e.arg4 e.harg4 e.arg6 e.harg6
      e.arg8 e.arg9 e.x0 e.x1 e.x2 e.x4)) x =
      GA e.x0 e.x1 e.x2 1 ((Rect.unit (s := S2048x256) ![512, 0] S1536x128.size inb_S2048x256_S1536x128_512_0).emb x) := by
  intro x
  obtain ⟨i, j, rfl⟩ : ∃ (i : Fin 1536) (j : Fin 128), x = ix2 i j := ⟨x 0, x 1, eq_ix2 x⟩
  refine (accB_1_0 _ _ _ _ _ _ i j).trans ?_
  rw [emb2 i j ⟨512 + ↑i, by omega⟩ (col 0 (by omega) j) rfl rfl]
  exact close_accB e.x0 e.x1 e.x2 1 (by omega) 0 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v811 e) (ix2 i j)).trans (congrArg _ (emb2 i j _ _ rfl rfl)))
    ((congrFun (read_v791 e) (ix3 0 i 0)).trans (congrArg _ (emb3 i (by omega) _ rfl)))

/-- Strip 1, head 0: what it stores in the other buffer for its diagonal rows. -/
theorem carD_run_1_0 (e : Run) : ∀ x : (Rect.unit (s := S2x2048x1) ![0, 256, 0] S1x256x1.size inb_S2x2048x1_S1x256x1_0_256_0).shape.Idx,
    (k0_pay161 (kernelRun0_A.sl.r_65 e.c e.arg2 e.harg2 e.arg3 e.harg3 e.x0 e.x1)) x =
      GC e.x0 e.x1 1 ((Rect.unit (s := S2x2048x1) ![0, 256, 0] S1x256x1.size inb_S2x2048x1_S1x256x1_0_256_0).emb x) := by
  intro x
  obtain ⟨i, rfl⟩ : ∃ i : Fin 256, x = ix3 0 i 0 := ⟨x 1, by rw [eq_ix3 x]; congr 1 <;> exact Subsingleton.elim (α := Fin 1) _ _⟩
  refine (carD_1_0 _ _ i).trans ?_
  rw [emb3 i (by omega) (key 1 (by omega) i) rfl]
  exact close_carD e.x0 e.x1 1 (by omega) 0 (by omega) _ _ i
    (fun d => read3 e.arg2 e.harg2 e.x0 _ _ _ _ rfl rfl) (fun k d => read3 e.arg3 e.harg3 e.x1 _ _ _ _ rfl rfl)

/-- Strip 1, head 0: what it stores in the other buffer for its lower rows. -/
theorem carB_run_1_0 (e : Run) : ∀ x : (Rect.unit (s := S2x2048x1) ![0, 512, 0] S1x1536x1.size inb_S2x2048x1_S1x1536x1_0_512_0).shape.Idx,
    (k0_pay163 (kernelRun0_A.sl.r_65 e.c e.arg2 e.harg2 e.arg3 e.harg3 e.x0 e.x1) (kernelRun0_A.sl.r_66 e.c e.arg2 e.harg2 e.arg3 e.harg3
      e.arg9 e.x0 e.x1)) x =
      GC e.x0 e.x1 1 ((Rect.unit (s := S2x2048x1) ![0, 512, 0] S1x1536x1.size inb_S2x2048x1_S1x1536x1_0_512_0).emb x) := by
  intro x
  obtain ⟨i, rfl⟩ : ∃ i : Fin 1536, x = ix3 0 i 0 := ⟨x 1, by rw [eq_ix3 x]; congr 1 <;> exact Subsingleton.elim (α := Fin 1) _ _⟩
  refine (carB_1_0 _ _ _ i).trans ?_
  rw [emb3 i (by omega) ⟨512 + ↑i, by omega⟩ rfl]
  exact close_carB e.x0 e.x1 1 (by omega) 0 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v791 e) (ix3 0 i 0)).trans (congrArg _ (emb3 i (by omega) _ rfl)))

/-- What the load before strip 1, head 1, takes from the other buffer. -/
theorem read_v858 (e : Run) : kernelRun0_A.sl.v858 e.c e.arg2 e.harg2 e.arg3 e.harg3 e.arg9 e.x0 e.x1 =
    fun y => GC e.x0 e.x1 2 ((Rect.unit (s := S2x2048x1) ![1, 512, 0] S1x1536x1.size inb_S2x2048x1_S1x1536x1_1_512_0).emb y) := by
  refine (View.readCov_skip _ _ _ _ _ ?s0).trans ((View.readCov_skip _ _ _ _ _ ?s1).trans (read_two _ (GC e.x0 e.x1 2) _ _ _ _ _ _
    (carB_run_2_1 e) (carD_run_2_1 e) (cover3 rfl rfl)))
  case s0 => decide
  case s1 => decide

/-- What the load before strip 1, head 1, takes from the accumulating buffer. -/
theorem read_v878 (e : Run) : kernelRun0_A.sl.v878 e.c e.arg2 e.harg2 e.arg3 e.harg3 e.arg4 e.harg4 e.arg6 e.harg6 e.arg8 e.arg9 e.x0 e.x1 e.x2 e.x4 =
    fun y => GA e.x0 e.x1 e.x2 2 ((Rect.unit (s := S2048x256) ![512, 128] S1536x128.size inb_S2048x256_S1536x128_512_128).emb y) := by
  refine (View.readCov_skip _ _ _ _ _ ?s0).trans ((View.readCov_skip _ _ _ _ _ ?s1).trans ((View.readCov_skip _ _ _ _ _ ?s2).trans (read_two _ (GA e.x0 e.x1 e.x2 2) _ _ _ _ _ _
    (accB_run_2_1 e) (accD_run_2_1 e) (cover2 rfl rfl))))
  case s0 => decide
  case s1 => decide
  case s2 => decide

/-- Strip 1, head 1: what it stores in the accumulating buffer for its diagonal rows. -/
theorem accD_run_1_1 (e : Run) : ∀ x : (Rect.unit (s := S2048x256) ![256, 128] S256x128.size inb_S2048x256_S256x128_256_128).shape.Idx,
    (k0_pay172 k0_pay2 (kernelRun0_A.sl.r e.c e.arg6 e.harg6 e.x4) (kernelRun0_A.sl.r_69 e.c e.arg4 e.harg4 e.x2) (kernelRun0_A.sl.r_70
      e.c e.arg2 e.harg2 e.arg3 e.harg3 e.x0 e.x1) (kernelRun0_A.sl.r_71 e.c e.arg2 e.harg2 e.arg3 e.harg3 e.x0 e.x1)
      kernelRun0_A.sl.cst_156 (kernelRun0_A.sl.v858 e.c e.arg2 e.harg2 e.arg3 e.harg3 e.arg9 e.x0 e.x1)) x =
      GA e.x0 e.x1 e.x2 1 ((Rect.unit (s := S2048x256) ![256, 128] S256x128.size inb_S2048x256_S256x128_256_128).emb x) := by
  intro x
  obtain ⟨i, j, rfl⟩ : ∃ (i : Fin 256) (j : Fin 128), x = ix2 i j := ⟨x 0, x 1, eq_ix2 x⟩
  refine (accD_1_1 _ _ _ _ _ i j).trans ?_
  rw [emb2 i j (key 1 (by omega) i) (col 1 (by omega) j) rfl rfl]
  exact close_accD e.x0 e.x1 e.x2 1 (by omega) 1 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 1, head 1: what it stores in the accumulating buffer for its lower rows. -/
theorem accB_run_1_1 (e : Run) : ∀ x : (Rect.unit (s := S2048x256) ![512, 128] S1536x128.size inb_S2048x256_S1536x128_512_128).shape.Idx,
    (k0_pay174 (kernelRun0_A.sl.r_74 e.c e.arg2 e.harg2 e.arg3 e.harg3 e.arg4 e.harg4 e.arg6 e.harg6 e.arg9 e.x0 e.x1 e.x2 e.x4)
      (kernelRun0_A.sl.v878 e.c e.arg2 e.harg2 e.arg3 e.harg3 e.arg4 e.harg4 e.arg6 e.harg6 e.arg8 e.arg9 e.x0 e.x1 e.x2 e.x4)) x =
      GA e.x0 e.x1 e.x2 1 ((Rect.unit (s := S2048x256) ![512, 128] S1536x128.size inb_S2048x256_S1536x128_512_128).emb x) := by
  intro x
  obtain ⟨i, j, rfl⟩ : ∃ (i : Fin 1536) (j : Fin 128), x = ix2 i j := ⟨x 0, x 1, eq_ix2 x⟩
  refine (accB_1_1 _ _ _ _ _ _ i j).trans ?_
  rw [emb2 i j ⟨512 + ↑i, by omega⟩ (col 1 (by omega) j) rfl rfl]
  exact close_accB e.x0 e.x1 e.x2 1 (by omega) 1 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v878 e) (ix2 i j)).trans (congrArg _ (emb2 i j _ _ rfl rfl)))
    ((congrFun (read_v858 e) (ix3 0 i 0)).trans (congrArg _ (emb3 i (by omega) _ rfl)))

/-- Strip 1, head 1: what it stores in the other buffer for its diagonal rows. -/
theorem carD_run_1_1 (e : Run) : ∀ x : (Rect.unit (s := S2x2048x1) ![1, 256, 0] S1x256x1.size inb_S2x2048x1_S1x256x1_1_256_0).shape.Idx,
    (kernelRun0_A.sl.r_75 e.c e.arg2 e.harg2 e.arg3 e.harg3 e.x0 e.x1) x =
      GC e.x0 e.x1 1 ((Rect.unit (s := S2x2048x1) ![1, 256, 0] S1x256x1.size inb_S2x2048x1_S1x256x1_1_256_0).emb x) := by
  intro x
  obtain ⟨i, rfl⟩ : ∃ i : Fin 256, x = ix3 0 i 0 := ⟨x 1, by rw [eq_ix3 x]; congr 1 <;> exact Subsingleton.elim (α := Fin 1) _ _⟩
  refine (carD_1_1 _ _ i).trans ?_
  rw [emb3 i (by omega) (key 1 (by omega) i) rfl]
  exact close_carD e.x0 e.x1 1 (by omega) 1 (by omega) _ _ i
    (fun d => read3 e.arg2 e.harg2 e.x0 _ _ _ _ rfl rfl) (fun k d => read3 e.arg3 e.harg3 e.x1 _ _ _ _ rfl rfl)

/-- Strip 1, head 1: what it stores in the other buffer for its lower rows. -/
theorem carB_run_1_1 (e : Run) : ∀ x : (Rect.unit (s := S2x2048x1) ![1, 512, 0] S1x1536x1.size inb_S2x2048x1_S1x1536x1_1_512_0).shape.Idx,
    (k0_pay175 (kernelRun0_A.sl.r_72 e.c e.arg2 e.harg2 e.arg3 e.harg3 e.x0 e.x1) (kernelRun0_A.sl.r_73 e.c e.arg2 e.harg2 e.arg3 e.harg3
      e.arg9 e.x0 e.x1)) x =
      GC e.x0 e.x1 1 ((Rect.unit (s := S2x2048x1) ![1, 512, 0] S1x1536x1.size inb_S2x2048x1_S1x1536x1_1_512_0).emb x) := by
  intro x
  obtain ⟨i, rfl⟩ : ∃ i : Fin 1536, x = ix3 0 i 0 := ⟨x 1, by rw [eq_ix3 x]; congr 1 <;> exact Subsingleton.elim (α := Fin 1) _ _⟩
  refine (carB_1_1 _ _ _ i).trans ?_
  rw [emb3 i (by omega) ⟨512 + ↑i, by omega⟩ rfl]
  exact close_carB e.x0 e.x1 1 (by omega) 1 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v858 e) (ix3 0 i 0)).trans (congrArg _ (emb3 i (by omega) _ rfl)))

/-- What the load before strip 0, head 0, takes from the other buffer. -/
theorem read_v925 (e : Run) : kernelRun0_A.sl.v925 e.c e.arg2 e.harg2 e.arg3 e.harg3 e.arg9 e.x0 e.x1 =
    fun y => GC e.x0 e.x1 1 ((Rect.unit (s := S2x2048x1) ![0, 256, 0] S1x1792x1.size inb_S2x2048x1_S1x1792x1_0_256_0).emb y) := by
  refine (View.readCov_skip _ _ _ _ _ ?s0).trans ((View.readCov_skip _ _ _ _ _ ?s1).trans (read_two _ (GC e.x0 e.x1 1) _ _ _ _ _ _
    (carB_run_1_0 e) (carD_run_1_0 e) (cover3 rfl rfl)))
  case s0 => decide
  case s1 => decide

/-- What the load before strip 0, head 0, takes from the accumulating buffer. -/
theorem read_v945 (e : Run) : kernelRun0_A.sl.v945 e.c e.arg2 e.harg2 e.arg3 e.harg3 e.arg4 e.harg4 e.arg6 e.harg6 e.arg8 e.arg9 e.x0 e.x1 e.x2 e.x4 =
    fun y => GA e.x0 e.x1 e.x2 1 ((Rect.unit (s := S2048x256) ![256, 0] S1792x128.size inb_S2048x256_S1792x128_256_0).emb y) := by
  refine (View.readCov_skip _ _ _ _ _ ?s0).trans ((View.readCov_skip _ _ _ _ _ ?s1).trans ((View.readCov_skip _ _ _ _ _ ?s2).trans (read_two _ (GA e.x0 e.x1 e.x2 1) _ _ _ _ _ _
    (accB_run_1_0 e) (accD_run_1_0 e) (cover2 rfl rfl))))
  case s0 => decide
  case s1 => decide
  case s2 => decide

/-- Strip 0, head 0: what it stores in the accumulating buffer for its diagonal rows. -/
theorem accD_run_0_0 (e : Run) : ∀ x : (Rect.unit (s := S2048x256) ![0, 0] S256x128.size inb_S2048x256_S256x128_0_0).shape.Idx,
    (k0_pay185 k0_pay2 (kernelRun0_A.sl.r e.c e.arg6 e.harg6 e.x4) (kernelRun0_A.sl.r_76 e.c e.arg4 e.harg4 e.x2) (kernelRun0_A.sl.r_77
      e.c e.arg2 e.harg2 e.arg3 e.harg3 e.x0 e.x1) (kernelRun0_A.sl.r_78 e.c e.arg2 e.harg2 e.arg3 e.harg3 e.x0 e.x1) (kernelRun0_A.sl.r_79
      e.c e.arg2 e.harg2 e.arg3 e.harg3 e.x0 e.x1) (kernelRun0_A.sl.v925 e.c e.arg2 e.harg2 e.arg3 e.harg3 e.arg9 e.x0 e.x1)) x =
      GA e.x0 e.x1 e.x2 0 ((Rect.unit (s := S2048x256) ![0, 0] S256x128.size inb_S2048x256_S256x128_0_0).emb x) := by
  intro x
  obtain ⟨i, j, rfl⟩ : ∃ (i : Fin 256) (j : Fin 128), x = ix2 i j := ⟨x 0, x 1, eq_ix2 x⟩
  refine (accD_0_0 _ _ _ _ _ i j).trans ?_
  rw [emb2 i j (key 0 (by omega) i) (col 0 (by omega) j) rfl rfl]
  exact close_accD e.x0 e.x1 e.x2 0 (by omega) 0 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 0, head 0: what it stores in the accumulating buffer for its lower rows. -/
theorem accB_run_0_0 (e : Run) : ∀ x : (Rect.unit (s := S2048x256) ![256, 0] S1792x128.size inb_S2048x256_S1792x128_256_0).shape.Idx,
    (k0_pay187 k0_pay2 (kernelRun0_A.sl.r e.c e.arg6 e.harg6 e.x4) (kernelRun0_A.sl.r_76 e.c e.arg4 e.harg4 e.x2) (kernelRun0_A.sl.r_77
      e.c e.arg2 e.harg2 e.arg3 e.harg3 e.x0 e.x1) (kernelRun0_A.sl.r_78 e.c e.arg2 e.harg2 e.arg3 e.harg3 e.x0 e.x1) (kernelRun0_A.sl.r_79
      e.c e.arg2 e.harg2 e.arg3 e.harg3 e.x0 e.x1) (kernelRun0_A.sl.v925 e.c e.arg2 e.harg2 e.arg3 e.harg3 e.arg9 e.x0 e.x1)
      (kernelRun0_A.sl.v945 e.c e.arg2 e.harg2 e.arg3 e.harg3 e.arg4 e.harg4 e.arg6 e.harg6 e.arg8 e.arg9 e.x0 e.x1 e.x2 e.x4)) x =
      GA e.x0 e.x1 e.x2 0 ((Rect.unit (s := S2048x256) ![256, 0] S1792x128.size inb_S2048x256_S1792x128_256_0).emb x) := by
  intro x
  obtain ⟨i, j, rfl⟩ : ∃ (i : Fin 1792) (j : Fin 128), x = ix2 i j := ⟨x 0, x 1, eq_ix2 x⟩
  refine (accB_0_0 _ _ _ _ _ _ i j).trans ?_
  rw [emb2 i j ⟨256 + ↑i, by omega⟩ (col 0 (by omega) j) rfl rfl]
  exact close_accB e.x0 e.x1 e.x2 0 (by omega) 0 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v945 e) (ix2 i j)).trans (congrArg _ (emb2 i j _ _ rfl rfl)))
    ((congrFun (read_v925 e) (ix3 0 i 0)).trans (congrArg _ (emb3 i (by omega) _ rfl)))

/-- Strip 0, head 0: what it stores in the other buffer for its diagonal rows. -/
theorem carD_run_0_0 (e : Run) : ∀ x : (Rect.unit (s := S2x2048x1) ![0, 0, 0] S1x256x1.size inb_S2x2048x1_S1x256x1_0_0_0).shape.Idx,
    (k0_pay186 (kernelRun0_A.sl.r_78 e.c e.arg2 e.harg2 e.arg3 e.harg3 e.x0 e.x1) (kernelRun0_A.sl.r_79 e.c e.arg2 e.harg2 e.arg3 e.harg3
      e.x0 e.x1)) x =
      GC e.x0 e.x1 0 ((Rect.unit (s := S2x2048x1) ![0, 0, 0] S1x256x1.size inb_S2x2048x1_S1x256x1_0_0_0).emb x) := by
  intro x
  obtain ⟨i, rfl⟩ : ∃ i : Fin 256, x = ix3 0 i 0 := ⟨x 1, by rw [eq_ix3 x]; congr 1 <;> exact Subsingleton.elim (α := Fin 1) _ _⟩
  refine (carD_0_0 _ _ i).trans ?_
  rw [emb3 i (by omega) (key 0 (by omega) i) rfl]
  exact close_carD e.x0 e.x1 0 (by omega) 0 (by omega) _ _ i
    (fun d => read3 e.arg2 e.harg2 e.x0 _ _ _ _ rfl rfl) (fun k d => read3 e.arg3 e.harg3 e.x1 _ _ _ _ rfl rfl)

/-- Strip 0, head 0: what it stores in the other buffer for its lower rows. -/
theorem carB_run_0_0 (e : Run) : ∀ x : (Rect.unit (s := S2x2048x1) ![0, 256, 0] S1x1792x1.size inb_S2x2048x1_S1x1792x1_0_256_0).shape.Idx,
    (k0_pay189 (kernelRun0_A.sl.r_80 e.c e.arg2 e.harg2 e.arg3 e.harg3 e.arg9 e.x0 e.x1)) x =
      GC e.x0 e.x1 0 ((Rect.unit (s := S2x2048x1) ![0, 256, 0] S1x1792x1.size inb_S2x2048x1_S1x1792x1_0_256_0).emb x) := by
  intro x
  obtain ⟨i, rfl⟩ : ∃ i : Fin 1792, x = ix3 0 i 0 := ⟨x 1, by rw [eq_ix3 x]; congr 1 <;> exact Subsingleton.elim (α := Fin 1) _ _⟩
  refine (carB_0_0 _ _ _ i).trans ?_
  rw [emb3 i (by omega) ⟨256 + ↑i, by omega⟩ rfl]
  exact close_carB e.x0 e.x1 0 (by omega) 0 (by omega) _ _ _ (by dsimp only; omega)
    (fun d => read3 e.arg2 e.harg2 e.x0 _ _ _ _ (by dsimp only; omega) rfl) (fun k d => read3 e.arg3 e.harg3 e.x1 _ _ _ _ rfl rfl) _
    ((congrFun (read_v925 e) (ix3 0 i 0)).trans (congrArg _ (emb3 i (by omega) _ rfl)))

/-- What the load before strip 0, head 1, takes from the other buffer. -/
theorem read_v992 (e : Run) : kernelRun0_A.sl.v992 e.c e.arg2 e.harg2 e.arg3 e.harg3 e.arg9 e.x0 e.x1 =
    fun y => GC e.x0 e.x1 1 ((Rect.unit (s := S2x2048x1) ![1, 256, 0] S1x1792x1.size inb_S2x2048x1_S1x1792x1_1_256_0).emb y) := by
  refine (View.readCov_skip _ _ _ _ _ ?s0).trans ((View.readCov_skip _ _ _ _ _ ?s1).trans (read_two _ (GC e.x0 e.x1 1) _ _ _ _ _ _
    (carB_run_1_1 e) (carD_run_1_1 e) (cover3 rfl rfl)))
  case s0 => decide
  case s1 => decide

/-- What the load before strip 0, head 1, takes from the accumulating buffer. -/
theorem read_v1012 (e : Run) : kernelRun0_A.sl.v1012 e.c e.arg2 e.harg2 e.arg3 e.harg3 e.arg4 e.harg4 e.arg6 e.harg6 e.arg8 e.arg9 e.x0 e.x1 e.x2 e.x4 =
    fun y => GA e.x0 e.x1 e.x2 1 ((Rect.unit (s := S2048x256) ![256, 128] S1792x128.size inb_S2048x256_S1792x128_256_128).emb y) := by
  refine (View.readCov_skip _ _ _ _ _ ?s0).trans ((View.readCov_skip _ _ _ _ _ ?s1).trans ((View.readCov_skip _ _ _ _ _ ?s2).trans (read_two _ (GA e.x0 e.x1 e.x2 1) _ _ _ _ _ _
    (accB_run_1_1 e) (accD_run_1_1 e) (cover2 rfl rfl))))
  case s0 => decide
  case s1 => decide
  case s2 => decide

/-- Strip 0, head 1: what it stores in the accumulating buffer for its diagonal rows. -/
theorem accD_run_0_1 (e : Run) : ∀ x : (Rect.unit (s := S2048x256) ![0, 128] S256x128.size inb_S2048x256_S256x128_0_128).shape.Idx,
    (k0_pay199 (kernelRun0_A.sl.r_81 e.c e.arg4 e.harg4 e.x2) (kernelRun0_A.sl.r_82 e.c e.arg2 e.harg2 e.arg3 e.harg3 e.x0 e.x1)
      (kernelRun0_A.sl.r_83 e.c e.arg2 e.harg2 e.arg3 e.harg3 e.arg6 e.harg6 e.x0 e.x1 e.x4) (kernelRun0_A.sl.r_85 e.c e.arg2 e.harg2
      e.arg3 e.harg3 e.arg6 e.harg6 e.x0 e.x1 e.x4) (kernelRun0_A.sl.v992 e.c e.arg2 e.harg2 e.arg3 e.harg3 e.arg9 e.x0 e.x1)) x =
      GA e.x0 e.x1 e.x2 0 ((Rect.unit (s := S2048x256) ![0, 128] S256x128.size inb_S2048x256_S256x128_0_128).emb x) := by
  intro x
  obtain ⟨i, j, rfl⟩ : ∃ (i : Fin 256) (j : Fin 128), x = ix2 i j := ⟨x 0, x 1, eq_ix2 x⟩
  refine (accD_0_1 _ _ _ _ _ i j).trans ?_
  rw [emb2 i j (key 0 (by omega) i) (col 1 (by omega) j) rfl rfl]
  exact close_accD e.x0 e.x1 e.x2 0 (by omega) 1 (by omega) _ _ _ _ e.isLater i j
    (fun d => read3 e.arg2 e.harg2 e.x0 _ _ _ _ rfl rfl) (fun k d => read3 e.arg3 e.harg3 e.x1 _ _ _ _ rfl rfl)
    (fun k => read3 e.arg4 e.harg4 e.x2 _ _ _ _ rfl rfl)

/-- Strip 0, head 1: what it stores in the accumulating buffer for its lower rows. -/
theorem accB_run_0_1 (e : Run) : ∀ x : (Rect.unit (s := S2048x256) ![256, 128] S1792x128.size inb_S2048x256_S1792x128_256_128).shape.Idx,
    (k0_pay201 (kernelRun0_A.sl.r_81 e.c e.arg4 e.harg4 e.x2) (kernelRun0_A.sl.r_82 e.c e.arg2 e.harg2 e.arg3 e.harg3 e.x0 e.x1)
      (kernelRun0_A.sl.r_83 e.c e.arg2 e.harg2 e.arg3 e.harg3 e.arg6 e.harg6 e.x0 e.x1 e.x4) (kernelRun0_A.sl.r_85 e.c e.arg2 e.harg2
      e.arg3 e.harg3 e.arg6 e.harg6 e.x0 e.x1 e.x4) (kernelRun0_A.sl.v992 e.c e.arg2 e.harg2 e.arg3 e.harg3 e.arg9 e.x0 e.x1)
      (kernelRun0_A.sl.v1012 e.c e.arg2 e.harg2 e.arg3 e.harg3 e.arg4 e.harg4 e.arg6 e.harg6 e.arg8 e.arg9 e.x0 e.x1 e.x2 e.x4)) x =
      GA e.x0 e.x1 e.x2 0 ((Rect.unit (s := S2048x256) ![256, 128] S1792x128.size inb_S2048x256_S1792x128_256_128).emb x) := by
  intro x
  obtain ⟨i, j, rfl⟩ : ∃ (i : Fin 1792) (j : Fin 128), x = ix2 i j := ⟨x 0, x 1, eq_ix2 x⟩
  refine (accB_0_1 _ _ _ _ _ _ i j).trans ?_
  rw [emb2 i j ⟨256 + ↑i, by omega⟩ (col 1 (by omega) j) rfl rfl]
  exact close_accB e.x0 e.x1 e.x2 0 (by omega) 1 (by omega) _ _ _ _ e.isLater _ (by dsimp only; omega) j
    (fun d => read3 e.arg2 e.harg2 e.x0 _ _ _ _ (by dsimp only; omega) rfl) (fun k d => read3 e.arg3 e.harg3 e.x1 _ _ _ _ rfl rfl)
    (fun k => read3 e.arg4 e.harg4 e.x2 _ _ _ _ rfl rfl) _ _
    ((congrFun (read_v1012 e) (ix2 i j)).trans (congrArg _ (emb2 i j _ _ rfl rfl)))
    ((congrFun (read_v992 e) (ix3 0 i 0)).trans (congrArg _ (emb3 i (by omega) _ rfl)))

end Cert.Att
end
end
-- ==== Proof.Att.Block.lean ====
module
public import proofs.«01_k».proof.Proof.Att.Stores1

/-! What a grid point leaves in its block of the result. -/

@[expose] public section
set_option maxRecDepth 16384
noncomputable section
namespace Cert.Att
open Cert.KernelIdeal Cert.KernelIdeal.Gen Idealize.ShloMosaic Idealize.ShloMosaic.TcCoe Idealize.SL.Sem

/-- What the last load takes from the accumulating buffer: the sum over all the keys. -/
theorem read_v1023 (e : Run) : kernelRun0_A.sl.v1023 e.c e.arg2 e.harg2 e.arg3 e.harg3 e.arg4 e.harg4 e.arg6 e.harg6 e.arg8 e.arg9 e.x0 e.x1 e.x2 e.x4 =
    fun y => GA e.x0 e.x1 e.x2 0 ((Rect.unit (s := S2048x256) ![0, 0] S2048x256.size inb_S2048x256_S2048x256_0_0).emb y) :=
  read_four _ (GA e.x0 e.x1 e.x2 0) _ _ _ _ _ _ _ _ _ _ (accB_run_0_1 e) (accD_run_0_1 e) (accB_run_0_0 e) (accD_run_0_0 e) cover_all

/-- The gate: a value times the logistic function of it. -/
def gate (x : Ideal .f32) : Ideal .f32 := x * Ideal.div 1 (1 + FloatOps.exp2 (x * Named.named κ "neg_log2e" 3216550459#32))

/-- The block of the result: the weighted values of all the keys, times the gate. -/
def outG (x0 : Vec Ideal S1x2048x256 .bf16) (x1 x2 : Vec Ideal S1x2048x256 .f32) (x3 : Vec Ideal S1x2048x256 .bf16) : Vec Ideal S1x2048x256 .bf16 :=
  fun y => (GA' x0 x1 x2 0 (y 1) (y 2) * gate (x3 y) : Ideal .f32)

/-- The last payload, read at an index. -/
theorem pay1_apply (a : Vec Ideal S2048x256 .f32) (g : Vec Ideal S1x2048x256 .bf16) (i : Fin 2048) (j : Fin 256) :
    k0_pay1 a (k0_pay203 g) (ix3 0 i j) = (a (ix2 i j) * gate (g (ix3 0 i j)) : Ideal .f32) := by
  pointwise [k0_pay1, k0_pay203]
  rfl

/-- The body writes its block of the result once, whole. -/
theorem run_pieces (e : Run) (i : grid0.Coords) (arg5 : Memref sig .tc .vmem S1x2048x256 .bf16) (harg5 : arg5.IsWhole)
    (arg7 : Memref sig .tc .vmem S1x2048x256 .bf16) (harg7 : arg7.IsWhole) (harg8 : e.arg8.IsWhole) (harg9 : e.arg9.IsWhole)
    (x3 : Vec Ideal S1x2048x256 .bf16) :
    (kernelRun0_A (F := Ideal) e.c i e.arg2 e.harg2 e.arg3 e.harg3 e.arg4 e.harg4 arg5 harg5 e.arg6 e.harg6 arg7 harg7 e.arg8 harg8 e.arg9 harg9 e.x0 e.x1 e.x2 x3 e.x4).1 = [⟨Rect.unit ![0, 0, 0] S1x2048x256.size inb_S1x2048x256_S1x2048x256_0_0_0,
      k0_pay1 (kernelRun0_A.sl.v1023 e.c e.arg2 e.harg2 e.arg3 e.harg3 e.arg4 e.harg4 e.arg6 e.harg6 e.arg8 e.arg9 e.x0 e.x1 e.x2 e.x4) (kernelRun0_A.sl.r_86 e.c arg5 harg5 x3)⟩] := by
  rfl

/-- What the body leaves in the block it writes back. -/
theorem out_eq (e : Run) (i : grid0.Coords) (arg5 : Memref sig .tc .vmem S1x2048x256 .bf16) (harg5 : arg5.IsWhole)
    (arg7 : Memref sig .tc .vmem S1x2048x256 .bf16) (harg7 : arg7.IsWhole) (harg8 : e.arg8.IsWhole) (harg9 : e.arg9.IsWhole)
    (x3 : Vec Ideal S1x2048x256 .bf16) :
    out0_A_5 (F := Ideal) e.c i e.arg2 e.harg2 e.arg3 e.harg3 e.arg4 e.harg4 arg5 harg5 e.arg6 e.harg6 arg7 harg7 e.arg8 harg8 e.arg9 harg9 e.x0 e.x1 e.x2 x3 e.x4 = outG e.x0 e.x1 e.x2 x3 := by
  unfold out0_A_5
  rw [View.read_writes_junk_eq_canon, run_pieces]
  refine (View.canon_cons_unit_lit inb_S1x2048x256_S1x2048x256_0_0_0 _ [] (by decide)).trans ?_
  rw [read_v1023 e]
  funext y
  obtain ⟨i, j, rfl⟩ : ∃ (i : Fin 2048) (j : Fin 256), y = ix3 0 i j :=
    ⟨y 1, y 2, by rw [eq_ix3 y]; congr 1; exact Subsingleton.elim (α := Fin 1) _ _⟩
  refine (pay1_apply _ _ i j).trans ?_
  rw [emb2 (N := 2048) (M := 256) i j i j (Nat.zero_add _).symm (Nat.zero_add _).symm]
  have hg : View.readAt (Elt Ideal) arg5.view (Rect.unit (s := S1x2048x256) ![0, 0, 0] S1x2048x256.size inb_S1x2048x256_S1x2048x256_0_0_0).toLoadRect
      (harg5.unread x3) = x3 := by
    rw [View.readAt_eq_ld, harg5.read_unread]
    exact View.ld_unit_lit _ x3 (by decide)
  rw [hg]
  rfl

end Cert.Att
end
end
-- ==== Proof.Att.Scalar.lean ====
module
public import proofs.«01_k».proof.Proof.Att.Block

/-! The scalar functions of the attention at real numbers: base two in the kernel, base e in the reference. -/

@[expose] public section
noncomputable section
namespace Cert.Att
open Cert.KernelIdeal Cert.KernelIdeal.Gen Idealize.ShloMosaic Idealize.ShloMosaic.TcCoe Idealize.SL.Sem

/-- A finite sum of real numbers, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greater of two real numbers, among the extended reals. -/
theorem coe_max (a b : ℝ) : max (a : EReal) (b : EReal) = ((max a b : ℝ) : EReal) := (EReal.coe_strictMono.monotone.map_max).symm

/-- The smaller of two real numbers, among the extended reals. -/
theorem coe_min (a b : ℝ) : min (a : EReal) (b : EReal) = ((min a b : ℝ) : EReal) := (EReal.coe_strictMono.monotone.map_min).symm

/-- The logarithm of a positive real number. -/
theorem log_coe {r : ℝ} (h : 0 < r) : Ideal.log (r : EReal) = ((Real.log r : ℝ) : EReal) := if_neg (not_le.mpr h)

/-- The named constant is the inverse of the logarithm of two. -/
theorem inv_ln2 : (Named.named κ "inv_ln2" 1069066811#32 : Ideal .f32) = (((Real.log 2)⁻¹ : ℝ) : EReal) := rfl

/-- The other named constant is its negative. -/
theorem neg_log2e : (Named.named κ "neg_log2e" 3216550459#32 : Ideal .f32) = ((-(Real.log 2)⁻¹ : ℝ) : EReal) := rfl

/-- The logarithm, base e, of the logistic function. -/
def lsig (y : ℝ) : ℝ := min y 0 - Real.log (1 + Real.exp (-|y|))

/-- Of the logistic function of the negative, the logarithm is smaller by the number. -/
theorem lsig_neg (y : ℝ) : lsig (-y) = lsig y - y := by
  unfold lsig
  rw [abs_neg]
  have h : min (-y) 0 = min y 0 - y := by
    rcases le_total y 0 with h | h
    · rw [min_eq_right (by linarith), min_eq_left h]; ring
    · rw [min_eq_left (by linarith), min_eq_right h]; ring
  rw [h]; ring

theorem ln2_pos : 0 < Real.log 2 := Real.log_pos (by norm_num)

/-- A power of two is a power of e. -/
theorem two_pow (x : ℝ) : Real.rpow 2 x = Real.exp (Real.log 2 * x) := Real.rpow_def_of_pos (by norm_num) x

/-- The kernel's logarithm of stopping, at a real score. -/
theorem lstop_coe (z : ℝ) : lstop (z : EReal) = ((lsig (z * Real.log 2) * (Real.log 2)⁻¹ : ℝ) : EReal) := by
  have hL := ln2_pos
  have h0 : (0 : EReal) - max (z : EReal) (-(z : EReal)) = ((-|z| : ℝ) : EReal) := by
    rw [← EReal.coe_neg, coe_max, ← EReal.coe_zero, ← EReal.coe_sub]
    congr 1
    rw [zero_sub]; rfl
  have hp : 0 < 1 + Real.rpow 2 (-|z|) := by
    have : 0 < Real.rpow 2 (-|z|) := Real.rpow_pos_of_pos (by norm_num) _
    linarith
  show min (z : EReal) 0 - Ideal.log (1 + Ideal.exp2 (0 - max (z : EReal) (-(z : EReal)))) * (Named.named κ "inv_ln2" 1069066811#32 : Ideal .f32) = _
  rw [h0, Ideal.exp2_coe, ← EReal.coe_one, ← EReal.coe_add, log_coe hp, inv_ln2, ← EReal.coe_zero, coe_min, ← EReal.coe_mul, ← EReal.coe_sub]
  congr 1
  unfold lsig
  have hm : min (z * Real.log 2) 0 = min z 0 * Real.log 2 := by
    rcases le_total z 0 with h | h
    · rw [min_eq_left h, min_eq_left (mul_nonpos_of_nonpos_of_nonneg h hL.le)]
    · rw [min_eq_right h, min_eq_right (mul_nonneg h hL.le), zero_mul]
  rw [hm, two_pow, abs_mul, abs_of_pos hL]
  have e : Real.log 2 * -|z| = -(|z| * Real.log 2) := by ring
  rw [e, sub_mul, mul_assoc, mul_inv_cancel₀ hL.ne', mul_one]

/-- The logarithm of the logistic function, spelt as the reference's operations are: `softplus` of the negative, negated. -/
def lsigE (y : EReal) : EReal :=
  -(Scalar.select (Ideal.cmp .une (-y - 0) (-y - 0)) (-y + 0)
    (max (-y) 0 + Ideal.log1p (Ideal.exp (-(max (-y - 0) (-(-y - 0)))))))

/-- At a real number it is that. -/
theorem lsigE_coe (y : ℝ) : lsigE (y : EReal) = ((lsig y : ℝ) : EReal) := by
  have hc : ∀ x : EReal, Ideal.cmp .une x x = 0#1 := by intro x; simp [Ideal.cmp]
  have hp : 0 < 1 + Real.exp (-|y|) := by have := Real.exp_pos (-|y|); linarith
  unfold lsigE
  rw [hc]
  show -(max (-(y : EReal)) 0 + Ideal.log1p (Ideal.exp (-(max (-(y : EReal) - 0) (-(-(y : EReal) - 0)))))) = _
  have ha : -(max (-(y : EReal) - 0) (-(-(y : EReal) - 0))) = ((-|y| : ℝ) : EReal) := by
    rw [← EReal.coe_zero, ← EReal.coe_neg, ← EReal.coe_sub, ← EReal.coe_neg, coe_max, ← EReal.coe_neg]
    congr 2
    rw [sub_zero, neg_neg, max_comm]; rfl
  rw [ha]
  show -(max (-(y : EReal)) 0 + Ideal.log (1 + ((Real.exp (-|y|) : ℝ) : EReal))) = _
  rw [← EReal.coe_one, ← EReal.coe_add, log_coe hp, ← EReal.coe_zero, ← EReal.coe_neg, coe_max, ← EReal.coe_add, ← EReal.coe_neg]
  congr 1
  unfold lsig
  have hm : max (-y) 0 = - min y 0 := by
    rcases le_total y 0 with h | h
    · rw [max_eq_left (by linarith), min_eq_left h]
    · rw [max_eq_right (by linarith), min_eq_right h, neg_zero]
  rw [hm]; ring

/-- The power of two in the kernel's gate is the power of e in the reference's, at every extended real. -/
theorem exp2_gate (x : EReal) : Ideal.exp2 (x * (Named.named κ "neg_log2e" 3216550459#32 : Ideal .f32)) = Ideal.exp (-x) := by
  have hL := ln2_pos
  rw [neg_log2e]
  have hn : -(Real.log 2)⁻¹ < 0 := neg_lt_zero.mpr (inv_pos.mpr hL)
  induction x using EReal.rec with
  | bot => rw [EReal.bot_mul_coe_of_neg hn, EReal.neg_bot]; rfl
  | top => rw [EReal.top_mul_coe_of_neg hn, EReal.neg_top]; rfl
  | coe r =>
    rw [← EReal.coe_mul, Ideal.exp2_coe, ← EReal.coe_neg]
    show _ = ((Real.exp (-r) : ℝ) : EReal)
    rw [two_pow]
    congr 2
    field_simp

/-- The sum over the keys from a given one on is the key's own, and the later ones'. -/
theorem from_eq (f : Fin 2048 → ℝ) (k : Fin 2048) : (∑ x : Fin 2048, if k ≤ x then f x else 0) - f k = ∑ x : Fin 2048, if k < x then f x else 0 := by
  have h : ∀ x, (if k ≤ x then f x else 0) = (if k < x then f x else 0) + (if k = x then f x else 0) := by
    intro x
    rcases lt_trichotomy k x with h | h | h
    · rw [if_pos h.le, if_pos h, if_neg h.ne, add_zero]
    · rw [if_pos h.le, if_neg (by rw [h]; exact lt_irrefl _), if_pos h, zero_add]
    · rw [if_neg (not_le.mpr h), if_neg (not_lt.mpr h.le), if_neg h.ne', add_zero]
  rw [Finset.sum_congr rfl fun x _ => h x, Finset.sum_add_distrib, Finset.sum_ite_eq Finset.univ k f, if_pos (Finset.mem_univ k)]
  ring

/-- A row's weight for a key, in the kernel's words, at real scores: what the reference computes from the scores times the logarithm of two. -/
theorem attG_coe (z : Fin 2048 → ℝ) (r k : Fin 2048) :
    attG (fun x => ((z x : ℝ) : EReal)) r k = if k < r then ((Real.exp (lsig (z k * Real.log 2)
      + ((∑ x : Fin 2048, if k ≤ x then (if x < r then lsig (-(z x * Real.log 2)) else 0) else 0) - (if k < r then lsig (-(z k * Real.log 2)) else 0))) : ℝ) : EReal) else 0 := by
  have hL := ln2_pos
  unfold attG
  by_cases h : k < r
  · rw [if_pos h, if_pos h]
    rw [from_eq (fun x => if x < r then lsig (-(z x * Real.log 2)) else 0) k]
    have hs : ∀ x, stay (fun x => ((z x : ℝ) : EReal)) r x = (((if x < r then lsig (-(z x * Real.log 2)) else 0) * (Real.log 2)⁻¹ : ℝ) : EReal) := by
      intro x
      unfold stay
      by_cases hx : x < r
      · rw [if_pos hx, if_pos hx, lstop_coe, lsig_neg]
        refine (EReal.coe_sub _ _).symm.trans ?_
        congr 1
        rw [sub_mul, mul_assoc, mul_inv_cancel₀ hL.ne', mul_one]
      · rw [if_neg hx, if_neg hx, zero_mul]; rfl
    have hl : laterG (fun x => ((z x : ℝ) : EReal)) r k = (((∑ x : Fin 2048, if k < x then (if x < r then lsig (-(z x * Real.log 2)) else 0) else 0) * (Real.log 2)⁻¹ : ℝ) : EReal) := by
      unfold laterG
      rw [Finset.sum_mul, ← coe_sum]
      refine Finset.sum_congr rfl fun x _ => ?_
      by_cases hx : k < x
      · rw [if_pos hx, if_pos hx, hs x]
      · rw [if_neg hx, if_neg hx, zero_mul]; rfl
    rw [hl, lstop_coe]
    refine (congrArg Ideal.exp2 (EReal.coe_add _ _).symm).trans ?_
    rw [Ideal.exp2_coe, two_pow]
    congr 2
    rw [← add_mul, mul_comm, mul_assoc, inv_mul_cancel₀ hL.ne', mul_one]
  · rw [if_neg h, if_neg h]

end Cert.Att
end
-- ==== Proof.Att.Suffix.lean ====
module
public import proofs.«01_k».proof.Proof.Att.Scalar
public import proofs.«01_k».proof.Proof.Gen.ReferenceIdeal.Read

/-! The reference's running sum along the last axis, taken from the end, read at an index. -/

@[expose] public section
set_option maxRecDepth 16384
noncomputable section
namespace Cert.Att
open Cert.ReferenceIdeal Cert.ReferenceIdeal.Gen Idealize.ShloMosaic Idealize.ShloMosaic.TcCoe Idealize.SL.Sem

/-- A left fold that adds is the start and a sum. -/
theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- A sum over the places of a window that starts at a key and runs past the end, zero past it, is the sum over the keys from there on. -/
theorem sum_from (k : Fin 2048) (f : Fin 2048 → EReal) :
    (∑ n : Fin 2048, if h : k.val + n.val < 2048 then f ⟨k.val + n.val, h⟩ else 0) = ∑ x : Fin 2048, if k ≤ x then f x else 0 := by
  have hr : (∑ x : Fin 2048, if k ≤ x then f x else 0) = ∑ x ∈ Finset.univ.filter (fun x : Fin 2048 => k ≤ x), f x := (Finset.sum_filter _ _).symm
  have hl : (∑ n : Fin 2048, if h : k.val + n.val < 2048 then f ⟨k.val + n.val, h⟩ else 0)
      = ∑ n ∈ Finset.univ.filter (fun n : Fin 2048 => k.val + n.val < 2048), if h : k.val + n.val < 2048 then f ⟨k.val + n.val, h⟩ else 0 := by
    rw [Finset.sum_filter]
    refine Finset.sum_congr rfl fun n _ => ?_
    by_cases h : k.val + n.val < 2048
    · rw [if_pos h]
    · rw [if_neg h, dif_neg h]
  rw [hl, hr]
  refine Finset.sum_bij' (fun n hn => ⟨k.val + n.val, (Finset.mem_filter.mp hn).2⟩) (fun x _ => ⟨x.val - k.val, by omega⟩) ?_ ?_ ?_ ?_ ?_
  · intro n hn
    exact Finset.mem_filter.mpr ⟨Finset.mem_univ _, Fin.le_def.mpr (Nat.le_add_right _ _)⟩
  · intro x hx
    have := Fin.le_def.mp (Finset.mem_filter.mp hx).2
    exact Finset.mem_filter.mpr ⟨Finset.mem_univ _, by show k.val + (x.val - k.val) < 2048; omega⟩
  · intro n hn
    exact Fin.ext (Nat.add_sub_cancel_left _ _)
  · intro x hx
    have := Fin.le_def.mp (Finset.mem_filter.mp hx).2
    exact Fin.ext (by show k.val + (x.val - k.val) = x.val; omega)
  · intro n hn
    rw [dif_pos (Finset.mem_filter.mp hn).2]

/-- A window's sum at the ideal instance, from the start zero: the operand's elements at the window's places inside it. -/
theorem window_sum {s t u : Shape} (window strides lo hi : Fin s.rank → Nat) (x : FVec Ideal s .f32) (init : u.Idx → Ideal .f32) (h0 : ∀ i, init i = 0)
    (h : s.ReduceWindows window strides lo hi t) (hu : 0 < u.numel) (j : t.Idx) :
    (Host.reduceWindowAdd window strides lo hi x init h hu j : EReal) = ∑ n : Fin (⟨s.rank, window⟩ : Shape).numel,
      if hin : ∀ a, lo a ≤ (j (a.cast h.1.symm)).val * strides a + ((⟨s.rank, window⟩ : Shape).rowMajor.symm n a).val
          ∧ (j (a.cast h.1.symm)).val * strides a + ((⟨s.rank, window⟩ : Shape).rowMajor.symm n a).val - lo a < s.size a
        then (x (fun a => ⟨(j (a.cast h.1.symm)).val * strides a + ((⟨s.rank, window⟩ : Shape).rowMajor.symm n a).val - lo a, (hin a).2⟩) : EReal) else 0 := by
  have e : (Host.reduceWindowAdd window strides lo hi x init h hu j : EReal)
      = Ideal.hostReduceWindowAdd window strides lo hi h x (init (Shape.Idx.first hu)) j := rfl
  rw [e, h0]
  unfold Ideal.hostReduceWindowAdd Host.reduceWindow
  refine (foldl_add _ _ _).trans ?_
  rw [zero_add (M := EReal), ← List.ofFn_eq_map, List.sum_ofFn]
  refine Finset.sum_congr rfl fun n _ => ?_
  split <;> rfl

/-- The places of a window along the last axis. -/
abbrev Win : Shape := ⟨4, ![1, 1, 1, 2048]⟩

/-- The number of them. -/
theorem win_numel : Win.numel = 2048 := by decide

/-- The window's place of a number: zero along the first three axes, the number along the last. -/
theorem win_symm (n : Fin Win.numel) : (Win.rowMajor.symm n 0).val = 0 ∧ (Win.rowMajor.symm n 1).val = 0 ∧ (Win.rowMajor.symm n 2).val = 0
    ∧ (Win.rowMajor.symm n 3).val = n.val := by
  have h := Shape.rowMajor_val_four (Win.rowMajor.symm n)
  rw [Equiv.apply_symm_apply] at h
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  change n.val = (((Win.rowMajor.symm n 0).val * 1 + (Win.rowMajor.symm n 1).val) * 1 + (Win.rowMajor.symm n 2).val) * 2048 + (Win.rowMajor.symm n 3).val at h
  omega

/-- The running sum from the end, at an index: the sum over the places from that one on. -/
theorem suffix_apply (x : FVec Ideal S8x16x2048x2048 .f32) (init : S_.Idx → Ideal .f32) (h0 : ∀ i, init i = 0) (b : Fin 8) (h : Fin 16) (r k : Fin 2048) :
    Host.reduceWindowAdd ![1, 1, 1, 2048] ![1, 1, 1, 1] ![0, 0, 0, 0] ![0, 0, 0, 2047] x init
        reduceWindows_S8x16x2048x2048_S8x16x2048x2048_w1s1p0_0_w1s1p0_0_w1s1p0_0_w2048s1p0_2047 h_S_ (ix4 b h r k)
      = ∑ y : Fin 2048, if k ≤ y then (x (ix4 b h r y) : EReal) else 0 := by
  refine Eq.trans ?_ (sum_from k fun y => x (ix4 b h r y))
  rw [window_sum _ _ _ _ x init h0]
  refine (Fintype.sum_equiv (finCongr win_numel) _ (fun n : Fin 2048 => if hh : k.val + n.val < 2048 then (x (ix4 b h r ⟨k.val + n.val, hh⟩) : EReal) else 0) fun n => ?_)
  · rw [finCongr_apply]
    simp only [Fin.val_cast]
    obtain ⟨e0, e1, e2, e3⟩ := win_symm n
    have hn : n.val < 2048 := lt_of_lt_of_eq n.isLt win_numel
    split
    · next hin =>
      have h3 := (hin 3).2
      change k.val * 1 + (Win.rowMajor.symm n 3).val - 0 < 2048 at h3
      have hh : k.val + n.val < 2048 := by omega
      rw [dif_pos hh]
      · refine congrArg x (funext fun a => Fin.ext ?_)
        match a with
        | ⟨0, _⟩ => show b.val * 1 + (Win.rowMajor.symm n 0).val - 0 = b.val; omega
        | ⟨1, _⟩ => show h.val * 1 + (Win.rowMajor.symm n 1).val - 0 = h.val; omega
        | ⟨2, _⟩ => show r.val * 1 + (Win.rowMajor.symm n 2).val - 0 = r.val; omega
        | ⟨3, _⟩ => show k.val * 1 + (Win.rowMajor.symm n 3).val - 0 = k.val + n.val; omega
    · next hin =>
      rw [dif_neg]
      intro hh
      refine hin fun a => ?_
      match a with
      | ⟨0, _⟩ => show 0 ≤ b.val * 1 + (Win.rowMajor.symm n 0).val ∧ b.val * 1 + (Win.rowMajor.symm n 0).val - 0 < 8; omega
      | ⟨1, _⟩ => show 0 ≤ h.val * 1 + (Win.rowMajor.symm n 1).val ∧ h.val * 1 + (Win.rowMajor.symm n 1).val - 0 < 16; omega
      | ⟨2, _⟩ => show 0 ≤ r.val * 1 + (Win.rowMajor.symm n 2).val ∧ r.val * 1 + (Win.rowMajor.symm n 2).val - 0 < 2048; omega
      | ⟨3, _⟩ => show 0 ≤ k.val * 1 + (Win.rowMajor.symm n 3).val ∧ k.val * 1 + (Win.rowMajor.symm n 3).val - 0 < 2048; omega

end Cert.Att
end
-- ==== Proof.Att.Array.lean ====
module
public import proofs.«01_k».proof.Proof.Att.Block
public import proofs.«01_k».proof.Proof.Gen.KernelIdeal.Value

/-! The kernel's result array as one function of its argument arrays. -/

@[expose] public section
set_option maxRecDepth 16384
noncomputable section
namespace Cert.Att
open Cert.KernelIdeal Cert.KernelIdeal.Gen Idealize.ShloMosaic Idealize.ShloMosaic.TcCoe Idealize.SL.Sem

/-- Column `d` of the head that column `j` lies in. -/
abbrev hcol (j : Fin 2048) (d : Fin 128) : Fin 2048 := ⟨128 * (j.val / 128) + d, by omega⟩

/-- The score of the query at `r` against key `k`, in batch `b`, for the head that column `j` lies in. -/
def score (q : Vec Ideal S8x2048x2048 .bf16) (kk : Vec Ideal S8x2048x2048 .f32) (b : Fin 8) (j r k : Fin 2048) : Ideal .f32 :=
  ∑ d : Fin 128, (q (ix3 b r (hcol j d)) : Ideal .f32) * kk (ix3 b k (hcol j d))

/-- The result array: at each row and column the weighted values of all the keys, times the gate. -/
def attArr (q : Vec Ideal S8x2048x2048 .bf16) (kk vv : Vec Ideal S8x2048x2048 .f32) (g : Vec Ideal S8x2048x2048 .bf16) : Vec Ideal S8x2048x2048 .bf16 :=
  fun y => (accG 0 (score q kk (y 0) (y 2) (y 1)) (fun k => vv (ix3 (y 0) k (y 2))) (y 1) * gate (g y) : Ideal .f32)

variable (m : (ℓ : Loc nD τ sig) → Buf (Elt Ideal) ℓ)

/-- The blocks of the four arguments and of the result at a grid point: one batch, a pair of heads. -/
theorem idx : ∀ t : Fin cfg0.N, win0_0.index t = ![(grid0.coords t 0).val, 0, (grid0.coords t 1).val] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val]
    ∧ win0_4.index t = ![0, 0] ∧ win0_5.index t = ![(grid0.coords t 0).val, 0, (grid0.coords t 1).val] :=
  (by decide +kernel : ∀ t : Fin grid0.N, _)

/-- The matrix the host prepares has a one exactly where the row is later than the column. -/
theorem later_block (c : Dev nD) (t : Fin cfg0.N) : IsLater fun y k => iblk m c 4 t (ix2 y k) := by
  intro y k
  have h : iblk m c 4 t (ix2 y k) = V m c main_v3 (ix2 y k) := by
    refine congrArg (V m c main_v3) ?_
    obtain ⟨-, -, -, -, h, -⟩ := idx t
    funext a
    match a with
    | ⟨0, _⟩ => exact Fin.ext (show win0_4.index t (0 : Fin 2) * 256 + 1 * y.val = y.val by rw [h]; show 0 * 256 + 1 * y.val = y.val; omega)
    | ⟨1, _⟩ => exact Fin.ext (show win0_4.index t (1 : Fin 2) * 256 + 1 * k.val = k.val by rw [h]; show 0 * 256 + 1 * k.val = k.val; omega)
  refine h.trans ?_
  entry_read
  pointwise
  have hlt : (BitVec.ofNat 32 k.val).slt (BitVec.ofNat 32 y.val) = decide (k.val < y.val) := by
    rw [BitVec.slt_eq_decide, toInt_small k, toInt_small y]
    simp only [Nat.cast_lt]
  have hbit : IntOp.cmpi CmpIPredicate.sgt (BitVec.ofNat 32 y.val) (BitVec.ofNat 32 k.val) = if k < y then 1#1 else 0#1 := by
    by_cases hk : k.val < y.val
    · simp [IntOp.cmpi, hlt, hk, Fin.lt_def]
    · simp [IntOp.cmpi, hlt, hk, Fin.lt_def]
  rw [hbit]
  by_cases hk : k < y
  · rw [if_pos hk, if_pos hk]
    exact congrArg Real.toEReal (Nat.cast_one (R := ℝ))
  · rw [if_neg hk, if_neg hk]
    exact congrArg Real.toEReal (Nat.cast_zero (R := ℝ))

/-- An element of the first argument's block at a point. -/
theorem block0 (c : Dev nD) (t : Fin cfg0.N) (r : Fin 2048) (j : Fin 256) (b : Fin 8) (jj : Fin 2048)
    (hb : b.val = (grid0.coords t 0).val) (hj : jj.val = (grid0.coords t 1).val * 256 + j.val) :
    iblk m c 0 t (ix3 0 r j) = m ((c : Thread nD τ).loc main_arg0) (ix3 b r jj) := by
  obtain ⟨h, -⟩ := idx t
  rw [← V_main_arg0 m c]
  refine congrArg (V m c main_arg0) (funext fun a => ?_)
  match a with
  | ⟨0, _⟩ => exact Fin.ext (show win0_0.index t (0 : Fin 3) * 1 + 1 * 0 = b.val by rw [h, hb]; show (grid0.coords t 0).val * 1 + 1 * 0 = _; omega)
  | ⟨1, _⟩ => exact Fin.ext (show win0_0.index t (1 : Fin 3) * 2048 + 1 * r.val = r.val by rw [h]; show 0 * 2048 + 1 * r.val = _; omega)
  | ⟨2, _⟩ => exact Fin.ext (show win0_0.index t (2 : Fin 3) * 256 + 1 * j.val = jj.val by rw [h, hj]; show (grid0.coords t 1).val * 256 + 1 * j.val = _; omega)

/-- An element of the second argument's block at a point. -/
theorem block1 (c : Dev nD) (t : Fin cfg0.N) (r : Fin 2048) (j : Fin 256) (b : Fin 8) (jj : Fin 2048)
    (hb : b.val = (grid0.coords t 0).val) (hj : jj.val = (grid0.coords t 1).val * 256 + j.val) :
    iblk m c 1 t (ix3 0 r j) = m ((c : Thread nD τ).loc main_arg1) (ix3 b r jj) := by
  obtain ⟨-, h, -⟩ := idx t
  rw [← V_main_arg1 m c]
  refine congrArg (V m c main_arg1) (funext fun a => ?_)
  match a with
  | ⟨0, _⟩ => exact Fin.ext (show win0_1.index t (0 : Fin 3) * 1 + 1 * 0 = b.val by rw [h, hb]; show (grid0.coords t 0).val * 1 + 1 * 0 = _; omega)
  | ⟨1, _⟩ => exact Fin.ext (show win0_1.index t (1 : Fin 3) * 2048 + 1 * r.val = r.val by rw [h]; show 0 * 2048 + 1 * r.val = _; omega)
  | ⟨2, _⟩ => exact Fin.ext (show win0_1.index t (2 : Fin 3) * 256 + 1 * j.val = jj.val by rw [h, hj]; show (grid0.coords t 1).val * 256 + 1 * j.val = _; omega)

/-- An element of the third argument's block at a point. -/
theorem block2 (c : Dev nD) (t : Fin cfg0.N) (r : Fin 2048) (j : Fin 256) (b : Fin 8) (jj : Fin 2048)
    (hb : b.val = (grid0.coords t 0).val) (hj : jj.val = (grid0.coords t 1).val * 256 + j.val) :
    iblk m c 2 t (ix3 0 r j) = m ((c : Thread nD τ).loc main_arg2) (ix3 b r jj) := by
  obtain ⟨-, -, h, -⟩ := idx t
  rw [← V_main_arg2 m c]
  refine congrArg (V m c main_arg2) (funext fun a => ?_)
  match a with
  | ⟨0, _⟩ => exact Fin.ext (show win0_2.index t (0 : Fin 3) * 1 + 1 * 0 = b.val by rw [h, hb]; show (grid0.coords t 0).val * 1 + 1 * 0 = _; omega)
  | ⟨1, _⟩ => exact Fin.ext (show win0_2.index t (1 : Fin 3) * 2048 + 1 * r.val = r.val by rw [h]; show 0 * 2048 + 1 * r.val = _; omega)
  | ⟨2, _⟩ => exact Fin.ext (show win0_2.index t (2 : Fin 3) * 256 + 1 * j.val = jj.val by rw [h, hj]; show (grid0.coords t 1).val * 256 + 1 * j.val = _; omega)

/-- An element of the fourth argument's block at a point. -/
theorem block3 (c : Dev nD) (t : Fin cfg0.N) (r : Fin 2048) (j : Fin 256) (b : Fin 8) (jj : Fin 2048)
    (hb : b.val = (grid0.coords t 0).val) (hj : jj.val = (grid0.coords t 1).val * 256 + j.val) :
    iblk m c 3 t (ix3 0 r j) = m ((c : Thread nD τ).loc main_arg3) (ix3 b r jj) := by
  obtain ⟨-, -, -, h, -⟩ := idx t
  rw [← V_main_arg3 m c]
  refine congrArg (V m c main_arg3) (funext fun a => ?_)
  match a with
  | ⟨0, _⟩ => exact Fin.ext (show win0_3.index t (0 : Fin 3) * 1 + 1 * 0 = b.val by rw [h, hb]; show (grid0.coords t 0).val * 1 + 1 * 0 = _; omega)
  | ⟨1, _⟩ => exact Fin.ext (show win0_3.index t (1 : Fin 3) * 2048 + 1 * r.val = r.val by rw [h]; show 0 * 2048 + 1 * r.val = _; omega)
  | ⟨2, _⟩ => exact Fin.ext (show win0_3.index t (2 : Fin 3) * 256 + 1 * j.val = jj.val by rw [h, hj]; show (grid0.coords t 1).val * 256 + 1 * j.val = _; omega)

/-- The kernel's result array. -/
theorem array_eq (c : Dev nD) : (dats m 0 c).arrAt 5 cfg0.N = attArr (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  obtain ⟨i, j, rfl⟩ : ∃ (i : Fin 2048) (j : Fin 256), y = ix3 0 i j :=
    ⟨y 1, y 2, by rw [eq_ix3 y]; congr 1; exact Subsingleton.elim (α := Fin 1) _ _⟩
  have ht := grid0.coords t
  have hb : (grid0.coords t 0).val < 8 := (grid0.coords t 0).isLt
  have hh : (grid0.coords t 1).val < 8 := (grid0.coords t 1).isLt
  obtain ⟨-, -, -, -, -, h5⟩ := idx t
  have he : ((cfg0.win 5).blk t).view.emb (ix3 0 i j) = ix3 (⟨(grid0.coords t 0).val, hb⟩ : Fin 8) i (⟨(grid0.coords t 1).val * 256 + j.val, by omega⟩ : Fin 2048) := by
    funext a
    match a with
    | ⟨0, _⟩ => exact Fin.ext (show win0_5.index t (0 : Fin 3) * 1 + 1 * 0 = (grid0.coords t 0).val by rw [h5]; show (grid0.coords t 0).val * 1 + 1 * 0 = _; omega)
    | ⟨1, _⟩ => exact Fin.ext (show win0_5.index t (1 : Fin 3) * 2048 + 1 * i.val = i.val by rw [h5]; show 0 * 2048 + 1 * i.val = _; omega)
    | ⟨2, _⟩ => exact Fin.ext (show win0_5.index t (2 : Fin 3) * 256 + 1 * j.val = (grid0.coords t 1).val * 256 + j.val by rw [h5]; show (grid0.coords t 1).val * 256 + 1 * j.val = _; omega)
  rw [he]
  have hA := congrFun (out_eq ⟨c, ms0_0 t, hs0_0 t, ms0_1 t, hs0_1 t, ms0_2 t, hs0_2 t, ms0_4 t, hs0_4 t, scM0_0, scM0_1, iblk m c 0 t, iblk m c 1 t, iblk m c 2 t, iblk m c 4 t,
    later_block m c t⟩ (grid0.coords t) (ms0_3 t) (hs0_3 t) (ms0_5 t) (hs0_5 t) (Memref.isWhole_whole _) (Memref.isWhole_whole _) (iblk m c 3 t)) (ix3 0 i j)
  have hB : (dats m 0 c).after 5 t (ix3 0 i j) = outG (iblk m c 0 t) (iblk m c 1 t) (iblk m c 2 t) (iblk m c 3 t) (ix3 0 i j) := by
    rw [after0_5]
    exact hA
  refine hB.trans ?_
  unfold outG attArr
  refine congrArg₂ (fun a b : Ideal .f32 => a * b) ?_ ?_
  · unfold GA'
    have hz : ∀ k, zzG (iblk m c 0 t) (iblk m c 1 t) (j.val / 128) (by omega) i k = score (m ((c : Thread nD τ).loc main_arg0)) (m ((c : Thread nD τ).loc main_arg1))
        (⟨(grid0.coords t 0).val, hb⟩ : Fin 8) (⟨(grid0.coords t 1).val * 256 + j.val, by omega⟩ : Fin 2048) i k := by
      intro k
      refine Finset.sum_congr rfl fun d _ => ?_
      refine congrArg₂ (fun a b : Ideal .f32 => a * b) ?_ ?_
      · exact block0 m c t i _ _ _ rfl (by show 128 * (((grid0.coords t 1).val * 256 + j.val) / 128) + d.val = (grid0.coords t 1).val * 256 + (128 * (j.val / 128) + d.val); omega)
      · exact block1 m c t k _ _ _ rfl (by show 128 * (((grid0.coords t 1).val * 256 + j.val) / 128) + d.val = (grid0.coords t 1).val * 256 + (128 * (j.val / 128) + d.val); omega)
    refine congrArg₂ (fun a b => accG 0 a b i) (funext hz) (funext fun k => ?_)
    exact block2 m c t k _ _ _ rfl rfl
  · exact congrArg gate (block3 m c t i _ _ _ rfl rfl)

end Cert.Att
end
-- ==== Proof.Att.Ref.lean ====
module
public import proofs.«01_k».proof.Proof.Att.Suffix
public import proofs.«01_k».proof.Proof.Att.Array

/-! The reference's result array, read at an index, is the kernel's, where the queries and keys are finite. -/

@[expose] public section
set_option maxRecDepth 16384
noncomputable section
namespace Cert.Att
open Cert.ReferenceIdeal Cert.ReferenceIdeal.Gen Cert.ReferenceIdeal.Read Idealize.ShloMosaic Idealize.ShloMosaic.TcCoe Idealize.SL.Sem

variable (q : Vec Ideal S8x2048x2048 .bf16) (kk vv : Vec Ideal S8x2048x2048 .f32) (g : Vec Ideal S8x2048x2048 .bf16)

/-- The head that a column lies in. -/
abbrev hd (j : Fin 2048) : Fin 16 := ⟨j.val / 128, by omega⟩

/-- The reference's product of queries and keys is the kernel's score. -/
theorem v5_eq (b : Fin 8) (j r k : Fin 2048) : val_main_v5 (F := Ideal) q kk (ix4 b (hd j) r k) = score q kk b j r k := by
  rw [val_main_v5_apply]
  refine Finset.sum_congr rfl fun d _ => ?_
  have hb := b.isLt
  have hr := r.isLt
  have hk := k.isLt
  have hj := j.isLt
  have hdl := d.isLt
  refine congrArg₂ (fun a b : EReal => a * b) ?_ ?_
  · rw [val_main_v4_apply, val_main_v1_apply]
    refine congrArg q (funext fun a => Fin.ext ?_)
    match a with
    | ⟨0, _⟩ => show (((b.val * 2048 + r.val) * 16 + j.val / 128) * 128 + d.val) / 4194304 = b.val; omega
    | ⟨1, _⟩ => show (((b.val * 2048 + r.val) * 16 + j.val / 128) * 128 + d.val) / 2048 % 2048 = r.val; omega
    | ⟨2, _⟩ => show (((b.val * 2048 + r.val) * 16 + j.val / 128) * 128 + d.val) % 2048 = 128 * (j.val / 128) + d.val; omega
  · rw [val_main_v2_apply]
    refine congrArg kk (funext fun a => Fin.ext ?_)
    match a with
    | ⟨0, _⟩ => show (((b.val * 2048 + k.val) * 16 + j.val / 128) * 128 + d.val) / 4194304 = b.val; omega
    | ⟨1, _⟩ => show (((b.val * 2048 + k.val) * 16 + j.val / 128) * 128 + d.val) / 2048 % 2048 = k.val; omega
    | ⟨2, _⟩ => show (((b.val * 2048 + k.val) * 16 + j.val / 128) * 128 + d.val) % 2048 = 128 * (j.val / 128) + d.val; omega

/-- The word of two is two, and its logarithm the reference's factor. -/
theorem v7_eq (i : S8x16x2048x2048.Idx) : val_main_v7 (F := Ideal) i = ((Real.log 2 : ℝ) : EReal) := by
  rw [val_main_v7_apply, val_main_v6_apply]
  have h : Ideal.ofBits .f32 0x40000000#32 = ((2 : ℝ) : EReal) := by
    simp [Ideal.ofBits, Ideal.ieee]
    rw [← EReal.coe_mul]
    norm_num
  show Ideal.log (Ideal.ofBits .f32 0x40000000#32) = _
  rw [h, log_coe (by norm_num)]

/-- The logarithm of staying: of the negative score. -/
theorem v15_eq (i : S8x16x2048x2048.Idx) : val_main_v15 (F := Ideal) q kk i = lsigE (-(val_main_v8 (F := Ideal) q kk i)) := by
  have h0 : Ideal.ofBits .f32 0x00000000#32 = 0 := Ideal.ofBits_zero_f32
  simp only [val_main_v15_apply, val_main_call0_v1_apply, val_main_call0_call0_v4_apply, val_main_call0_call0_v6_apply, val_main_call0_call0_v11_apply,
    val_main_call0_call0_v3_apply, val_main_call0_call0_v5_apply, val_main_call0_call0_v1_apply, val_main_call0_call0_v10_apply, val_main_call0_call0_v9_apply,
    val_main_call0_call0_v8_apply, val_main_call0_call0_v7_apply, val_main_call0_call0_v2_apply, val_main_call0_call0_v0_apply, val_main_call0_call0_cst_apply,
    val_main_call0_v0_apply, val_main_v14_apply, Ideal.ofBits_def, h0]
  rfl

/-- The logarithm of stopping: of the score. -/
theorem v19_eq (i : S8x16x2048x2048.Idx) : val_main_v19 (F := Ideal) q kk i = lsigE (val_main_v8 (F := Ideal) q kk i) := by
  have h0 : Ideal.ofBits .f32 0x00000000#32 = 0 := Ideal.ofBits_zero_f32
  simp only [val_main_v19_apply, val_main_call3_v1_apply, val_main_call3_call0_v4_apply, val_main_call3_call0_v6_apply, val_main_call3_call0_v11_apply,
    val_main_call3_call0_v3_apply, val_main_call3_call0_v5_apply, val_main_call3_call0_v1_apply, val_main_call3_call0_v10_apply, val_main_call3_call0_v9_apply,
    val_main_call3_call0_v8_apply, val_main_call3_call0_v7_apply, val_main_call3_call0_v2_apply, val_main_call3_call0_v0_apply, val_main_call3_call0_cst_apply,
    val_main_call3_v0_apply, Ideal.ofBits_def, h0]
  rfl

/-- A choice by the reference's mask is one by the order of key and query. -/
theorem select_mask (r k : Fin 2048) (a b : Ideal .f32) :
    Scalar.select (IntOp.cmpi .slt (BitVec.ofNat 32 k.val) (BitVec.ofNat 32 r.val)) a b = if k < r then a else b := by
  have hi : ∀ k : Fin 2048, (BitVec.ofNat 32 k.val).toInt = (k.val : Int) := by
    intro k
    have hk := k.isLt
    rw [BitVec.toInt_eq_toNat_of_lt (by rw [BitVec.toNat_ofNat, Nat.mod_eq_of_lt (by omega)]; omega), BitVec.toNat_ofNat, Nat.mod_eq_of_lt (by omega)]
  have h : (BitVec.ofNat 32 k.val).slt (BitVec.ofNat 32 r.val) = decide (k.val < r.val) := by
    rw [BitVec.slt_eq_decide, hi k, hi r]
    simp only [Nat.cast_lt]
  by_cases hlt : k.val < r.val
  · simp [Scalar.select, IntOp.cmpi, h, hlt, Fin.lt_def]
  · simp [Scalar.select, IntOp.cmpi, h, hlt, Fin.lt_def]

/-- The mask at a query and a key. -/
theorem mask_eq (i : S2048x2048.Idx) (r k : Fin 2048) (hr : (i 0).val = r.val) (hk : (i 1).val = k.val) :
    val_main_v13 (F := Ideal) i = IntOp.cmpi .slt (BitVec.ofNat 32 k.val) (BitVec.ofNat 32 r.val) := by
  simp only [val_main_v13_apply, val_main_v11_apply, val_main_v12_apply, val_main_v9_apply, val_main_v10_apply, val_main_v0_apply]
  exact congrArg₂ (fun a b => IntOp.cmpi .slt (BitVec.ofNat 32 a) (BitVec.ofNat 32 b)) hk hr

section
variable (z : Fin 2048 → Fin 2048 → ℝ) (b : Fin 8) (j : Fin 2048)
  (hz : ∀ r k, score q kk b j r k = ((z r k : ℝ) : EReal))
include hz

/-- The reference's score at real arguments. -/
theorem v8_coe (r k : Fin 2048) : val_main_v8 (F := Ideal) q kk (ix4 b (hd j) r k) = ((z r k * Real.log 2 : ℝ) : EReal) := by
  rw [val_main_v8_apply, v7_eq, v5_eq, hz]
  exact (EReal.coe_mul _ _).symm

/-- The masked logarithm of staying. -/
theorem v16_coe (r k : Fin 2048) : val_main_v16 (F := Ideal) q kk (ix4 b (hd j) r k) = ((if k < r then lsig (-(z r k * Real.log 2)) else 0 : ℝ) : EReal) := by
  have h0 : Ideal.ofBits .f32 0x00000000#32 = 0 := Ideal.ofBits_zero_f32
  rw [val_main_v16_apply, val_main_call1_v1_apply, mask_eq _ r k rfl rfl, select_mask, v15_eq, v8_coe q kk z b j hz]
  simp only [val_main_call1_v2_apply, val_main_call1_v0_apply]
  rw [← EReal.coe_neg, lsigE_coe]
  by_cases h : k < r
  · rw [if_pos h, if_pos h]
  · rw [if_neg h, if_neg h]
    exact h0

/-- The logarithms of staying of the later keys. -/
theorem v18_coe (r k : Fin 2048) : val_main_v18 (F := Ideal) q kk (ix4 b (hd j) r k)
    = (((∑ x : Fin 2048, if k ≤ x then (if x < r then lsig (-(z r x * Real.log 2)) else 0) else 0) - (if k < r then lsig (-(z r k * Real.log 2)) else 0) : ℝ) : EReal) := by
  have h0 : Ideal.ofBits .f32 0x00000000#32 = 0 := Ideal.ofBits_zero_f32
  rw [val_main_v18_apply, v16_coe q kk z b j hz]
  have hs : val_main_v17 (F := Ideal) q kk (ix4 b (hd j) r k)
      = ((∑ x : Fin 2048, if k ≤ x then (if x < r then lsig (-(z r x * Real.log 2)) else 0) else 0 : ℝ) : EReal) := by
    unfold val_main_v17
    refine (suffix_apply _ _ (fun i => by rw [val_main_call2_v0_apply, val_main_call2_cst_apply]; exact h0) b (hd j) r k).trans ?_
    rw [← coe_sum]
    refine Finset.sum_congr rfl fun x _ => ?_
    by_cases hx : k ≤ x
    · rw [if_pos hx, if_pos hx, v16_coe q kk z b j hz]
    · rw [if_neg hx, if_neg hx]; rfl
  rw [hs]
  exact (EReal.coe_sub _ _).symm

/-- The reference's weights are the kernel's. -/
theorem v22_eq (r k : Fin 2048) : val_main_v22 (F := Ideal) q kk (ix4 b (hd j) r k) = attG (score q kk b j r) r k := by
  have h0 : Ideal.ofBits .f32 0x00000000#32 = 0 := Ideal.ofBits_zero_f32
  have hs : score q kk b j r = fun k => ((z r k : ℝ) : EReal) := funext fun k => hz r k
  rw [hs, attG_coe, val_main_v22_apply, val_main_call4_v1_apply, mask_eq _ r k rfl rfl, select_mask, val_main_v21_apply, val_main_v20_apply, v19_eq,
    v8_coe q kk z b j hz, v18_coe q kk z b j hz, lsigE_coe]
  simp only [val_main_call4_v2_apply, val_main_call4_v0_apply]
  by_cases h : k < r
  · simp only [if_pos h]
    exact congrArg Ideal.exp (EReal.coe_add _ _).symm
  · rw [if_neg h, if_neg h]
    exact h0

/-- The reference's weighted values are the kernel's. -/
theorem v25_eq (r : Fin 2048) : val_main_v25 (F := Ideal) q kk vv (ix3 b r j) = accG 0 (score q kk b j r) (fun k => vv (ix3 b k j)) r := by
  have hb := b.isLt
  have hr := r.isLt
  have hj := j.isLt
  rw [val_main_v25_apply, val_main_v24_apply, val_main_v23_apply]
  unfold accG
  refine Finset.sum_congr rfl fun k _ => ?_
  have hk := k.isLt
  rw [if_pos (by omega), ← v22_eq q kk z b j hz r k]
  refine (mul_comm (G := EReal) _ _).trans ?_
  refine congrArg₂ (fun a b : EReal => a * b) (congrArg _ (funext fun a => Fin.ext ?_)) ?_
  · match a with
    | ⟨0, _⟩ => show ((b.val * 2048 + r.val) * 2048 + j.val) / 4194304 = b.val; omega
    | ⟨1, _⟩ => show ((b.val * 2048 + r.val) * 2048 + j.val) / 128 % 16 = j.val / 128; omega
    | ⟨2, _⟩ => show ((b.val * 2048 + r.val) * 2048 + j.val) / 2048 % 2048 = r.val; omega
    | ⟨3, _⟩ => rfl
  · rw [val_main_v3_apply]
    have e0 : ((b.val * 2048 + r.val) * 2048 + j.val) / 4194304 = b.val := by omega
    have e2 : ((b.val * 2048 + r.val) * 2048 + j.val) / 128 % 16 = j.val / 128 := by omega
    have e3 : ((b.val * 2048 + r.val) * 2048 + j.val) % 128 = j.val % 128 := by omega
    refine congrArg vv (funext fun a => Fin.ext ?_)
    match a with
    | ⟨0, _⟩ =>
      show (((((b.val * 2048 + r.val) * 2048 + j.val) / 4194304 * 2048 + k.val) * 16 + ((b.val * 2048 + r.val) * 2048 + j.val) / 128 % 16) * 128
        + ((b.val * 2048 + r.val) * 2048 + j.val) % 128) / 4194304 = b.val
      rw [e0, e2, e3]; omega
    | ⟨1, _⟩ =>
      show (((((b.val * 2048 + r.val) * 2048 + j.val) / 4194304 * 2048 + k.val) * 16 + ((b.val * 2048 + r.val) * 2048 + j.val) / 128 % 16) * 128
        + ((b.val * 2048 + r.val) * 2048 + j.val) % 128) / 2048 % 2048 = k.val
      rw [e0, e2, e3]; omega
    | ⟨2, _⟩ =>
      show (((((b.val * 2048 + r.val) * 2048 + j.val) / 4194304 * 2048 + k.val) * 16 + ((b.val * 2048 + r.val) * 2048 + j.val) / 128 % 16) * 128
        + ((b.val * 2048 + r.val) * 2048 + j.val) % 128) % 2048 = j.val
      rw [e0, e2, e3]; omega

end

/-- The reference's gate is the kernel's. -/
theorem v27_eq (i : S8x2048x2048.Idx) : val_main_v27 (F := Ideal) g i = gate (g i) := by
  have h1 : Ideal.ofBits .f32 0x3F800000#32 = 1 := by
    simp [Ideal.ofBits, Ideal.ieee]
    rw [← EReal.coe_mul]
    norm_num
  simp only [val_main_v27_apply, val_main_v26_apply, val_main_call5_v5_apply, val_main_call5_v4_apply, val_main_call5_v3_apply, val_main_call5_v2_apply,
    val_main_call5_v1_apply, val_main_call5_v0_apply, val_main_call5_cst_apply, val_main_call5_cst_0_apply, Ideal.ofBits_def, h1]
  unfold gate
  show (g i : EReal) * Ideal.div 1 (1 + Ideal.exp (-(g i : EReal))) = (g i : EReal) * Ideal.div 1 (1 + Ideal.exp2 ((g i : EReal) * (Named.named Cert.KernelIdeal.κ "neg_log2e" 3216550459#32 : Ideal .f32)))
  rw [exp2_gate]

/-- Where the queries and keys are finite, the reference's result array is the kernel's. -/
theorem ref_eq (hq : ∀ i, ∃ a : ℝ, q i = (a : EReal)) (hk : ∀ i, ∃ a : ℝ, kk i = (a : EReal)) :
    val_main_v29 (F := Ideal) q kk vv g = attArr q kk vv g := by
  choose qr hqr using hq
  choose kr hkr using hk
  funext y
  obtain ⟨b, r, j, rfl⟩ : ∃ (b : Fin 8) (r j : Fin 2048), y = ix3 b r j := ⟨y 0, y 1, y 2, eq_ix3 y⟩
  have hz : ∀ r k, score q kk b j r k = ((∑ d : Fin 128, qr (ix3 b r (hcol j d)) * kr (ix3 b k (hcol j d)) : ℝ) : EReal) := by
    intro r k
    unfold score
    rw [← coe_sum]
    refine Finset.sum_congr rfl fun d _ => ?_
    rw [hqr, hkr]
    exact (EReal.coe_mul _ _).symm
  rw [val_main_v29_apply, val_main_v28_apply, v27_eq, v25_eq q kk vv (fun r k => ∑ d : Fin 128, qr (ix3 b r (hcol j d)) * kr (ix3 b k (hcol j d))) b j hz]
  rfl

end Cert.Att
end
-- ==== Proof.Att.Finite.lean ====
/- What the precondition says of the queries and the keys: every element of each is a real number. -/
module

public import proofs.«01_k».proof.Defs
public import proofs.«01_k».proof.Proof.Gen.Pre_finite
public import Idealize.ShloMosaic.Lib.ReduceAll

@[expose] public section

noncomputable section

namespace Cert.Att

open Idealize.ShloMosaic

/-- A value whose magnitude is below the infinity word is a real number. -/
theorem real_of_abs_lt (x : EReal) (h : Ideal.cmp .olt (max x (-x)) (Ideal.ofBits .f32 0x7F800000#32) = 1#1) :
    ∃ a : ℝ, x = (a : EReal) := by
  have htop : Ideal.ofBits .f32 0x7F800000#32 = ⊤ := by simp [Ideal.ofBits, Ideal.ieee]
  rw [htop] at h
  unfold Ideal.cmp at h
  induction x using EReal.rec with
  | bot => simp at h
  | top => simp at h
  | coe a => exact ⟨a, rfl⟩

/-- The result of a reduction over every axis has one index. -/
theorem one_index (i j : Cert.Pre_finite.S_.Idx) : i = j := by
  funext a
  exact a.elim0

/-- Of two bits whose conjunction is one, each is one. -/
theorem and_one (a b : BitVec 1) (h : IntOp.andi a b = 1#1) : a = 1#1 ∧ b = 1#1 := by
  revert a b
  decide

/-- Where the precondition holds, the queries and the keys are real numbers throughout. -/
theorem real_of_pre (q : FVec Ideal Cert.Pre_finite.S8x2048x2048 .bf16) (kk vv : FVec Ideal Cert.Pre_finite.S8x2048x2048 .f32)
    (g : FVec Ideal Cert.Pre_finite.S8x2048x2048 .bf16) (h : Cert.Pre_finite.fn (F := Ideal) q kk vv g = fun _ => 1#1) :
    (∀ i, ∃ a : ℝ, q i = (a : EReal)) ∧ ∀ i, ∃ a : ℝ, kk i = (a : EReal) := by
  haveI : Subsingleton Cert.Pre_finite.S_.Idx := ⟨one_index⟩
  have j : Cert.Pre_finite.S_.Idx := fun a => a.elim0
  have hj := and_one _ _ (congrFun h j)
  exact ⟨fun i => real_of_abs_lt _ (Host.reduce_andi_all _ _ _ _ j hj.1 i),
    fun i => real_of_abs_lt _ (Host.reduce_andi_all _ _ _ _ j hj.2 i)⟩

end Cert.Att

end
-- ==== Proof.Proj.Kinds.lean ====
module
public import Idealize.ShloMosaic.Lib.Pipeline.ValueKit

/-! The ten kinds of step of the input projection, by the nine conditions its body branches on. -/

@[expose] public section
noncomputable section
namespace Cert.Proj

/-- Which of the nine conditions hold together at a step. -/
def Kinds (c1 c2 c3 c4 c5 c6 c7 c8 c9 : Prop) : Prop :=
  (¬ c1 ∧ c2 ∧ ¬ c3 ∧ ¬ c4 ∧ ¬ c5 ∧ ¬ c6 ∧ ¬ c7 ∧ ¬ c8 ∧ ¬ c9)
    ∨ (¬ c1 ∧ ¬ c2 ∧ ¬ c3 ∧ ¬ c4 ∧ ¬ c5 ∧ ¬ c6 ∧ ¬ c7 ∧ ¬ c8 ∧ ¬ c9)
    ∨ (c1 ∧ ¬ c2 ∧ c3 ∧ ¬ c4 ∧ ¬ c5 ∧ ¬ c6 ∧ ¬ c7 ∧ ¬ c8 ∧ ¬ c9)
    ∨ (¬ c1 ∧ ¬ c2 ∧ c3 ∧ ¬ c4 ∧ ¬ c5 ∧ ¬ c6 ∧ ¬ c7 ∧ ¬ c8 ∧ ¬ c9)
    ∨ (¬ c1 ∧ ¬ c2 ∧ ¬ c3 ∧ c4 ∧ ¬ c5 ∧ ¬ c6 ∧ ¬ c7 ∧ ¬ c8 ∧ ¬ c9)
    ∨ (¬ c1 ∧ ¬ c2 ∧ ¬ c3 ∧ ¬ c4 ∧ c5 ∧ ¬ c6 ∧ ¬ c7 ∧ ¬ c8 ∧ ¬ c9)
    ∨ (¬ c1 ∧ ¬ c2 ∧ ¬ c3 ∧ ¬ c4 ∧ ¬ c5 ∧ c6 ∧ ¬ c7 ∧ ¬ c8 ∧ ¬ c9)
    ∨ (¬ c1 ∧ ¬ c2 ∧ ¬ c3 ∧ ¬ c4 ∧ ¬ c5 ∧ ¬ c6 ∧ c7 ∧ ¬ c8 ∧ ¬ c9)
    ∨ (¬ c1 ∧ ¬ c2 ∧ ¬ c3 ∧ ¬ c4 ∧ ¬ c5 ∧ ¬ c6 ∧ ¬ c7 ∧ c8 ∧ ¬ c9)
    ∨ (¬ c1 ∧ ¬ c2 ∧ ¬ c3 ∧ ¬ c4 ∧ ¬ c5 ∧ ¬ c6 ∧ ¬ c7 ∧ ¬ c8 ∧ c9)

/-- At row block `a` and step `b` they do as `Kinds` says. -/
theorem kinds_of {c1 c2 c3 c4 c5 c6 c7 c8 c9 : Prop} {a b : ℕ} (hb : b < 29) (e1 : c1 ↔ b = 0 ∧ 0 < a) (e2 : c2 ↔ a = 0 ∧ b < 8) (e3 : c3 ↔ b < 4 ∧ 0 < a)
    (e4 : c4 ↔ (4 ≤ b ∧ b < 8) ∧ 0 < a) (e5 : c5 ↔ (8 ≤ b ∧ b < 12) ∧ 0 < a) (e6 : c6 ↔ (12 ≤ b ∧ b < 16) ∧ 0 < a) (e7 : c7 ↔ (16 ≤ b ∧ b < 24) ∧ 0 < a)
    (e8 : c8 ↔ (24 ≤ b ∧ b < 28) ∧ 0 < a) (e9 : c9 ↔ b = 28 ∧ 0 < a) : Kinds c1 c2 c3 c4 c5 c6 c7 c8 c9 := by
  rw [e1, e2, e3, e4, e5, e6, e7, e8, e9]
  have h : (a = 0 ∧ b < 8) ∨ (a = 0 ∧ 8 ≤ b) ∨ (0 < a ∧ b = 0) ∨ (0 < a ∧ 0 < b ∧ b < 4) ∨ (0 < a ∧ 4 ≤ b ∧ b < 8) ∨ (0 < a ∧ 8 ≤ b ∧ b < 12)
      ∨ (0 < a ∧ 12 ≤ b ∧ b < 16) ∨ (0 < a ∧ 16 ≤ b ∧ b < 24) ∨ (0 < a ∧ 24 ≤ b ∧ b < 28) ∨ (0 < a ∧ b = 28) := by omega
  rcases h with h | h | h | h | h | h | h | h | h | h
  · refine .inl ⟨?_, ?_, ?_, ?_, ?_, ?_, ?_, ?_, ?_⟩ <;> omega
  · refine .inr (.inl ⟨?_, ?_, ?_, ?_, ?_, ?_, ?_, ?_, ?_⟩) <;> omega
  · refine .inr (.inr (.inl ⟨?_, ?_, ?_, ?_, ?_, ?_, ?_, ?_, ?_⟩)) <;> omega
  · refine .inr (.inr (.inr (.inl ⟨?_, ?_, ?_, ?_, ?_, ?_, ?_, ?_, ?_⟩))) <;> omega
  · refine .inr (.inr (.inr (.inr (.inl ⟨?_, ?_, ?_, ?_, ?_, ?_, ?_, ?_, ?_⟩)))) <;> omega
  · refine .inr (.inr (.inr (.inr (.inr (.inl ⟨?_, ?_, ?_, ?_, ?_, ?_, ?_, ?_, ?_⟩))))) <;> omega
  · refine .inr (.inr (.inr (.inr (.inr (.inr (.inl ⟨?_, ?_, ?_, ?_, ?_, ?_, ?_, ?_, ?_⟩)))))) <;> omega
  · refine .inr (.inr (.inr (.inr (.inr (.inr (.inr (.inl ⟨?_, ?_, ?_, ?_, ?_, ?_, ?_, ?_, ?_⟩))))))) <;> omega
  · refine .inr (.inr (.inr (.inr (.inr (.inr (.inr (.inr (.inl ⟨?_, ?_, ?_, ?_, ?_, ?_, ?_, ?_, ?_⟩)))))))) <;> omega
  · refine .inr (.inr (.inr (.inr (.inr (.inr (.inr (.inr (.inr (⟨?_, ?_, ?_, ?_, ?_, ?_, ?_, ?_, ?_⟩))))))))) <;> omega

end Cert.Proj
end
-- ==== Proof.Inp.Conds.lean ====
module
public import proofs.«01_k».proof.Proof.Gen.InProjIdeal.Skeleton
public import proofs.«01_k».proof.Proof.Proj.Kinds

/-! The branch conditions of the projection's body, and the rows it normalises, in terms of the row block `i 0` and the step `i 1`. -/

@[expose] public section
set_option maxRecDepth 16384
noncomputable section
namespace Cert.Inp
open Cert.InProjIdeal Cert.InProjIdeal.Gen Idealize.ShloMosaic Idealize.SL.Sem

/-- The first condition: a row block's first step, the first row block apart. -/
abbrev cond1 (i : grid0.Coords) : BitVec 1 :=
  Scalar.cmpi .ne (Scalar.extui (Scalar.andi (Scalar.cmpi .eq (BitVec.ofNat 32 (i 1).val) 0#32) (Scalar.cmpi .sgt (BitVec.ofNat 32 (i 0).val) 0#32)) : BitVec 32) 0#32

theorem cond1_iff (i : grid0.Coords) : cond1 i = 1#1 ↔ (i 1).val = 0 ∧ 0 < (i 0).val :=
  (by decide +kernel : ∀ (a : Fin 17) (b : Fin 29),
    Scalar.cmpi .ne (Scalar.extui (Scalar.andi (Scalar.cmpi .eq (BitVec.ofNat 32 b.val) 0#32) (Scalar.cmpi .sgt (BitVec.ofNat 32 a.val) 0#32)) : BitVec 32) 0#32 = 1#1
      ↔ b.val = 0 ∧ 0 < a.val) (i 0) (i 1)

/-- A statement of a row block and a step, decided over all of them. -/
theorem grid_forall {p : grid0.Coords → Prop} (h : ∀ (a : Fin 17) (b : Fin 29), p (fun | 0 => a | 1 => b)) (i : grid0.Coords) : p i := by
  have e : i = (fun | 0 => i 0 | 1 => i 1) := by
    funext t
    match t with
    | 0 => rfl
    | 1 => rfl
  rw [e]; exact h (i 0) (i 1)

theorem cond2_iff (i : grid0.Coords) : k0_cond2 i = 1#1 ↔ (i 0).val = 0 ∧ (i 1).val < 8 :=
  grid_forall (p := fun i => k0_cond2 i = 1#1 ↔ (i 0).val = 0 ∧ (i 1).val < 8) (by decide +kernel) i
theorem cond3_iff (i : grid0.Coords) : k0_cond3 i = 1#1 ↔ (i 1).val < 4 ∧ 0 < (i 0).val :=
  grid_forall (p := fun i => k0_cond3 i = 1#1 ↔ (i 1).val < 4 ∧ 0 < (i 0).val) (by decide +kernel) i
theorem cond4_iff (i : grid0.Coords) : k0_cond4 i = 1#1 ↔ (4 ≤ (i 1).val ∧ (i 1).val < 8) ∧ 0 < (i 0).val :=
  grid_forall (p := fun i => k0_cond4 i = 1#1 ↔ (4 ≤ (i 1).val ∧ (i 1).val < 8) ∧ 0 < (i 0).val) (by decide +kernel) i
theorem cond5_iff (i : grid0.Coords) : k0_cond5 i = 1#1 ↔ (8 ≤ (i 1).val ∧ (i 1).val < 12) ∧ 0 < (i 0).val :=
  grid_forall (p := fun i => k0_cond5 i = 1#1 ↔ (8 ≤ (i 1).val ∧ (i 1).val < 12) ∧ 0 < (i 0).val) (by decide +kernel) i
theorem cond6_iff (i : grid0.Coords) : k0_cond6 i = 1#1 ↔ (12 ≤ (i 1).val ∧ (i 1).val < 16) ∧ 0 < (i 0).val :=
  grid_forall (p := fun i => k0_cond6 i = 1#1 ↔ (12 ≤ (i 1).val ∧ (i 1).val < 16) ∧ 0 < (i 0).val) (by decide +kernel) i
theorem cond7_iff (i : grid0.Coords) : k0_cond7 i = 1#1 ↔ (16 ≤ (i 1).val ∧ (i 1).val < 24) ∧ 0 < (i 0).val :=
  grid_forall (p := fun i => k0_cond7 i = 1#1 ↔ (16 ≤ (i 1).val ∧ (i 1).val < 24) ∧ 0 < (i 0).val) (by decide +kernel) i
theorem cond8_iff (i : grid0.Coords) : k0_cond8 i = 1#1 ↔ (24 ≤ (i 1).val ∧ (i 1).val < 28) ∧ 0 < (i 0).val :=
  grid_forall (p := fun i => k0_cond8 i = 1#1 ↔ (24 ≤ (i 1).val ∧ (i 1).val < 28) ∧ 0 < (i 0).val) (by decide +kernel) i
theorem cond9_iff (i : grid0.Coords) : k0_cond9 i = 1#1 ↔ (i 1).val = 28 ∧ 0 < (i 0).val :=
  grid_forall (p := fun i => k0_cond9 i = 1#1 ↔ (i 1).val = 28 ∧ 0 < (i 0).val) (by decide +kernel) i
theorem off1_eq (i : grid0.Coords) : k0_off1 i = ![128 * (i 1).val, 0] :=
  grid_forall (p := fun i => k0_off1 i = ![128 * (i 1).val, 0]) (by decide +kernel) i
theorem off2_eq (i : grid0.Coords) : k0_off2 i = ![128 * (i 1).val, 0] :=
  grid_forall (p := fun i => k0_off2 i = ![128 * (i 1).val, 0]) (by decide +kernel) i
theorem off3_eq (i : grid0.Coords) : k0_off3 i = ![128 * (i 1).val, 0] :=
  grid_forall (p := fun i => k0_off3 i = ![128 * (i 1).val, 0]) (by decide +kernel) i

/-- The kind of a step. -/
theorem kinds (i : grid0.Coords) : Cert.Proj.Kinds (cond1 i = 1#1) (k0_cond2 i = 1#1) (k0_cond3 i = 1#1) (k0_cond4 i = 1#1) (k0_cond5 i = 1#1)
    (k0_cond6 i = 1#1) (k0_cond7 i = 1#1) (k0_cond8 i = 1#1) (k0_cond9 i = 1#1) :=
  Cert.Proj.kinds_of (i 1).isLt (cond1_iff i) (cond2_iff i) (cond3_iff i) (cond4_iff i) (cond5_iff i) (cond6_iff i) (cond7_iff i) (cond8_iff i) (cond9_iff i)

end Cert.Inp
end
-- ==== Proof.Carry.Mem.lean ====
module
public import Idealize.ShloMosaic.Lib.Pipeline.ReadBack
public import Idealize.ShloMosaic.Lib.VecWindow
public import Idealize.ShloMosaic.Lib.Pipeline.ValueKit

/-! Loads and stores of whole buffers and of their parts, for any program's buffers. -/

@[expose] public section
set_option maxRecDepth 16384
noncomputable section
namespace Cert.Carry
open Idealize.ShloMosaic Idealize.ShloMosaic.TcCoe Idealize.SL.Sem
open Idealize.ShloMosaic.VecWindow (window put)

variable {sig : RefSig} {F : FTy → Type} [FloatOps F]

/-- A load of a whole buffer reads what it holds. -/
theorem load_whole {s : Shape} {e : EltTy} (a : Memref sig .tc .vmem s e) (h : a.IsWhole) (x : Vec F s e) {off : Fin s.rank → Nat}
    (inb : ∀ t, off t + s.size t ≤ s.size t) : View.readAt (Elt F) a.view (Rect.unit off s.size inb).toLoadRect (h.unread x) = x := by
  rw [View.readAt_full, h.read_unread]

/-- A load of a part of a buffer reads that part of what it holds. -/
theorem load_part {s : Shape} {e : EltTy} (a : Memref sig .tc .vmem s e) (h : a.IsWhole) (x : Vec F s e) {off size : Fin s.rank → Nat}
    (inb : ∀ t, off t + size t ≤ s.size t) : View.readAt (Elt F) a.view (Rect.unit off size inb).toLoadRect (h.unread x) = window x off size inb := by
  rw [View.readAt_unit _ _ inb rfl inb, h.read_unread]

/-- A load of a whole buffer just stored whole reads what was stored. -/
theorem load_stored {s : Shape} {e : EltTy} (a : Memref sig .tc .vmem s e) (off : Fin s.rank → Nat)
    (inb : ∀ t, off t + s.size t ≤ s.size t) (w : Vec F s e) : a.view.readCov [⟨Rect.unit off s.size inb, w⟩] (Rect.unit off s.size inb).toLoadRect = w :=
  View.readCov_cons_toLoadRect _ _ _ _

/-- A store of a whole buffer leaves there what it stores. -/
theorem store_whole {s : Shape} {e : EltTy} (a : Memref sig .tc .vmem s e) (f : a.view.ty.Contents (Elt F)) {off : Fin s.rank → Nat}
    (inb : ∀ t, off t + s.size t ≤ s.size t) (w : Vec F s e) (l : List (View.Piece (Elt F) s e)) : View.read (Elt F) a.view (a.view.writes (Elt F) f (⟨Rect.unit off s.size inb, w⟩ :: l)) = w :=
  View.read_writes_full _ _ inb w l

/-- Two stores of parts leave those parts put over what the buffer held. -/
theorem store_two {s : Shape} {e : EltTy} (a : Memref sig .tc .vmem s e) (h : a.IsWhole) (x : Vec F s e) {off off1 size off' off1' size' : Fin s.rank → Nat}
    (inb : ∀ t, off t + size t ≤ s.size t) (inb' : ∀ t, off' t + size' t ≤ s.size t) (w : (Rect.unit off size inb).shape.Idx → Elt F e) (w' : (Rect.unit off' size' inb').shape.Idx → Elt F e)
    (h1 : off = off1) (h2 : off' = off1') :
    View.read (Elt F) a.view (a.view.writes (Elt F) (h.unread x) [⟨Rect.unit off size inb, w⟩, ⟨Rect.unit off' size' inb', w'⟩]) = put (put x off1' size' w') off1 size w := by
  rw [View.read_writes_cons_put _ _ inb w _ h1, View.read_writes_cons_put _ _ inb' w' _ h2, View.writes_nil, h.read_unread]

end Cert.Carry
end
-- ==== Proof.Proj.Step.lean ====
module
public import Idealize.ShloMosaic.Lib.Pipeline.ReadBack
public import Idealize.ShloMosaic.Lib.VecWindow
public import Idealize.ShloMosaic.Lib.Pipeline.ValueKit

/-! The input projection with row blocks of any size: what its two carried buffers hold before each step, and that a step keeps it so.
    A row block has `R` rows, normalised in eight strips of `s`; the blocks are numbered from 0 to `L`, and each has 29 steps. -/

@[expose] public section
set_option maxRecDepth 16384
noncomputable section
namespace Cert.Proj
open Idealize.ShloMosaic Idealize.ShloMosaic.TcCoe Idealize.SL.Sem

/-- The shape of `n` rows. -/
abbrev SB (n : ℕ) : Shape := ⟨2, ![n, 4096]⟩

/-- A row over the root of its mean square (and a small constant), weighted. -/
def nrm (x w : Fin 4096 → EReal) (d : Fin 4096) : EReal :=
  x d * Ideal.rsqrt (Ideal.div (∑ e, x e * x e) (Ideal.ofBits .f32 0x45800000#32) + Ideal.ofBits .f32 0x358637BD#32) * w d

/-- A row times a weight row. -/
def dot (h w : Fin 4096 → EReal) : EReal := ∑ d, h d * w d

/-- A store of some rows lays them over what the buffer held. -/
theorem store_rows {sig : RefSig} {F : FTy → Type} [FloatOps F] {s : Shape} {e : EltTy} (a : Memref sig .tc .vmem s e) (h : a.IsWhole) (x : Vec F s e)
    (r : Rect s) (w : r.shape.Idx → Elt F e) : View.read (Elt F) a.view (a.view.writes (Elt F) (h.unread x) [⟨r, w⟩]) = r.overlay x w := by
  funext y
  by_cases hy : y ∈ r.set
  · obtain ⟨i, -, rfl⟩ := Finset.mem_map.mp (show y ∈ Finset.univ.map r.emb by rw [Rect.map_emb_univ]; exact hy)
    rw [View.read_writes_cons_emb, r.overlay_emb]
  · rw [View.read_writes_cons_miss _ _ _ _ _ hy, r.overlay_of_not_mem _ _ hy]
    exact congrFun (h.read_unread x) y

/-- Before step `n`: the strips of the row block normalised so far; at a row block's first step all the rows of the block before;
    at its later steps those rows in the buffer the tiles are taken from. -/
def Inv (R s L : ℕ) (f : ℕ → Fin 4096 → EReal) (n : ℕ) (h hn : Vec Ideal (SB R) .bf16) : Prop :=
  (∀ (a : Fin R) (d : Fin 4096), a.val < s * (n % 29) → hn (ix2 a d) = f (R * min (n / 29) L + a) d)
  ∧ (n < 29 * (L + 2) → n % 29 = 0 → 0 < n / 29 → ∀ (a : Fin R) (d : Fin 4096), hn (ix2 a d) = f (R * (n / 29 - 1) + a) d)
  ∧ (0 < n % 29 → 0 < n / 29 → ∀ (a : Fin R) (d : Fin 4096), h (ix2 a d) = f (R * (n / 29 - 1) + a) d)

/-- What step `t` makes of the two buffers: a row block's first step takes the normalised rows over, and the first eight normalise a strip each. -/
structure Moves (R s L : ℕ) (f : ℕ → Fin 4096 → EReal) (t : ℕ) (h hn h' hn' : Vec Ideal (SB R) .bf16) : Prop where
  over : t % 29 = 0 → 0 < t / 29 → ∀ (a : Fin R) (d : Fin 4096), h' (ix2 a d) = hn (ix2 a d)
  same : 0 < t % 29 → h' = h
  strip : t % 29 < 8 → ∀ (a : Fin R) (d : Fin 4096), hn' (ix2 a d)
    = if s * (t % 29) ≤ a.val ∧ a.val < s * (t % 29) + s then f (R * min (t / 29) L + a) d else hn (ix2 a d)
  rest : 8 ≤ t % 29 → hn' = hn

variable {R s L t : ℕ} {f : ℕ → Fin 4096 → EReal} {h hn h' hn' : Vec Ideal (SB R) .bf16}

/-- Nothing is asked before the first step. -/
theorem inv_zero (h hn : Vec Ideal (SB R) .bf16) : Inv R s L f 0 h hn :=
  ⟨fun a d ha => absurd ha (by simp), fun _ _ h0 => absurd h0 (by decide), fun h0 => absurd h0 (by decide)⟩

/-- The rows a step takes its tile from are those of the row block before. -/
theorem taken (ht : t < 29 * (L + 2)) (hI : Inv R s L f t h hn) (hm : Moves R s L f t h hn h' hn') (h0 : 0 < t / 29) (a : Fin R) (d : Fin 4096) :
    h' (ix2 a d) = f (R * (t / 29 - 1) + a) d := by
  obtain ⟨-, hB, hC⟩ := hI
  by_cases hz : t % 29 = 0
  · rw [hm.over hz h0]
    exact hB ht hz h0 a d
  · rw [hm.same (Nat.pos_of_ne_zero hz)]
    exact hC (Nat.pos_of_ne_zero hz) h0 a d

/-- After a step the strips normalised so far include its own. -/
theorem filled (hR : R = 8 * s) (hI : Inv R s L f t h hn) (hm : Moves R s L f t h hn h' hn') (a : Fin R) (d : Fin 4096) (ha : a.val < s * (t % 29) + s) :
    hn' (ix2 a d) = f (R * min (t / 29) L + a) d := by
  obtain ⟨hA, -, -⟩ := hI
  by_cases h8 : t % 29 < 8
  · rw [hm.strip h8]
    by_cases hs : s * (t % 29) ≤ a.val ∧ a.val < s * (t % 29) + s
    · rw [if_pos hs]
    · rw [if_neg hs]
      exact hA a d (by omega)
  · rw [hm.rest (by omega)]
    have hal := a.isLt
    have h9 : s * 8 ≤ s * (t % 29) := Nat.mul_le_mul_left s (by omega)
    exact hA a d (by omega)

/-- A step keeps what the carried buffers hold. -/
theorem inv_succ (hR : R = 8 * s) (ht : t < 29 * (L + 2)) (hI : Inv R s L f t h hn) (hm : Moves R s L f t h hn h' hn') : Inv R s L f (t + 1) h' hn' := by
  refine ⟨fun a d ha => ?_, fun hl hz hp a d => ?_, fun hj hp a d => ?_⟩
  · have hd : (t + 1) / 29 = t / 29 := by
      by_contra hc
      have hz : (t + 1) % 29 = 0 := by omega
      rw [hz] at ha
      exact absurd ha (by simp)
    have hk : (t + 1) % 29 = t % 29 + 1 := by omega
    rw [hk, Nat.mul_add, Nat.mul_one] at ha
    rw [hd]
    exact filled hR hI hm a d ha
  · have hal := a.isLt
    have h9 : s * 8 ≤ s * (t % 29) := Nat.mul_le_mul_left s (by omega)
    have hd : (t + 1) / 29 - 1 = min (t / 29) L := by omega
    rw [hd]
    exact filled hR hI hm a d (by omega)
  · have hd : (t + 1) / 29 = t / 29 := by omega
    rw [hd] at hp ⊢
    exact taken ht hI hm hp a d

/-- A strip of rows laid over an array's, read at a row. -/
theorem overlay_strip (j b : ℕ) (off : Fin 2 → ℕ) (ho : off = ![s * j, 0]) (inb : ∀ a, off a + (SB s).size a ≤ (SB R).size a)
    (n : Vec Ideal (SB R) .bf16) (w : Vec Ideal (SB s) .bf16) (hw : ∀ (a : Fin s) (d : Fin 4096), w (ix2 a d) = f (b + s * j + a) d) (a : Fin R) (d : Fin 4096) :
    (Rect.unit (s := SB R) off (SB s).size inb).overlay n w (ix2 a d)
      = if s * j ≤ a.val ∧ a.val < s * j + s then f (b + a) d else n (ix2 a d) := by
  subst ho
  by_cases h : s * j ≤ a.val ∧ a.val < s * j + s
  · rw [if_pos h]
    have he : (ix2 a d : (SB R).Idx) = (Rect.unit (s := SB R) ![s * j, 0] (SB s).size inb).emb (ix2 (⟨a.val - s * j, by omega⟩ : Fin s) d) := by
      funext b
      match b with
      | ⟨0, _⟩ => exact Fin.ext (show a.val = s * j + 1 * (a.val - s * j) by omega)
      | ⟨1, _⟩ => exact Fin.ext (show d.val = 0 + 1 * d.val by omega)
    rw [he]
    refine (Rect.overlay_emb _ _ _ _).trans ((hw _ d).trans (congrArg (fun r => f r d) ?_))
    show b + s * j + (a.val - s * j) = b + a.val
    omega
  · rw [if_neg h]
    refine Rect.overlay_of_not_mem _ _ _ fun hm => h ?_
    obtain ⟨y, -, hy⟩ := Finset.mem_map.mp (show (ix2 a d : (SB R).Idx) ∈ Finset.univ.map (Rect.emb _) by rw [Rect.map_emb_univ]; exact hm)
    have h2 : s * j + 1 * (y 0).val = a.val := congrArg Fin.val (congrFun hy 0)
    have h3 : (y 0).val < s := (y 0).isLt
    omega

end Cert.Proj
end
-- ==== Proof.Inp.Run.lean ====
module
public import proofs.«01_k».proof.Proof.Inp.Conds
public import proofs.«01_k».proof.Proof.Gen.InProjIdeal.Frame
public import Idealize.ShloMosaic.Lib.Pipeline.ReadBack
public import proofs.«01_k».proof.Proof.Carry.Mem
public import proofs.«01_k».proof.Proof.Proj.Step

/-! One step of the projection's body: what it leaves in each buffer, of what it found there. -/

@[expose] public section
set_option maxRecDepth 16384
noncomputable section
namespace Cert.Inp
open Cert.Carry Cert.Proj Cert.InProjIdeal Cert.InProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The row block the tiles are taken from, after a step: at a row block's first step it takes over the rows normalised before. -/
def hAfter (i : grid0.Coords) (h n : Vec F S1024x4096 .bf16) : Vec F S1024x4096 .bf16 := if cond1 i = 1#1 then k0_pay5 n else h

/-- The rows normalised so far, after a step: its own 128 rows written over. -/
def nAfter (i : grid0.Coords) (x : Vec F S128x4096 .f32) (w : Vec F S1x4096 .f32) (n : Vec F S1024x4096 .bf16) : Vec F S1024x4096 .bf16 :=
  if h2 : k0_cond2 i = 1#1 then (Rect.unit (s := S1024x4096) (k0_off1 i) S128x4096.size (k0_off1_inb i h2)).overlay n (k0_pay6 x w)
  else if h3 : k0_cond3 i = 1#1 then (Rect.unit (s := S1024x4096) (k0_off2 i) S128x4096.size (k0_off2_inb i h3)).overlay n (k0_pay8 x w)
  else if h4 : k0_cond4 i = 1#1 then (Rect.unit (s := S1024x4096) (k0_off3 i) S128x4096.size (k0_off3_inb i h4)).overlay n (k0_pay10 x w)
  else n

set_option maxHeartbeats 4000000 in
/-- The body at any step, on whole buffers at any contents. -/
theorem body_run (c : Dev nD) (i : grid0.Coords) (arg2 : Memref sig .tc .vmem S128x4096 .f32) (harg2 : arg2.IsWhole) (arg3 : Memref sig .tc .vmem S1x4096 .f32) (harg3 : arg3.IsWhole) (arg4 : Memref sig .tc .vmem S512x4096 .bf16) (harg4 : arg4.IsWhole) (arg5 : Memref sig .tc .vmem S128x4096 .bf16) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x128 .f32) (harg12 : arg12.IsWhole) (arg13 : Memref sig .tc .vmem S1024x4096 .bf16) (harg13 : arg13.IsWhole) (arg14 : Memref sig .tc .vmem S1024x4096 .bf16) (harg14 : arg14.IsWhole)
    (x2 : Vec F S128x4096 .f32) (x3 : Vec F S1x4096 .f32) (x4 : Vec F S512x4096 .bf16) (x5 : Vec F S128x4096 .bf16) (x6 : Vec F S1024x512 .bf16) (x7 : Vec F S1024x512 .f32) (x8 : Vec F S1024x512 .f32) (x9 : Vec F S1024x512 .bf16) (x10 : Vec F S1024x512 .f32) (x11 : Vec F S1024x512 .bf16) (x12 : Vec F S1024x128 .f32) (x13 : Vec F S1024x4096 .bf16) (x14 : Vec F S1024x4096 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (if k0_cond3 i = 1#1 then k0_pay7 (hAfter i x13 x14) x4 else x6) ∗ owns (c : Thread nD τ) arg7 fullShare (if k0_cond4 i = 1#1 then k0_pay9 (hAfter i x13 x14) x4 else x7) ∗ owns (c : Thread nD τ) arg8 fullShare (if k0_cond5 i = 1#1 then k0_pay11 (hAfter i x13 x14) x4 else x8) ∗ owns (c : Thread nD τ) arg9 fullShare (if k0_cond6 i = 1#1 then k0_pay1 (hAfter i x13 x14) x4 else x9) ∗ owns (c : Thread nD τ) arg10 fullShare (if k0_cond7 i = 1#1 then k0_pay2 (hAfter i x13 x14) x4 else x10) ∗ owns (c : Thread nD τ) arg11 fullShare (if k0_cond8 i = 1#1 then k0_pay3 (hAfter i x13 x14) x4 else x11) ∗ owns (c : Thread nD τ) arg12 fullShare (if k0_cond9 i = 1#1 then k0_pay4 (hAfter i x13 x14) x5 else x12) ∗ owns (c : Thread nD τ) arg13 fullShare (hAfter i x13 x14) ∗ owns (c : Thread nD τ) arg14 fullShare (nAfter i x2 x3 x14)) -∗ K ⟨⟩))
    ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  simp only [cc0_in_proj_eq_skeleton]; unfold cc0_in_proj_skel
  simp only [k0_part1_eq_skeleton]
  rcases kinds i with ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩
  all_goals
    sl_exec
    sl_step
    iapply Hk
    isplitl [H2]
    · iexists _; isplitr; swap; · iexact H2
      ipureintro
      exact harg2.read_unread _
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact harg5.read_unread _
    isplitl [H6]
    · iexists _; isplitr; swap; · iexact H6
      ipureintro
      first | (rw [if_neg h3]; exact harg6.read_unread _)
            | (rw [if_pos h3, hAfter, if_neg h1, store_whole, load_whole, load_whole])
            | (rw [if_pos h3, hAfter, if_pos h1, store_whole]; unfold body_run.sl.v57; unfold body_run.sl.H13_1; rw [load_stored, load_whole, load_whole])
    isplitl [H7]
    · iexists _; isplitr; swap; · iexact H7
      ipureintro
      first | (rw [if_neg h4]; exact harg7.read_unread _)
            | (rw [if_pos h4, hAfter, if_neg h1, store_whole, load_whole, load_whole])
            | (rw [if_pos h4, hAfter, if_pos h1, store_whole]; unfold body_run.sl.v57; unfold body_run.sl.H13_1; rw [load_stored, load_whole, load_whole])
    isplitl [H8]
    · iexists _; isplitr; swap; · iexact H8
      ipureintro
      first | (rw [if_neg h5]; exact harg8.read_unread _)
            | (rw [if_pos h5, hAfter, if_neg h1, store_whole, load_whole, load_whole])
            | (rw [if_pos h5, hAfter, if_pos h1, store_whole]; unfold body_run.sl.v57; unfold body_run.sl.H13_1; rw [load_stored, load_whole, load_whole])
    isplitl [H9]
    · iexists _; isplitr; swap; · iexact H9
      ipureintro
      first | (rw [if_neg h6]; exact harg9.read_unread _)
            | (rw [if_pos h6, hAfter, if_neg h1, store_whole, load_whole, load_whole])
            | (rw [if_pos h6, hAfter, if_pos h1, store_whole]; unfold body_run.sl.v57; unfold body_run.sl.H13_1; rw [load_stored, load_whole, load_whole])
    isplitl [H10]
    · iexists _; isplitr; swap; · iexact H10
      ipureintro
      first | (rw [if_neg h7]; exact harg10.read_unread _)
            | (rw [if_pos h7, hAfter, if_neg h1, store_whole, load_whole, load_whole])
            | (rw [if_pos h7, hAfter, if_pos h1, store_whole]; unfold body_run.sl.v57; unfold body_run.sl.H13_1; rw [load_stored, load_whole, load_whole])
    isplitl [H11]
    · iexists _; isplitr; swap; · iexact H11
      ipureintro
      first | (rw [if_neg h8]; exact harg11.read_unread _)
            | (rw [if_pos h8, hAfter, if_neg h1, store_whole, load_whole, load_whole])
            | (rw [if_pos h8, hAfter, if_pos h1, store_whole]; unfold body_run.sl.v57; unfold body_run.sl.H13_1; rw [load_stored, load_whole, load_whole])
    isplitl [H12]
    · iexists _; isplitr; swap; · iexact H12
      ipureintro
      first | (rw [if_neg h9]; exact harg12.read_unread _)
            | (rw [if_pos h9, hAfter, if_neg h1, store_whole, load_whole, load_whole])
            | (rw [if_pos h9, hAfter, if_pos h1, store_whole]; unfold body_run.sl.v57; unfold body_run.sl.H13_1; rw [load_stored, load_whole, load_whole])
    isplitl [H13]
    · iexists _; isplitr; swap; · iexact H13
      ipureintro
      first | (rw [hAfter, if_neg h1]; exact harg13.read_unread _)
            | (unfold body_run.sl.H13_1; rw [hAfter, if_pos h1, store_whole, load_whole])
    iexists _; isplitr; swap; · iexact H14
    ipureintro
    first | (rw [nAfter, dif_neg h2, dif_neg h3, dif_neg h4]; exact harg14.read_unread _)
          | (rw [nAfter, dif_pos h2, store_rows, load_whole, load_whole])
          | (rw [nAfter, dif_neg h2, dif_pos h3, store_rows, load_whole, load_whole])
          | (rw [nAfter, dif_neg h2, dif_neg h3, dif_pos h4, store_rows, load_whole, load_whole])

end Cert.Inp
end
-- ==== Proof.Inp.Pay.lean ====
module
public import proofs.«01_k».proof.Proof.Inp.Run

/-! The values one step computes, element by element: a row divided by its root mean square and weighted, and a row times a weight row. -/

@[expose] public section
set_option maxRecDepth 16384
noncomputable section
namespace Cert.Inp
open Cert.Proj Cert.InProjIdeal Cert.InProjIdeal.Gen Idealize.ShloMosaic Idealize.ShloMosaic.TcCoe Idealize.ShloMosaic.Tactic Idealize.SL.Sem

/-- The copy of the normalised rows. -/
theorem pay5_apply (h : Vec Ideal S1024x4096 .bf16) (a : Fin 1024) (d : Fin 4096) : k0_pay5 h (ix2 a d) = h (ix2 a d) := by
  pointwise [k0_pay5]

/-- The strip a step normalises. -/
theorem pay6_apply (x : Vec Ideal S128x4096 .f32) (w : Vec Ideal S1x4096 .f32) (a : Fin 128) (d : Fin 4096) :
    k0_pay6 x w (ix2 a d) = nrm (fun e => x (ix2 a e)) (fun e => w (ix2 0 e)) d := by
  pointwise [k0_pay6]
  exact (rfl)

/-- The three steps that normalise a strip compute the same. -/
theorem pay8_eq (x : Vec Ideal S128x4096 .f32) (w : Vec Ideal S1x4096 .f32) : k0_pay8 x w = k0_pay6 x w := rfl
/-- The three steps that normalise a strip compute the same. -/
theorem pay10_eq (x : Vec Ideal S128x4096 .f32) (w : Vec Ideal S1x4096 .f32) : k0_pay10 x w = k0_pay6 x w := rfl

/-- A tile of the queries, scaled. -/
theorem pay7_apply (h : Vec Ideal S1024x4096 .bf16) (w : Vec Ideal S512x4096 .bf16) (a : Fin 1024) (n : Fin 512) :
    k0_pay7 h w (ix2 a n) = dot (fun e => h (ix2 a e)) (fun e => w (ix2 n e)) * (Named.named (F := Ideal) κ "q_scale" (φ := .f32) 0x3E0293EE#32 : EReal) := by
  pointwise [k0_pay7]
  exact (rfl)
/-- A tile of the keys. -/
theorem pay9_apply (h : Vec Ideal S1024x4096 .bf16) (w : Vec Ideal S512x4096 .bf16) (a : Fin 1024) (n : Fin 512) :
    k0_pay9 h w (ix2 a n) = dot (fun e => h (ix2 a e)) (fun e => w (ix2 n e)) := by
  pointwise [k0_pay9]
  exact (rfl)
/-- A tile of the values. -/
theorem pay11_apply (h : Vec Ideal S1024x4096 .bf16) (w : Vec Ideal S512x4096 .bf16) (a : Fin 1024) (n : Fin 512) :
    k0_pay11 h w (ix2 a n) = dot (fun e => h (ix2 a e)) (fun e => w (ix2 n e)) := by
  pointwise [k0_pay11]
  exact (rfl)
/-- A tile of the gate. -/
theorem pay1_apply (h : Vec Ideal S1024x4096 .bf16) (w : Vec Ideal S512x4096 .bf16) (a : Fin 1024) (n : Fin 512) :
    k0_pay1 h w (ix2 a n) = dot (fun e => h (ix2 a e)) (fun e => w (ix2 n e)) := by
  pointwise [k0_pay1]
  exact (rfl)
/-- A tile of the convolution's operand. -/
theorem pay2_apply (h : Vec Ideal S1024x4096 .bf16) (w : Vec Ideal S512x4096 .bf16) (a : Fin 1024) (n : Fin 512) :
    k0_pay2 h w (ix2 a n) = dot (fun e => h (ix2 a e)) (fun e => w (ix2 n e)) := by
  pointwise [k0_pay2]
  exact (rfl)
/-- A tile of the second gate. -/
theorem pay3_apply (h : Vec Ideal S1024x4096 .bf16) (w : Vec Ideal S512x4096 .bf16) (a : Fin 1024) (n : Fin 512) :
    k0_pay3 h w (ix2 a n) = dot (fun e => h (ix2 a e)) (fun e => w (ix2 n e)) := by
  pointwise [k0_pay3]
  exact (rfl)
/-- The step sizes' columns. -/
theorem pay4_apply (h : Vec Ideal S1024x4096 .bf16) (w : Vec Ideal S128x4096 .bf16) (a : Fin 1024) (n : Fin 128) :
    k0_pay4 h w (ix2 a n) = dot (fun e => h (ix2 a e)) (fun e => w (ix2 n e)) := by
  pointwise [k0_pay4]
  exact (rfl)

end Cert.Inp
end
-- ==== Proof.Proj.Tile.lean ====
module
public import proofs.«01_k».proof.Proof.Proj.Step

/-! What a result's buffer holds from the step that computes its tile on, in the input projection with row blocks of any size. -/

@[expose] public section
set_option maxRecDepth 16384
noncomputable section
namespace Cert.Proj
open Idealize.ShloMosaic Idealize.ShloMosaic.TcCoe Idealize.SL.Sem

/-- The column block a result is at: the `j`-th step's, counted from the result's first and kept within its `n`. -/
abbrev colOf (lo n i j : Nat) : Nat := if 0 < i then min (j - lo) (n - 1) else 0

/-- The first step of a row block's that computes a tile of each result. -/
abbrev lo : Fin 11 → Nat := ![0, 0, 0, 0, 0, 4, 8, 12, 16, 24, 28]
/-- The step past the last one that does. -/
abbrev hi : Fin 11 → Nat := ![0, 0, 0, 0, 4, 8, 12, 16, 24, 28, 29]

/-- From the step that computes it on, a buffer holds the row block's tile of the last of the `cnt` steps from `lo` on gone by. -/
def Tile (R : ℕ) (f : ℕ → ℕ → EReal) (lo cnt t : ℕ) (Y : (⟨2, ![R, 512]⟩ : Shape).Idx → EReal) : Prop :=
  0 < t / 29 → lo ≤ t % 29 → ∀ (a : Fin R) (n : Fin 512), Y (ix2 a n) = f (R * (t / 29 - 1) + a) (512 * min (t % 29) (lo + cnt - 1) + n)

/-- The step sizes' buffer after the last step of a row block. -/
def TileD (R : ℕ) (f : ℕ → ℕ → EReal) (t : ℕ) (Y : (⟨2, ![R, 128]⟩ : Shape).Idx → EReal) : Prop :=
  0 < t / 29 → 28 ≤ t % 29 → ∀ (a : Fin R) (n : Fin 128), Y (ix2 a n) = f (R * (t / 29 - 1) + a) n

variable {R lo cnt t : ℕ} {f : ℕ → ℕ → EReal}

/-- Past a result's steps, what its buffer held after the step before it still holds. -/
theorem Tile.keep {Y : (⟨2, ![R, 512]⟩ : Shape).Idx → EReal} (hc : 0 < cnt) (ht : lo + cnt ≤ t % 29) (h : Tile R f lo cnt (t - 1) Y) : Tile R f lo cnt t Y := by
  intro h0 hl a n
  have e1 : (t - 1) / 29 = t / 29 := by omega
  have e2 : min ((t - 1) % 29) (lo + cnt - 1) = min (t % 29) (lo + cnt - 1) := by omega
  rw [h (by omega) (by omega) a n, e1, e2]

/-- The tile a step computes, of the rows of the row block before; `φ` is what it does to each product. -/
theorem Tile.store (φ : EReal → EReal) (g w : ℕ → Fin 4096 → EReal) (hcnt : t % 29 < lo + cnt) (hl : t % 29 ≤ 27) {h : Vec Ideal (SB R) .bf16} {v : Vec Ideal (SB 512) .bf16}
    (hh : 0 < t / 29 → ∀ a d, h (ix2 a d) = g (R * (t / 29 - 1) + a.val) d) (hv : 0 < t / 29 → ∀ n d, v (ix2 n d) = w (512 * min (t % 29) 27 + n.val) d)
    {Y : (⟨2, ![R, 512]⟩ : Shape).Idx → EReal} (hY : ∀ a n, Y (ix2 a n) = φ (dot (fun e => h (ix2 a e)) (fun e => v (ix2 n e)))) :
    Tile R (fun r n => φ (dot (g r) (w n))) lo cnt t Y := by
  intro h0 hlo a n
  have e : min (t % 29) (lo + cnt - 1) = min (t % 29) 27 := by omega
  rw [hY, e]
  exact congrArg φ (congrArg₂ dot (funext fun d => hh h0 a d) (funext fun d => hv h0 n d))

/-- A result's buffer after a step, where the step's own condition says whether it computes a tile. -/
theorem tile_step {P : Prop} [Decidable P] {Y Z : (⟨2, ![R, 512]⟩ : Shape).Idx → EReal} (hcnt : 0 < cnt)
    (hP : P ↔ (lo ≤ t % 29 ∧ t % 29 < lo + cnt) ∧ 0 < t / 29)
    (hY : 0 < t / 29 → lo + cnt ≤ t % 29 → Tile R f lo cnt (t - 1) Y) (hZ : P → Tile R f lo cnt t Z) : Tile R f lo cnt t (if P then Z else Y) := by
  by_cases h : P
  · rw [if_pos h]; exact hZ h
  · rw [if_neg h]
    intro h0 hl
    have hk : lo + cnt ≤ t % 29 := by
      by_contra hc
      exact h (hP.mpr ⟨⟨hl, by omega⟩, h0⟩)
    exact Tile.keep hcnt hk (hY h0 hk) h0 hl

/-- A result's buffer after any step: the tile computed there, or the one that was left standing. -/
theorem tile_after (φ : EReal → EReal) (g w : ℕ → Fin 4096 → EReal) {P : Prop} [Decidable P] {h : Vec Ideal (SB R) .bf16} {v : Vec Ideal (SB 512) .bf16}
    {Y Z : (⟨2, ![R, 512]⟩ : Shape).Idx → EReal} (hcnt : 0 < cnt) (hle : lo + cnt ≤ 28) (hP : P ↔ (lo ≤ t % 29 ∧ t % 29 < lo + cnt) ∧ 0 < t / 29)
    (hh : 0 < t / 29 → ∀ a d, h (ix2 a d) = g (R * (t / 29 - 1) + a.val) d) (hv : 0 < t / 29 → ∀ n d, v (ix2 n d) = w (512 * min (t % 29) 27 + n.val) d)
    (hY : 0 < t / 29 → lo + cnt ≤ t % 29 → Tile R (fun r n => φ (dot (g r) (w n))) lo cnt (t - 1) Y)
    (hZ : ∀ a n, Z (ix2 a n) = φ (dot (fun e => h (ix2 a e)) (fun e => v (ix2 n e)))) : Tile R (fun r n => φ (dot (g r) (w n))) lo cnt t (if P then Z else Y) :=
  tile_step hcnt hP hY fun hp => Tile.store φ g w (hP.mp hp).1.2 (by have := (hP.mp hp).1.2; omega) hh hv hZ

/-- A result's buffer, where it is written back: its tile is the array's block at the step's row and column block. -/
theorem Tile.read {Y : (⟨2, ![R, 512]⟩ : Shape).Idx → EReal} (hT : Tile R f lo cnt t Y) (hc : 0 < cnt) (h0 : 0 < t / 29) (hl : lo ≤ t % 29) {i j : ℕ}
    (hi : i = t / 29 - 1) (hj : j = colOf lo cnt (t / 29) (t % 29)) {b : ℕ} (hb : b = 512 * lo) (a : Fin R) (n : Fin 512) :
    Y (ix2 a n) = f (i * R + 1 * a.val) (b + (j * 512 + 1 * n.val)) := by
  have hj' : j = min (t % 29 - lo) (cnt - 1) := hj.trans (if_pos h0)
  have e1 : R * (t / 29 - 1) + a.val = i * R + 1 * a.val := by rw [hi, Nat.mul_comm, Nat.one_mul]
  have e2 : 512 * min (t % 29) (lo + cnt - 1) + n.val = b + (j * 512 + 1 * n.val) := by rw [hj', hb]; omega
  rw [hT h0 hl a n, e1, e2]

end Cert.Proj
end
-- ==== Proof.Inp.Idx.lean ====
module
public import proofs.«01_k».proof.Proof.Gen.InProjIdeal.Frame
public import Idealize.ShloMosaic.Lib.Pipeline.ValueKit
public import proofs.«01_k».proof.Proof.Proj.Tile

/-! Which block of each array a step works on, and at which steps a finished block is written back. -/

@[expose] public section
set_option maxRecDepth 16384
noncomputable section
namespace Cert.Inp
open Cert.Proj Cert.InProjIdeal Cert.InProjIdeal.Gen Idealize.ShloMosaic Idealize.ShloMosaic.TcCoe

/-- The blocks of the operands and of the results at a step. -/
theorem idx : ∀ t : Fin cfg0.N, win0_0.index t = ![8 * min (t.val / 29) 15 + min (t.val % 29) 7, 0] ∧ win0_1.index t = ![0, 0]
    ∧ win0_2.index t = ![if 0 < t.val / 29 then min (t.val % 29) 27 else 0, 0] ∧ win0_3.index t = ![0, 0]
    ∧ win0_4.index t = ![t.val / 29 - 1, colOf 0 4 (t.val / 29) (t.val % 29)] ∧ win0_5.index t = ![t.val / 29 - 1, colOf 4 4 (t.val / 29) (t.val % 29)]
    ∧ win0_6.index t = ![t.val / 29 - 1, colOf 8 4 (t.val / 29) (t.val % 29)] ∧ win0_7.index t = ![t.val / 29 - 1, colOf 12 4 (t.val / 29) (t.val % 29)]
    ∧ win0_8.index t = ![t.val / 29 - 1, colOf 16 8 (t.val / 29) (t.val % 29)] ∧ win0_9.index t = ![t.val / 29 - 1, colOf 24 4 (t.val / 29) (t.val % 29)]
    ∧ win0_10.index t = ![t.val / 29 - 1, 0] :=
  (by decide +kernel : ∀ t : Fin grid0.N, _)

/-- A block is only written back after the step that computed it. -/
theorem flush_late : ∀ w : Fin cfg0.W, 4 ≤ w.val → ∀ t : Fin cfg0.N, (cfg0.win w).flush t = true → 0 < t.val / 29 ∧ lo w ≤ t.val % 29 :=
  (by decide +kernel : ∀ w : Fin 11, 4 ≤ w.val → ∀ t : Fin grid0.N, ((win0 w).flush t = true → _))

end Cert.Inp
end
-- ==== Proof.Inp.Step.lean ====
module
public import proofs.«01_k».proof.Proof.Inp.Pay
public import proofs.«01_k».proof.Proof.Inp.Idx

/-! What a step makes of the two carried buffers: the rows it takes over, and the strip it normalises. -/

@[expose] public section
set_option maxRecDepth 16384
noncomputable section
namespace Cert.Inp
open Cert.Proj Cert.InProjIdeal Cert.InProjIdeal.Gen Idealize.ShloMosaic Idealize.ShloMosaic.TcCoe Idealize.ShloMosaic.Tactic Idealize.SL.Sem

/-- The coordinates of a step. -/
theorem coords_eq : ∀ t : Fin cfg0.N, (grid0.coords t 0).val = t.val / 29 ∧ (grid0.coords t 1).val = t.val % 29 :=
  (by decide +kernel : ∀ t : Fin grid0.N, _)

variable (X : Vec Ideal S16384x4096 .f32) (W : Vec Ideal S1x4096 .f32)

/-- A row of the input, normalised. -/
def HN (r : ℕ) (d : Fin 4096) : EReal := nrm (fun e => X (ix2 (Fin.ofNat 16384 r) e)) (fun e => W (ix2 0 e)) d

variable {X W}

/-- A step's buffers, as the shared account of the projection has them. -/
theorem moves (t : Fin cfg0.N) (h hn : Vec Ideal S1024x4096 .bf16) (x : Vec Ideal S128x4096 .f32)
    (hx : ∀ (a : Fin 128) (e : Fin 4096), x (ix2 a e) = X (ix2 (Fin.ofNat 16384 (128 * (8 * min (t.val / 29) 15 + min (t.val % 29) 7) + a)) e)) :
    Moves 1024 128 15 (HN X W) t.val h hn (hAfter (grid0.coords t) h hn) (nAfter (grid0.coords t) x W hn) := by
  obtain ⟨e0, e1⟩ := coords_eq t
  have c1 := cond1_iff (grid0.coords t)
  have c2 := cond2_iff (grid0.coords t)
  have c3 := cond3_iff (grid0.coords t)
  have c4 := cond4_iff (grid0.coords t)
  have o1 := off1_eq (grid0.coords t)
  have o2 := off2_eq (grid0.coords t)
  have o3 := off3_eq (grid0.coords t)
  rw [e1] at o1 o2 o3
  rw [e0, e1] at c1 c2 c3 c4
  have hw : t.val % 29 < 8 → ∀ (a : Fin 128) (d : Fin 4096), k0_pay6 x W (ix2 a d) = HN X W (1024 * min (t.val / 29) 15 + 128 * (t.val % 29) + a) d := by
    intro hj a d
    rw [pay6_apply]
    refine congrArg (fun f => nrm f _ d) (funext fun e => (hx a e).trans (congrArg (fun r => X (ix2 (Fin.ofNat 16384 r) e)) ?_))
    omega
  refine ⟨fun hz h0 a d => ?_, fun hz => ?_, fun h8 a d => ?_, fun h8 => ?_⟩
  · unfold hAfter
    rw [if_pos (c1.mpr ⟨hz, h0⟩), pay5_apply]
  · unfold hAfter
    exact if_neg fun hc => absurd (c1.mp hc).1 hz.ne'
  · unfold nAfter
    by_cases h2 : k0_cond2 (grid0.coords t) = 1#1
    · rw [dif_pos h2]
      exact overlay_strip _ _ _ o1 _ hn _ (hw h8) a d
    rw [dif_neg h2]
    by_cases h3 : k0_cond3 (grid0.coords t) = 1#1
    · rw [dif_pos h3, pay8_eq]
      exact overlay_strip _ _ _ o2 _ hn _ (hw h8) a d
    rw [dif_neg h3]
    have h4 : k0_cond4 (grid0.coords t) = 1#1 := by
      rw [c2] at h2
      rw [c3] at h3
      rw [c4]
      omega
    rw [dif_pos h4, pay10_eq]
    exact overlay_strip _ _ _ o3 _ hn _ (hw h8) a d
  · unfold nAfter
    rw [dif_neg (fun h => absurd (c2.mp h).2 (by omega)), dif_neg (fun h => absurd (c3.mp h).1 (by omega)), dif_neg (fun h => absurd (c4.mp h).1.2 (by omega))]

end Cert.Inp
end
-- ==== Proof.Inp.Tiles.lean ====
module
public import proofs.«01_k».proof.Proof.Inp.Step
public import Idealize.ShloMosaic.Lib.Pipeline.DatRel

/-! The operands' blocks at a step as parts of the arrays, and what each result's buffer holds after it. -/

@[expose] public section
set_option maxRecDepth 16384
noncomputable section
namespace Cert.Inp
open Cert.Proj Cert.InProjIdeal Cert.InProjIdeal.Gen Idealize.ShloMosaic Idealize.ShloMosaic.TcCoe Idealize.ShloMosaic.Tactic Idealize.SL.Sem

variable (m : (ℓ : Loc nD τ sig) → Buf (Elt Ideal) ℓ) (c : Dev nD)

/-- The input's rows, as the program's grid finds them. -/
abbrev XA : Vec Ideal S16384x4096 .f32 := V m c main_v4
/-- The normalisation's weights. -/
abbrev WA : Vec Ideal S1x4096 .f32 := V m c main_v5
/-- The projection's weights. -/
abbrev TA : Vec Ideal S14368x4096 .bf16 := V m c main_v1
/-- The step sizes' weights. -/
abbrev DA : Vec Ideal S128x4096 .bf16 := V m c main_v3

/-- An element of the strip of rows at a step. -/
theorem block0 (t : Fin cfg0.N) (a : Fin 128) (e : Fin 4096) :
    iblk m c 0 t (ix2 a e) = XA m c (ix2 (Fin.ofNat 16384 (128 * (8 * min (t.val / 29) 15 + min (t.val % 29) 7) + a)) e) := by
  obtain ⟨h, -⟩ := idx t
  refine congrArg (V m c main_v4) (funext fun b => ?_)
  have ha := a.isLt
  match b with
  | ⟨0, _⟩ => exact Fin.ext (show win0_0.index t (0 : Fin 2) * 128 + 1 * a.val = (128 * (8 * min (t.val / 29) 15 + min (t.val % 29) 7) + a) % 16384 by
      rw [h]; show (8 * min (t.val / 29) 15 + min (t.val % 29) 7) * 128 + 1 * a.val = _; omega)
  | ⟨1, _⟩ => exact Fin.ext (show win0_0.index t (1 : Fin 2) * 4096 + 1 * e.val = e.val by rw [h]; show 0 * 4096 + 1 * e.val = _; omega)

/-- The normalisation's weights at a step: all of them. -/
theorem block1 (t : Fin cfg0.N) : iblk m c 1 t = WA m c := by
  obtain ⟨-, h, -⟩ := idx t
  funext y
  refine congrArg (V m c main_v5) (funext fun b => ?_)
  match b with
  | ⟨0, _⟩ => exact Fin.ext (show win0_1.index t (0 : Fin 2) * 1 + 1 * (y 0).val = (y 0).val by rw [h]; show 0 * 1 + 1 * (y 0).val = _; omega)
  | ⟨1, _⟩ => exact Fin.ext (show win0_1.index t (1 : Fin 2) * 4096 + 1 * (y 1).val = (y 1).val by rw [h]; show 0 * 4096 + 1 * (y 1).val = _; omega)

/-- An element of the tile of weights at a step. -/
theorem block2 (t : Fin cfg0.N) (h0 : 0 < t.val / 29) (n : Fin 512) (e : Fin 4096) :
    X0_2 m c t (ix2 n e) = TA m c (ix2 (Fin.ofNat 14368 (512 * min (t.val % 29) 27 + n)) e) := by
  obtain ⟨-, -, h, -⟩ := idx t
  have hn := n.isLt
  unfold X0_2 Pipeline.Window.fill
  rw [dif_pos (moved0_2 t _)]
  refine congrArg (V m c main_v1) (funext fun b => ?_)
  match b with
  | ⟨0, _⟩ => exact Fin.ext (show win0_2.index t (0 : Fin 2) * 512 + 1 * n.val = (512 * min (t.val % 29) 27 + n) % 14368 by
      rw [h, if_pos h0]; show min (t.val % 29) 27 * 512 + 1 * n.val = _; omega)
  | ⟨1, _⟩ => exact Fin.ext (show win0_2.index t (1 : Fin 2) * 4096 + 1 * e.val = e.val by rw [h]; show 0 * 4096 + 1 * e.val = _; omega)

/-- The step sizes' weights at a step: all of them. -/
theorem block3 (t : Fin cfg0.N) : iblk m c 3 t = DA m c := by
  obtain ⟨-, -, -, h, -⟩ := idx t
  funext y
  refine congrArg (V m c main_v3) (funext fun b => ?_)
  match b with
  | ⟨0, _⟩ => exact Fin.ext (show win0_3.index t (0 : Fin 2) * 128 + 1 * (y 0).val = (y 0).val by rw [h]; show 0 * 128 + 1 * (y 0).val = _; omega)
  | ⟨1, _⟩ => exact Fin.ext (show win0_3.index t (1 : Fin 2) * 4096 + 1 * (y 1).val = (y 1).val by rw [h]; show 0 * 4096 + 1 * (y 1).val = _; omega)

/-- A normalised row times a row of the projection's weights. -/
def PR (r n : ℕ) : EReal := dot (HN (XA m c) (WA m c) r) (fun e => TA m c (ix2 (Fin.ofNat 14368 n) e))
/-- The same, scaled as the queries are. -/
def QR (r n : ℕ) : EReal := PR m c r n * (Named.named (F := Ideal) κ "q_scale" (φ := .f32) 0x3E0293EE#32 : EReal)
/-- A normalised row times a row of the step sizes' weights. -/
def DR (r n : ℕ) : EReal := dot (HN (XA m c) (WA m c) r) (fun e => DA m c (ix2 (Fin.ofNat 128 n) e))

/-- What is asked of each result's buffer after a step. -/
def Rl (w : Fin cfg0.W) (t : Fin cfg0.N) : ((cfg0.win w).block.Idx → Elt Ideal (cfg0.win w).elt) → Prop :=
  match w with
  | ⟨4, _⟩ => Tile 1024 (QR m c) 0 4 t.val
  | ⟨5, _⟩ => Tile 1024 (PR m c) 4 4 t.val
  | ⟨6, _⟩ => Tile 1024 (PR m c) 8 4 t.val
  | ⟨7, _⟩ => Tile 1024 (PR m c) 12 4 t.val
  | ⟨8, _⟩ => Tile 1024 (PR m c) 16 8 t.val
  | ⟨9, _⟩ => Tile 1024 (PR m c) 24 4 t.val
  | ⟨10, _⟩ => TileD 1024 (DR m c) t.val
  | _ => fun _ => True

/-- The results' buffers, of which only that is asked. -/
def fgt (w : Fin cfg0.W) : Bool := match w with
  | ⟨4, _⟩ | ⟨5, _⟩ | ⟨6, _⟩ | ⟨7, _⟩ | ⟨8, _⟩ | ⟨9, _⟩ | ⟨10, _⟩ => true
  | _ => false

/-- Where a result's tile was left standing. -/
theorem stands : ∀ w : Fin cfg0.W, 4 ≤ w.val → ∀ t : Fin cfg0.N, 0 < t.val / 29 → hi w ≤ t.val % 29 →
    (cfg0.win w).flush ⟨t.val - 1, Nat.lt_of_le_of_lt (Nat.sub_le _ _) t.isLt⟩ = false :=
  (by decide +kernel : ∀ w : Fin 11, 4 ≤ w.val → ∀ t : Fin grid0.N, 0 < t.val / 29 → hi w ≤ t.val % 29 →
    (win0 w).flush ⟨t.val - 1, Nat.lt_of_le_of_lt (Nat.sub_le _ _) t.isLt⟩ = false)

end Cert.Inp
end
-- ==== Proof.Proj.Host.lean ====
module
public import proofs.«01_k».proof.Proof.Proj.Step
public import Idealize.ShloMosaic.Lib.KernelVsHost

/-! The projection of the normalised input, for sequences of any length, and what padding does to weights and columns. -/

@[expose] public section
set_option maxRecDepth 16384
noncomputable section
namespace Cert.Proj
open Idealize.ShloMosaic Idealize.ShloMosaic.TcCoe Idealize.SL.Sem

/-- Row `r`, over all the sequences, of the normalised input, times column `n` of the weights. -/
def proj {T : ℕ} [NeZero T] (x : Vec Ideal (⟨3, ![8, T, 4096]⟩ : Shape) .f32) (w : Vec Ideal (⟨1, ![4096]⟩ : Shape) .f32) (W : Vec Ideal (⟨2, ![4096, 14368]⟩ : Shape) .f32)
    (r n : ℕ) : EReal :=
  dot (nrm (fun e => x (ix3 (Fin.ofNat 8 (r / T)) (Fin.ofNat T r) e)) (fun e => w (ix1 e))) (fun e => W (ix2 e (Fin.ofNat 14368 n)))

/-- A row times a row of the step sizes' weights: they are the last rows of the weights, with zeros below. -/
theorem dot_padded (h : Fin 4096 → EReal) (T : Vec Ideal (SB 14368) .bf16) (hs : (SB 14368).Slices ![14336, 0] (SB 32))
    (hp : (SB 32).Pads (![0, 0] : Fin 2 → Nat) ![96, 0] ![0, 0] (SB 128)) (h0 : 0 < (⟨0, ![]⟩ : Shape).numel) (n : Fin 128) :
    dot h (fun e => (pad (SB 128) ![0, 0] ![96, 0] ![0, 0] (extractStridedSlice (SB 32) ![14336, 0] T hs)
      (sitofp (F := Ideal) .bf16 (constantI (⟨0, ![]⟩ : Shape) 32 0#32)) hp h0 : Vec Ideal (SB 128) .bf16) (ix2 n e))
      = if n.val < 32 then dot h (fun e => T (ix2 (Fin.ofNat 14368 (14336 + n.val)) e)) else 0 := by
  by_cases hn : n.val < 32
  · rw [if_pos hn]
    refine congrArg (dot h) (funext fun e => ?_)
    refine (pad_apply_of_inside ![0, 0] ![96, 0] ![0, 0] _ _ _ _ _ (ix2 (⟨n.val, hn⟩ : Fin 32) e) ?_).trans ?_
    · intro a
      match a with
      | ⟨0, _⟩ => show n.val = 0 + n.val * 1; omega
      | ⟨1, _⟩ => show e.val = 0 + e.val * 1; omega
    · refine extractStridedSlice_apply ![14336, 0] T hs _ _ fun a => ?_
      match a with
      | ⟨0, _⟩ => show (14336 + n.val) % 14368 = 14336 + n.val; omega
      | ⟨1, _⟩ => show e.val = 0 + e.val; omega
  · rw [if_neg hn]
    unfold dot
    refine Finset.sum_eq_zero fun e _ => ?_
    refine (congrArg (fun z : EReal => h e * z) ?_).trans (mul_zero _)
    refine (pad_apply_of_not_inside (s := SB 32) ![0, 0] ![96, 0] ![0, 0] _ _ _ _ _ (0 : Fin 2) ?_).trans ?_
    · intro ha
      have h2 : (n.val - 0) / (0 + 1) < 32 := ha.2.2
      omega
    · exact congrArg Real.toEReal (Int.cast_zero (R := ℝ))

/-- Thirty-two columns, padded with zeros. -/
theorem pad_columns {M : ℕ} (v : Vec Ideal (⟨2, ![M, 32]⟩ : Shape) .f32) (hp : (⟨2, ![M, 32]⟩ : Shape).Pads (![0, 0] : Fin 2 → Nat) ![0, 96] ![0, 0] (⟨2, ![M, 128]⟩ : Shape))
    (h0 : 0 < (⟨0, ![]⟩ : Shape).numel) (r : Fin M) (n : Fin 128) :
    (pad (⟨2, ![M, 128]⟩ : Shape) ![0, 0] ![0, 96] ![0, 0] v (sitofp (F := Ideal) .f32 (constantI (⟨0, ![]⟩ : Shape) 32 0#32)) hp h0
      : Vec Ideal (⟨2, ![M, 128]⟩ : Shape) .f32) (ix2 r n) = if h : n.val < 32 then v (ix2 r (⟨n.val, h⟩ : Fin 32)) else 0 := by
  by_cases h : n.val < 32
  · rw [dif_pos h]
    refine pad_apply_of_inside ![0, 0] ![0, 96] ![0, 0] _ _ _ _ _ (ix2 r (⟨n.val, h⟩ : Fin 32)) ?_
    intro a
    match a with
    | ⟨0, _⟩ => show r.val = 0 + r.val * 1; omega
    | ⟨1, _⟩ => show n.val = 0 + n.val * 1; omega
  · rw [dif_neg h]
    refine (pad_apply_of_not_inside (s := (⟨2, ![M, 32]⟩ : Shape)) ![0, 0] ![0, 96] ![0, 0] _ _ _ _ _ (1 : Fin 2) ?_).trans ?_
    · intro ha
      have h2 : (n.val - 0) / (0 + 1) < 32 := ha.2.2
      omega
    · exact congrArg Real.toEReal (Int.cast_zero (R := ℝ))

/-- The factor of the queries. -/
theorem scale_eq : Ideal.div (Ideal.rsqrt (Ideal.ofBits .f32 0x43000000#32)) (Ideal.log (Ideal.ofBits .f32 0x40000000#32))
    = (((Real.sqrt 128)⁻¹ * (Real.log 2)⁻¹ : ℝ) : EReal) := by
  have h2 : Ideal.ofBits .f32 0x40000000#32 = ((2 : ℝ) : EReal) := by
    simp [Ideal.ofBits, Ideal.ieee]
    rw [← EReal.coe_mul]
    norm_num
  have h128 : Ideal.ofBits .f32 0x43000000#32 = ((128 : ℝ) : EReal) := by
    simp [Ideal.ofBits, Ideal.ieee]
    rw [← EReal.coe_mul]
    norm_num
  have hl : (0 : ℝ) < Real.log 2 := Real.log_pos (by norm_num)
  have hlog : Ideal.log ((2 : ℝ) : EReal) = ((Real.log 2 : ℝ) : EReal) := if_neg (by norm_num)
  rw [h2, h128, hlog, Ideal.rsqrt_coe, if_neg (by norm_num), if_neg (by norm_num), Ideal.div_coe hl.ne', ← EReal.coe_mul]
  rw [one_div]

end Cert.Proj
end
-- ==== Proof.Inp.Host.lean ====
module
public import proofs.«01_k».proof.Proof.Inp.Tiles
public import proofs.«01_k».proof.Proof.Proj.Host

/-! What the program's host prepares for the grid, and the products, in terms of the arguments. -/

@[expose] public section
set_option maxRecDepth 16384
noncomputable section
namespace Cert.Inp
open Cert.Proj Cert.InProjIdeal Cert.InProjIdeal.Gen Idealize.ShloMosaic Idealize.ShloMosaic.TcCoe Idealize.ShloMosaic.Tactic Idealize.SL.Sem

variable (m : (ℓ : Loc nD τ sig) → Buf (Elt Ideal) ℓ) (c : Dev nD)

/-- The input's rows, one sequence after the other. -/
theorem XA_apply (r : ℕ) (e : Fin 4096) :
    XA m c (ix2 (Fin.ofNat 16384 r) e) = m ((c : Thread nD τ).loc main_arg0) (ix3 (Fin.ofNat 8 (r / 2048)) (Fin.ofNat 2048 r) e) := by
  unfold XA
  entry_read
  refine shapeCast_apply _ shapeCasts_S8x2048x4096_S16384x4096 _ _ ?_
  rewrite [Shape.rowMajor_val_three, Shape.rowMajor_val_two]
  have he := e.isLt
  show ((r / 2048 % 8) * 2048 + r % 2048) * 4096 + e.val = (r % 16384) * 4096 + e.val
  omega

/-- The normalisation's weights, as one row. -/
theorem WA_apply (e : Fin 4096) : WA m c (ix2 0 e) = m ((c : Thread nD τ).loc main_arg1) (ix1 e) := by
  unfold WA
  entry_read
  refine shapeCast_apply _ shapeCasts_S4096_S1x4096 _ _ ?_
  rewrite [Shape.rowMajor_val_one, Shape.rowMajor_val_two]
  show e.val = 0 * 4096 + e.val
  omega

/-- The projection's weights, as the host prepares them: transposed, -/
theorem TA_trans : TA m c = truncf (F := Ideal) .bf16 (transpose S14368x4096 [1, 0] (m ((c : Thread nD τ).loc main_arg2)) transposes_S4096x14368_S14368x4096_1_0 : Vec Ideal S14368x4096 .f32) bitsLt_bf16_f32 := by
  unfold TA
  entry_read
  try rfl

/-- read at an index. -/
theorem TA_apply (n : Fin 14368) (e : Fin 4096) : TA m c (ix2 n e) = m ((c : Thread nD τ).loc main_arg2) (ix2 e n) := by
  rw [TA_trans]
  generalize m ((c : Thread nD τ).loc main_arg2) = W
  pointwise
  try exact rfl

/-- The step sizes' weights, as the host pads them. -/
theorem DA_pad : DA m c = pad S128x4096 ![0, 0] ![96, 0] ![0, 0]
    (extractStridedSlice S32x4096 ![14336, 0] (TA m c) slices_S14368x4096_S32x4096_14336_0)
    (sitofp (F := Ideal) .bf16 (constantI S_ 32 0#32)) pads_S32x4096_S128x4096_0960_000 h_S_ := by
  unfold DA TA
  entry_read
  rfl

/-- The kernel's product is the projection. -/
theorem PR_eq (r n : ℕ) : PR m c r n = proj (m ((c : Thread nD τ).loc main_arg0)) (m ((c : Thread nD τ).loc main_arg1)) (m ((c : Thread nD τ).loc main_arg2)) r n := by
  unfold PR proj HN
  refine congrArg₂ dot (congrArg₂ nrm ?_ ?_) ?_
  · exact funext fun e => XA_apply m c r e
  · exact funext fun e => WA_apply m c e
  · exact funext fun e => TA_apply m c _ e

/-- The kernel's step sizes are the projection's last columns, with zeros beyond. -/
theorem DR_eq (r : ℕ) (n : Fin 128) : DR m c r n.val = if n.val < 32 then
    proj (m ((c : Thread nD τ).loc main_arg0)) (m ((c : Thread nD τ).loc main_arg1)) (m ((c : Thread nD τ).loc main_arg2)) r (14336 + n.val) else 0 := by
  have hn : Fin.ofNat 128 n.val = n := Fin.ext (Nat.mod_eq_of_lt n.isLt)
  unfold DR
  rw [hn, DA_pad, dot_padded]
  exact if_congr Iff.rfl (PR_eq m c r _) rfl

end Cert.Inp
end
-- ==== Proof.Inp.Ref.lean ====
module
public import proofs.«01_k».proof.Proof.Inp.Host
public import proofs.«01_k».proof.Proof.Gen.InProjRefIdeal.Read

/-! The reference's results are the same rows of the projection. -/

@[expose] public section
set_option maxRecDepth 16384
noncomputable section
namespace Cert.Inp
open Cert.Proj Cert.InProjRefIdeal Cert.InProjRefIdeal.Gen Cert.InProjRefIdeal.Read Idealize.ShloMosaic Idealize.ShloMosaic.TcCoe Idealize.ShloMosaic.Tactic Idealize.SL.Sem

variable (x : Vec Ideal S8x2048x4096 .f32) (w : Vec Ideal S4096 .f32) (W : Vec Ideal S4096x14368 .f32)

/-- The reference's normalised input. -/
theorem v12_eq (b : Fin 8) (s : Fin 2048) (e : Fin 4096) :
    val_main_v12 (F := Ideal) x w (ix3 b s e) = nrm (fun e => x (ix3 b s e)) (fun e => w (ix1 e)) e := by
  have h0 : Ideal.ofBits .f32 0x00000000#32 = 0 := Ideal.ofBits_zero_f32
  rw [val_main_v12_apply, val_main_v9_apply, val_main_v11_apply, val_main_v10_apply, val_main_v8_apply, val_main_v7_apply, val_main_v6_apply, val_main_v5_apply,
    val_main_v4_apply, val_main_v3_apply, val_main_v2_apply, val_main_v1_apply, val_main_cst_apply, val_main_cst_0_apply, val_main_cst_1_apply]
  unfold nrm
  refine congrArg₂ (fun a b : EReal => a * b) (congrArg (fun a : EReal => x (ix3 b s e) * Ideal.rsqrt (Ideal.div a _ + _)) ?_) (congrArg w (funext fun a => ?_))
  · refine (congrArg (fun z : EReal => z + _) h0).trans ((zero_add _).trans (Finset.sum_congr rfl fun k _ => ?_))
    have hk : idx_main_v1 (idx_main_v2 (idx_main_v8 (ix3 b s e))) k = ix3 b s k := by
      funext a
      match a with
      | ⟨0, _⟩ => rfl
      | ⟨1, _⟩ => rfl
      | ⟨2, _⟩ => rfl
    rw [hk, val_main_v0_apply]
    rfl
  · match a with
    | ⟨0, _⟩ => rfl

/-- The reference's product, one sequence after the other. -/
theorem v14_eq (i : S16384x14368.Idx) : val_main_v14 (F := Ideal) x w W i = proj x w W (i 0).val (i 1).val := by
  rw [val_main_v14_apply, val_main_v13_apply]
  have h0 : (i 0).val < 16384 := (i 0).isLt
  have h1 : (i 1).val < 14368 := (i 1).isLt
  unfold proj dot
  refine Finset.sum_congr rfl fun k _ => ?_
  have hl : lidx_main_v13 (idx_main_v14 i) k = ix3 (Fin.ofNat 8 ((i 0).val / 2048)) (Fin.ofNat 2048 (i 0).val) k := by
    funext a
    match a with
    | ⟨0, _⟩ => exact Fin.ext (show ((i 0).val * 14368 + (i 1).val) / 29425664 = (i 0).val / 2048 % 8 by omega)
    | ⟨1, _⟩ => exact Fin.ext (show ((i 0).val * 14368 + (i 1).val) / 14368 % 2048 = (i 0).val % 2048 by omega)
    | ⟨2, _⟩ => rfl
  have hr : ridx_main_v13 (idx_main_v14 i) k = ix2 k (Fin.ofNat 14368 (i 1).val) := by
    funext a
    match a with
    | ⟨0, _⟩ => rfl
    | ⟨1, _⟩ => exact Fin.ext (show ((i 0).val * 14368 + (i 1).val) % 14368 = (i 1).val % 14368 by omega)
  rw [hl, hr, v12_eq]

/-- The reference's factor of the queries is the kernel's named constant. -/
theorem v24_eq (i : S_.Idx) : val_main_v24 (F := Ideal) i = (Named.named (F := Ideal) Cert.InProjIdeal.κ "q_scale" (φ := .f32) 0x3E0293EE#32 : EReal) := by
  rw [val_main_v24_apply, val_main_v22_apply, val_main_v23_apply, val_main_cst_2_apply, val_main_cst_3_apply]
  exact scale_eq

/-- The reference's queries, -/
theorem v27_eq : val_main_v27 (F := Ideal) x w W = fun y => proj x w W (y 0).val (0 + (y 1).val) * (Named.named (F := Ideal) Cert.InProjIdeal.κ "q_scale" (φ := .f32) 0x3E0293EE#32 : EReal) := by
  funext y
  rw [val_main_v27_apply, val_main_v26_apply, val_main_v15_apply, val_main_v25_apply, v24_eq, v14_eq]
  rw [zero_add]
  rfl

/-- keys, -/
theorem v16_eq : val_main_v16 (F := Ideal) x w W = fun y => proj x w W (y 0).val (2048 + (y 1).val) := by
  funext y
  rw [val_main_v16_apply, v14_eq]

/-- values, -/
theorem v17_eq : val_main_v17 (F := Ideal) x w W = fun y => proj x w W (y 0).val (4096 + (y 1).val) := by
  funext y
  rw [val_main_v17_apply, v14_eq]

/-- gate, -/
theorem v28_eq : val_main_v28 (F := Ideal) x w W = fun y => proj x w W (y 0).val (6144 + (y 1).val) := by
  funext y
  rw [val_main_v28_apply, val_main_v18_apply, v14_eq]
  rfl

/-- operand of the convolution, -/
theorem v19_eq : val_main_v19 (F := Ideal) x w W = fun y => proj x w W (y 0).val (8192 + (y 1).val) := by
  funext y
  rw [val_main_v19_apply, v14_eq]

/-- second gate, -/
theorem v29_eq : val_main_v29 (F := Ideal) x w W = fun y => proj x w W (y 0).val (12288 + (y 1).val) := by
  funext y
  rw [val_main_v29_apply, val_main_v20_apply, v14_eq]
  rfl

/-- and step sizes, padded with zeros. -/
theorem v30_eq : val_main_v30 (F := Ideal) x w W = fun y => if (y 1).val < 32 then proj x w W (y 0).val (14336 + (y 1).val) else 0 := by
  funext y
  obtain ⟨r, n, rfl⟩ : ∃ (r : Fin 16384) (n : Fin 128), y = ix2 r n := ⟨y 0, y 1, eq_ix2 y⟩
  show _ = if n.val < 32 then proj x w W r.val (14336 + n.val) else 0
  refine (pad_columns _ _ _ r n).trans ?_
  by_cases h : n.val < 32
  · rw [dif_pos h, if_pos h, val_main_v21_apply, v14_eq]
    rfl
  · rw [dif_neg h, if_neg h]

end Cert.Inp
end
-- ==== Proof.Inp.Body.lean ====
module
public import proofs.«01_k».proof.Proof.Inp.Tiles
public import Idealize.ShloMosaic.Lib.Pipeline.FrameBody

/-! The grid's steps one after another: the two carried buffers keep what is said of them, and each result's buffer holds its tile. -/

@[expose] public section
set_option maxRecDepth 16384
noncomputable section
namespace Cert.Inp
open Cert.Proj Cert.InProjIdeal Cert.InProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

local notation "𝕄" => MT nD τ sig Unit (Elt Ideal) ℕ (UR sig nD τ) ℕ

variable (m : (ℓ : Loc nD τ sig) → Buf (Elt Ideal) ℓ) (ρ : Dev nD → PrngReg)

/-- The buffer the tiles are taken from. -/
abbrev hM : Memref sig .tc .vmem S1024x4096 .bf16 := Memref.whole cc0_scratch0
/-- The buffer the next rows are normalised into. -/
abbrev nM : Memref sig .tc .vmem S1024x4096 .bf16 := Memref.whole cc0_scratch1

/-- Before a step: the carried buffers at contents of which `Inv` holds, and the generator's register. -/
def carried (c : Dev nD) (n : ℕ) : sProp 𝕄 :=
  iprop(∃ h, ∃ hn, ⌜Inv 1024 128 15 (HN (XA m c) (WA m c)) n h hn⌝ ∗ owns (c : Thread nD τ) hM fullShare h ∗ owns (c : Thread nD τ) nM fullShare hn ∗ (∃ r, prngReg c r))

/-- The grid's arrays, what the operands' buffers hold at each step, and what is carried. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => fun _ => Classical.choice inferInstance
    | ⟨5, _⟩ => fun _ => Classical.choice inferInstance
    | ⟨6, _⟩ => fun _ => Classical.choice inferInstance
    | ⟨7, _⟩ => fun _ => Classical.choice inferInstance
    | ⟨8, _⟩ => fun _ => Classical.choice inferInstance
    | ⟨9, _⟩ => fun _ => Classical.choice inferInstance
    | ⟨10, _⟩ => fun _ => Classical.choice inferInstance
  Φ t := carried m c t.val
  q _ := fullShare
  owed _ := 0

theorem dat_A (c : Dev nD) (w : Fin cfg0.W) : (dat m c).A w = V m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = X0_2 m c t := by dsimp only [dat]
theorem after3 (c : Dev nD) (t : Fin cfg0.N) : (dat m c).after 3 t = iblk m c 3 t := by dsimp only [dat]
theorem before0 (c : Dev nD) (t : Fin cfg0.N) (d) : (dat m c).before 0 t d = iblk m c 0 t := before0_0_of m (dat m c) (dat_A m c 0) (after0 m c) t d
theorem before1 (c : Dev nD) (t : Fin cfg0.N) (d) : (dat m c).before 1 t d = iblk m c 1 t := before0_1_of m (dat m c) (dat_A m c 1) (after1 m c) t d
theorem before2 (c : Dev nD) (t : Fin cfg0.N) (d) : (dat m c).before 2 t d = X0_2 m c t := before0_2_of m (dat m c) (dat_A m c 2) (after2 m c) t d
theorem before3 (c : Dev nD) (t : Fin cfg0.N) (d) : (dat m c).before 3 t d = iblk m c 3 t := before0_3_of m (dat m c) (dat_A m c 3) (after3 m c) t d

/-- What a result's buffer may be found to hold before a step. -/
abbrev Found (c : Dev nD) (w : Fin cfg0.W) (t : Fin cfg0.N) (Y : (cfg0.win w).block.Idx → Elt Ideal (cfg0.win w).elt) : Prop :=
  ((dat m c).toRRel fgt (Rl m c)).Finds w t Y

variable {m}

/-- Past a result's steps its buffer is found as the step before left it. -/
theorem found_keep {c : Dev nD} (w : Fin cfg0.W) (hw : 4 ≤ w.val) (hf : fgt w = true) (t : Fin cfg0.N) (hfe : (cfg0.win w).fetch t = false)
    {Y : (cfg0.win w).block.Idx → Elt Ideal (cfg0.win w).elt} (hY : Found m c w t Y) (h0 : 0 < t.val / 29) (hh : hi w ≤ t.val % 29) :
    Rl m c w ⟨t.val - 1, Nat.lt_of_le_of_lt (Nat.sub_le _ _) t.isLt⟩ Y := by
  have hz : t.val ≠ 0 := fun h => by rw [h] at h0; exact absurd h0 (by decide)
  rcases (RDat.finds_of_pos _ hfe hz Y).mp hY with h | h
  · rw [stands w hw t h0 hh] at h
    exact absurd h Bool.false_ne_true
  · exact Dat.toRRel_leaves _ hf h

/-- What a step makes of the carried buffers. -/
theorem carries {c : Dev nD} (t : Fin cfg0.N) (h hn : Vec Ideal S1024x4096 .bf16) :
    Moves 1024 128 15 (HN (XA m c) (WA m c)) t.val h hn (hAfter (grid0.coords t) h hn) (nAfter (grid0.coords t) (iblk m c 0 t) (WA m c) hn) :=
  moves t h hn _ fun a e => block0 m c t a e

/-- The steps are those of the row blocks and one more. -/
theorem steps_lt (t : Fin cfg0.N) : t.val < 29 * (15 + 2) := lt_of_lt_of_eq t.isLt N_0

/-- A step's rows, where its row block has one before it. -/
theorem rows {c : Dev nD} {t : Fin cfg0.N} {h hn : Vec Ideal S1024x4096 .bf16} (hI : Inv 1024 128 15 (HN (XA m c) (WA m c)) t.val h hn) :
    0 < t.val / 29 → ∀ a d, hAfter (grid0.coords t) h hn (ix2 a d) = HN (XA m c) (WA m c) (1024 * (t.val / 29 - 1) + a.val) d :=
  fun h0 a d => taken (steps_lt t) hI (carries t h hn) h0 a d

/-- A weights' tile, read at a row. -/
theorem cols {c : Dev nD} {t : Fin cfg0.N} : 0 < t.val / 29 → ∀ (n : Fin 512) (e : Fin 4096),
    X0_2 m c t (ix2 n e) = TA m c (ix2 (Fin.ofNat 14368 (512 * min (t.val % 29) 27 + n.val)) e) := fun h0 n e => block2 m c t h0 n e

/-- A result's buffer after a step; `φ` is what is done to each product. -/
theorem after_step {c : Dev nD} {t : Fin cfg0.N} {h hn : Vec Ideal S1024x4096 .bf16} (hI : Inv 1024 128 15 (HN (XA m c) (WA m c)) t.val h hn) (φ : EReal → EReal) {lo cnt : ℕ}
    {P : Prop} [Decidable P] {Y Z : S1024x512.Idx → EReal} (hcnt : 0 < cnt) (hle : lo + cnt ≤ 28)
    (hP : P ↔ (lo ≤ (grid0.coords t 1).val ∧ (grid0.coords t 1).val < lo + cnt) ∧ 0 < (grid0.coords t 0).val)
    (hY : 0 < t.val / 29 → lo + cnt ≤ t.val % 29 → Tile 1024 (fun r n => φ (PR m c r n)) lo cnt (t.val - 1) Y)
    (hZ : ∀ a n, Z (ix2 a n) = φ (dot (fun e => hAfter (grid0.coords t) h hn (ix2 a e)) (fun e => X0_2 m c t (ix2 n e)))) :
    Tile 1024 (fun r n => φ (PR m c r n)) lo cnt t.val (if P then Z else Y) := by
  rw [(coords_eq t).1, (coords_eq t).2] at hP
  exact tile_after φ (HN (XA m c) (WA m c)) (fun n e => TA m c (ix2 (Fin.ofNat 14368 n) e)) hcnt hle hP (rows hI) cols hY hZ

/-- The buffer of the queries after a step. -/
theorem rel4 {c : Dev nD} {t : Fin cfg0.N} {h hn : Vec Ideal S1024x4096 .bf16} (hI : Inv 1024 128 15 (HN (XA m c) (WA m c)) t.val h hn) {Y} (hY : Found m c 4 t Y) :
    Rl m c 4 t (if k0_cond3 (grid0.coords t) = 1#1 then k0_pay7 (hAfter (grid0.coords t) h hn) (X0_2 m c t) else Y) :=
  after_step hI (fun x => x * (Named.named (F := Ideal) κ "q_scale" (φ := .f32) 0x3E0293EE#32 : EReal)) (lo := 0) (cnt := 4) (by decide) (by decide) ((cond3_iff _).trans (by omega))
    (fun h0 hk => found_keep 4 (by decide) rfl t rfl hY h0 hk) fun a n => pay7_apply _ _ a n

/-- The buffer of the keys after a step. -/
theorem rel5 {c : Dev nD} {t : Fin cfg0.N} {h hn : Vec Ideal S1024x4096 .bf16} (hI : Inv 1024 128 15 (HN (XA m c) (WA m c)) t.val h hn) {Y} (hY : Found m c 5 t Y) :
    Rl m c 5 t (if k0_cond4 (grid0.coords t) = 1#1 then k0_pay9 (hAfter (grid0.coords t) h hn) (X0_2 m c t) else Y) :=
  after_step hI (fun x => x) (lo := 4) (cnt := 4) (by decide) (by decide) (cond4_iff _)
    (fun h0 hk => found_keep 5 (by decide) rfl t rfl hY h0 hk) fun a n => pay9_apply _ _ a n

/-- The buffer of the values after a step. -/
theorem rel6 {c : Dev nD} {t : Fin cfg0.N} {h hn : Vec Ideal S1024x4096 .bf16} (hI : Inv 1024 128 15 (HN (XA m c) (WA m c)) t.val h hn) {Y} (hY : Found m c 6 t Y) :
    Rl m c 6 t (if k0_cond5 (grid0.coords t) = 1#1 then k0_pay11 (hAfter (grid0.coords t) h hn) (X0_2 m c t) else Y) :=
  after_step hI (fun x => x) (lo := 8) (cnt := 4) (by decide) (by decide) (cond5_iff _)
    (fun h0 hk => found_keep 6 (by decide) rfl t rfl hY h0 hk) fun a n => pay11_apply _ _ a n

/-- The buffer of the gate after a step. -/
theorem rel7 {c : Dev nD} {t : Fin cfg0.N} {h hn : Vec Ideal S1024x4096 .bf16} (hI : Inv 1024 128 15 (HN (XA m c) (WA m c)) t.val h hn) {Y} (hY : Found m c 7 t Y) :
    Rl m c 7 t (if k0_cond6 (grid0.coords t) = 1#1 then k0_pay1 (hAfter (grid0.coords t) h hn) (X0_2 m c t) else Y) :=
  after_step hI (fun x => x) (lo := 12) (cnt := 4) (by decide) (by decide) (cond6_iff _)
    (fun h0 hk => found_keep 7 (by decide) rfl t rfl hY h0 hk) fun a n => pay1_apply _ _ a n

/-- The buffer of the convolution's operand after a step. -/
theorem rel8 {c : Dev nD} {t : Fin cfg0.N} {h hn : Vec Ideal S1024x4096 .bf16} (hI : Inv 1024 128 15 (HN (XA m c) (WA m c)) t.val h hn) {Y} (hY : Found m c 8 t Y) :
    Rl m c 8 t (if k0_cond7 (grid0.coords t) = 1#1 then k0_pay2 (hAfter (grid0.coords t) h hn) (X0_2 m c t) else Y) :=
  after_step hI (fun x => x) (lo := 16) (cnt := 8) (by decide) (by decide) (cond7_iff _)
    (fun h0 hk => found_keep 8 (by decide) rfl t rfl hY h0 hk) fun a n => pay2_apply _ _ a n

/-- The buffer of the second gate after a step. -/
theorem rel9 {c : Dev nD} {t : Fin cfg0.N} {h hn : Vec Ideal S1024x4096 .bf16} (hI : Inv 1024 128 15 (HN (XA m c) (WA m c)) t.val h hn) {Y} (hY : Found m c 9 t Y) :
    Rl m c 9 t (if k0_cond8 (grid0.coords t) = 1#1 then k0_pay3 (hAfter (grid0.coords t) h hn) (X0_2 m c t) else Y) :=
  after_step hI (fun x => x) (lo := 24) (cnt := 4) (by decide) (by decide) (cond8_iff _)
    (fun h0 hk => found_keep 9 (by decide) rfl t rfl hY h0 hk) fun a n => pay3_apply _ _ a n

/-- The buffer of the step sizes after a step. -/
theorem rel10 {c : Dev nD} {t : Fin cfg0.N} {h hn : Vec Ideal S1024x4096 .bf16} (hI : Inv 1024 128 15 (HN (XA m c) (WA m c)) t.val h hn)
    (Y : S1024x128.Idx → EReal) :
    Rl m c 10 t (if k0_cond9 (grid0.coords t) = 1#1 then k0_pay4 (hAfter (grid0.coords t) h hn) (iblk m c 3 t) else Y) := by
  obtain ⟨e0, e1⟩ := coords_eq t
  have hc := cond9_iff (grid0.coords t)
  rw [e0, e1] at hc
  intro h0 hl a n
  have hp : k0_cond9 (grid0.coords t) = 1#1 := hc.mpr (by omega)
  rw [if_pos hp, block3]
  refine (pay4_apply _ _ a n).trans ?_
  unfold DR
  refine congrArg₂ dot (funext fun e => rows hI h0 a e) (funext fun e => ?_)
  congr 2
  exact Fin.ext (show n.val = n.val % 128 by omega)

variable (m)

/-- What a step is called with, buffer by buffer, -/
def stepPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ Y, ⌜Found m c 4 t Y⌝ ∗ owns (c : Thread nD τ) (st0_4 t) fullShare Y)
    ∗ (∃ Y, ⌜Found m c 5 t Y⌝ ∗ owns (c : Thread nD τ) (st0_5 t) fullShare Y)
    ∗ (∃ Y, ⌜Found m c 6 t Y⌝ ∗ owns (c : Thread nD τ) (st0_6 t) fullShare Y)
    ∗ (∃ Y, ⌜Found m c 7 t Y⌝ ∗ owns (c : Thread nD τ) (st0_7 t) fullShare Y)
    ∗ (∃ Y, ⌜Found m c 8 t Y⌝ ∗ owns (c : Thread nD τ) (st0_8 t) fullShare Y)
    ∗ (∃ Y, ⌜Found m c 9 t Y⌝ ∗ owns (c : Thread nD τ) (st0_9 t) fullShare Y)
    ∗ (∃ Y, ⌜Found m c 10 t Y⌝ ∗ owns (c : Thread nD τ) (st0_10 t) fullShare Y))

/-- and what it returns. -/
def stepPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ (∃ d, owns (c : Thread nD τ) (st0_2 t) fullShare ((cfg0.win 2).fill (cfg0.grid.coords t) d ((cfg0.win 2).cut (cfg0.grid.coords t) ((dat m c).after 2 t))))
    ∗ owns (c : Thread nD τ) (st0_3 t) fullShare ((dat m c).after 3 t)
    ∗ (∃ X, ⌜Rl m c 4 t X⌝ ∗ owns (c : Thread nD τ) (st0_4 t) fullShare X)
    ∗ (∃ X, ⌜Rl m c 5 t X⌝ ∗ owns (c : Thread nD τ) (st0_5 t) fullShare X)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X))

/-- The tile of weights, refilled of what is moved of it, is itself. -/
theorem refill (c : Dev nD) (t : Fin cfg0.N) : (cfg0.win 2).fill (cfg0.grid.coords t) dflt0_2 ((cfg0.win 2).cut (cfg0.grid.coords t) (X0_2 m c t)) = X0_2 m c t := by
  unfold X0_2
  rw [Pipeline.Window.cut_fill]

set_option maxHeartbeats 1600000 in
/-- One step. -/
theorem step_body (c : Dev nD) (t : Fin cfg0.N) :
    stepPre m c t ⊢ wp frame (wpE (defs₀ (F := Ideal)) Variants.none c none) Set.univ (bodyAt0 t) (fun _ => stepPost m c t) := by
  unfold stepPre stepPost bodyAt0
  simp only [before0, before1, before2, before3]
  rw [show (dat m c).owesAt () t.succ = (dat m c).owesAt () t.castSucc from rfl, after0, after1, after2, after3,
    show (dat m c).Φ t.castSucc = carried m c t.val from rfl, show (dat m c).Φ t.succ = carried m c (t.val + 1) from rfl]
  unfold carried
  iintro ⟨⟨%h, %hn, %hI, HA, HB, Hg⟩, Ho, ⟨%d0, H0⟩, ⟨%d1, H1⟩, ⟨%d2, H2⟩, ⟨%d3, H3⟩, ⟨%Y4, %F4, H4⟩, ⟨%Y5, %F5, H5⟩, ⟨%Y6, %F6, H6⟩, ⟨%Y7, %F7, H7⟩, ⟨%Y8, %F8, H8⟩, ⟨%Y9, %F9, H9⟩, ⟨%Y10, %F10, H10⟩⟩
  iapply (body_run (F := Ideal) c (grid0.coords t) _ _ _ _ _ _ _ _ _ _ _ _ _ _ _ _ _ _ _ _ _ _ _ _ _ _ (iblk m c 0 t) (iblk m c 1 t) (X0_2 m c t) (iblk m c 3 t) Y4 Y5 Y6 Y7 Y8 Y9 Y10 h hn Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HB]; · iexact HB
  iintro ⟨H0, H1, H2, H3, H4, H5, H6, H7, H8, H9, H10, HA, HB⟩
  isplitl [HA HB Hg]
  · iexists _, _
    isplitr
    swap
    · isplitl [HA]; · iexact HA
      isplitl [HB]; · iexact HB
      iexact Hg
    ipureintro
    rw [block1]
    exact inv_succ rfl (steps_lt t) hI (carries t h hn)
  isplitl [Ho]; · iexact Ho
  isplitl [H0]; · iexact H0
  isplitl [H1]; · iexact H1
  isplitl [H2]
  · iexists dflt0_2
    rw [refill]
    iexact H2
  isplitl [H3]; · iexact H3
  isplitl [H4]
  · iexists _
    isplitr
    swap; · iexact H4
    ipureintro; exact rel4 hI F4
  isplitl [H5]
  · iexists _
    isplitr
    swap; · iexact H5
    ipureintro; exact rel5 hI F5
  isplitl [H6]
  · iexists _
    isplitr
    swap; · iexact H6
    ipureintro; exact rel6 hI F6
  isplitl [H7]
  · iexists _
    isplitr
    swap; · iexact H7
    ipureintro; exact rel7 hI F7
  isplitl [H8]
  · iexists _
    isplitr
    swap; · iexact H8
    ipureintro; exact rel8 hI F8
  isplitl [H9]
  · iexists _
    isplitr
    swap; · iexact H9
    ipureintro; exact rel9 hI F9
  iexists _
  isplitr
  swap; · iexact H10
  ipureintro; exact rel10 hI Y10

/-- The body the grid calls at a step. -/
theorem defs_row (t : Fin cfg0.N) : defs₀ (F := Ideal) .tc cfg0.body (cfg0.bodyArgs t (cfg0.slots t)) = bodyAt0 t := by
  unfold defs₀; rw [Defs.onTc_tc]

/-- Every step, as the grid calls it. -/
theorem steps_ok (c : Dev nD) : Pipeline.BodyObligationRel (dat m c) (defs₀ (F := Ideal)) Variants.none () Set.univ fgt (Rl m c) := fun t => by
  rw [bigSep_W0, bigSep_W0, defs_row]
  exact triple_restated (step_body m c t) rfl .rfl fun _ => .rfl

end Cert.Inp
end
-- ==== Proof.Inp.Launch.lean ====
module
public import proofs.«01_k».proof.Proof.Inp.Body
public import Idealize.ShloMosaic.Lib.Pipeline.ArrRel
public import Idealize.ShloMosaic.Lib.Claim

/-! The whole grid run, and what the results' arrays hold after it. -/

@[expose] public section
set_option maxRecDepth 16384
noncomputable section
namespace Cert.Inp
open Cert.Proj Cert.InProjIdeal Cert.InProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

local notation "𝕄" => MT nD τ sig Unit (Elt Ideal) ℕ (UR sig nD τ) ℕ

variable (m : (ℓ : Loc nD τ sig) → Buf (Elt Ideal) ℓ) (ρ : Dev nD → PrngReg)

/-- The program's own buffers outside the grid's, and the generator's register. -/
theorem rest_eq (c : Dev nD) : (Pipeline.ΦA spec0 c : sProp 𝕄)
    = iprop(iprop((∃ d, owns (c : Thread nD τ) hM fullShare d) ∗ (∃ d, owns (c : Thread nD τ) nM fullShare d)) ∗ (∃ r, prngReg c r)) := by
  unfold Pipeline.ΦA; rw [scopedRest0_eq]; simp only [hM, nM, owns_whole]; try rfl

/-- Before the first step nothing is asked of the carried buffers. -/
theorem enter (c : Dev nD) : (Pipeline.ΦA spec0 c : sProp 𝕄) ⊢ carried m c 0 := by
  rw [rest_eq]
  unfold carried
  iintro ⟨⟨⟨%h, HA⟩, ⟨%hn, HB⟩⟩, Hg⟩
  iexists h, hn
  isplitr
  · ipureintro; exact inv_zero h hn
  isplitl [HA]; · iexact HA
  isplitl [HB]; · iexact HB
  iexact Hg

/-- After the last step nothing is said of them any more. -/
theorem leave (c : Dev nD) (n : ℕ) : carried m c n ⊢ (Pipeline.ΦA spec0 c : sProp 𝕄) := by
  rw [rest_eq]
  unfold carried
  iintro ⟨%h, %hn, -, HA, HB, Hg⟩
  isplitl [HA HB]
  · isplitl [HA]
    · iexists h; iexact HA
    iexists hn; iexact HB
  iexact Hg

/-- The grid's data, of the results' buffers only what `Rl` asks. -/
abbrev rdat (c : Dev nD) := (dat m c).toRRel fgt (Rl m c)

set_option backward.isDefEq.respectTransparency.types false in
/-- The program runs, its arrays as the grid's data say, with every counter at zero at the end. -/
theorem run : θ_run defs (onTc (τ := τ) (main (F := Ideal))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (steps_ok m c).toRRel) (hshare := fun c => (dat m c).share_full fun _ => rfl)
    (howed := fun _ _ => rfl) (V := V m) (hmain := hmain m Variants.none) (hA := dat_A m)
    (hin := enter m) (hout := fun c => leave m c _)

variable {m}

/-- The argument arrays end as they were. -/
theorem args {r : PUnit × MemSt nD τ sig (Elt Ideal)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The program frames its arguments. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args h.1 c, h.2⟩) (run m ρ)

/-- The array of the queries. -/
theorem array4 {r : PUnit × MemSt nD τ sig (Elt Ideal)} (h : RDat.FramePost cfg0 (rdat m) (V m) r) (c : Dev nD) :
    r.2.mem ((c.tc : Thread nD τ).loc main_v6_0) = (fun y => QR m c (y 0).val (0 + (y 1).val) : Vec Ideal S16384x2048 .bf16) := by
  obtain ⟨after, hL, hG⟩ := RDat.FramePost.exists_exact h c
  refine (hG 4).trans (Dat.arrAt_eq_of_covers _ 4 _ (by decide +kernel) fun t hf y => ?_)
  have hT : Tile 1024 (QR m c) 0 4 t.val (after 4 t) := Dat.toRRel_leaves _ rfl (hL 4 t hf)
  obtain ⟨h0, hl⟩ := flush_late 4 (by decide) t hf
  obtain ⟨-, -, -, -, hx, -⟩ := idx t
  obtain ⟨a, n, rfl⟩ : ∃ (a : Fin 1024) (n : Fin 512), y = ix2 a n := ⟨y 0, y 1, eq_ix2 y⟩
  exact hT.read (by decide) h0 hl (congrFun hx (0 : Fin 2)) (congrFun hx (1 : Fin 2)) rfl a n

/-- The array of the keys. -/
theorem array5 {r : PUnit × MemSt nD τ sig (Elt Ideal)} (h : RDat.FramePost cfg0 (rdat m) (V m) r) (c : Dev nD) :
    r.2.mem ((c.tc : Thread nD τ).loc main_v6_1) = (fun y => PR m c (y 0).val (2048 + (y 1).val) : Vec Ideal S16384x2048 .f32) := by
  obtain ⟨after, hL, hG⟩ := RDat.FramePost.exists_exact h c
  refine (hG 5).trans (Dat.arrAt_eq_of_covers _ 5 _ (by decide +kernel) fun t hf y => ?_)
  have hT : Tile 1024 (PR m c) 4 4 t.val (after 5 t) := Dat.toRRel_leaves _ rfl (hL 5 t hf)
  obtain ⟨h0, hl⟩ := flush_late 5 (by decide) t hf
  obtain ⟨-, -, -, -, -, hx, -⟩ := idx t
  obtain ⟨a, n, rfl⟩ : ∃ (a : Fin 1024) (n : Fin 512), y = ix2 a n := ⟨y 0, y 1, eq_ix2 y⟩
  exact hT.read (by decide) h0 hl (congrFun hx (0 : Fin 2)) (congrFun hx (1 : Fin 2)) rfl a n

/-- The array of the values. -/
theorem array6 {r : PUnit × MemSt nD τ sig (Elt Ideal)} (h : RDat.FramePost cfg0 (rdat m) (V m) r) (c : Dev nD) :
    r.2.mem ((c.tc : Thread nD τ).loc main_v6_2) = (fun y => PR m c (y 0).val (4096 + (y 1).val) : Vec Ideal S16384x2048 .f32) := by
  obtain ⟨after, hL, hG⟩ := RDat.FramePost.exists_exact h c
  refine (hG 6).trans (Dat.arrAt_eq_of_covers _ 6 _ (by decide +kernel) fun t hf y => ?_)
  have hT : Tile 1024 (PR m c) 8 4 t.val (after 6 t) := Dat.toRRel_leaves _ rfl (hL 6 t hf)
  obtain ⟨h0, hl⟩ := flush_late 6 (by decide) t hf
  obtain ⟨-, -, -, -, -, -, hx, -⟩ := idx t
  obtain ⟨a, n, rfl⟩ : ∃ (a : Fin 1024) (n : Fin 512), y = ix2 a n := ⟨y 0, y 1, eq_ix2 y⟩
  exact hT.read (by decide) h0 hl (congrFun hx (0 : Fin 2)) (congrFun hx (1 : Fin 2)) rfl a n

/-- The array of the gate. -/
theorem array7 {r : PUnit × MemSt nD τ sig (Elt Ideal)} (h : RDat.FramePost cfg0 (rdat m) (V m) r) (c : Dev nD) :
    r.2.mem ((c.tc : Thread nD τ).loc main_v6_3) = (fun y => PR m c (y 0).val (6144 + (y 1).val) : Vec Ideal S16384x2048 .bf16) := by
  obtain ⟨after, hL, hG⟩ := RDat.FramePost.exists_exact h c
  refine (hG 7).trans (Dat.arrAt_eq_of_covers _ 7 _ (by decide +kernel) fun t hf y => ?_)
  have hT : Tile 1024 (PR m c) 12 4 t.val (after 7 t) := Dat.toRRel_leaves _ rfl (hL 7 t hf)
  obtain ⟨h0, hl⟩ := flush_late 7 (by decide) t hf
  obtain ⟨-, -, -, -, -, -, -, hx, -⟩ := idx t
  obtain ⟨a, n, rfl⟩ : ∃ (a : Fin 1024) (n : Fin 512), y = ix2 a n := ⟨y 0, y 1, eq_ix2 y⟩
  exact hT.read (by decide) h0 hl (congrFun hx (0 : Fin 2)) (congrFun hx (1 : Fin 2)) rfl a n

/-- The array of the convolution's operand. -/
theorem array8 {r : PUnit × MemSt nD τ sig (Elt Ideal)} (h : RDat.FramePost cfg0 (rdat m) (V m) r) (c : Dev nD) :
    r.2.mem ((c.tc : Thread nD τ).loc main_v6_4) = (fun y => PR m c (y 0).val (8192 + (y 1).val) : Vec Ideal S16384x4096 .f32) := by
  obtain ⟨after, hL, hG⟩ := RDat.FramePost.exists_exact h c
  refine (hG 8).trans (Dat.arrAt_eq_of_covers _ 8 _ (by decide +kernel) fun t hf y => ?_)
  have hT : Tile 1024 (PR m c) 16 8 t.val (after 8 t) := Dat.toRRel_leaves _ rfl (hL 8 t hf)
  obtain ⟨h0, hl⟩ := flush_late 8 (by decide) t hf
  obtain ⟨-, -, -, -, -, -, -, -, hx, -⟩ := idx t
  obtain ⟨a, n, rfl⟩ : ∃ (a : Fin 1024) (n : Fin 512), y = ix2 a n := ⟨y 0, y 1, eq_ix2 y⟩
  exact hT.read (by decide) h0 hl (congrFun hx (0 : Fin 2)) (congrFun hx (1 : Fin 2)) rfl a n

/-- The array of the second gate. -/
theorem array9 {r : PUnit × MemSt nD τ sig (Elt Ideal)} (h : RDat.FramePost cfg0 (rdat m) (V m) r) (c : Dev nD) :
    r.2.mem ((c.tc : Thread nD τ).loc main_v6_5) = (fun y => PR m c (y 0).val (12288 + (y 1).val) : Vec Ideal S16384x2048 .bf16) := by
  obtain ⟨after, hL, hG⟩ := RDat.FramePost.exists_exact h c
  refine (hG 9).trans (Dat.arrAt_eq_of_covers _ 9 _ (by decide +kernel) fun t hf y => ?_)
  have hT : Tile 1024 (PR m c) 24 4 t.val (after 9 t) := Dat.toRRel_leaves _ rfl (hL 9 t hf)
  obtain ⟨h0, hl⟩ := flush_late 9 (by decide) t hf
  obtain ⟨-, -, -, -, -, -, -, -, -, hx, -⟩ := idx t
  obtain ⟨a, n, rfl⟩ : ∃ (a : Fin 1024) (n : Fin 512), y = ix2 a n := ⟨y 0, y 1, eq_ix2 y⟩
  exact hT.read (by decide) h0 hl (congrFun hx (0 : Fin 2)) (congrFun hx (1 : Fin 2)) rfl a n

/-- The array of the step sizes. -/
theorem array10 {r : PUnit × MemSt nD τ sig (Elt Ideal)} (h : RDat.FramePost cfg0 (rdat m) (V m) r) (c : Dev nD) :
    r.2.mem ((c.tc : Thread nD τ).loc main_v6_6) = (fun y => DR m c (y 0).val (y 1).val : Vec Ideal S16384x128 .f32) := by
  obtain ⟨after, hL, hG⟩ := RDat.FramePost.exists_exact h c
  refine (hG 10).trans (Dat.arrAt_eq_of_covers _ 10 _ (by decide +kernel) fun t hf y => ?_)
  have hT : TileD 1024 (DR m c) t.val (after 10 t) := Dat.toRRel_leaves _ rfl (hL 10 t hf)
  obtain ⟨h0, hl⟩ := flush_late 10 (by decide) t hf
  obtain ⟨-, -, -, -, -, -, -, -, -, -, hx⟩ := idx t
  obtain ⟨a, n, rfl⟩ : ∃ (a : Fin 1024) (n : Fin 128), y = ix2 a n := ⟨y 0, y 1, eq_ix2 y⟩
  refine (hT h0 hl a n).trans (congrArg₂ (DR m c) ?_ ?_)
  · show 1024 * (t.val / 29 - 1) + a.val = win0_10.index t (0 : Fin 2) * 1024 + 1 * a.val
    rw [hx]
    show _ = (t.val / 29 - 1) * 1024 + 1 * a.val
    omega
  · show n.val = win0_10.index t (1 : Fin 2) * 128 + 1 * n.val
    rw [hx]
    show _ = 0 * 128 + 1 * n.val
    omega

end Cert.Inp
end
-- ==== Proof.Inp.Raw.lean ====
module
public import proofs.«01_k».proof.Proof.Inp.Conds
public import proofs.«01_k».proof.Proof.Gen.InProj.Frame
public import proofs.«01_k».proof.Proof.Gen.InProj.Skeleton
public import Idealize.ShloMosaic.Lib.Pipeline.ReadBack
public import Idealize.ShloMosaic.Lib.Pipeline.FrameBody
public import Idealize.ShloMosaic.Lib.Pipeline.DatRel
public import Idealize.ShloMosaic.Lib.Claim

/-! The projection's program, as it is, frames its arguments: the same steps, with nothing said of what the results hold. -/

@[expose] public section
set_option maxRecDepth 16384
noncomputable section
namespace Cert.InpRaw
open Cert.InProj Cert.InProj.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]
local notation "𝕄" => MT nD τ sig Unit (Elt F) ℕ (UR sig nD τ) ℕ

/-- The first condition, as in the other program. -/
abbrev cond1 (i : grid0.Coords) : BitVec 1 :=
  Scalar.cmpi .ne (Scalar.extui (Scalar.andi (Scalar.cmpi .eq (BitVec.ofNat 32 (i 1).val) 0#32) (Scalar.cmpi .sgt (BitVec.ofNat 32 (i 0).val) 0#32)) : BitVec 32) 0#32
/-- The kind of a step: the body branches as the ideal program's. -/
theorem kinds (i : grid0.Coords) : Cert.Proj.Kinds (cond1 i = 1#1) (k0_cond2 i = 1#1) (k0_cond3 i = 1#1) (k0_cond4 i = 1#1) (k0_cond5 i = 1#1)
    (k0_cond6 i = 1#1) (k0_cond7 i = 1#1) (k0_cond8 i = 1#1) (k0_cond9 i = 1#1) := Cert.Inp.kinds i

set_option maxHeartbeats 4000000 in
/-- The body at any step, on whole buffers at any contents: it ends, and leaves the operands. -/
theorem body_ends (c : Dev nD) (i : grid0.Coords) (arg2 : Memref sig .tc .vmem S128x4096 .f32) (harg2 : arg2.IsWhole) (arg3 : Memref sig .tc .vmem S1x4096 .f32) (harg3 : arg3.IsWhole) (arg4 : Memref sig .tc .vmem S512x4096 .bf16) (harg4 : arg4.IsWhole) (arg5 : Memref sig .tc .vmem S128x4096 .bf16) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x128 .f32) (harg12 : arg12.IsWhole) (arg13 : Memref sig .tc .vmem S1024x4096 .bf16) (harg13 : arg13.IsWhole) (arg14 : Memref sig .tc .vmem S1024x4096 .bf16) (harg14 : arg14.IsWhole)
    (x2 : Vec F S128x4096 .f32) (x3 : Vec F S1x4096 .f32) (x4 : Vec F S512x4096 .bf16) (x5 : Vec F S128x4096 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ x, owns (c : Thread nD τ) arg6 fullShare x) ∗ (∃ x, owns (c : Thread nD τ) arg7 fullShare x) ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x) ∗ (∃ x, owns (c : Thread nD τ) arg14 fullShare x)
      ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ x, owns (c : Thread nD τ) arg6 fullShare x) ∗ (∃ x, owns (c : Thread nD τ) arg7 fullShare x) ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x) ∗ (∃ x, owns (c : Thread nD τ) arg14 fullShare x)) -∗ K ⟨⟩))
    ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f2, %hf2, H2⟩, ⟨%f3, %hf3, H3⟩, ⟨%f4, %hf4, H4⟩, ⟨%f5, %hf5, H5⟩, ⟨%x6, %f6, %hf6, H6⟩, ⟨%x7, %f7, %hf7, H7⟩, ⟨%x8, %f8, %hf8, H8⟩, ⟨%x9, %f9, %hf9, H9⟩, ⟨%x10, %f10, %hf10, H10⟩, ⟨%x11, %f11, %hf11, H11⟩, ⟨%x12, %f12, %hf12, H12⟩, ⟨%x13, %f13, %hf13, H13⟩, ⟨%x14, %f14, %hf14, H14⟩, Hk⟩
  obtain rfl := harg2.eq_unread hf2; obtain rfl := harg3.eq_unread hf3; obtain rfl := harg4.eq_unread hf4; obtain rfl := harg5.eq_unread hf5
  simp only [cc0_in_proj_eq_skeleton]; unfold cc0_in_proj_skel
  simp only [k0_part1_eq_skeleton]
  rcases kinds i with ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩
  all_goals
    sl_exec
    sl_step
    iapply Hk
    isplitl [H2]
    · iexists _; isplitr; swap; · iexact H2
      ipureintro
      exact harg2.read_unread _
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact harg5.read_unread _
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

variable (m : (ℓ : Loc nD τ sig) → Buf (Elt F) ℓ) (ρ : Dev nD → PrngReg)

/-- The buffer the tiles are taken from. -/
abbrev hM : Memref sig .tc .vmem S1024x4096 .bf16 := Memref.whole cc0_scratch0
/-- The buffer the next rows are normalised into. -/
abbrev nM : Memref sig .tc .vmem S1024x4096 .bf16 := Memref.whole cc0_scratch1

/-- The program's own buffers outside the grid's, and the generator's register. -/
theorem rest_eq (c : Dev nD) : (Pipeline.ΦA spec0 c : sProp 𝕄)
    = iprop(iprop((∃ d, owns (c : Thread nD τ) hM fullShare d) ∗ (∃ d, owns (c : Thread nD τ) nM fullShare d)) ∗ (∃ r, prngReg c r)) := by
  unfold Pipeline.ΦA; rw [scopedRest0_eq]; simp only [hM, nM, owns_whole]; try rfl

/-- The windows of the results. -/
def fgt (w : Fin cfg0.W) : Bool := match w with
  | ⟨4, _⟩ | ⟨5, _⟩ | ⟨6, _⟩ | ⟨7, _⟩ | ⟨8, _⟩ | ⟨9, _⟩ | ⟨10, _⟩ => true
  | _ => false

/-- The grid's arrays, and what the operands' buffers hold at each step. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => fun _ => Classical.choice inferInstance
    | ⟨5, _⟩ => fun _ => Classical.choice inferInstance
    | ⟨6, _⟩ => fun _ => Classical.choice inferInstance
    | ⟨7, _⟩ => fun _ => Classical.choice inferInstance
    | ⟨8, _⟩ => fun _ => Classical.choice inferInstance
    | ⟨9, _⟩ => fun _ => Classical.choice inferInstance
    | ⟨10, _⟩ => fun _ => Classical.choice inferInstance
  Φ _ := Pipeline.ΦA spec0 c
  q _ := fullShare
  owed _ := 0

theorem dat_A (c : Dev nD) (w : Fin cfg0.W) : (dat m c).A w = V m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = X0_2 m c t := by dsimp only [dat]
theorem after3 (c : Dev nD) (t : Fin cfg0.N) : (dat m c).after 3 t = iblk m c 3 t := by dsimp only [dat]
theorem before0 (c : Dev nD) (t : Fin cfg0.N) (d) : (dat m c).before 0 t d = iblk m c 0 t := before0_0_of m (dat m c) (dat_A m c 0) (after0 m c) t d
theorem before1 (c : Dev nD) (t : Fin cfg0.N) (d) : (dat m c).before 1 t d = iblk m c 1 t := before0_1_of m (dat m c) (dat_A m c 1) (after1 m c) t d
theorem before2 (c : Dev nD) (t : Fin cfg0.N) (d) : (dat m c).before 2 t d = X0_2 m c t := before0_2_of m (dat m c) (dat_A m c 2) (after2 m c) t d
theorem before3 (c : Dev nD) (t : Fin cfg0.N) (d) : (dat m c).before 3 t d = iblk m c 3 t := before0_3_of m (dat m c) (dat_A m c 3) (after3 m c) t d

/-- Of a result's buffer after a step nothing is asked. -/
abbrev Rl (w : Fin cfg0.W) (_ : Fin cfg0.N) : ((cfg0.win w).block.Idx → Elt F (cfg0.win w).elt) → Prop := fun _ => True
/-- What a result's buffer may be found to hold before a step. -/
abbrev Found (c : Dev nD) (w : Fin cfg0.W) (t : Fin cfg0.N) (Y : (cfg0.win w).block.Idx → Elt F (cfg0.win w).elt) : Prop :=
  ((dat m c).toRRel fgt Rl).Finds w t Y

/-- What a step is called with, buffer by buffer, -/
def stepPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ Y, ⌜Found m c 4 t Y⌝ ∗ owns (c : Thread nD τ) (st0_4 t) fullShare Y)
    ∗ (∃ Y, ⌜Found m c 5 t Y⌝ ∗ owns (c : Thread nD τ) (st0_5 t) fullShare Y)
    ∗ (∃ Y, ⌜Found m c 6 t Y⌝ ∗ owns (c : Thread nD τ) (st0_6 t) fullShare Y)
    ∗ (∃ Y, ⌜Found m c 7 t Y⌝ ∗ owns (c : Thread nD τ) (st0_7 t) fullShare Y)
    ∗ (∃ Y, ⌜Found m c 8 t Y⌝ ∗ owns (c : Thread nD τ) (st0_8 t) fullShare Y)
    ∗ (∃ Y, ⌜Found m c 9 t Y⌝ ∗ owns (c : Thread nD τ) (st0_9 t) fullShare Y)
    ∗ (∃ Y, ⌜Found m c 10 t Y⌝ ∗ owns (c : Thread nD τ) (st0_10 t) fullShare Y))

/-- and what it returns. -/
def stepPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ (∃ d, owns (c : Thread nD τ) (st0_2 t) fullShare ((cfg0.win 2).fill (cfg0.grid.coords t) d ((cfg0.win 2).cut (cfg0.grid.coords t) ((dat m c).after 2 t))))
    ∗ owns (c : Thread nD τ) (st0_3 t) fullShare ((dat m c).after 3 t)
    ∗ (∃ X, ⌜Rl (F := F) 4 t X⌝ ∗ owns (c : Thread nD τ) (st0_4 t) fullShare X)
    ∗ (∃ X, ⌜Rl (F := F) 5 t X⌝ ∗ owns (c : Thread nD τ) (st0_5 t) fullShare X)
    ∗ (∃ X, ⌜Rl (F := F) 6 t X⌝ ∗ owns (c : Thread nD τ) (st0_6 t) fullShare X)
    ∗ (∃ X, ⌜Rl (F := F) 7 t X⌝ ∗ owns (c : Thread nD τ) (st0_7 t) fullShare X)
    ∗ (∃ X, ⌜Rl (F := F) 8 t X⌝ ∗ owns (c : Thread nD τ) (st0_8 t) fullShare X)
    ∗ (∃ X, ⌜Rl (F := F) 9 t X⌝ ∗ owns (c : Thread nD τ) (st0_9 t) fullShare X)
    ∗ (∃ X, ⌜Rl (F := F) 10 t X⌝ ∗ owns (c : Thread nD τ) (st0_10 t) fullShare X))

/-- The tile of weights, refilled of what is moved of it, is itself. -/
theorem refill (c : Dev nD) (t : Fin cfg0.N) : (cfg0.win 2).fill (cfg0.grid.coords t) dflt0_2 ((cfg0.win 2).cut (cfg0.grid.coords t) (X0_2 m c t)) = X0_2 m c t := by
  unfold X0_2
  rw [Pipeline.Window.cut_fill]

set_option maxHeartbeats 1600000 in
/-- One step. -/
theorem step_body (c : Dev nD) (t : Fin cfg0.N) :
    stepPre m c t ⊢ wp frame (wpE (defs₀ (F := F)) Variants.none c none) Set.univ (bodyAt0 t) (fun _ => stepPost m c t) := by
  unfold stepPre stepPost bodyAt0
  simp only [before0, before1, before2, before3]
  rw [show (dat m c).owesAt () t.succ = (dat m c).owesAt () t.castSucc from rfl, after0, after1, after2, after3,
    show (dat m c).Φ t.castSucc = Pipeline.ΦA spec0 c from rfl, show (dat m c).Φ t.succ = Pipeline.ΦA spec0 c from rfl, rest_eq]
  iintro ⟨⟨⟨HA, HB⟩, Hg⟩, Ho, ⟨%d0, H0⟩, ⟨%d1, H1⟩, ⟨%d2, H2⟩, ⟨%d3, H3⟩, ⟨%Y4, -, H4⟩, ⟨%Y5, -, H5⟩, ⟨%Y6, -, H6⟩, ⟨%Y7, -, H7⟩, ⟨%Y8, -, H8⟩, ⟨%Y9, -, H9⟩, ⟨%Y10, -, H10⟩⟩
  iapply (body_ends (F := F) c (grid0.coords t) _ _ _ _ _ _ _ _ _ _ _ _ _ _ _ _ _ _ _ _ _ _ _ _ _ _ (iblk m c 0 t) (iblk m c 1 t) (X0_2 m c t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HA]; · iexact HA
  isplitl [HB]; · iexact HB
  iintro ⟨H0, H1, H2, H3, ⟨%Z4, H4⟩, ⟨%Z5, H5⟩, ⟨%Z6, H6⟩, ⟨%Z7, H7⟩, ⟨%Z8, H8⟩, ⟨%Z9, H9⟩, ⟨%Z10, H10⟩, HA, HB⟩
  isplitl [HA HB Hg]
  · isplitl [HA HB]
    · isplitl [HA]; · iexact HA
      iexact HB
    iexact Hg
  isplitl [Ho]; · iexact Ho
  isplitl [H0]; · iexact H0
  isplitl [H1]; · iexact H1
  isplitl [H2]
  · iexists dflt0_2
    rw [refill]
    iexact H2
  isplitl [H3]; · iexact H3
  isplitl [H4]
  · iexists _
    isplitr
    swap; · iexact H4
    ipureintro; trivial
  isplitl [H5]
  · iexists _
    isplitr
    swap; · iexact H5
    ipureintro; trivial
  isplitl [H6]
  · iexists _
    isplitr
    swap; · iexact H6
    ipureintro; trivial
  isplitl [H7]
  · iexists _
    isplitr
    swap; · iexact H7
    ipureintro; trivial
  isplitl [H8]
  · iexists _
    isplitr
    swap; · iexact H8
    ipureintro; trivial
  isplitl [H9]
  · iexists _
    isplitr
    swap; · iexact H9
    ipureintro; trivial
  iexists _
  isplitr
  swap; · iexact H10
  ipureintro; trivial

/-- The body the grid calls at a step. -/
theorem defs_row (t : Fin cfg0.N) : defs₀ (F := F) .tc cfg0.body (cfg0.bodyArgs t (cfg0.slots t)) = bodyAt0 t := by
  unfold defs₀; rw [Defs.onTc_tc]

/-- Every step, as the grid calls it. -/
theorem steps_ok (c : Dev nD) : Pipeline.BodyObligationRel (dat m c) (defs₀ (F := F)) Variants.none () Set.univ fgt Rl := fun t => by
  rw [bigSep_W0, bigSep_W0, defs_row]
  exact triple_restated (step_body m c t) rfl .rfl fun _ => .rfl

/-- The grid's data. -/
abbrev rdat (c : Dev nD) := (dat m c).toRRel fgt Rl

set_option backward.isDefEq.respectTransparency.types false in
/-- The program runs, its arrays as the grid's data say, with every counter at zero at the end. -/
theorem run : θ_run defs (onTc (τ := τ) (main (F := F))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (steps_ok m c).toRRel) (hshare := fun c => (dat m c).share_full fun _ => rfl)
    (howed := fun _ _ => rfl) (V := V m) (hmain := hmain m Variants.none) (hA := dat_A m)
    (hin := fun _ => .rfl) (hout := fun _ => .rfl)

/-- The program frames its arguments. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

end Cert.InpRaw
end
-- ==== Proof.InpS.Conds.lean ====
module
public import proofs.«01_k».proof.Proof.Gen.InProjSIdeal.Skeleton
public import proofs.«01_k».proof.Proof.Inp.Conds

/-! At the sample's shapes: the branch conditions of the projection's body, and the rows it normalises, in terms of the row block `i 0` and the step `i 1`. -/

@[expose] public section
set_option maxRecDepth 16384
noncomputable section
namespace Cert.InpS
open Cert.InProjSIdeal Cert.InProjSIdeal.Gen Idealize.ShloMosaic Idealize.SL.Sem

/-- The same row block and step in the prompt's grid, whose body branches alike. -/
abbrev other (i : grid0.Coords) : Cert.InProjIdeal.grid0.Coords
  | 0 => ⟨(i 0).val, Nat.lt_of_lt_of_le (i 0).isLt (by decide)⟩
  | 1 => i 1

/-- The first condition: a row block's first step, the first row block apart. -/
abbrev cond1 (i : grid0.Coords) : BitVec 1 :=
  Scalar.cmpi .ne (Scalar.extui (Scalar.andi (Scalar.cmpi .eq (BitVec.ofNat 32 (i 1).val) 0#32) (Scalar.cmpi .sgt (BitVec.ofNat 32 (i 0).val) 0#32)) : BitVec 32) 0#32

theorem cond1_iff (i : grid0.Coords) : cond1 i = 1#1 ↔ (i 1).val = 0 ∧ 0 < (i 0).val := Cert.Inp.cond1_iff (other i)

/-- A statement of a row block and a step, decided over all of them. -/
theorem grid_forall {p : grid0.Coords → Prop} (h : ∀ (a : Fin 2) (b : Fin 29), p (fun | 0 => a | 1 => b)) (i : grid0.Coords) : p i := by
  have e : i = (fun | 0 => i 0 | 1 => i 1) := by
    funext t
    match t with
    | 0 => rfl
    | 1 => rfl
  rw [e]; exact h (i 0) (i 1)

theorem cond2_iff (i : grid0.Coords) : k0_cond2 i = 1#1 ↔ (i 0).val = 0 ∧ (i 1).val < 8 := Cert.Inp.cond2_iff (other i)
theorem cond3_iff (i : grid0.Coords) : k0_cond3 i = 1#1 ↔ (i 1).val < 4 ∧ 0 < (i 0).val := Cert.Inp.cond3_iff (other i)
theorem cond4_iff (i : grid0.Coords) : k0_cond4 i = 1#1 ↔ (4 ≤ (i 1).val ∧ (i 1).val < 8) ∧ 0 < (i 0).val := Cert.Inp.cond4_iff (other i)
theorem cond5_iff (i : grid0.Coords) : k0_cond5 i = 1#1 ↔ (8 ≤ (i 1).val ∧ (i 1).val < 12) ∧ 0 < (i 0).val := Cert.Inp.cond5_iff (other i)
theorem cond6_iff (i : grid0.Coords) : k0_cond6 i = 1#1 ↔ (12 ≤ (i 1).val ∧ (i 1).val < 16) ∧ 0 < (i 0).val := Cert.Inp.cond6_iff (other i)
theorem cond7_iff (i : grid0.Coords) : k0_cond7 i = 1#1 ↔ (16 ≤ (i 1).val ∧ (i 1).val < 24) ∧ 0 < (i 0).val := Cert.Inp.cond7_iff (other i)
theorem cond8_iff (i : grid0.Coords) : k0_cond8 i = 1#1 ↔ (24 ≤ (i 1).val ∧ (i 1).val < 28) ∧ 0 < (i 0).val := Cert.Inp.cond8_iff (other i)
theorem cond9_iff (i : grid0.Coords) : k0_cond9 i = 1#1 ↔ (i 1).val = 28 ∧ 0 < (i 0).val := Cert.Inp.cond9_iff (other i)
theorem off1_eq (i : grid0.Coords) : k0_off1 i = ![64 * (i 1).val, 0] :=
  grid_forall (p := fun i => k0_off1 i = ![64 * (i 1).val, 0]) (by decide +kernel) i
theorem off2_eq (i : grid0.Coords) : k0_off2 i = ![64 * (i 1).val, 0] :=
  grid_forall (p := fun i => k0_off2 i = ![64 * (i 1).val, 0]) (by decide +kernel) i
theorem off3_eq (i : grid0.Coords) : k0_off3 i = ![64 * (i 1).val, 0] :=
  grid_forall (p := fun i => k0_off3 i = ![64 * (i 1).val, 0]) (by decide +kernel) i

/-- The kind of a step. -/
theorem kinds (i : grid0.Coords) : Cert.Proj.Kinds (cond1 i = 1#1) (k0_cond2 i = 1#1) (k0_cond3 i = 1#1) (k0_cond4 i = 1#1) (k0_cond5 i = 1#1)
    (k0_cond6 i = 1#1) (k0_cond7 i = 1#1) (k0_cond8 i = 1#1) (k0_cond9 i = 1#1) :=
  Cert.Proj.kinds_of (i 1).isLt (cond1_iff i) (cond2_iff i) (cond3_iff i) (cond4_iff i) (cond5_iff i) (cond6_iff i) (cond7_iff i) (cond8_iff i) (cond9_iff i)

end Cert.InpS
end
-- ==== Proof.InpS.Run.lean ====
module
public import proofs.«01_k».proof.Proof.InpS.Conds
public import proofs.«01_k».proof.Proof.Gen.InProjSIdeal.Frame
public import Idealize.ShloMosaic.Lib.Pipeline.ReadBack
public import proofs.«01_k».proof.Proof.Carry.Mem
public import proofs.«01_k».proof.Proof.Proj.Step

/-! One step of the projection's body: what it leaves in each buffer, of what it found there. -/

@[expose] public section
set_option maxRecDepth 16384
noncomputable section
namespace Cert.InpS
open Cert.Carry Cert.Proj Cert.InProjSIdeal Cert.InProjSIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The row block the tiles are taken from, after a step: at a row block's first step it takes over the rows normalised before. -/
def hAfter (i : grid0.Coords) (h n : Vec F S512x4096 .bf16) : Vec F S512x4096 .bf16 := if cond1 i = 1#1 then k0_pay5 n else h

/-- The rows normalised so far, after a step: its own 64 rows written over. -/
def nAfter (i : grid0.Coords) (x : Vec F S64x4096 .f32) (w : Vec F S1x4096 .f32) (n : Vec F S512x4096 .bf16) : Vec F S512x4096 .bf16 :=
  if h2 : k0_cond2 i = 1#1 then (Rect.unit (s := S512x4096) (k0_off1 i) S64x4096.size (k0_off1_inb i h2)).overlay n (k0_pay6 x w)
  else if h3 : k0_cond3 i = 1#1 then (Rect.unit (s := S512x4096) (k0_off2 i) S64x4096.size (k0_off2_inb i h3)).overlay n (k0_pay8 x w)
  else if h4 : k0_cond4 i = 1#1 then (Rect.unit (s := S512x4096) (k0_off3 i) S64x4096.size (k0_off3_inb i h4)).overlay n (k0_pay10 x w)
  else n

set_option maxHeartbeats 4000000 in
/-- The body at any step, on whole buffers at any contents. -/
theorem body_run (c : Dev nD) (i : grid0.Coords) (arg2 : Memref sig .tc .vmem S64x4096 .f32) (harg2 : arg2.IsWhole) (arg3 : Memref sig .tc .vmem S1x4096 .f32) (harg3 : arg3.IsWhole) (arg4 : Memref sig .tc .vmem S512x4096 .bf16) (harg4 : arg4.IsWhole) (arg5 : Memref sig .tc .vmem S128x4096 .bf16) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole) (arg12 : Memref sig .tc .vmem S512x128 .f32) (harg12 : arg12.IsWhole) (arg13 : Memref sig .tc .vmem S512x4096 .bf16) (harg13 : arg13.IsWhole) (arg14 : Memref sig .tc .vmem S512x4096 .bf16) (harg14 : arg14.IsWhole)
    (x2 : Vec F S64x4096 .f32) (x3 : Vec F S1x4096 .f32) (x4 : Vec F S512x4096 .bf16) (x5 : Vec F S128x4096 .bf16) (x6 : Vec F S512x512 .bf16) (x7 : Vec F S512x512 .f32) (x8 : Vec F S512x512 .f32) (x9 : Vec F S512x512 .bf16) (x10 : Vec F S512x512 .f32) (x11 : Vec F S512x512 .bf16) (x12 : Vec F S512x128 .f32) (x13 : Vec F S512x4096 .bf16) (x14 : Vec F S512x4096 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (if k0_cond3 i = 1#1 then k0_pay7 (hAfter i x13 x14) x4 else x6) ∗ owns (c : Thread nD τ) arg7 fullShare (if k0_cond4 i = 1#1 then k0_pay9 (hAfter i x13 x14) x4 else x7) ∗ owns (c : Thread nD τ) arg8 fullShare (if k0_cond5 i = 1#1 then k0_pay11 (hAfter i x13 x14) x4 else x8) ∗ owns (c : Thread nD τ) arg9 fullShare (if k0_cond6 i = 1#1 then k0_pay1 (hAfter i x13 x14) x4 else x9) ∗ owns (c : Thread nD τ) arg10 fullShare (if k0_cond7 i = 1#1 then k0_pay2 (hAfter i x13 x14) x4 else x10) ∗ owns (c : Thread nD τ) arg11 fullShare (if k0_cond8 i = 1#1 then k0_pay3 (hAfter i x13 x14) x4 else x11) ∗ owns (c : Thread nD τ) arg12 fullShare (if k0_cond9 i = 1#1 then k0_pay4 (hAfter i x13 x14) x5 else x12) ∗ owns (c : Thread nD τ) arg13 fullShare (hAfter i x13 x14) ∗ owns (c : Thread nD τ) arg14 fullShare (nAfter i x2 x3 x14)) -∗ K ⟨⟩))
    ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  simp only [cc0_in_proj_eq_skeleton]; unfold cc0_in_proj_skel
  simp only [k0_part1_eq_skeleton]
  rcases kinds i with ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩
  all_goals
    sl_exec
    sl_step
    iapply Hk
    isplitl [H2]
    · iexists _; isplitr; swap; · iexact H2
      ipureintro
      exact harg2.read_unread _
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact harg5.read_unread _
    isplitl [H6]
    · iexists _; isplitr; swap; · iexact H6
      ipureintro
      first | (rw [if_neg h3]; exact harg6.read_unread _)
            | (rw [if_pos h3, hAfter, if_neg h1, store_whole, load_whole, load_whole])
            | (rw [if_pos h3, hAfter, if_pos h1, store_whole]; unfold body_run.sl.v57; unfold body_run.sl.H13_1; rw [load_stored, load_whole, load_whole])
    isplitl [H7]
    · iexists _; isplitr; swap; · iexact H7
      ipureintro
      first | (rw [if_neg h4]; exact harg7.read_unread _)
            | (rw [if_pos h4, hAfter, if_neg h1, store_whole, load_whole, load_whole])
            | (rw [if_pos h4, hAfter, if_pos h1, store_whole]; unfold body_run.sl.v57; unfold body_run.sl.H13_1; rw [load_stored, load_whole, load_whole])
    isplitl [H8]
    · iexists _; isplitr; swap; · iexact H8
      ipureintro
      first | (rw [if_neg h5]; exact harg8.read_unread _)
            | (rw [if_pos h5, hAfter, if_neg h1, store_whole, load_whole, load_whole])
            | (rw [if_pos h5, hAfter, if_pos h1, store_whole]; unfold body_run.sl.v57; unfold body_run.sl.H13_1; rw [load_stored, load_whole, load_whole])
    isplitl [H9]
    · iexists _; isplitr; swap; · iexact H9
      ipureintro
      first | (rw [if_neg h6]; exact harg9.read_unread _)
            | (rw [if_pos h6, hAfter, if_neg h1, store_whole, load_whole, load_whole])
            | (rw [if_pos h6, hAfter, if_pos h1, store_whole]; unfold body_run.sl.v57; unfold body_run.sl.H13_1; rw [load_stored, load_whole, load_whole])
    isplitl [H10]
    · iexists _; isplitr; swap; · iexact H10
      ipureintro
      first | (rw [if_neg h7]; exact harg10.read_unread _)
            | (rw [if_pos h7, hAfter, if_neg h1, store_whole, load_whole, load_whole])
            | (rw [if_pos h7, hAfter, if_pos h1, store_whole]; unfold body_run.sl.v57; unfold body_run.sl.H13_1; rw [load_stored, load_whole, load_whole])
    isplitl [H11]
    · iexists _; isplitr; swap; · iexact H11
      ipureintro
      first | (rw [if_neg h8]; exact harg11.read_unread _)
            | (rw [if_pos h8, hAfter, if_neg h1, store_whole, load_whole, load_whole])
            | (rw [if_pos h8, hAfter, if_pos h1, store_whole]; unfold body_run.sl.v57; unfold body_run.sl.H13_1; rw [load_stored, load_whole, load_whole])
    isplitl [H12]
    · iexists _; isplitr; swap; · iexact H12
      ipureintro
      first | (rw [if_neg h9]; exact harg12.read_unread _)
            | (rw [if_pos h9, hAfter, if_neg h1, store_whole, load_whole, load_whole])
            | (rw [if_pos h9, hAfter, if_pos h1, store_whole]; unfold body_run.sl.v57; unfold body_run.sl.H13_1; rw [load_stored, load_whole, load_whole])
    isplitl [H13]
    · iexists _; isplitr; swap; · iexact H13
      ipureintro
      first | (rw [hAfter, if_neg h1]; exact harg13.read_unread _)
            | (unfold body_run.sl.H13_1; rw [hAfter, if_pos h1, store_whole, load_whole])
    iexists _; isplitr; swap; · iexact H14
    ipureintro
    first | (rw [nAfter, dif_neg h2, dif_neg h3, dif_neg h4]; exact harg14.read_unread _)
          | (rw [nAfter, dif_pos h2, store_rows, load_whole, load_whole])
          | (rw [nAfter, dif_neg h2, dif_pos h3, store_rows, load_whole, load_whole])
          | (rw [nAfter, dif_neg h2, dif_neg h3, dif_pos h4, store_rows, load_whole, load_whole])

end Cert.InpS
end
-- ==== Proof.InpS.Pay.lean ====
module
public import proofs.«01_k».proof.Proof.InpS.Run

/-! The values one step computes, element by element: a row divided by its root mean square and weighted, and a row times a weight row. -/

@[expose] public section
set_option maxRecDepth 16384
noncomputable section
namespace Cert.InpS
open Cert.Proj Cert.InProjSIdeal Cert.InProjSIdeal.Gen Idealize.ShloMosaic Idealize.ShloMosaic.TcCoe Idealize.ShloMosaic.Tactic Idealize.SL.Sem

/-- The copy of the normalised rows. -/
theorem pay5_apply (h : Vec Ideal S512x4096 .bf16) (a : Fin 512) (d : Fin 4096) : k0_pay5 h (ix2 a d) = h (ix2 a d) := by
  pointwise [k0_pay5]

/-- The strip a step normalises. -/
theorem pay6_apply (x : Vec Ideal S64x4096 .f32) (w : Vec Ideal S1x4096 .f32) (a : Fin 64) (d : Fin 4096) :
    k0_pay6 x w (ix2 a d) = nrm (fun e => x (ix2 a e)) (fun e => w (ix2 0 e)) d := by
  pointwise [k0_pay6]
  exact (rfl)

/-- The three steps that normalise a strip compute the same. -/
theorem pay8_eq (x : Vec Ideal S64x4096 .f32) (w : Vec Ideal S1x4096 .f32) : k0_pay8 x w = k0_pay6 x w := rfl
/-- The three steps that normalise a strip compute the same. -/
theorem pay10_eq (x : Vec Ideal S64x4096 .f32) (w : Vec Ideal S1x4096 .f32) : k0_pay10 x w = k0_pay6 x w := rfl

/-- A tile of the queries, scaled. -/
theorem pay7_apply (h : Vec Ideal S512x4096 .bf16) (w : Vec Ideal S512x4096 .bf16) (a : Fin 512) (n : Fin 512) :
    k0_pay7 h w (ix2 a n) = dot (fun e => h (ix2 a e)) (fun e => w (ix2 n e)) * (Named.named (F := Ideal) κ "q_scale" (φ := .f32) 0x3E0293EE#32 : EReal) := by
  pointwise [k0_pay7]
  exact (rfl)
/-- A tile of the keys. -/
theorem pay9_apply (h : Vec Ideal S512x4096 .bf16) (w : Vec Ideal S512x4096 .bf16) (a : Fin 512) (n : Fin 512) :
    k0_pay9 h w (ix2 a n) = dot (fun e => h (ix2 a e)) (fun e => w (ix2 n e)) := by
  pointwise [k0_pay9]
  exact (rfl)
/-- A tile of the values. -/
theorem pay11_apply (h : Vec Ideal S512x4096 .bf16) (w : Vec Ideal S512x4096 .bf16) (a : Fin 512) (n : Fin 512) :
    k0_pay11 h w (ix2 a n) = dot (fun e => h (ix2 a e)) (fun e => w (ix2 n e)) := by
  pointwise [k0_pay11]
  exact (rfl)
/-- A tile of the gate. -/
theorem pay1_apply (h : Vec Ideal S512x4096 .bf16) (w : Vec Ideal S512x4096 .bf16) (a : Fin 512) (n : Fin 512) :
    k0_pay1 h w (ix2 a n) = dot (fun e => h (ix2 a e)) (fun e => w (ix2 n e)) := by
  pointwise [k0_pay1]
  exact (rfl)
/-- A tile of the convolution's operand. -/
theorem pay2_apply (h : Vec Ideal S512x4096 .bf16) (w : Vec Ideal S512x4096 .bf16) (a : Fin 512) (n : Fin 512) :
    k0_pay2 h w (ix2 a n) = dot (fun e => h (ix2 a e)) (fun e => w (ix2 n e)) := by
  pointwise [k0_pay2]
  exact (rfl)
/-- A tile of the second gate. -/
theorem pay3_apply (h : Vec Ideal S512x4096 .bf16) (w : Vec Ideal S512x4096 .bf16) (a : Fin 512) (n : Fin 512) :
    k0_pay3 h w (ix2 a n) = dot (fun e => h (ix2 a e)) (fun e => w (ix2 n e)) := by
  pointwise [k0_pay3]
  exact (rfl)
/-- The step sizes' columns. -/
theorem pay4_apply (h : Vec Ideal S512x4096 .bf16) (w : Vec Ideal S128x4096 .bf16) (a : Fin 512) (n : Fin 128) :
    k0_pay4 h w (ix2 a n) = dot (fun e => h (ix2 a e)) (fun e => w (ix2 n e)) := by
  pointwise [k0_pay4]
  exact (rfl)

end Cert.InpS
end
-- ==== Proof.InpS.Idx.lean ====
module
public import proofs.«01_k».proof.Proof.Gen.InProjSIdeal.Frame
public import Idealize.ShloMosaic.Lib.Pipeline.ValueKit
public import proofs.«01_k».proof.Proof.Proj.Tile

/-! Which block of each array a step works on, and at which steps a finished block is written back. -/

@[expose] public section
set_option maxRecDepth 16384
noncomputable section
namespace Cert.InpS
open Cert.Proj Cert.InProjSIdeal Cert.InProjSIdeal.Gen Idealize.ShloMosaic Idealize.ShloMosaic.TcCoe

/-- The blocks of the operands and of the results at a step. -/
theorem idx : ∀ t : Fin cfg0.N, win0_0.index t = ![8 * min (t.val / 29) 0 + min (t.val % 29) 7, 0] ∧ win0_1.index t = ![0, 0]
    ∧ win0_2.index t = ![if 0 < t.val / 29 then min (t.val % 29) 27 else 0, 0] ∧ win0_3.index t = ![0, 0]
    ∧ win0_4.index t = ![t.val / 29 - 1, colOf 0 4 (t.val / 29) (t.val % 29)] ∧ win0_5.index t = ![t.val / 29 - 1, colOf 4 4 (t.val / 29) (t.val % 29)]
    ∧ win0_6.index t = ![t.val / 29 - 1, colOf 8 4 (t.val / 29) (t.val % 29)] ∧ win0_7.index t = ![t.val / 29 - 1, colOf 12 4 (t.val / 29) (t.val % 29)]
    ∧ win0_8.index t = ![t.val / 29 - 1, colOf 16 8 (t.val / 29) (t.val % 29)] ∧ win0_9.index t = ![t.val / 29 - 1, colOf 24 4 (t.val / 29) (t.val % 29)]
    ∧ win0_10.index t = ![t.val / 29 - 1, 0] :=
  (by decide +kernel : ∀ t : Fin grid0.N, _)

/-- A block is only written back after the step that computed it. -/
theorem flush_late : ∀ w : Fin cfg0.W, 4 ≤ w.val → ∀ t : Fin cfg0.N, (cfg0.win w).flush t = true → 0 < t.val / 29 ∧ lo w ≤ t.val % 29 :=
  (by decide +kernel : ∀ w : Fin 11, 4 ≤ w.val → ∀ t : Fin grid0.N, ((win0 w).flush t = true → _))

end Cert.InpS
end
-- ==== Proof.InpS.Step.lean ====
module
public import proofs.«01_k».proof.Proof.InpS.Pay
public import proofs.«01_k».proof.Proof.InpS.Idx

/-! What a step makes of the two carried buffers: the rows it takes over, and the strip it normalises. -/

@[expose] public section
set_option maxRecDepth 16384
noncomputable section
namespace Cert.InpS
open Cert.Proj Cert.InProjSIdeal Cert.InProjSIdeal.Gen Idealize.ShloMosaic Idealize.ShloMosaic.TcCoe Idealize.ShloMosaic.Tactic Idealize.SL.Sem

/-- The coordinates of a step. -/
theorem coords_eq : ∀ t : Fin cfg0.N, (grid0.coords t 0).val = t.val / 29 ∧ (grid0.coords t 1).val = t.val % 29 :=
  (by decide +kernel : ∀ t : Fin grid0.N, _)

variable (X : Vec Ideal S512x4096 .f32) (W : Vec Ideal S1x4096 .f32)

/-- A row of the input, normalised. -/
def HN (r : ℕ) (d : Fin 4096) : EReal := nrm (fun e => X (ix2 (Fin.ofNat 512 r) e)) (fun e => W (ix2 0 e)) d

variable {X W}

/-- A step's buffers, as the shared account of the projection has them. -/
theorem moves (t : Fin cfg0.N) (h hn : Vec Ideal S512x4096 .bf16) (x : Vec Ideal S64x4096 .f32)
    (hx : ∀ (a : Fin 64) (e : Fin 4096), x (ix2 a e) = X (ix2 (Fin.ofNat 512 (64 * (8 * min (t.val / 29) 0 + min (t.val % 29) 7) + a)) e)) :
    Moves 512 64 0 (HN X W) t.val h hn (hAfter (grid0.coords t) h hn) (nAfter (grid0.coords t) x W hn) := by
  obtain ⟨e0, e1⟩ := coords_eq t
  have c1 := cond1_iff (grid0.coords t)
  have c2 := cond2_iff (grid0.coords t)
  have c3 := cond3_iff (grid0.coords t)
  have c4 := cond4_iff (grid0.coords t)
  have o1 := off1_eq (grid0.coords t)
  have o2 := off2_eq (grid0.coords t)
  have o3 := off3_eq (grid0.coords t)
  rw [e1] at o1 o2 o3
  rw [e0, e1] at c1 c2 c3 c4
  have hw : t.val % 29 < 8 → ∀ (a : Fin 64) (d : Fin 4096), k0_pay6 x W (ix2 a d) = HN X W (512 * min (t.val / 29) 0 + 64 * (t.val % 29) + a) d := by
    intro hj a d
    rw [pay6_apply]
    refine congrArg (fun f => nrm f _ d) (funext fun e => (hx a e).trans (congrArg (fun r => X (ix2 (Fin.ofNat 512 r) e)) ?_))
    omega
  refine ⟨fun hz h0 a d => ?_, fun hz => ?_, fun h8 a d => ?_, fun h8 => ?_⟩
  · unfold hAfter
    rw [if_pos (c1.mpr ⟨hz, h0⟩), pay5_apply]
  · unfold hAfter
    exact if_neg fun hc => absurd (c1.mp hc).1 hz.ne'
  · unfold nAfter
    by_cases h2 : k0_cond2 (grid0.coords t) = 1#1
    · rw [dif_pos h2]
      exact overlay_strip _ _ _ o1 _ hn _ (hw h8) a d
    rw [dif_neg h2]
    by_cases h3 : k0_cond3 (grid0.coords t) = 1#1
    · rw [dif_pos h3, pay8_eq]
      exact overlay_strip _ _ _ o2 _ hn _ (hw h8) a d
    rw [dif_neg h3]
    have h4 : k0_cond4 (grid0.coords t) = 1#1 := by
      rw [c2] at h2
      rw [c3] at h3
      rw [c4]
      omega
    rw [dif_pos h4, pay10_eq]
    exact overlay_strip _ _ _ o3 _ hn _ (hw h8) a d
  · unfold nAfter
    rw [dif_neg (fun h => absurd (c2.mp h).2 (by omega)), dif_neg (fun h => absurd (c3.mp h).1 (by omega)), dif_neg (fun h => absurd (c4.mp h).1.2 (by omega))]

end Cert.InpS
end
-- ==== Proof.InpS.Tiles.lean ====
module
public import proofs.«01_k».proof.Proof.InpS.Step
public import Idealize.ShloMosaic.Lib.Pipeline.DatRel

/-! The operands' blocks at a step as parts of the arrays, and what each result's buffer holds after it. -/

@[expose] public section
set_option maxRecDepth 16384
noncomputable section
namespace Cert.InpS
open Cert.Proj Cert.InProjSIdeal Cert.InProjSIdeal.Gen Idealize.ShloMosaic Idealize.ShloMosaic.TcCoe Idealize.ShloMosaic.Tactic Idealize.SL.Sem

variable (m : (ℓ : Loc nD τ sig) → Buf (Elt Ideal) ℓ) (c : Dev nD)

/-- The input's rows, as the program's grid finds them. -/
abbrev XA : Vec Ideal S512x4096 .f32 := V m c main_v4
/-- The normalisation's weights. -/
abbrev WA : Vec Ideal S1x4096 .f32 := V m c main_v5
/-- The projection's weights. -/
abbrev TA : Vec Ideal S14368x4096 .bf16 := V m c main_v1
/-- The step sizes' weights. -/
abbrev DA : Vec Ideal S128x4096 .bf16 := V m c main_v3

/-- An element of the strip of rows at a step. -/
theorem block0 (t : Fin cfg0.N) (a : Fin 64) (e : Fin 4096) :
    iblk m c 0 t (ix2 a e) = XA m c (ix2 (Fin.ofNat 512 (64 * (8 * min (t.val / 29) 0 + min (t.val % 29) 7) + a)) e) := by
  obtain ⟨h, -⟩ := idx t
  refine congrArg (V m c main_v4) (funext fun b => ?_)
  have ha := a.isLt
  match b with
  | ⟨0, _⟩ => exact Fin.ext (show win0_0.index t (0 : Fin 2) * 64 + 1 * a.val = (64 * (8 * min (t.val / 29) 0 + min (t.val % 29) 7) + a) % 512 by
      rw [h]; show (8 * min (t.val / 29) 0 + min (t.val % 29) 7) * 64 + 1 * a.val = _; omega)
  | ⟨1, _⟩ => exact Fin.ext (show win0_0.index t (1 : Fin 2) * 4096 + 1 * e.val = e.val by rw [h]; show 0 * 4096 + 1 * e.val = _; omega)

/-- The normalisation's weights at a step: all of them. -/
theorem block1 (t : Fin cfg0.N) : iblk m c 1 t = WA m c := by
  obtain ⟨-, h, -⟩ := idx t
  funext y
  refine congrArg (V m c main_v5) (funext fun b => ?_)
  match b with
  | ⟨0, _⟩ => exact Fin.ext (show win0_1.index t (0 : Fin 2) * 1 + 1 * (y 0).val = (y 0).val by rw [h]; show 0 * 1 + 1 * (y 0).val = _; omega)
  | ⟨1, _⟩ => exact Fin.ext (show win0_1.index t (1 : Fin 2) * 4096 + 1 * (y 1).val = (y 1).val by rw [h]; show 0 * 4096 + 1 * (y 1).val = _; omega)

/-- An element of the tile of weights at a step. -/
theorem block2 (t : Fin cfg0.N) (h0 : 0 < t.val / 29) (n : Fin 512) (e : Fin 4096) :
    X0_2 m c t (ix2 n e) = TA m c (ix2 (Fin.ofNat 14368 (512 * min (t.val % 29) 27 + n)) e) := by
  obtain ⟨-, -, h, -⟩ := idx t
  have hn := n.isLt
  unfold X0_2 Pipeline.Window.fill
  rw [dif_pos (moved0_2 t _)]
  refine congrArg (V m c main_v1) (funext fun b => ?_)
  match b with
  | ⟨0, _⟩ => exact Fin.ext (show win0_2.index t (0 : Fin 2) * 512 + 1 * n.val = (512 * min (t.val % 29) 27 + n) % 14368 by
      rw [h, if_pos h0]; show min (t.val % 29) 27 * 512 + 1 * n.val = _; omega)
  | ⟨1, _⟩ => exact Fin.ext (show win0_2.index t (1 : Fin 2) * 4096 + 1 * e.val = e.val by rw [h]; show 0 * 4096 + 1 * e.val = _; omega)

/-- The step sizes' weights at a step: all of them. -/
theorem block3 (t : Fin cfg0.N) : iblk m c 3 t = DA m c := by
  obtain ⟨-, -, -, h, -⟩ := idx t
  funext y
  refine congrArg (V m c main_v3) (funext fun b => ?_)
  match b with
  | ⟨0, _⟩ => exact Fin.ext (show win0_3.index t (0 : Fin 2) * 128 + 1 * (y 0).val = (y 0).val by rw [h]; show 0 * 128 + 1 * (y 0).val = _; omega)
  | ⟨1, _⟩ => exact Fin.ext (show win0_3.index t (1 : Fin 2) * 4096 + 1 * (y 1).val = (y 1).val by rw [h]; show 0 * 4096 + 1 * (y 1).val = _; omega)

/-- A normalised row times a row of the projection's weights. -/
def PR (r n : ℕ) : EReal := dot (HN (XA m c) (WA m c) r) (fun e => TA m c (ix2 (Fin.ofNat 14368 n) e))
/-- The same, scaled as the queries are. -/
def QR (r n : ℕ) : EReal := PR m c r n * (Named.named (F := Ideal) κ "q_scale" (φ := .f32) 0x3E0293EE#32 : EReal)
/-- A normalised row times a row of the step sizes' weights. -/
def DR (r n : ℕ) : EReal := dot (HN (XA m c) (WA m c) r) (fun e => DA m c (ix2 (Fin.ofNat 128 n) e))

/-- What is asked of each result's buffer after a step. -/
def Rl (w : Fin cfg0.W) (t : Fin cfg0.N) : ((cfg0.win w).block.Idx → Elt Ideal (cfg0.win w).elt) → Prop :=
  match w with
  | ⟨4, _⟩ => Tile 512 (QR m c) 0 4 t.val
  | ⟨5, _⟩ => Tile 512 (PR m c) 4 4 t.val
  | ⟨6, _⟩ => Tile 512 (PR m c) 8 4 t.val
  | ⟨7, _⟩ => Tile 512 (PR m c) 12 4 t.val
  | ⟨8, _⟩ => Tile 512 (PR m c) 16 8 t.val
  | ⟨9, _⟩ => Tile 512 (PR m c) 24 4 t.val
  | ⟨10, _⟩ => TileD 512 (DR m c) t.val
  | _ => fun _ => True

/-- The results' buffers, of which only that is asked. -/
def fgt (w : Fin cfg0.W) : Bool := match w with
  | ⟨4, _⟩ | ⟨5, _⟩ | ⟨6, _⟩ | ⟨7, _⟩ | ⟨8, _⟩ | ⟨9, _⟩ | ⟨10, _⟩ => true
  | _ => false

/-- Where a result's tile was left standing. -/
theorem stands : ∀ w : Fin cfg0.W, 4 ≤ w.val → ∀ t : Fin cfg0.N, 0 < t.val / 29 → hi w ≤ t.val % 29 →
    (cfg0.win w).flush ⟨t.val - 1, Nat.lt_of_le_of_lt (Nat.sub_le _ _) t.isLt⟩ = false :=
  (by decide +kernel : ∀ w : Fin 11, 4 ≤ w.val → ∀ t : Fin grid0.N, 0 < t.val / 29 → hi w ≤ t.val % 29 →
    (win0 w).flush ⟨t.val - 1, Nat.lt_of_le_of_lt (Nat.sub_le _ _) t.isLt⟩ = false)

end Cert.InpS
end
-- ==== Proof.InpS.Host.lean ====
module
public import proofs.«01_k».proof.Proof.InpS.Tiles
public import proofs.«01_k».proof.Proof.Proj.Host

/-! What the program's host prepares for the grid, and the products, in terms of the arguments. -/

@[expose] public section
set_option maxRecDepth 16384
noncomputable section
namespace Cert.InpS
open Cert.Proj Cert.InProjSIdeal Cert.InProjSIdeal.Gen Idealize.ShloMosaic Idealize.ShloMosaic.TcCoe Idealize.ShloMosaic.Tactic Idealize.SL.Sem

variable (m : (ℓ : Loc nD τ sig) → Buf (Elt Ideal) ℓ) (c : Dev nD)

/-- The input's rows, one sequence after the other. -/
theorem XA_apply (r : ℕ) (e : Fin 4096) :
    XA m c (ix2 (Fin.ofNat 512 r) e) = m ((c : Thread nD τ).loc main_arg0) (ix3 (Fin.ofNat 8 (r / 64)) (Fin.ofNat 64 r) e) := by
  unfold XA
  entry_read
  refine shapeCast_apply _ shapeCasts_S8x64x4096_S512x4096 _ _ ?_
  rewrite [Shape.rowMajor_val_three, Shape.rowMajor_val_two]
  have he := e.isLt
  show ((r / 64 % 8) * 64 + r % 64) * 4096 + e.val = (r % 512) * 4096 + e.val
  omega

/-- The normalisation's weights, as one row. -/
theorem WA_apply (e : Fin 4096) : WA m c (ix2 0 e) = m ((c : Thread nD τ).loc main_arg1) (ix1 e) := by
  unfold WA
  entry_read
  refine shapeCast_apply _ shapeCasts_S4096_S1x4096 _ _ ?_
  rewrite [Shape.rowMajor_val_one, Shape.rowMajor_val_two]
  show e.val = 0 * 4096 + e.val
  omega

/-- The projection's weights, as the host prepares them: transposed, -/
theorem TA_trans : TA m c = truncf (F := Ideal) .bf16 (transpose S14368x4096 [1, 0] (m ((c : Thread nD τ).loc main_arg2)) transposes_S4096x14368_S14368x4096_1_0 : Vec Ideal S14368x4096 .f32) bitsLt_bf16_f32 := by
  unfold TA
  entry_read
  try rfl

/-- read at an index. -/
theorem TA_apply (n : Fin 14368) (e : Fin 4096) : TA m c (ix2 n e) = m ((c : Thread nD τ).loc main_arg2) (ix2 e n) := by
  rw [TA_trans]
  generalize m ((c : Thread nD τ).loc main_arg2) = W
  pointwise
  try exact rfl

/-- The step sizes' weights, as the host pads them. -/
theorem DA_pad : DA m c = pad S128x4096 ![0, 0] ![96, 0] ![0, 0]
    (extractStridedSlice S32x4096 ![14336, 0] (TA m c) slices_S14368x4096_S32x4096_14336_0)
    (sitofp (F := Ideal) .bf16 (constantI S_ 32 0#32)) pads_S32x4096_S128x4096_0960_000 h_S_ := by
  unfold DA TA
  entry_read
  rfl

/-- The kernel's product is the projection. -/
theorem PR_eq (r n : ℕ) : PR m c r n = proj (m ((c : Thread nD τ).loc main_arg0)) (m ((c : Thread nD τ).loc main_arg1)) (m ((c : Thread nD τ).loc main_arg2)) r n := by
  unfold PR proj HN
  refine congrArg₂ dot (congrArg₂ nrm ?_ ?_) ?_
  · exact funext fun e => XA_apply m c r e
  · exact funext fun e => WA_apply m c e
  · exact funext fun e => TA_apply m c _ e

/-- The kernel's step sizes are the projection's last columns, with zeros beyond. -/
theorem DR_eq (r : ℕ) (n : Fin 128) : DR m c r n.val = if n.val < 32 then
    proj (m ((c : Thread nD τ).loc main_arg0)) (m ((c : Thread nD τ).loc main_arg1)) (m ((c : Thread nD τ).loc main_arg2)) r (14336 + n.val) else 0 := by
  have hn : Fin.ofNat 128 n.val = n := Fin.ext (Nat.mod_eq_of_lt n.isLt)
  unfold DR
  rw [hn, DA_pad, dot_padded]
  exact if_congr Iff.rfl (PR_eq m c r _) rfl

end Cert.InpS
end
-- ==== Proof.InpS.Ref.lean ====
module
public import proofs.«01_k».proof.Proof.InpS.Host
public import proofs.«01_k».proof.Proof.Gen.InProjSRefIdeal.Read

/-! The reference's results are the same rows of the projection. -/

@[expose] public section
set_option maxRecDepth 16384
noncomputable section
namespace Cert.InpS
open Cert.Proj Cert.InProjSRefIdeal Cert.InProjSRefIdeal.Gen Cert.InProjSRefIdeal.Read Idealize.ShloMosaic Idealize.ShloMosaic.TcCoe Idealize.ShloMosaic.Tactic Idealize.SL.Sem

variable (x : Vec Ideal S8x64x4096 .f32) (w : Vec Ideal S4096 .f32) (W : Vec Ideal S4096x14368 .f32)

/-- The reference's normalised input. -/
theorem v12_eq (b : Fin 8) (s : Fin 64) (e : Fin 4096) :
    val_main_v12 (F := Ideal) x w (ix3 b s e) = nrm (fun e => x (ix3 b s e)) (fun e => w (ix1 e)) e := by
  have h0 : Ideal.ofBits .f32 0x00000000#32 = 0 := Ideal.ofBits_zero_f32
  rw [val_main_v12_apply, val_main_v9_apply, val_main_v11_apply, val_main_v10_apply, val_main_v8_apply, val_main_v7_apply, val_main_v6_apply, val_main_v5_apply,
    val_main_v4_apply, val_main_v3_apply, val_main_v2_apply, val_main_v1_apply, val_main_cst_apply, val_main_cst_0_apply, val_main_cst_1_apply]
  unfold nrm
  refine congrArg₂ (fun a b : EReal => a * b) (congrArg (fun a : EReal => x (ix3 b s e) * Ideal.rsqrt (Ideal.div a _ + _)) ?_) (congrArg w (funext fun a => ?_))
  · refine (congrArg (fun z : EReal => z + _) h0).trans ((zero_add _).trans (Finset.sum_congr rfl fun k _ => ?_))
    have hk : idx_main_v1 (idx_main_v2 (idx_main_v8 (ix3 b s e))) k = ix3 b s k := by
      funext a
      match a with
      | ⟨0, _⟩ => rfl
      | ⟨1, _⟩ => rfl
      | ⟨2, _⟩ => rfl
    rw [hk, val_main_v0_apply]
    rfl
  · match a with
    | ⟨0, _⟩ => rfl

/-- The reference's product, one sequence after the other. -/
theorem v14_eq (i : S512x14368.Idx) : val_main_v14 (F := Ideal) x w W i = proj x w W (i 0).val (i 1).val := by
  rw [val_main_v14_apply, val_main_v13_apply]
  have h0 : (i 0).val < 512 := (i 0).isLt
  have h1 : (i 1).val < 14368 := (i 1).isLt
  unfold proj dot
  refine Finset.sum_congr rfl fun k _ => ?_
  have hl : lidx_main_v13 (idx_main_v14 i) k = ix3 (Fin.ofNat 8 ((i 0).val / 64)) (Fin.ofNat 64 (i 0).val) k := by
    funext a
    match a with
    | ⟨0, _⟩ => exact Fin.ext (show ((i 0).val * 14368 + (i 1).val) / 919552 = (i 0).val / 64 % 8 by omega)
    | ⟨1, _⟩ => exact Fin.ext (show ((i 0).val * 14368 + (i 1).val) / 14368 % 64 = (i 0).val % 64 by omega)
    | ⟨2, _⟩ => rfl
  have hr : ridx_main_v13 (idx_main_v14 i) k = ix2 k (Fin.ofNat 14368 (i 1).val) := by
    funext a
    match a with
    | ⟨0, _⟩ => rfl
    | ⟨1, _⟩ => exact Fin.ext (show ((i 0).val * 14368 + (i 1).val) % 14368 = (i 1).val % 14368 by omega)
  rw [hl, hr, v12_eq]

/-- The reference's factor of the queries is the kernel's named constant. -/
theorem v24_eq (i : S_.Idx) : val_main_v24 (F := Ideal) i = (Named.named (F := Ideal) Cert.InProjSIdeal.κ "q_scale" (φ := .f32) 0x3E0293EE#32 : EReal) := by
  rw [val_main_v24_apply, val_main_v22_apply, val_main_v23_apply, val_main_cst_2_apply, val_main_cst_3_apply]
  exact scale_eq

/-- The reference's queries, -/
theorem v27_eq : val_main_v27 (F := Ideal) x w W = fun y => proj x w W (y 0).val (0 + (y 1).val) * (Named.named (F := Ideal) Cert.InProjSIdeal.κ "q_scale" (φ := .f32) 0x3E0293EE#32 : EReal) := by
  funext y
  rw [val_main_v27_apply, val_main_v26_apply, val_main_v15_apply, val_main_v25_apply, v24_eq, v14_eq]
  rw [zero_add]
  rfl

/-- keys, -/
theorem v16_eq : val_main_v16 (F := Ideal) x w W = fun y => proj x w W (y 0).val (2048 + (y 1).val) := by
  funext y
  rw [val_main_v16_apply, v14_eq]

/-- values, -/
theorem v17_eq : val_main_v17 (F := Ideal) x w W = fun y => proj x w W (y 0).val (4096 + (y 1).val) := by
  funext y
  rw [val_main_v17_apply, v14_eq]

/-- gate, -/
theorem v28_eq : val_main_v28 (F := Ideal) x w W = fun y => proj x w W (y 0).val (6144 + (y 1).val) := by
  funext y
  rw [val_main_v28_apply, val_main_v18_apply, v14_eq]
  rfl

/-- operand of the convolution, -/
theorem v19_eq : val_main_v19 (F := Ideal) x w W = fun y => proj x w W (y 0).val (8192 + (y 1).val) := by
  funext y
  rw [val_main_v19_apply, v14_eq]

/-- second gate, -/
theorem v29_eq : val_main_v29 (F := Ideal) x w W = fun y => proj x w W (y 0).val (12288 + (y 1).val) := by
  funext y
  rw [val_main_v29_apply, val_main_v20_apply, v14_eq]
  rfl

/-- and step sizes, padded with zeros. -/
theorem v30_eq : val_main_v30 (F := Ideal) x w W = fun y => if (y 1).val < 32 then proj x w W (y 0).val (14336 + (y 1).val) else 0 := by
  funext y
  obtain ⟨r, n, rfl⟩ : ∃ (r : Fin 512) (n : Fin 128), y = ix2 r n := ⟨y 0, y 1, eq_ix2 y⟩
  show _ = if n.val < 32 then proj x w W r.val (14336 + n.val) else 0
  refine (pad_columns _ _ _ r n).trans ?_
  by_cases h : n.val < 32
  · rw [dif_pos h, if_pos h, val_main_v21_apply, v14_eq]
    rfl
  · rw [dif_neg h, if_neg h]

end Cert.InpS
end
-- ==== Proof.InpS.Body.lean ====
module
public import proofs.«01_k».proof.Proof.InpS.Tiles
public import Idealize.ShloMosaic.Lib.Pipeline.FrameBody

/-! The grid's steps one after another: the two carried buffers keep what is said of them, and each result's buffer holds its tile. -/

@[expose] public section
set_option maxRecDepth 16384
noncomputable section
namespace Cert.InpS
open Cert.Proj Cert.InProjSIdeal Cert.InProjSIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

local notation "𝕄" => MT nD τ sig Unit (Elt Ideal) ℕ (UR sig nD τ) ℕ

variable (m : (ℓ : Loc nD τ sig) → Buf (Elt Ideal) ℓ) (ρ : Dev nD → PrngReg)

/-- The buffer the tiles are taken from. -/
abbrev hM : Memref sig .tc .vmem S512x4096 .bf16 := Memref.whole cc0_scratch0
/-- The buffer the next rows are normalised into. -/
abbrev nM : Memref sig .tc .vmem S512x4096 .bf16 := Memref.whole cc0_scratch1

/-- Before a step: the carried buffers at contents of which `Inv` holds, and the generator's register. -/
def carried (c : Dev nD) (n : ℕ) : sProp 𝕄 :=
  iprop(∃ h, ∃ hn, ⌜Inv 512 64 0 (HN (XA m c) (WA m c)) n h hn⌝ ∗ owns (c : Thread nD τ) hM fullShare h ∗ owns (c : Thread nD τ) nM fullShare hn ∗ (∃ r, prngReg c r))

/-- The grid's arrays, what the operands' buffers hold at each step, and what is carried. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => fun _ => Classical.choice inferInstance
    | ⟨5, _⟩ => fun _ => Classical.choice inferInstance
    | ⟨6, _⟩ => fun _ => Classical.choice inferInstance
    | ⟨7, _⟩ => fun _ => Classical.choice inferInstance
    | ⟨8, _⟩ => fun _ => Classical.choice inferInstance
    | ⟨9, _⟩ => fun _ => Classical.choice inferInstance
    | ⟨10, _⟩ => fun _ => Classical.choice inferInstance
  Φ t := carried m c t.val
  q _ := fullShare
  owed _ := 0

theorem dat_A (c : Dev nD) (w : Fin cfg0.W) : (dat m c).A w = V m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = X0_2 m c t := by dsimp only [dat]
theorem after3 (c : Dev nD) (t : Fin cfg0.N) : (dat m c).after 3 t = iblk m c 3 t := by dsimp only [dat]
theorem before0 (c : Dev nD) (t : Fin cfg0.N) (d) : (dat m c).before 0 t d = iblk m c 0 t := before0_0_of m (dat m c) (dat_A m c 0) (after0 m c) t d
theorem before1 (c : Dev nD) (t : Fin cfg0.N) (d) : (dat m c).before 1 t d = iblk m c 1 t := before0_1_of m (dat m c) (dat_A m c 1) (after1 m c) t d
theorem before2 (c : Dev nD) (t : Fin cfg0.N) (d) : (dat m c).before 2 t d = X0_2 m c t := before0_2_of m (dat m c) (dat_A m c 2) (after2 m c) t d
theorem before3 (c : Dev nD) (t : Fin cfg0.N) (d) : (dat m c).before 3 t d = iblk m c 3 t := before0_3_of m (dat m c) (dat_A m c 3) (after3 m c) t d

/-- What a result's buffer may be found to hold before a step. -/
abbrev Found (c : Dev nD) (w : Fin cfg0.W) (t : Fin cfg0.N) (Y : (cfg0.win w).block.Idx → Elt Ideal (cfg0.win w).elt) : Prop :=
  ((dat m c).toRRel fgt (Rl m c)).Finds w t Y

variable {m}

/-- Past a result's steps its buffer is found as the step before left it. -/
theorem found_keep {c : Dev nD} (w : Fin cfg0.W) (hw : 4 ≤ w.val) (hf : fgt w = true) (t : Fin cfg0.N) (hfe : (cfg0.win w).fetch t = false)
    {Y : (cfg0.win w).block.Idx → Elt Ideal (cfg0.win w).elt} (hY : Found m c w t Y) (h0 : 0 < t.val / 29) (hh : hi w ≤ t.val % 29) :
    Rl m c w ⟨t.val - 1, Nat.lt_of_le_of_lt (Nat.sub_le _ _) t.isLt⟩ Y := by
  have hz : t.val ≠ 0 := fun h => by rw [h] at h0; exact absurd h0 (by decide)
  rcases (RDat.finds_of_pos _ hfe hz Y).mp hY with h | h
  · rw [stands w hw t h0 hh] at h
    exact absurd h Bool.false_ne_true
  · exact Dat.toRRel_leaves _ hf h

/-- What a step makes of the carried buffers. -/
theorem carries {c : Dev nD} (t : Fin cfg0.N) (h hn : Vec Ideal S512x4096 .bf16) :
    Moves 512 64 0 (HN (XA m c) (WA m c)) t.val h hn (hAfter (grid0.coords t) h hn) (nAfter (grid0.coords t) (iblk m c 0 t) (WA m c) hn) :=
  moves t h hn _ fun a e => block0 m c t a e

/-- The steps are those of the row blocks and one more. -/
theorem steps_lt (t : Fin cfg0.N) : t.val < 29 * (0 + 2) := lt_of_lt_of_eq t.isLt N_0

/-- A step's rows, where its row block has one before it. -/
theorem rows {c : Dev nD} {t : Fin cfg0.N} {h hn : Vec Ideal S512x4096 .bf16} (hI : Inv 512 64 0 (HN (XA m c) (WA m c)) t.val h hn) :
    0 < t.val / 29 → ∀ a d, hAfter (grid0.coords t) h hn (ix2 a d) = HN (XA m c) (WA m c) (512 * (t.val / 29 - 1) + a.val) d :=
  fun h0 a d => taken (steps_lt t) hI (carries t h hn) h0 a d

/-- A weights' tile, read at a row. -/
theorem cols {c : Dev nD} {t : Fin cfg0.N} : 0 < t.val / 29 → ∀ (n : Fin 512) (e : Fin 4096),
    X0_2 m c t (ix2 n e) = TA m c (ix2 (Fin.ofNat 14368 (512 * min (t.val % 29) 27 + n.val)) e) := fun h0 n e => block2 m c t h0 n e

/-- A result's buffer after a step; `φ` is what is done to each product. -/
theorem after_step {c : Dev nD} {t : Fin cfg0.N} {h hn : Vec Ideal S512x4096 .bf16} (hI : Inv 512 64 0 (HN (XA m c) (WA m c)) t.val h hn) (φ : EReal → EReal) {lo cnt : ℕ}
    {P : Prop} [Decidable P] {Y Z : S512x512.Idx → EReal} (hcnt : 0 < cnt) (hle : lo + cnt ≤ 28)
    (hP : P ↔ (lo ≤ (grid0.coords t 1).val ∧ (grid0.coords t 1).val < lo + cnt) ∧ 0 < (grid0.coords t 0).val)
    (hY : 0 < t.val / 29 → lo + cnt ≤ t.val % 29 → Tile 512 (fun r n => φ (PR m c r n)) lo cnt (t.val - 1) Y)
    (hZ : ∀ a n, Z (ix2 a n) = φ (dot (fun e => hAfter (grid0.coords t) h hn (ix2 a e)) (fun e => X0_2 m c t (ix2 n e)))) :
    Tile 512 (fun r n => φ (PR m c r n)) lo cnt t.val (if P then Z else Y) := by
  rw [(coords_eq t).1, (coords_eq t).2] at hP
  exact tile_after φ (HN (XA m c) (WA m c)) (fun n e => TA m c (ix2 (Fin.ofNat 14368 n) e)) hcnt hle hP (rows hI) cols hY hZ

/-- The buffer of the queries after a step. -/
theorem rel4 {c : Dev nD} {t : Fin cfg0.N} {h hn : Vec Ideal S512x4096 .bf16} (hI : Inv 512 64 0 (HN (XA m c) (WA m c)) t.val h hn) {Y} (hY : Found m c 4 t Y) :
    Rl m c 4 t (if k0_cond3 (grid0.coords t) = 1#1 then k0_pay7 (hAfter (grid0.coords t) h hn) (X0_2 m c t) else Y) :=
  after_step hI (fun x => x * (Named.named (F := Ideal) κ "q_scale" (φ := .f32) 0x3E0293EE#32 : EReal)) (lo := 0) (cnt := 4) (by decide) (by decide) ((cond3_iff _).trans (by omega))
    (fun h0 hk => found_keep 4 (by decide) rfl t rfl hY h0 hk) fun a n => pay7_apply _ _ a n

/-- The buffer of the keys after a step. -/
theorem rel5 {c : Dev nD} {t : Fin cfg0.N} {h hn : Vec Ideal S512x4096 .bf16} (hI : Inv 512 64 0 (HN (XA m c) (WA m c)) t.val h hn) {Y} (hY : Found m c 5 t Y) :
    Rl m c 5 t (if k0_cond4 (grid0.coords t) = 1#1 then k0_pay9 (hAfter (grid0.coords t) h hn) (X0_2 m c t) else Y) :=
  after_step hI (fun x => x) (lo := 4) (cnt := 4) (by decide) (by decide) (cond4_iff _)
    (fun h0 hk => found_keep 5 (by decide) rfl t rfl hY h0 hk) fun a n => pay9_apply _ _ a n

/-- The buffer of the values after a step. -/
theorem rel6 {c : Dev nD} {t : Fin cfg0.N} {h hn : Vec Ideal S512x4096 .bf16} (hI : Inv 512 64 0 (HN (XA m c) (WA m c)) t.val h hn) {Y} (hY : Found m c 6 t Y) :
    Rl m c 6 t (if k0_cond5 (grid0.coords t) = 1#1 then k0_pay11 (hAfter (grid0.coords t) h hn) (X0_2 m c t) else Y) :=
  after_step hI (fun x => x) (lo := 8) (cnt := 4) (by decide) (by decide) (cond5_iff _)
    (fun h0 hk => found_keep 6 (by decide) rfl t rfl hY h0 hk) fun a n => pay11_apply _ _ a n

/-- The buffer of the gate after a step. -/
theorem rel7 {c : Dev nD} {t : Fin cfg0.N} {h hn : Vec Ideal S512x4096 .bf16} (hI : Inv 512 64 0 (HN (XA m c) (WA m c)) t.val h hn) {Y} (hY : Found m c 7 t Y) :
    Rl m c 7 t (if k0_cond6 (grid0.coords t) = 1#1 then k0_pay1 (hAfter (grid0.coords t) h hn) (X0_2 m c t) else Y) :=
  after_step hI (fun x => x) (lo := 12) (cnt := 4) (by decide) (by decide) (cond6_iff _)
    (fun h0 hk => found_keep 7 (by decide) rfl t rfl hY h0 hk) fun a n => pay1_apply _ _ a n

/-- The buffer of the convolution's operand after a step. -/
theorem rel8 {c : Dev nD} {t : Fin cfg0.N} {h hn : Vec Ideal S512x4096 .bf16} (hI : Inv 512 64 0 (HN (XA m c) (WA m c)) t.val h hn) {Y} (hY : Found m c 8 t Y) :
    Rl m c 8 t (if k0_cond7 (grid0.coords t) = 1#1 then k0_pay2 (hAfter (grid0.coords t) h hn) (X0_2 m c t) else Y) :=
  after_step hI (fun x => x) (lo := 16) (cnt := 8) (by decide) (by decide) (cond7_iff _)
    (fun h0 hk => found_keep 8 (by decide) rfl t rfl hY h0 hk) fun a n => pay2_apply _ _ a n

/-- The buffer of the second gate after a step. -/
theorem rel9 {c : Dev nD} {t : Fin cfg0.N} {h hn : Vec Ideal S512x4096 .bf16} (hI : Inv 512 64 0 (HN (XA m c) (WA m c)) t.val h hn) {Y} (hY : Found m c 9 t Y) :
    Rl m c 9 t (if k0_cond8 (grid0.coords t) = 1#1 then k0_pay3 (hAfter (grid0.coords t) h hn) (X0_2 m c t) else Y) :=
  after_step hI (fun x => x) (lo := 24) (cnt := 4) (by decide) (by decide) (cond8_iff _)
    (fun h0 hk => found_keep 9 (by decide) rfl t rfl hY h0 hk) fun a n => pay3_apply _ _ a n

/-- The buffer of the step sizes after a step. -/
theorem rel10 {c : Dev nD} {t : Fin cfg0.N} {h hn : Vec Ideal S512x4096 .bf16} (hI : Inv 512 64 0 (HN (XA m c) (WA m c)) t.val h hn)
    (Y : S512x128.Idx → EReal) :
    Rl m c 10 t (if k0_cond9 (grid0.coords t) = 1#1 then k0_pay4 (hAfter (grid0.coords t) h hn) (iblk m c 3 t) else Y) := by
  obtain ⟨e0, e1⟩ := coords_eq t
  have hc := cond9_iff (grid0.coords t)
  rw [e0, e1] at hc
  intro h0 hl a n
  have hp : k0_cond9 (grid0.coords t) = 1#1 := hc.mpr (by omega)
  rw [if_pos hp, block3]
  refine (pay4_apply _ _ a n).trans ?_
  unfold DR
  refine congrArg₂ dot (funext fun e => rows hI h0 a e) (funext fun e => ?_)
  congr 2
  exact Fin.ext (show n.val = n.val % 128 by omega)

variable (m)

/-- What a step is called with, buffer by buffer, -/
def stepPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ Y, ⌜Found m c 4 t Y⌝ ∗ owns (c : Thread nD τ) (st0_4 t) fullShare Y)
    ∗ (∃ Y, ⌜Found m c 5 t Y⌝ ∗ owns (c : Thread nD τ) (st0_5 t) fullShare Y)
    ∗ (∃ Y, ⌜Found m c 6 t Y⌝ ∗ owns (c : Thread nD τ) (st0_6 t) fullShare Y)
    ∗ (∃ Y, ⌜Found m c 7 t Y⌝ ∗ owns (c : Thread nD τ) (st0_7 t) fullShare Y)
    ∗ (∃ Y, ⌜Found m c 8 t Y⌝ ∗ owns (c : Thread nD τ) (st0_8 t) fullShare Y)
    ∗ (∃ Y, ⌜Found m c 9 t Y⌝ ∗ owns (c : Thread nD τ) (st0_9 t) fullShare Y)
    ∗ (∃ Y, ⌜Found m c 10 t Y⌝ ∗ owns (c : Thread nD τ) (st0_10 t) fullShare Y))

/-- and what it returns. -/
def stepPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ (∃ d, owns (c : Thread nD τ) (st0_2 t) fullShare ((cfg0.win 2).fill (cfg0.grid.coords t) d ((cfg0.win 2).cut (cfg0.grid.coords t) ((dat m c).after 2 t))))
    ∗ owns (c : Thread nD τ) (st0_3 t) fullShare ((dat m c).after 3 t)
    ∗ (∃ X, ⌜Rl m c 4 t X⌝ ∗ owns (c : Thread nD τ) (st0_4 t) fullShare X)
    ∗ (∃ X, ⌜Rl m c 5 t X⌝ ∗ owns (c : Thread nD τ) (st0_5 t) fullShare X)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X))

/-- The tile of weights, refilled of what is moved of it, is itself. -/
theorem refill (c : Dev nD) (t : Fin cfg0.N) : (cfg0.win 2).fill (cfg0.grid.coords t) dflt0_2 ((cfg0.win 2).cut (cfg0.grid.coords t) (X0_2 m c t)) = X0_2 m c t := by
  unfold X0_2
  rw [Pipeline.Window.cut_fill]

set_option maxHeartbeats 1600000 in
/-- One step. -/
theorem step_body (c : Dev nD) (t : Fin cfg0.N) :
    stepPre m c t ⊢ wp frame (wpE (defs₀ (F := Ideal)) Variants.none c none) Set.univ (bodyAt0 t) (fun _ => stepPost m c t) := by
  unfold stepPre stepPost bodyAt0
  simp only [before0, before1, before2, before3]
  rw [show (dat m c).owesAt () t.succ = (dat m c).owesAt () t.castSucc from rfl, after0, after1, after2, after3,
    show (dat m c).Φ t.castSucc = carried m c t.val from rfl, show (dat m c).Φ t.succ = carried m c (t.val + 1) from rfl]
  unfold carried
  iintro ⟨⟨%h, %hn, %hI, HA, HB, Hg⟩, Ho, ⟨%d0, H0⟩, ⟨%d1, H1⟩, ⟨%d2, H2⟩, ⟨%d3, H3⟩, ⟨%Y4, %F4, H4⟩, ⟨%Y5, %F5, H5⟩, ⟨%Y6, %F6, H6⟩, ⟨%Y7, %F7, H7⟩, ⟨%Y8, %F8, H8⟩, ⟨%Y9, %F9, H9⟩, ⟨%Y10, %F10, H10⟩⟩
  iapply (body_run (F := Ideal) c (grid0.coords t) _ _ _ _ _ _ _ _ _ _ _ _ _ _ _ _ _ _ _ _ _ _ _ _ _ _ (iblk m c 0 t) (iblk m c 1 t) (X0_2 m c t) (iblk m c 3 t) Y4 Y5 Y6 Y7 Y8 Y9 Y10 h hn Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HB]; · iexact HB
  iintro ⟨H0, H1, H2, H3, H4, H5, H6, H7, H8, H9, H10, HA, HB⟩
  isplitl [HA HB Hg]
  · iexists _, _
    isplitr
    swap
    · isplitl [HA]; · iexact HA
      isplitl [HB]; · iexact HB
      iexact Hg
    ipureintro
    rw [block1]
    exact inv_succ rfl (steps_lt t) hI (carries t h hn)
  isplitl [Ho]; · iexact Ho
  isplitl [H0]; · iexact H0
  isplitl [H1]; · iexact H1
  isplitl [H2]
  · iexists dflt0_2
    rw [refill]
    iexact H2
  isplitl [H3]; · iexact H3
  isplitl [H4]
  · iexists _
    isplitr
    swap; · iexact H4
    ipureintro; exact rel4 hI F4
  isplitl [H5]
  · iexists _
    isplitr
    swap; · iexact H5
    ipureintro; exact rel5 hI F5
  isplitl [H6]
  · iexists _
    isplitr
    swap; · iexact H6
    ipureintro; exact rel6 hI F6
  isplitl [H7]
  · iexists _
    isplitr
    swap; · iexact H7
    ipureintro; exact rel7 hI F7
  isplitl [H8]
  · iexists _
    isplitr
    swap; · iexact H8
    ipureintro; exact rel8 hI F8
  isplitl [H9]
  · iexists _
    isplitr
    swap; · iexact H9
    ipureintro; exact rel9 hI F9
  iexists _
  isplitr
  swap; · iexact H10
  ipureintro; exact rel10 hI Y10

/-- The body the grid calls at a step. -/
theorem defs_row (t : Fin cfg0.N) : defs₀ (F := Ideal) .tc cfg0.body (cfg0.bodyArgs t (cfg0.slots t)) = bodyAt0 t := by
  unfold defs₀; rw [Defs.onTc_tc]

/-- Every step, as the grid calls it. -/
theorem steps_ok (c : Dev nD) : Pipeline.BodyObligationRel (dat m c) (defs₀ (F := Ideal)) Variants.none () Set.univ fgt (Rl m c) := fun t => by
  rw [bigSep_W0, bigSep_W0, defs_row]
  exact triple_restated (step_body m c t) rfl .rfl fun _ => .rfl

end Cert.InpS
end
-- ==== Proof.InpS.Launch.lean ====
module
public import proofs.«01_k».proof.Proof.InpS.Body
public import Idealize.ShloMosaic.Lib.Pipeline.ArrRel
public import Idealize.ShloMosaic.Lib.Claim

/-! The whole grid run, and what the results' arrays hold after it. -/

@[expose] public section
set_option maxRecDepth 16384
noncomputable section
namespace Cert.InpS
open Cert.Proj Cert.InProjSIdeal Cert.InProjSIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

local notation "𝕄" => MT nD τ sig Unit (Elt Ideal) ℕ (UR sig nD τ) ℕ

variable (m : (ℓ : Loc nD τ sig) → Buf (Elt Ideal) ℓ) (ρ : Dev nD → PrngReg)

/-- The program's own buffers outside the grid's, and the generator's register. -/
theorem rest_eq (c : Dev nD) : (Pipeline.ΦA spec0 c : sProp 𝕄)
    = iprop(iprop((∃ d, owns (c : Thread nD τ) hM fullShare d) ∗ (∃ d, owns (c : Thread nD τ) nM fullShare d)) ∗ (∃ r, prngReg c r)) := by
  unfold Pipeline.ΦA; rw [scopedRest0_eq]; simp only [hM, nM, owns_whole]; try rfl

/-- Before the first step nothing is asked of the carried buffers. -/
theorem enter (c : Dev nD) : (Pipeline.ΦA spec0 c : sProp 𝕄) ⊢ carried m c 0 := by
  rw [rest_eq]
  unfold carried
  iintro ⟨⟨⟨%h, HA⟩, ⟨%hn, HB⟩⟩, Hg⟩
  iexists h, hn
  isplitr
  · ipureintro; exact inv_zero h hn
  isplitl [HA]; · iexact HA
  isplitl [HB]; · iexact HB
  iexact Hg

/-- After the last step nothing is said of them any more. -/
theorem leave (c : Dev nD) (n : ℕ) : carried m c n ⊢ (Pipeline.ΦA spec0 c : sProp 𝕄) := by
  rw [rest_eq]
  unfold carried
  iintro ⟨%h, %hn, -, HA, HB, Hg⟩
  isplitl [HA HB]
  · isplitl [HA]
    · iexists h; iexact HA
    iexists hn; iexact HB
  iexact Hg

/-- The grid's data, of the results' buffers only what `Rl` asks. -/
abbrev rdat (c : Dev nD) := (dat m c).toRRel fgt (Rl m c)

set_option backward.isDefEq.respectTransparency.types false in
/-- The program runs, its arrays as the grid's data say, with every counter at zero at the end. -/
theorem run : θ_run defs (onTc (τ := τ) (main (F := Ideal))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (steps_ok m c).toRRel) (hshare := fun c => (dat m c).share_full fun _ => rfl)
    (howed := fun _ _ => rfl) (V := V m) (hmain := hmain m Variants.none) (hA := dat_A m)
    (hin := enter m) (hout := fun c => leave m c _)

variable {m}

/-- The argument arrays end as they were. -/
theorem args {r : PUnit × MemSt nD τ sig (Elt Ideal)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The program frames its arguments. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args h.1 c, h.2⟩) (run m ρ)

/-- The array of the queries. -/
theorem array4 {r : PUnit × MemSt nD τ sig (Elt Ideal)} (h : RDat.FramePost cfg0 (rdat m) (V m) r) (c : Dev nD) :
    r.2.mem ((c.tc : Thread nD τ).loc main_v6_0) = (fun y => QR m c (y 0).val (0 + (y 1).val) : Vec Ideal S512x2048 .bf16) := by
  obtain ⟨after, hL, hG⟩ := RDat.FramePost.exists_exact h c
  refine (hG 4).trans (Dat.arrAt_eq_of_covers _ 4 _ (by decide +kernel) fun t hf y => ?_)
  have hT : Tile 512 (QR m c) 0 4 t.val (after 4 t) := Dat.toRRel_leaves _ rfl (hL 4 t hf)
  obtain ⟨h0, hl⟩ := flush_late 4 (by decide) t hf
  obtain ⟨-, -, -, -, hx, -⟩ := idx t
  obtain ⟨a, n, rfl⟩ : ∃ (a : Fin 512) (n : Fin 512), y = ix2 a n := ⟨y 0, y 1, eq_ix2 y⟩
  exact hT.read (by decide) h0 hl (congrFun hx (0 : Fin 2)) (congrFun hx (1 : Fin 2)) rfl a n

/-- The array of the keys. -/
theorem array5 {r : PUnit × MemSt nD τ sig (Elt Ideal)} (h : RDat.FramePost cfg0 (rdat m) (V m) r) (c : Dev nD) :
    r.2.mem ((c.tc : Thread nD τ).loc main_v6_1) = (fun y => PR m c (y 0).val (2048 + (y 1).val) : Vec Ideal S512x2048 .f32) := by
  obtain ⟨after, hL, hG⟩ := RDat.FramePost.exists_exact h c
  refine (hG 5).trans (Dat.arrAt_eq_of_covers _ 5 _ (by decide +kernel) fun t hf y => ?_)
  have hT : Tile 512 (PR m c) 4 4 t.val (after 5 t) := Dat.toRRel_leaves _ rfl (hL 5 t hf)
  obtain ⟨h0, hl⟩ := flush_late 5 (by decide) t hf
  obtain ⟨-, -, -, -, -, hx, -⟩ := idx t
  obtain ⟨a, n, rfl⟩ : ∃ (a : Fin 512) (n : Fin 512), y = ix2 a n := ⟨y 0, y 1, eq_ix2 y⟩
  exact hT.read (by decide) h0 hl (congrFun hx (0 : Fin 2)) (congrFun hx (1 : Fin 2)) rfl a n

/-- The array of the values. -/
theorem array6 {r : PUnit × MemSt nD τ sig (Elt Ideal)} (h : RDat.FramePost cfg0 (rdat m) (V m) r) (c : Dev nD) :
    r.2.mem ((c.tc : Thread nD τ).loc main_v6_2) = (fun y => PR m c (y 0).val (4096 + (y 1).val) : Vec Ideal S512x2048 .f32) := by
  obtain ⟨after, hL, hG⟩ := RDat.FramePost.exists_exact h c
  refine (hG 6).trans (Dat.arrAt_eq_of_covers _ 6 _ (by decide +kernel) fun t hf y => ?_)
  have hT : Tile 512 (PR m c) 8 4 t.val (after 6 t) := Dat.toRRel_leaves _ rfl (hL 6 t hf)
  obtain ⟨h0, hl⟩ := flush_late 6 (by decide) t hf
  obtain ⟨-, -, -, -, -, -, hx, -⟩ := idx t
  obtain ⟨a, n, rfl⟩ : ∃ (a : Fin 512) (n : Fin 512), y = ix2 a n := ⟨y 0, y 1, eq_ix2 y⟩
  exact hT.read (by decide) h0 hl (congrFun hx (0 : Fin 2)) (congrFun hx (1 : Fin 2)) rfl a n

/-- The array of the gate. -/
theorem array7 {r : PUnit × MemSt nD τ sig (Elt Ideal)} (h : RDat.FramePost cfg0 (rdat m) (V m) r) (c : Dev nD) :
    r.2.mem ((c.tc : Thread nD τ).loc main_v6_3) = (fun y => PR m c (y 0).val (6144 + (y 1).val) : Vec Ideal S512x2048 .bf16) := by
  obtain ⟨after, hL, hG⟩ := RDat.FramePost.exists_exact h c
  refine (hG 7).trans (Dat.arrAt_eq_of_covers _ 7 _ (by decide +kernel) fun t hf y => ?_)
  have hT : Tile 512 (PR m c) 12 4 t.val (after 7 t) := Dat.toRRel_leaves _ rfl (hL 7 t hf)
  obtain ⟨h0, hl⟩ := flush_late 7 (by decide) t hf
  obtain ⟨-, -, -, -, -, -, -, hx, -⟩ := idx t
  obtain ⟨a, n, rfl⟩ : ∃ (a : Fin 512) (n : Fin 512), y = ix2 a n := ⟨y 0, y 1, eq_ix2 y⟩
  exact hT.read (by decide) h0 hl (congrFun hx (0 : Fin 2)) (congrFun hx (1 : Fin 2)) rfl a n

/-- The array of the convolution's operand. -/
theorem array8 {r : PUnit × MemSt nD τ sig (Elt Ideal)} (h : RDat.FramePost cfg0 (rdat m) (V m) r) (c : Dev nD) :
    r.2.mem ((c.tc : Thread nD τ).loc main_v6_4) = (fun y => PR m c (y 0).val (8192 + (y 1).val) : Vec Ideal S512x4096 .f32) := by
  obtain ⟨after, hL, hG⟩ := RDat.FramePost.exists_exact h c
  refine (hG 8).trans (Dat.arrAt_eq_of_covers _ 8 _ (by decide +kernel) fun t hf y => ?_)
  have hT : Tile 512 (PR m c) 16 8 t.val (after 8 t) := Dat.toRRel_leaves _ rfl (hL 8 t hf)
  obtain ⟨h0, hl⟩ := flush_late 8 (by decide) t hf
  obtain ⟨-, -, -, -, -, -, -, -, hx, -⟩ := idx t
  obtain ⟨a, n, rfl⟩ : ∃ (a : Fin 512) (n : Fin 512), y = ix2 a n := ⟨y 0, y 1, eq_ix2 y⟩
  exact hT.read (by decide) h0 hl (congrFun hx (0 : Fin 2)) (congrFun hx (1 : Fin 2)) rfl a n

/-- The array of the second gate. -/
theorem array9 {r : PUnit × MemSt nD τ sig (Elt Ideal)} (h : RDat.FramePost cfg0 (rdat m) (V m) r) (c : Dev nD) :
    r.2.mem ((c.tc : Thread nD τ).loc main_v6_5) = (fun y => PR m c (y 0).val (12288 + (y 1).val) : Vec Ideal S512x2048 .bf16) := by
  obtain ⟨after, hL, hG⟩ := RDat.FramePost.exists_exact h c
  refine (hG 9).trans (Dat.arrAt_eq_of_covers _ 9 _ (by decide +kernel) fun t hf y => ?_)
  have hT : Tile 512 (PR m c) 24 4 t.val (after 9 t) := Dat.toRRel_leaves _ rfl (hL 9 t hf)
  obtain ⟨h0, hl⟩ := flush_late 9 (by decide) t hf
  obtain ⟨-, -, -, -, -, -, -, -, -, hx, -⟩ := idx t
  obtain ⟨a, n, rfl⟩ : ∃ (a : Fin 512) (n : Fin 512), y = ix2 a n := ⟨y 0, y 1, eq_ix2 y⟩
  exact hT.read (by decide) h0 hl (congrFun hx (0 : Fin 2)) (congrFun hx (1 : Fin 2)) rfl a n

/-- The array of the step sizes. -/
theorem array10 {r : PUnit × MemSt nD τ sig (Elt Ideal)} (h : RDat.FramePost cfg0 (rdat m) (V m) r) (c : Dev nD) :
    r.2.mem ((c.tc : Thread nD τ).loc main_v6_6) = (fun y => DR m c (y 0).val (y 1).val : Vec Ideal S512x128 .f32) := by
  obtain ⟨after, hL, hG⟩ := RDat.FramePost.exists_exact h c
  refine (hG 10).trans (Dat.arrAt_eq_of_covers _ 10 _ (by decide +kernel) fun t hf y => ?_)
  have hT : TileD 512 (DR m c) t.val (after 10 t) := Dat.toRRel_leaves _ rfl (hL 10 t hf)
  obtain ⟨h0, hl⟩ := flush_late 10 (by decide) t hf
  obtain ⟨-, -, -, -, -, -, -, -, -, -, hx⟩ := idx t
  obtain ⟨a, n, rfl⟩ : ∃ (a : Fin 512) (n : Fin 128), y = ix2 a n := ⟨y 0, y 1, eq_ix2 y⟩
  refine (hT h0 hl a n).trans (congrArg₂ (DR m c) ?_ ?_)
  · show 512 * (t.val / 29 - 1) + a.val = win0_10.index t (0 : Fin 2) * 512 + 1 * a.val
    rw [hx]
    show _ = (t.val / 29 - 1) * 512 + 1 * a.val
    omega
  · show n.val = win0_10.index t (1 : Fin 2) * 128 + 1 * n.val
    rw [hx]
    show _ = 0 * 128 + 1 * n.val
    omega

end Cert.InpS
end
-- ==== Proof.InpS.Raw.lean ====
module
public import proofs.«01_k».proof.Proof.InpS.Conds
public import proofs.«01_k».proof.Proof.Gen.InProjS.Frame
public import proofs.«01_k».proof.Proof.Gen.InProjS.Skeleton
public import Idealize.ShloMosaic.Lib.Pipeline.ReadBack
public import Idealize.ShloMosaic.Lib.Pipeline.FrameBody
public import Idealize.ShloMosaic.Lib.Pipeline.DatRel
public import Idealize.ShloMosaic.Lib.Claim

/-! The projection's program, as it is, frames its arguments: the same steps, with nothing said of what the results hold. -/

@[expose] public section
set_option maxRecDepth 16384
noncomputable section
namespace Cert.InpSRaw
open Cert.InProjS Cert.InProjS.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]
local notation "𝕄" => MT nD τ sig Unit (Elt F) ℕ (UR sig nD τ) ℕ

/-- The first condition, as in the other program. -/
abbrev cond1 (i : grid0.Coords) : BitVec 1 :=
  Scalar.cmpi .ne (Scalar.extui (Scalar.andi (Scalar.cmpi .eq (BitVec.ofNat 32 (i 1).val) 0#32) (Scalar.cmpi .sgt (BitVec.ofNat 32 (i 0).val) 0#32)) : BitVec 32) 0#32
/-- The kind of a step: the body branches as the ideal program's. -/
theorem kinds (i : grid0.Coords) : Cert.Proj.Kinds (cond1 i = 1#1) (k0_cond2 i = 1#1) (k0_cond3 i = 1#1) (k0_cond4 i = 1#1) (k0_cond5 i = 1#1)
    (k0_cond6 i = 1#1) (k0_cond7 i = 1#1) (k0_cond8 i = 1#1) (k0_cond9 i = 1#1) := Cert.InpS.kinds i

set_option maxHeartbeats 4000000 in
/-- The body at any step, on whole buffers at any contents: it ends, and leaves the operands. -/
theorem body_ends (c : Dev nD) (i : grid0.Coords) (arg2 : Memref sig .tc .vmem S64x4096 .f32) (harg2 : arg2.IsWhole) (arg3 : Memref sig .tc .vmem S1x4096 .f32) (harg3 : arg3.IsWhole) (arg4 : Memref sig .tc .vmem S512x4096 .bf16) (harg4 : arg4.IsWhole) (arg5 : Memref sig .tc .vmem S128x4096 .bf16) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole) (arg12 : Memref sig .tc .vmem S512x128 .f32) (harg12 : arg12.IsWhole) (arg13 : Memref sig .tc .vmem S512x4096 .bf16) (harg13 : arg13.IsWhole) (arg14 : Memref sig .tc .vmem S512x4096 .bf16) (harg14 : arg14.IsWhole)
    (x2 : Vec F S64x4096 .f32) (x3 : Vec F S1x4096 .f32) (x4 : Vec F S512x4096 .bf16) (x5 : Vec F S128x4096 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ x, owns (c : Thread nD τ) arg6 fullShare x) ∗ (∃ x, owns (c : Thread nD τ) arg7 fullShare x) ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x) ∗ (∃ x, owns (c : Thread nD τ) arg14 fullShare x)
      ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ x, owns (c : Thread nD τ) arg6 fullShare x) ∗ (∃ x, owns (c : Thread nD τ) arg7 fullShare x) ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x) ∗ (∃ x, owns (c : Thread nD τ) arg14 fullShare x)) -∗ K ⟨⟩))
    ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f2, %hf2, H2⟩, ⟨%f3, %hf3, H3⟩, ⟨%f4, %hf4, H4⟩, ⟨%f5, %hf5, H5⟩, ⟨%x6, %f6, %hf6, H6⟩, ⟨%x7, %f7, %hf7, H7⟩, ⟨%x8, %f8, %hf8, H8⟩, ⟨%x9, %f9, %hf9, H9⟩, ⟨%x10, %f10, %hf10, H10⟩, ⟨%x11, %f11, %hf11, H11⟩, ⟨%x12, %f12, %hf12, H12⟩, ⟨%x13, %f13, %hf13, H13⟩, ⟨%x14, %f14, %hf14, H14⟩, Hk⟩
  obtain rfl := harg2.eq_unread hf2; obtain rfl := harg3.eq_unread hf3; obtain rfl := harg4.eq_unread hf4; obtain rfl := harg5.eq_unread hf5
  simp only [cc0_in_proj_eq_skeleton]; unfold cc0_in_proj_skel
  simp only [k0_part1_eq_skeleton]
  rcases kinds i with ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩
  all_goals
    sl_exec
    sl_step
    iapply Hk
    isplitl [H2]
    · iexists _; isplitr; swap; · iexact H2
      ipureintro
      exact harg2.read_unread _
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact harg5.read_unread _
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

variable (m : (ℓ : Loc nD τ sig) → Buf (Elt F) ℓ) (ρ : Dev nD → PrngReg)

/-- The buffer the tiles are taken from. -/
abbrev hM : Memref sig .tc .vmem S512x4096 .bf16 := Memref.whole cc0_scratch0
/-- The buffer the next rows are normalised into. -/
abbrev nM : Memref sig .tc .vmem S512x4096 .bf16 := Memref.whole cc0_scratch1

/-- The program's own buffers outside the grid's, and the generator's register. -/
theorem rest_eq (c : Dev nD) : (Pipeline.ΦA spec0 c : sProp 𝕄)
    = iprop(iprop((∃ d, owns (c : Thread nD τ) hM fullShare d) ∗ (∃ d, owns (c : Thread nD τ) nM fullShare d)) ∗ (∃ r, prngReg c r)) := by
  unfold Pipeline.ΦA; rw [scopedRest0_eq]; simp only [hM, nM, owns_whole]; try rfl

/-- The windows of the results. -/
def fgt (w : Fin cfg0.W) : Bool := match w with
  | ⟨4, _⟩ | ⟨5, _⟩ | ⟨6, _⟩ | ⟨7, _⟩ | ⟨8, _⟩ | ⟨9, _⟩ | ⟨10, _⟩ => true
  | _ => false

/-- The grid's arrays, and what the operands' buffers hold at each step. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => fun _ => Classical.choice inferInstance
    | ⟨5, _⟩ => fun _ => Classical.choice inferInstance
    | ⟨6, _⟩ => fun _ => Classical.choice inferInstance
    | ⟨7, _⟩ => fun _ => Classical.choice inferInstance
    | ⟨8, _⟩ => fun _ => Classical.choice inferInstance
    | ⟨9, _⟩ => fun _ => Classical.choice inferInstance
    | ⟨10, _⟩ => fun _ => Classical.choice inferInstance
  Φ _ := Pipeline.ΦA spec0 c
  q _ := fullShare
  owed _ := 0

theorem dat_A (c : Dev nD) (w : Fin cfg0.W) : (dat m c).A w = V m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = X0_2 m c t := by dsimp only [dat]
theorem after3 (c : Dev nD) (t : Fin cfg0.N) : (dat m c).after 3 t = iblk m c 3 t := by dsimp only [dat]
theorem before0 (c : Dev nD) (t : Fin cfg0.N) (d) : (dat m c).before 0 t d = iblk m c 0 t := before0_0_of m (dat m c) (dat_A m c 0) (after0 m c) t d
theorem before1 (c : Dev nD) (t : Fin cfg0.N) (d) : (dat m c).before 1 t d = iblk m c 1 t := before0_1_of m (dat m c) (dat_A m c 1) (after1 m c) t d
theorem before2 (c : Dev nD) (t : Fin cfg0.N) (d) : (dat m c).before 2 t d = X0_2 m c t := before0_2_of m (dat m c) (dat_A m c 2) (after2 m c) t d
theorem before3 (c : Dev nD) (t : Fin cfg0.N) (d) : (dat m c).before 3 t d = iblk m c 3 t := before0_3_of m (dat m c) (dat_A m c 3) (after3 m c) t d

/-- Of a result's buffer after a step nothing is asked. -/
abbrev Rl (w : Fin cfg0.W) (_ : Fin cfg0.N) : ((cfg0.win w).block.Idx → Elt F (cfg0.win w).elt) → Prop := fun _ => True
/-- What a result's buffer may be found to hold before a step. -/
abbrev Found (c : Dev nD) (w : Fin cfg0.W) (t : Fin cfg0.N) (Y : (cfg0.win w).block.Idx → Elt F (cfg0.win w).elt) : Prop :=
  ((dat m c).toRRel fgt Rl).Finds w t Y

/-- What a step is called with, buffer by buffer, -/
def stepPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ Y, ⌜Found m c 4 t Y⌝ ∗ owns (c : Thread nD τ) (st0_4 t) fullShare Y)
    ∗ (∃ Y, ⌜Found m c 5 t Y⌝ ∗ owns (c : Thread nD τ) (st0_5 t) fullShare Y)
    ∗ (∃ Y, ⌜Found m c 6 t Y⌝ ∗ owns (c : Thread nD τ) (st0_6 t) fullShare Y)
    ∗ (∃ Y, ⌜Found m c 7 t Y⌝ ∗ owns (c : Thread nD τ) (st0_7 t) fullShare Y)
    ∗ (∃ Y, ⌜Found m c 8 t Y⌝ ∗ owns (c : Thread nD τ) (st0_8 t) fullShare Y)
    ∗ (∃ Y, ⌜Found m c 9 t Y⌝ ∗ owns (c : Thread nD τ) (st0_9 t) fullShare Y)
    ∗ (∃ Y, ⌜Found m c 10 t Y⌝ ∗ owns (c : Thread nD τ) (st0_10 t) fullShare Y))

/-- and what it returns. -/
def stepPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ (∃ d, owns (c : Thread nD τ) (st0_2 t) fullShare ((cfg0.win 2).fill (cfg0.grid.coords t) d ((cfg0.win 2).cut (cfg0.grid.coords t) ((dat m c).after 2 t))))
    ∗ owns (c : Thread nD τ) (st0_3 t) fullShare ((dat m c).after 3 t)
    ∗ (∃ X, ⌜Rl (F := F) 4 t X⌝ ∗ owns (c : Thread nD τ) (st0_4 t) fullShare X)
    ∗ (∃ X, ⌜Rl (F := F) 5 t X⌝ ∗ owns (c : Thread nD τ) (st0_5 t) fullShare X)
    ∗ (∃ X, ⌜Rl (F := F) 6 t X⌝ ∗ owns (c : Thread nD τ) (st0_6 t) fullShare X)
    ∗ (∃ X, ⌜Rl (F := F) 7 t X⌝ ∗ owns (c : Thread nD τ) (st0_7 t) fullShare X)
    ∗ (∃ X, ⌜Rl (F := F) 8 t X⌝ ∗ owns (c : Thread nD τ) (st0_8 t) fullShare X)
    ∗ (∃ X, ⌜Rl (F := F) 9 t X⌝ ∗ owns (c : Thread nD τ) (st0_9 t) fullShare X)
    ∗ (∃ X, ⌜Rl (F := F) 10 t X⌝ ∗ owns (c : Thread nD τ) (st0_10 t) fullShare X))

/-- The tile of weights, refilled of what is moved of it, is itself. -/
theorem refill (c : Dev nD) (t : Fin cfg0.N) : (cfg0.win 2).fill (cfg0.grid.coords t) dflt0_2 ((cfg0.win 2).cut (cfg0.grid.coords t) (X0_2 m c t)) = X0_2 m c t := by
  unfold X0_2
  rw [Pipeline.Window.cut_fill]

set_option maxHeartbeats 1600000 in
/-- One step. -/
theorem step_body (c : Dev nD) (t : Fin cfg0.N) :
    stepPre m c t ⊢ wp frame (wpE (defs₀ (F := F)) Variants.none c none) Set.univ (bodyAt0 t) (fun _ => stepPost m c t) := by
  unfold stepPre stepPost bodyAt0
  simp only [before0, before1, before2, before3]
  rw [show (dat m c).owesAt () t.succ = (dat m c).owesAt () t.castSucc from rfl, after0, after1, after2, after3,
    show (dat m c).Φ t.castSucc = Pipeline.ΦA spec0 c from rfl, show (dat m c).Φ t.succ = Pipeline.ΦA spec0 c from rfl, rest_eq]
  iintro ⟨⟨⟨HA, HB⟩, Hg⟩, Ho, ⟨%d0, H0⟩, ⟨%d1, H1⟩, ⟨%d2, H2⟩, ⟨%d3, H3⟩, ⟨%Y4, -, H4⟩, ⟨%Y5, -, H5⟩, ⟨%Y6, -, H6⟩, ⟨%Y7, -, H7⟩, ⟨%Y8, -, H8⟩, ⟨%Y9, -, H9⟩, ⟨%Y10, -, H10⟩⟩
  iapply (body_ends (F := F) c (grid0.coords t) _ _ _ _ _ _ _ _ _ _ _ _ _ _ _ _ _ _ _ _ _ _ _ _ _ _ (iblk m c 0 t) (iblk m c 1 t) (X0_2 m c t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HA]; · iexact HA
  isplitl [HB]; · iexact HB
  iintro ⟨H0, H1, H2, H3, ⟨%Z4, H4⟩, ⟨%Z5, H5⟩, ⟨%Z6, H6⟩, ⟨%Z7, H7⟩, ⟨%Z8, H8⟩, ⟨%Z9, H9⟩, ⟨%Z10, H10⟩, HA, HB⟩
  isplitl [HA HB Hg]
  · isplitl [HA HB]
    · isplitl [HA]; · iexact HA
      iexact HB
    iexact Hg
  isplitl [Ho]; · iexact Ho
  isplitl [H0]; · iexact H0
  isplitl [H1]; · iexact H1
  isplitl [H2]
  · iexists dflt0_2
    rw [refill]
    iexact H2
  isplitl [H3]; · iexact H3
  isplitl [H4]
  · iexists _
    isplitr
    swap; · iexact H4
    ipureintro; trivial
  isplitl [H5]
  · iexists _
    isplitr
    swap; · iexact H5
    ipureintro; trivial
  isplitl [H6]
  · iexists _
    isplitr
    swap; · iexact H6
    ipureintro; trivial
  isplitl [H7]
  · iexists _
    isplitr
    swap; · iexact H7
    ipureintro; trivial
  isplitl [H8]
  · iexists _
    isplitr
    swap; · iexact H8
    ipureintro; trivial
  isplitl [H9]
  · iexists _
    isplitr
    swap; · iexact H9
    ipureintro; trivial
  iexists _
  isplitr
  swap; · iexact H10
  ipureintro; trivial

/-- The body the grid calls at a step. -/
theorem defs_row (t : Fin cfg0.N) : defs₀ (F := F) .tc cfg0.body (cfg0.bodyArgs t (cfg0.slots t)) = bodyAt0 t := by
  unfold defs₀; rw [Defs.onTc_tc]

/-- Every step, as the grid calls it. -/
theorem steps_ok (c : Dev nD) : Pipeline.BodyObligationRel (dat m c) (defs₀ (F := F)) Variants.none () Set.univ fgt Rl := fun t => by
  rw [bigSep_W0, bigSep_W0, defs_row]
  exact triple_restated (step_body m c t) rfl .rfl fun _ => .rfl

/-- The grid's data. -/
abbrev rdat (c : Dev nD) := (dat m c).toRRel fgt Rl

set_option backward.isDefEq.respectTransparency.types false in
/-- The program runs, its arrays as the grid's data say, with every counter at zero at the end. -/
theorem run : θ_run defs (onTc (τ := τ) (main (F := F))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (steps_ok m c).toRRel) (hshare := fun c => (dat m c).share_full fun _ => rfl)
    (howed := fun _ _ => rfl) (V := V m) (hmain := hmain m Variants.none) (hA := dat_A m)
    (hin := fun _ => .rfl) (hout := fun _ => .rfl)

/-- The program frames its arguments. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

end Cert.InpSRaw
end
-- ==== Proof.Ple.Conds.lean ====
module
public import proofs.«01_k».proof.Proof.Gen.PleIdeal.Skeleton

/-! The branch conditions of the gated embedding's body, and the slots it keeps products in, in terms of the row block `i 0` and the column block `i 1`. -/

@[expose] public section
set_option maxRecDepth 16384
noncomputable section
namespace Cert.Emb
open Cert.PleIdeal Cert.PleIdeal.Gen Idealize.ShloMosaic Idealize.SL.Sem

/-- The first condition: a row block's first step. -/
abbrev cond1 (i : grid0.Coords) : BitVec 1 :=
  Scalar.cmpi .ne (Scalar.extui (Scalar.cmpi .eq (BitVec.ofNat 32 (i 1).val) 0#32) : BitVec 32) 0#32
/-- The condition within it: a row block has gone before. -/
abbrev cond2 (i : grid0.Coords) : BitVec 1 :=
  Scalar.cmpi .ne (Scalar.extui (Scalar.cmpi .sgt (BitVec.ofNat 32 (i 0).val) 0#32) : BitVec 32) 0#32

/-- A statement of a row block and a column block, decided over all of them. -/
theorem grid_forall {p : grid0.Coords → Prop} (h : ∀ (a : Fin 17) (b : Fin 8), p (fun | 0 => a | 1 => b)) (i : grid0.Coords) : p i := by
  have e : i = (fun | 0 => i 0 | 1 => i 1) := by
    funext t
    match t with
    | 0 => rfl
    | 1 => rfl
  rw [e]; exact h (i 0) (i 1)

theorem cond1_iff (i : grid0.Coords) : cond1 i = 1#1 ↔ (i 1).val = 0 :=
  grid_forall (p := fun i => cond1 i = 1#1 ↔ (i 1).val = 0) (by decide +kernel) i
theorem cond2_iff (i : grid0.Coords) : cond2 i = 1#1 ↔ 0 < (i 0).val :=
  grid_forall (p := fun i => cond2 i = 1#1 ↔ 0 < (i 0).val) (by decide +kernel) i
theorem cond3_iff (i : grid0.Coords) : k0_cond3 i = 1#1 ↔ 0 < (i 0).val ∧ (i 0).val < 16 :=
  grid_forall (p := fun i => k0_cond3 i = 1#1 ↔ 0 < (i 0).val ∧ (i 0).val < 16) (by decide +kernel) i
theorem cond4_iff (i : grid0.Coords) : k0_cond4 i = 1#1 ↔ (i 0).val = 0 :=
  grid_forall (p := fun i => k0_cond4 i = 1#1 ↔ (i 0).val = 0) (by decide +kernel) i
theorem cond5_iff (i : grid0.Coords) : k0_cond5 i = 1#1 ↔ (i 0).val = 16 :=
  grid_forall (p := fun i => k0_cond5 i = 1#1 ↔ (i 0).val = 16) (by decide +kernel) i
theorem off1_eq (i : grid0.Coords) : k0_off1 i = ![(i 1).val, 0, 0] :=
  grid_forall (p := fun i => k0_off1 i = ![(i 1).val, 0, 0]) (by decide +kernel) i
theorem off2_eq (i : grid0.Coords) : k0_off2 i = ![(i 1).val, 0, 0] :=
  grid_forall (p := fun i => k0_off2 i = ![(i 1).val, 0, 0]) (by decide +kernel) i
theorem off3_eq (i : grid0.Coords) : k0_off3 i = ![(i 1).val, 0, 256] :=
  grid_forall (p := fun i => k0_off3 i = ![(i 1).val, 0, 256]) (by decide +kernel) i
theorem off4_eq (i : grid0.Coords) : k0_off4 i = ![(i 1).val, 0, 0] :=
  grid_forall (p := fun i => k0_off4 i = ![(i 1).val, 0, 0]) (by decide +kernel) i
theorem off5_eq (i : grid0.Coords) : k0_off5 i = ![(i 1).val, 0, 256] :=
  grid_forall (p := fun i => k0_off5 i = ![(i 1).val, 0, 256]) (by decide +kernel) i
theorem off6_eq (i : grid0.Coords) : k0_off6 i = ![(i 1).val, 0, 0] :=
  grid_forall (p := fun i => k0_off6 i = ![(i 1).val, 0, 0]) (by decide +kernel) i

/-- The six kinds of step. -/
theorem steps (i : grid0.Coords) :
    ((i 0).val = 0 ∧ (i 1).val = 0) ∨ ((i 0).val = 0 ∧ 0 < (i 1).val)
    ∨ (0 < (i 0).val ∧ (i 0).val < 16 ∧ (i 1).val = 0) ∨ (0 < (i 0).val ∧ (i 0).val < 16 ∧ 0 < (i 1).val)
    ∨ ((i 0).val = 16 ∧ (i 1).val = 0) ∨ ((i 0).val = 16 ∧ 0 < (i 1).val) := by
  have h : (i 0).val < 17 := (i 0).isLt
  generalize (i 0).val = a at *
  generalize (i 1).val = b at *
  omega

end Cert.Emb
end
-- ==== Proof.Ple.Raw.lean ====
module
public import proofs.«01_k».proof.Proof.Ple.Conds
public import proofs.«01_k».proof.Proof.Gen.Ple.Frame
public import proofs.«01_k».proof.Proof.Gen.Ple.Skeleton
public import Idealize.ShloMosaic.Lib.Pipeline.ReadBack
public import Idealize.ShloMosaic.Lib.Pipeline.FrameBody
public import Idealize.ShloMosaic.Lib.Pipeline.DatRel
public import Idealize.ShloMosaic.Lib.Pipeline.ArrRel
public import Idealize.ShloMosaic.Lib.Claim

/-! The gated embedding's program, as it is, frames its arguments: the same steps, with nothing said of what the result holds. -/

@[expose] public section
set_option maxRecDepth 16384
noncomputable section
namespace Cert.PleRaw
open Cert.Ple Cert.Ple.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]
local notation "𝕄" => MT nD τ sig Unit (Elt F) ℕ (UR sig nD τ) ℕ

set_option maxHeartbeats 4000000 in
/-- The body at any step, on whole buffers at any contents: it ends, and leaves the operands. -/
theorem body_ends (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S1024x256 .f32) (harg4 : arg4.IsWhole) (arg5 : Memref sig .tc .vmem S256x512 .bf16) (harg5 : arg5.IsWhole) (arg6 : Memref sig .tc .vmem S1024x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S8x1024x512 .f32) (harg9 : arg9.IsWhole) (arg10 : Memref sig .tc .vmem S1024x1 .f32) (harg10 : arg10.IsWhole) (arg11 : Memref sig .tc .vmem S1024x1 .f32) (harg11 : arg11.IsWhole)
    (x2 : Vec F S1024x4096 .bf16) (x3 : Vec F S4096x512 .bf16) (x4 : Vec F S1024x256 .f32) (x5 : Vec F S256x512 .bf16) (x6 : Vec F S1024x512 .f32) (x7 : Vec F S1x512 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x)) -∗ K ⟨⟩))
    ⊢ wp frame (wpE (defs₀ (F := F)) Variants.none c none) E (cc0_ple i arg2 harg2 arg3 harg3 arg4 harg4 arg5 harg5 arg6 harg6 arg7 harg7 arg8 harg8 arg9 harg9 arg10 harg10 arg11 harg11) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%x8, %f8, %hf8, H8⟩, ⟨%x9, %f9, %hf9, H9⟩, ⟨%x10, %f10, %hf10, H10⟩, ⟨%x11, %f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  simp only [cc0_ple_eq_skeleton]; unfold cc0_ple_skel
  simp only [k0_part1_eq_skeleton, k0_part2_eq_skeleton]
  rcases Cert.Emb.steps i with h | h | h | h | h | h
  all_goals
    first | have h1 : Cert.Emb.cond1 i = 1#1 := (Cert.Emb.cond1_iff i).mpr (by clear * - h; omega)
          | have h1 : ¬ Cert.Emb.cond1 i = 1#1 := fun hc => absurd ((Cert.Emb.cond1_iff i).mp hc) (by clear * - h; omega)
    first | have h2 : Cert.Emb.cond2 i = 1#1 := (Cert.Emb.cond2_iff i).mpr (by clear * - h; omega)
          | have h2 : ¬ Cert.Emb.cond2 i = 1#1 := fun hc => absurd ((Cert.Emb.cond2_iff i).mp hc) (by clear * - h; omega)
    first | have h3 : k0_cond3 i = 1#1 := (Cert.Emb.cond3_iff i).mpr (by clear * - h; omega)
          | have h3 : ¬ k0_cond3 i = 1#1 := fun hc => absurd ((Cert.Emb.cond3_iff i).mp hc) (by clear * - h; omega)
    first | have h4 : k0_cond4 i = 1#1 := (Cert.Emb.cond4_iff i).mpr (by clear * - h; omega)
          | have h4 : ¬ k0_cond4 i = 1#1 := fun hc => absurd ((Cert.Emb.cond4_iff i).mp hc) (by clear * - h; omega)
    first | have h5 : k0_cond5 i = 1#1 := (Cert.Emb.cond5_iff i).mpr (by clear * - h; omega)
          | have h5 : ¬ k0_cond5 i = 1#1 := fun hc => absurd ((Cert.Emb.cond5_iff i).mp hc) (by clear * - h; omega)
    sl_exec
    sl_step
    iapply Hk
    isplitl [H2]
    · iexists _; isplitr; swap; · iexact H2
      ipureintro
      exact harg2.read_unread _
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact harg5.read_unread _
    isplitl [H6]
    · iexists _; isplitr; swap; · iexact H6
      ipureintro
      exact harg6.read_unread _
    isplitl [H7]
    · iexists _; isplitr; swap; · iexact H7
      ipureintro
      exact harg7.read_unread _
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

variable (m : (ℓ : Loc nD τ sig) → Buf (Elt F) ℓ) (ρ : Dev nD → PrngReg)

/-- The buffer of the products kept. -/
abbrev gM : Memref sig .tc .vmem S8x1024x512 .f32 := Memref.whole cc0_scratch0
/-- The buffer of the sums of squares. -/
abbrev sM : Memref sig .tc .vmem S1024x1 .f32 := Memref.whole cc0_scratch1
/-- The buffer of the rows' factors. -/
abbrev vM : Memref sig .tc .vmem S1024x1 .f32 := Memref.whole cc0_scratch2

/-- The program's own buffers outside the grid's, and the generator's register. -/
theorem rest_eq (c : Dev nD) : (Pipeline.ΦA spec0 c : sProp 𝕄)
    = iprop(iprop((∃ d, owns (c : Thread nD τ) gM fullShare d) ∗ (∃ d, owns (c : Thread nD τ) sM fullShare d) ∗ (∃ d, owns (c : Thread nD τ) vM fullShare d)) ∗ (∃ r, prngReg c r)) := by
  unfold Pipeline.ΦA; rw [scopedRest0_eq]; simp only [gM, sM, vM, owns_whole]; try rfl

/-- The result's window. -/
def fgt (w : Fin cfg0.W) : Bool := match w with
  | ⟨6, _⟩ => true
  | _ => false

/-- The grid's arrays, and what the operands' buffers hold at each step. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.choice inferInstance
  Φ _ := Pipeline.ΦA spec0 c
  q _ := fullShare
  owed _ := 0

theorem dat_A (c : Dev nD) (w : Fin cfg0.W) : (dat m c).A w = V m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = iblk m c 5 t := by dsimp only [dat]
theorem before0 (c : Dev nD) (t : Fin cfg0.N) (d) : (dat m c).before 0 t d = iblk m c 0 t := before0_0_of m (dat m c) (dat_A m c 0) (after0 m c) t d
theorem before1 (c : Dev nD) (t : Fin cfg0.N) (d) : (dat m c).before 1 t d = iblk m c 1 t := before0_1_of m (dat m c) (dat_A m c 1) (after1 m c) t d
theorem before2 (c : Dev nD) (t : Fin cfg0.N) (d) : (dat m c).before 2 t d = iblk m c 2 t := before0_2_of m (dat m c) (dat_A m c 2) (after2 m c) t d
theorem before3 (c : Dev nD) (t : Fin cfg0.N) (d) : (dat m c).before 3 t d = iblk m c 3 t := before0_3_of m (dat m c) (dat_A m c 3) (after3 m c) t d
theorem before4 (c : Dev nD) (t : Fin cfg0.N) (d) : (dat m c).before 4 t d = iblk m c 4 t := before0_4_of m (dat m c) (dat_A m c 4) (after4 m c) t d
theorem before5 (c : Dev nD) (t : Fin cfg0.N) (d) : (dat m c).before 5 t d = iblk m c 5 t := before0_5_of m (dat m c) (dat_A m c 5) (after5 m c) t d

/-- Of the result's buffer after a step nothing is asked. -/
abbrev Rl (w : Fin cfg0.W) (_ : Fin cfg0.N) : ((cfg0.win w).block.Idx → Elt F (cfg0.win w).elt) → Prop := fun _ => True
/-- What the result's buffer may be found to hold before a step. -/
abbrev Found (c : Dev nD) (w : Fin cfg0.W) (t : Fin cfg0.N) (Y : (cfg0.win w).block.Idx → Elt F (cfg0.win w).elt) : Prop :=
  ((dat m c).toRRel fgt Rl).Finds w t Y

/-- What a step is called with, buffer by buffer, -/
def stepPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜Found m c 6 t Y⌝ ∗ owns (c : Thread nD τ) (st0_6 t) fullShare Y))

/-- and what it returns. -/
def stepPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜Rl (F := F) 6 t X⌝ ∗ owns (c : Thread nD τ) (st0_6 t) fullShare X))

set_option maxHeartbeats 1600000 in
/-- One step. -/
theorem step_body (c : Dev nD) (t : Fin cfg0.N) :
    stepPre m c t ⊢ wp frame (wpE (defs₀ (F := F)) Variants.none c none) Set.univ (bodyAt0 t) (fun _ => stepPost m c t) := by
  unfold stepPre stepPost bodyAt0
  simp only [before0, before1, before2, before3, before4, before5]
  rw [show (dat m c).owesAt () t.succ = (dat m c).owesAt () t.castSucc from rfl, after0, after1, after2, after3, after4, after5,
    show (dat m c).Φ t.castSucc = Pipeline.ΦA spec0 c from rfl, show (dat m c).Φ t.succ = Pipeline.ΦA spec0 c from rfl, rest_eq]
  iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%Y6, -, H6⟩⟩
  iapply (body_ends (F := F) c (grid0.coords t) _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HA]; · iexact HA
  isplitl [HB]; · iexact HB
  isplitl [HC]; · iexact HC
  iintro ⟨H0, H1, H2, H3, H4, H5, ⟨%Z6, H6⟩, HA, HB, HC⟩
  isplitl [HA HB HC Hg]
  · isplitl [HA HB HC]
    · isplitl [HA]; · iexact HA
      isplitl [HB]; · iexact HB
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _
  isplitr
  swap; · iexact H6
  ipureintro; trivial

/-- The body the grid calls at a step. -/
theorem defs_row (t : Fin cfg0.N) : defs₀ (F := F) .tc cfg0.body (cfg0.bodyArgs t (cfg0.slots t)) = bodyAt0 t := by
  unfold defs₀; rw [Defs.onTc_tc]

/-- Every step, as the grid calls it. -/
theorem steps_ok (c : Dev nD) : Pipeline.BodyObligationRel (dat m c) (defs₀ (F := F)) Variants.none () Set.univ fgt Rl := fun t => by
  rw [bigSep_W0, bigSep_W0, defs_row]
  exact triple_restated (step_body m c t) rfl .rfl fun _ => .rfl

/-- The grid's data. -/
abbrev rdat (c : Dev nD) := (dat m c).toRRel fgt Rl

set_option backward.isDefEq.respectTransparency.types false in
/-- The program runs, its arrays as the grid's data say, with every counter at zero at the end. -/
theorem run : θ_run defs (onTc (τ := τ) (main (F := F))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (steps_ok m c).toRRel) (hshare := fun c => (dat m c).share_full fun _ => rfl)
    (howed := fun _ _ => rfl) (V := V m) (hmain := hmain m Variants.none) (hA := dat_A m)
    (hin := fun _ => .rfl) (hout := fun _ => .rfl)

variable {m}

/-- The argument arrays end as they were. -/
theorem args {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  obtain ⟨after, -, hG⟩ := RDat.FramePost.exists_exact h c
  exact ⟨(hG 4).trans ((Dat.arrAt_in _ 4 rfl _).trans ((dat_A m c 4).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The program frames its arguments. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args h.1 c, h.2⟩) (run m ρ)

end Cert.PleRaw
end
-- ==== Proof.Ple.Run.lean ====
module
public import proofs.«01_k».proof.Proof.Ple.Conds
public import proofs.«01_k».proof.Proof.Gen.PleIdeal.Frame
public import proofs.«01_k».proof.Proof.Carry.Mem

/-! One step of the gated embedding's body: what it leaves in each buffer, of what it found there. -/

@[expose] public section
set_option maxRecDepth 16384
noncomputable section
namespace Cert.Emb
open Cert.Carry Cert.PleIdeal Cert.PleIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]
local notation "𝕄" => MT nD τ sig Unit (Elt F) ℕ (UR sig nD τ) ℕ

/-- The first 256 columns of a tile of the gate's weights, -/
abbrev wlo (w : Vec F S4096x512 .bf16) : Vec F S4096x256 .bf16 := window w ![0, 0] S4096x256.size inb_S4096x512_S4096x256_0_0
/-- the other 256, -/
abbrev whi (w : Vec F S4096x512 .bf16) : Vec F S4096x256 .bf16 := window w ![0, 256] S4096x256.size inb_S4096x512_S4096x256_0_256
/-- and the same of the embedding's weights. -/
abbrev elo (w : Vec F S256x512 .bf16) : Vec F S256x256 .bf16 := window w ![0, 0] S256x256.size inb_S256x512_S256x256_0_0
abbrev ehi (w : Vec F S256x512 .bf16) : Vec F S256x256 .bf16 := window w ![0, 256] S256x256.size inb_S256x512_S256x256_0_256

/-- The products kept for a column block. -/
def slot (g : Vec F S8x1024x512 .f32) (j : Fin 8) : Vec F S1x1024x512 .f32 := fun y => g (ix3 j (y 1) (y 2))

/-- The rows' factors after a step: at a row block's first step those of the row block before, of the sums of squares found. -/
def vAfter (i : grid0.Coords) (s v : Vec F S1024x1 .f32) : Vec F S1024x1 .f32 := if (i 1).val = 0 ∧ 0 < (i 0).val then k0_pay1 s else v

/-- The sums of squares a step adds to: none at a row block's first. -/
def sMid (i : grid0.Coords) (s : Vec F S1024x1 .f32) : Vec F S1024x1 .f32 := if (i 1).val = 0 then k0_pay2 else s

/-- The sums of squares after a step, with its own columns'. -/
def sAfter (i : grid0.Coords) (x : Vec F S1024x4096 .bf16) (w : Vec F S4096x512 .bf16) (p : Vec F S1024x256 .f32) (e : Vec F S256x512 .bf16) (s : Vec F S1024x1 .f32) : Vec F S1024x1 .f32 :=
  if (i 0).val < 16 then k0_pay6 (k0_pay12 p) (sMid i s) (k0_pay13 p x (wlo w) (elo e)) x (whi w) (ehi e) else sMid i s

/-- The products kept after a step, with its own columns'. -/
def gAfter (i : grid0.Coords) (x : Vec F S1024x4096 .bf16) (w : Vec F S4096x512 .bf16) (p : Vec F S1024x256 .f32) (e : Vec F S256x512 .bf16) (g : Vec F S8x1024x512 .f32) : Vec F S8x1024x512 .f32 :=
  if (i 0).val < 16 then put (put g ![(i 1).val, 0, 0] S1x1024x256.size (k0_pay3 (k0_pay13 p x (wlo w) (elo e)))) ![(i 1).val, 0, 256] S1x1024x256.size (k0_pay5 (k0_pay12 p) x (whi w) (ehi e)) else g

/-- The result's buffer after a step: the row block before, finished. -/
def oAfter (i : grid0.Coords) (x : Vec F S1024x512 .f32) (n : Vec F S1x512 .f32) (o : Vec F S1024x512 .f32) (g : Vec F S8x1024x512 .f32) (s v : Vec F S1024x1 .f32) : Vec F S1024x512 .f32 :=
  if 0 < (i 0).val then k0_pay11 x (slot g (i 1)) (vAfter i s v) n else o

/-- A load of a column block's products. -/
theorem load_slot (a : Memref sig .tc .vmem S8x1024x512 .f32) (h : a.IsWhole) (g : Vec F S8x1024x512 .f32) (j : Fin 8) {off : Fin 3 → Nat} (ho : off = ![j.val, 0, 0])
    (inb : ∀ t, off t + S1x1024x512.size t ≤ S8x1024x512.size t) :
    View.readAt (Elt F) a.view (Rect.unit (s := S8x1024x512) off S1x1024x512.size inb).toLoadRect (h.unread g) = slot g j := by
  subst ho
  rw [load_part]
  funext y
  refine congrArg g (funext fun b => ?_)
  have h0 : (y 0).val < 1 := (y 0).isLt
  match b with
  | ⟨0, _⟩ => exact Fin.ext (show j.val + 1 * (y 0).val = j.val by omega)
  | ⟨1, _⟩ => exact Fin.ext (show 0 + 1 * (y 1).val = (y 1).val by omega)
  | ⟨2, _⟩ => exact Fin.ext (show 0 + 1 * (y 2).val = (y 2).val by omega)

/-- What a step computes depends on what it reads only: the finished tile, -/
theorem pay11_congr {x x' : Vec F S1024x512 .f32} {g g' : Vec F S1x1024x512 .f32} {v v' : Vec F S1024x1 .f32} {n n' : Vec F S1x512 .f32}
    (hx : x = x') (hg : g = g') (hv : v = v') (hn : n = n') : k0_pay11 x g v n = k0_pay11 x' g' v' n' := by rw [hx, hg, hv, hn]
theorem pay10_congr {x x' : Vec F S1024x512 .f32} {g g' : Vec F S1x1024x512 .f32} {v v' : Vec F S1024x1 .f32} {n n' : Vec F S1x512 .f32}
    (hx : x = x') (hg : g = g') (hv : v = v') (hn : n = n') : k0_pay10 x g v n = k0_pay11 x' g' v' n' := by rw [hx, hg, hv, hn]; rfl

variable {p p' : Vec F S1024x256 .f32} {x x' : Vec F S1024x4096 .bf16} {w w' u u' : Vec F S4096x256 .bf16} {e e' f f' : Vec F S256x256 .bf16} {s s' : Vec F S1024x1 .f32}

/-- the products of the first columns, -/
theorem pay13_congr (hp : p = p') (hx : x = x') (hw : w = w') (he : e = e') : k0_pay13 p x w e = k0_pay13 p' x' w' e' := by rw [hp, hx, hw, he]
theorem pay16_congr (hp : p = p') (hx : x = x') (hw : w = w') (he : e = e') : k0_pay16 p x w e = k0_pay3 (k0_pay13 p' x' w' e') := by rw [hp, hx, hw, he]; rfl
/-- of the other columns, -/
theorem pay5_congr (hp : p = p') (hx : x = x') (hu : u = u') (hf : f = f') : k0_pay5 (k0_pay12 p) x u f = k0_pay5 (k0_pay12 p') x' u' f' := by rw [hp, hx, hu, hf]
theorem pay8_congr (hp : p = p') (hx : x = x') (hu : u = u') (hf : f = f') : k0_pay8 (k0_pay14 p) (k0_pay18 x u) f = k0_pay5 (k0_pay12 p') x' u' f' := by rw [hp, hx, hu, hf]; rfl
/-- and the sums of squares. -/
theorem pay6_congr (hp : p = p') (hs : s = s') (hx : x = x') (hw : w = w') (he : e = e') (hu : u = u') (hf : f = f') :
    k0_pay6 (k0_pay12 p) s (k0_pay13 p x w e) x u f = k0_pay6 (k0_pay12 p') s' (k0_pay13 p' x' w' e') x' u' f' := by rw [hp, hs, hx, hw, he, hu, hf]
theorem pay9_congr (hp : p = p') (hs : s = s') (hx : x = x') (hw : w = w') (he : e = e') (hu : u = u') (hf : f = f') :
    k0_pay9 (k0_pay14 p) (k0_pay17 p s x w e) (k0_pay18 x u) f = k0_pay6 (k0_pay12 p') s' (k0_pay13 p' x' w' e') x' u' f' := by rw [hp, hs, hx, hw, he, hu, hf]; rfl

set_option maxHeartbeats 4000000 in
/-- The body at any step, on whole buffers at any contents. -/
theorem body_run (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S1024x256 .f32) (harg4 : arg4.IsWhole) (arg5 : Memref sig .tc .vmem S256x512 .bf16) (harg5 : arg5.IsWhole) (arg6 : Memref sig .tc .vmem S1024x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S8x1024x512 .f32) (harg9 : arg9.IsWhole) (arg10 : Memref sig .tc .vmem S1024x1 .f32) (harg10 : arg10.IsWhole) (arg11 : Memref sig .tc .vmem S1024x1 .f32) (harg11 : arg11.IsWhole)
    (x2 : Vec F S1024x4096 .bf16) (x3 : Vec F S4096x512 .bf16) (x4 : Vec F S1024x256 .f32) (x5 : Vec F S256x512 .bf16) (x6 : Vec F S1024x512 .f32) (x7 : Vec F S1x512 .f32) (x8 : Vec F S1024x512 .f32) (x9 : Vec F S8x1024x512 .f32) (x10 : Vec F S1024x1 .f32) (x11 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (oAfter i x6 x7 x8 x9 x10 x11) ∗ owns (c : Thread nD τ) arg9 fullShare (gAfter i x2 x3 x4 x5 x9) ∗ owns (c : Thread nD τ) arg10 fullShare (sAfter i x2 x3 x4 x5 x10) ∗ owns (c : Thread nD τ) arg11 fullShare (vAfter i x10 x11)) -∗ K ⟨⟩))
    ⊢ wp frame (wpE (defs₀ (F := F)) Variants.none c none) E (cc0_ple i arg2 harg2 arg3 harg3 arg4 harg4 arg5 harg5 arg6 harg6 arg7 harg7 arg8 harg8 arg9 harg9 arg10 harg10 arg11 harg11) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  simp only [cc0_ple_eq_skeleton]; unfold cc0_ple_skel
  simp only [k0_part1_eq_skeleton, k0_part2_eq_skeleton]
  have o1 := off1_eq i
  have o2 := off2_eq i
  have o3 := off3_eq i
  have o4 := off4_eq i
  have o5 := off5_eq i
  have o6 := off6_eq i
  rcases steps i with h | h | h | h | h | h
  all_goals
    first | have h1 : cond1 i = 1#1 := by rw [cond1_iff]; clear * - h; omega
          | have h1 : ¬ cond1 i = 1#1 := by rw [cond1_iff]; clear * - h; omega
    first | have h2 : cond2 i = 1#1 := by rw [cond2_iff]; clear * - h; omega
          | have h2 : ¬ cond2 i = 1#1 := by rw [cond2_iff]; clear * - h; omega
    first | have h3 : k0_cond3 i = 1#1 := by rw [cond3_iff]; clear * - h; omega
          | have h3 : ¬ k0_cond3 i = 1#1 := by rw [cond3_iff]; clear * - h; omega
    first | have h4 : k0_cond4 i = 1#1 := by rw [cond4_iff]; clear * - h; omega
          | have h4 : ¬ k0_cond4 i = 1#1 := by rw [cond4_iff]; clear * - h; omega
    first | have h5 : k0_cond5 i = 1#1 := by rw [cond5_iff]; clear * - h; omega
          | have h5 : ¬ k0_cond5 i = 1#1 := by rw [cond5_iff]; clear * - h; omega
    first | have e1 : (i 1).val = 0 := by clear * - h; omega
          | have e1 : ¬ (i 1).val = 0 := by clear * - h; omega
    first | have e2 : 0 < (i 0).val := by clear * - h; omega
          | have e2 : ¬ 0 < (i 0).val := by clear * - h; omega
    first | have e3 : (i 0).val < 16 := by clear * - h; omega
          | have e3 : ¬ (i 0).val < 16 := by clear * - h; omega
    first | have e4 : (i 1).val = 0 ∧ 0 < (i 0).val := by clear * - h; omega
          | have e4 : ¬ ((i 1).val = 0 ∧ 0 < (i 0).val) := by clear * - h; omega
    sl_exec
    sl_step
    iapply Hk
    isplitl [H2]
    · iexists _; isplitr; swap; · iexact H2
      ipureintro
      exact harg2.read_unread _
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact harg5.read_unread _
    isplitl [H6]
    · iexists _; isplitr; swap; · iexact H6
      ipureintro
      exact harg6.read_unread _
    isplitl [H7]
    · iexists _; isplitr; swap; · iexact H7
      ipureintro
      exact harg7.read_unread _
    isplitl [H8]
    · iexists _; isplitr; swap; · iexact H8
      ipureintro
      first | (rw [oAfter, if_neg e2]; exact harg8.read_unread _)
            | (replace e3 : (i 0).val < 16 := e3; rw [oAfter, if_pos e2, vAfter, if_neg e4]; refine (store_whole arg8 _ _ _ _).trans ?_; exact pay11_congr (load_whole arg6 harg6 x6 _) (load_slot arg9 harg9 x9 (i 1) o1 _) (load_whole arg11 harg11 x11 _) (load_whole arg7 harg7 x7 _))
            | (replace e3 : ¬ (i 0).val < 16 := e3; rw [oAfter, if_pos e2, vAfter, if_neg e4]; refine (store_whole arg8 _ _ _ _).trans ?_; exact pay10_congr (load_whole arg6 harg6 x6 _) (load_slot arg9 harg9 x9 (i 1) o6 _) (load_whole arg11 harg11 x11 _) (load_whole arg7 harg7 x7 _))
            | (replace e3 : (i 0).val < 16 := e3; rw [oAfter, if_pos e2, vAfter, if_pos e4]; refine (store_whole arg8 _ _ _ _).trans ?_; exact pay11_congr (load_whole arg6 harg6 x6 _) (load_slot arg9 harg9 x9 (i 1) o1 _) ((load_stored arg11 _ _ _).trans (congrArg k0_pay1 (load_whole arg10 harg10 x10 _))) (load_whole arg7 harg7 x7 _))
            | (replace e3 : ¬ (i 0).val < 16 := e3; rw [oAfter, if_pos e2, vAfter, if_pos e4]; refine (store_whole arg8 _ _ _ _).trans ?_; exact pay10_congr (load_whole arg6 harg6 x6 _) (load_slot arg9 harg9 x9 (i 1) o6 _) ((load_stored arg11 _ _ _).trans (congrArg k0_pay1 (load_whole arg10 harg10 x10 _))) (load_whole arg7 harg7 x7 _))
    isplitl [H9]
    · iexists _; isplitr; swap; · iexact H9
      ipureintro
      first | (rw [gAfter, if_neg e3]; exact harg9.read_unread _)
            | (replace e2 : 0 < (i 0).val := e2; rw [gAfter, if_pos e3]; refine (store_two arg9 harg9 x9 _ _ _ _ o3 o2).trans ?_; refine congrArg₂ (fun a b => put (put x9 ![(i 1).val, 0, 0] S1x1024x256.size a) ![(i 1).val, 0, 256] S1x1024x256.size b) ?_ ?_; exact congrArg k0_pay3 (pay13_congr (load_whole arg4 harg4 x4 _) (load_whole arg2 harg2 x2 _) (load_part arg3 harg3 x3 _) (load_part arg5 harg5 x5 _)); exact pay5_congr (load_whole arg4 harg4 x4 _) (load_whole arg2 harg2 x2 _) (load_part arg3 harg3 x3 _) (load_part arg5 harg5 x5 _))
            | (replace e2 : ¬ 0 < (i 0).val := e2; rw [gAfter, if_pos e3]; refine (store_two arg9 harg9 x9 _ _ _ _ o5 o4).trans ?_; refine congrArg₂ (fun a b => put (put x9 ![(i 1).val, 0, 0] S1x1024x256.size a) ![(i 1).val, 0, 256] S1x1024x256.size b) ?_ ?_; exact pay16_congr (load_whole arg4 harg4 x4 _) (load_whole arg2 harg2 x2 _) (load_part arg3 harg3 x3 _) (load_part arg5 harg5 x5 _); exact pay8_congr (load_whole arg4 harg4 x4 _) (load_whole arg2 harg2 x2 _) (load_part arg3 harg3 x3 _) (load_part arg5 harg5 x5 _))
    isplitl [H10]
    · iexists _; isplitr; swap; · iexact H10
      ipureintro
      first | (rw [sAfter, if_neg e3, sMid, if_neg e1]; exact harg10.read_unread _)
            | (rw [sAfter, if_neg e3, sMid, if_pos e1]; exact store_whole arg10 _ _ _ _)
            | (replace e2 : 0 < (i 0).val := e2; rw [sAfter, if_pos e3, sMid, if_neg e1]; refine (store_whole arg10 _ _ _ _).trans ?_; exact pay6_congr (load_whole arg4 harg4 x4 _) (load_whole arg10 harg10 x10 _) (load_whole arg2 harg2 x2 _) (load_part arg3 harg3 x3 _) (load_part arg5 harg5 x5 _) (load_part arg3 harg3 x3 _) (load_part arg5 harg5 x5 _))
            | (replace e2 : ¬ 0 < (i 0).val := e2; rw [sAfter, if_pos e3, sMid, if_neg e1]; refine (store_whole arg10 _ _ _ _).trans ?_; exact pay9_congr (load_whole arg4 harg4 x4 _) (load_whole arg10 harg10 x10 _) (load_whole arg2 harg2 x2 _) (load_part arg3 harg3 x3 _) (load_part arg5 harg5 x5 _) (load_part arg3 harg3 x3 _) (load_part arg5 harg5 x5 _))
            | (replace e2 : 0 < (i 0).val := e2; rw [sAfter, if_pos e3, sMid, if_pos e1]; refine (store_whole arg10 _ _ _ _).trans ?_; exact pay6_congr (load_whole arg4 harg4 x4 _) (load_stored arg10 _ _ _) (load_whole arg2 harg2 x2 _) (load_part arg3 harg3 x3 _) (load_part arg5 harg5 x5 _) (load_part arg3 harg3 x3 _) (load_part arg5 harg5 x5 _))
            | (replace e2 : ¬ 0 < (i 0).val := e2; rw [sAfter, if_pos e3, sMid, if_pos e1]; refine (store_whole arg10 _ _ _ _).trans ?_; exact pay9_congr (load_whole arg4 harg4 x4 _) (load_stored arg10 _ _ _) (load_whole arg2 harg2 x2 _) (load_part arg3 harg3 x3 _) (load_part arg5 harg5 x5 _) (load_part arg3 harg3 x3 _) (load_part arg5 harg5 x5 _))
    iexists _; isplitr; swap; · iexact H11
    ipureintro
    first | (rw [vAfter, if_neg e4]; exact harg11.read_unread _)
          | (rw [vAfter, if_pos e4]; refine (store_whole arg11 _ _ _ _).trans ?_; exact congrArg k0_pay1 (load_whole arg10 harg10 x10 _))

end Cert.Emb
end
-- ==== Proof.Carry.Inv.lean ====
module
public import proofs.«01_k».proof.Proof.Att.Scalar
public import Idealize.ShloMosaic.Lib.VecWindow
public import Idealize.ShloMosaic.Lib.Pipeline.ValueKit

/-! Kernels whose grid keeps a row block's products, and the sums of their squares, until the next row block's steps finish it:
    what the carried buffers hold before each step, of any products `f` of a row and a column, and that a step keeps it so. -/

@[expose] public section
set_option maxRecDepth 16384
noncomputable section
namespace Cert.Carry
open Idealize.ShloMosaic Idealize.ShloMosaic.TcCoe Idealize.SL.Sem
open Idealize.ShloMosaic.VecWindow (window put)

/-- The shape of the kept products: column blocks, rows, columns. -/
abbrev SG : Shape := ⟨3, ![8, 1024, 512]⟩
/-- The shape of half a column block's products. -/
abbrev SH : Shape := ⟨3, ![1, 1024, 256]⟩
/-- The shape of one number a row. -/
abbrev SR : Shape := ⟨2, ![1024, 1]⟩

/-- A row times a column. -/
def dot {n : ℕ} (f g : Fin n → EReal) : EReal := ∑ d, f d * g d

variable (f : ℕ → ℕ → EReal)

/-- The sum of the squares of a row's first `n` products. -/
def SQ (r n : ℕ) : EReal := ∑ k ∈ Finset.range n, f r k * f r k

/-- A row's factor, of all its products. -/
def FA (r : ℕ) : EReal := Ideal.rsqrt (SQ f r 4096 * Ideal.ofBits .f32 0x39800000#32 + Ideal.ofBits .f32 0x358637BD#32)

/-- Before step `n`: the products of the row block's columns so far, over those of the row block before; the squares of the former summed up,
    or, at a row block's first step, all of the latter; and past that step the factors of the row block before. -/
def Inv (n : ℕ) (g : Vec Ideal SG .f32) (s v : Vec Ideal SR .f32) : Prop :=
  (∀ (k : Fin 8) (a : Fin 1024) (q : Fin 512), k.val < n % 8 → n / 8 < 16 → g (ix3 k a q) = f (1024 * (n / 8) + a) (512 * k + q))
  ∧ (∀ (k : Fin 8) (a : Fin 1024) (q : Fin 512), n % 8 ≤ k.val → 0 < n / 8 → n / 8 < 17 → g (ix3 k a q) = f (1024 * (n / 8 - 1) + a) (512 * k + q))
  ∧ (0 < n % 8 → n / 8 < 16 → ∀ a : Fin 1024, s (ix2 a 0) = SQ f (1024 * (n / 8) + a) (512 * (n % 8)))
  ∧ (n % 8 = 0 → 0 < n / 8 → n / 8 < 17 → ∀ a : Fin 1024, s (ix2 a 0) = SQ f (1024 * (n / 8 - 1) + a) 4096)
  ∧ (0 < n % 8 → 0 < n / 8 → ∀ a : Fin 1024, v (ix2 a 0) = FA f (1024 * (n / 8 - 1) + a))

variable {f}

/-- Nothing is asked before the first step. -/
theorem inv_zero (g : Vec Ideal SG .f32) (s v : Vec Ideal SR .f32) : Inv f 0 g s v :=
  ⟨fun k a q h => absurd h (by simp), fun k a q _ h _ => absurd h (by decide), fun h => absurd h (by decide), fun _ h _ => absurd h (by decide), fun h => absurd h (by decide)⟩

/-- Some columns of a tile of weights. -/
theorem window_apply {n o : ℕ} (w : Vec Ideal (⟨2, ![n, 512]⟩ : Shape) .bf16) (ho : o + 256 ≤ 512) (inb : ∀ a, (![0, o] : Fin 2 → ℕ) a + (![n, 256] : Fin 2 → ℕ) a ≤ (⟨2, ![n, 512]⟩ : Shape).size a) (d : Fin n) (q : Fin 256) :
    window w ![0, o] ![n, 256] inb (ix2 d q) = w (ix2 d ⟨o + q.val, by omega⟩) := by
  refine congrArg w (funext fun b => ?_)
  match b with
  | ⟨0, _⟩ => exact Fin.ext (show 0 + 1 * d.val = d.val by omega)
  | ⟨1, _⟩ => exact Fin.ext (show o + 1 * q.val = o + q.val by omega)

/-- Some columns of one slot put over what a buffer held. -/
theorem put_slot (g : Vec Ideal SG .f32) (j o : ℕ) (w : Vec Ideal SH .f32) (k : Fin 8) (a : Fin 1024) (q : Fin 512) :
    put g ![j, 0, o] SH.size w (ix3 k a q)
      = if h : k.val = j ∧ o ≤ q.val ∧ q.val < o + 256 then w (ix3 0 a ⟨q.val - o, by omega⟩) else g (ix3 k a q) := by
  have hk := k.isLt
  have ha := a.isLt
  unfold put
  by_cases h : k.val = j ∧ o ≤ q.val ∧ q.val < o + 256
  · have hm : ∀ b, (![j, 0, o] : Fin 3 → ℕ) b ≤ ((ix3 k a q : SG.Idx) b).val ∧ ((ix3 k a q : SG.Idx) b).val < (![j, 0, o] : Fin 3 → ℕ) b + SH.size b := by
      intro b
      match b with
      | ⟨0, _⟩ => exact show j ≤ k.val ∧ k.val < j + 1 by omega
      | ⟨1, _⟩ => exact show 0 ≤ a.val ∧ a.val < 0 + 1024 by omega
      | ⟨2, _⟩ => exact show o ≤ q.val ∧ q.val < o + 256 by omega
    rw [dif_pos h, dif_pos hm]
    refine congrArg w (funext fun b => ?_)
    match b with
    | ⟨0, _⟩ => exact Fin.ext (show k.val - j = 0 by omega)
    | ⟨1, _⟩ => exact Fin.ext (show a.val - 0 = a.val by omega)
    | ⟨2, _⟩ => rfl
  · rw [dif_neg h, dif_neg]
    intro hm
    have h0 : j ≤ k.val ∧ k.val < j + 1 := hm 0
    have h2 : o ≤ q.val ∧ q.val < o + 256 := hm 2
    exact h ⟨by omega, h2⟩

/-- Both halves of a column block's products put in its slot: there its own, in the others what was there. -/
theorem put_both (g : Vec Ideal SG .f32) (j r : ℕ) (a : Fin 1024) (w w' : Vec Ideal SH .f32)
    (hw : ∀ q : Fin 256, w (ix3 0 a q) = f r (512 * j + q)) (hw' : ∀ q : Fin 256, w' (ix3 0 a q) = f r (512 * j + (256 + q))) (k : Fin 8) (q : Fin 512) :
    put (put g ![j, 0, 0] SH.size w) ![j, 0, 256] SH.size w' (ix3 k a q) = if k.val = j then f r (512 * k + q) else g (ix3 k a q) := by
  rw [put_slot]
  by_cases hk : k.val = j
  · rw [if_pos hk]
    by_cases hq : 256 ≤ q.val
    · rw [dif_pos ⟨hk, hq, by have := q.isLt; omega⟩, hw']
      exact congrArg (f r) (show 512 * j + (256 + (q.val - 256)) = 512 * k.val + q.val by omega)
    · rw [dif_neg (fun hc => hq hc.2.1), put_slot, dif_pos ⟨hk, Nat.zero_le _, by omega⟩, hw]
      exact congrArg (f r) (show 512 * j + (q.val - 0) = 512 * k.val + q.val by omega)
  · rw [if_neg hk, dif_neg (fun hc => hk hc.1), put_slot, dif_neg (fun hc => hk hc.1)]

/-- A row's sum of squares with a step's columns added. -/
theorem SQ_add (r n : ℕ) : SQ f r n + (∑ q : Fin 256, f r (n + q) * f r (n + q)) + (∑ q : Fin 256, f r (n + (256 + q)) * f r (n + (256 + q)))
    = SQ f r (n + 512) := by
  unfold SQ
  rw [Finset.sum_range_add (fun k => f r k * f r k) n 512, Finset.sum_range_add (fun k => f r (n + k) * f r (n + k)) 256 256, add_assoc,
    Finset.sum_range (n := 256), Finset.sum_range (n := 256)]

/-- A step keeps what the carried buffers hold, if in its own slot it puts its own products, adds up their squares, and takes up the factors of the row block before. -/
theorem inv_succ {n : ℕ} (hN : n < 136) {g g' : Vec Ideal SG .f32} {s s' v v' : Vec Ideal SR .f32} (hI : Inv f n g s v)
    (hg : n / 8 < 16 → ∀ (k : Fin 8) (a : Fin 1024) (q : Fin 512), g' (ix3 k a q) = if k.val = n % 8 then f (1024 * (n / 8) + a) (512 * k + q) else g (ix3 k a q))
    (hg' : ¬ n / 8 < 16 → g' = g)
    (hs : n / 8 < 16 → ∀ a : Fin 1024, s' (ix2 a 0) = SQ f (1024 * (n / 8) + a) (512 * (n % 8) + 512))
    (hv : 0 < n / 8 → ∀ a : Fin 1024, v' (ix2 a 0) = FA f (1024 * (n / 8 - 1) + a)) : Inv f (n + 1) g' s' v' := by
  refine ⟨fun k a q hk hl => ?_, fun k a q hk hp hm => ?_, fun hj hl a => ?_, fun hj hp hm a => ?_, fun hj hp a => ?_⟩
  · have hd : (n + 1) / 8 = n / 8 := by omega
    rw [hd] at hl ⊢
    rw [hg hl]
    by_cases hc : k.val = n % 8
    · rw [if_pos hc]
    · rw [if_neg hc]; exact hI.1 k a q (by omega) hl
  · have hk8 := k.isLt
    by_cases hl : n / 8 < 16
    · rw [hg hl]
      by_cases hw : n % 8 = 7
      · have hd : (n + 1) / 8 - 1 = n / 8 := by omega
        rw [hd]
        by_cases hc : k.val = n % 8
        · rw [if_pos hc]
        · rw [if_neg hc]; exact hI.1 k a q (by omega) hl
      · have hd : (n + 1) / 8 = n / 8 := by omega
        rw [hd] at hp hm ⊢
        rw [if_neg (by omega)]
        exact hI.2.1 k a q (by omega) hp hm
    · rw [hg' hl]
      have hd : (n + 1) / 8 = n / 8 := by omega
      rw [hd] at hp hm ⊢
      exact hI.2.1 k a q (by omega) hp hm
  · have hd : (n + 1) / 8 = n / 8 := by omega
    rw [hd] at hl ⊢
    rw [hs hl]
    exact congrArg (SQ f _) (by omega)
  · by_cases hl : n / 8 < 16
    · rw [hs hl, show n % 8 = 7 by omega, show (n + 1) / 8 - 1 = n / 8 by omega]
    · omega
  · have hd : (n + 1) / 8 = n / 8 := by omega
    rw [hd] at hp ⊢
    exact hv hp a

end Cert.Carry
end
-- ==== Proof.Ple.Pay.lean ====
module
public import proofs.«01_k».proof.Proof.Ple.Run
public import proofs.«01_k».proof.Proof.Carry.Inv

/-! The values one step computes, element by element: a gated product, a row's sum of squares, and the finished element. -/

@[expose] public section
set_option maxRecDepth 16384
noncomputable section
namespace Cert.Emb
open Cert.Carry Cert.PleIdeal Cert.PleIdeal.Gen Idealize.ShloMosaic Idealize.ShloMosaic.TcCoe Idealize.ShloMosaic.Tactic Idealize.SL.Sem

/-- The sigmoid of one number, times another. -/
def gated (a b : EReal) : EReal := Ideal.div (Ideal.ofBits .f32 0x3F800000#32) (Ideal.ofBits .f32 0x3F800000#32 + Ideal.exp (-a)) * b

/-- The kernel's base-two exponential is the exponential of the sigmoid. -/
theorem exp2_eq (a : EReal) : Ideal.exp2 (a * (Named.named (F := Ideal) κ "neg_log2e" (φ := .f32) 0xBFB8AA3B#32 : EReal)) = Ideal.exp (-a) := Cert.Att.exp2_gate a

/-- An element of the gated products. -/
theorem pay4_apply (p : FVec Ideal S1024x256 .bf16) (x : Vec Ideal S1024x4096 .bf16) (w : Vec Ideal S4096x256 .bf16) (e : Vec Ideal S256x256 .bf16) (a : Fin 1024) (n : Fin 256) :
    k0_pay4 p x w e (ix2 a n) = gated (dot (fun d => x (ix2 a d)) (fun d => w (ix2 d n))) (dot (fun d => p (ix2 a d)) (fun d => e (ix2 d n))) := by
  unfold gated
  rw [← exp2_eq]
  pointwise [k0_pay4]
  exact (rfl)

/-- The embedding's rows, whose format changes only. -/
theorem pay12_apply (p : Vec Ideal S1024x256 .f32) (a : Fin 1024) (d : Fin 256) : k0_pay12 p (ix2 a d) = p (ix2 a d) := by
  pointwise [k0_pay12]

/-- The products of a step's first columns and of its others are computed alike. -/
theorem pay13_eq (p : Vec Ideal S1024x256 .f32) (x : Vec Ideal S1024x4096 .bf16) (w : Vec Ideal S4096x256 .bf16) (e : Vec Ideal S256x256 .bf16) :
    k0_pay13 p x w e = k0_pay4 (k0_pay12 p) x w e := rfl
theorem pay5_eq (p : FVec Ideal S1024x256 .bf16) (x : Vec Ideal S1024x4096 .bf16) (w : Vec Ideal S4096x256 .bf16) (e : Vec Ideal S256x256 .bf16) :
    k0_pay5 p x w e = k0_pay3 (k0_pay4 p x w e) := rfl

/-- The products as they are kept. -/
theorem pay3_apply (v : FVec Ideal S1024x256 .f32) (z : Fin 1) (a : Fin 1024) (n : Fin 256) : k0_pay3 v (ix3 z a n) = v (ix2 a n) := by
  have hz : z = 0 := Subsingleton.elim _ _
  subst hz
  pointwise [k0_pay3]

/-- A row's sum of squares, with a step's columns added. -/
theorem pay6_apply (p : FVec Ideal S1024x256 .bf16) (s : Vec Ideal S1024x1 .f32) (v : FVec Ideal S1024x256 .f32) (x : Vec Ideal S1024x4096 .bf16) (w : Vec Ideal S4096x256 .bf16) (e : Vec Ideal S256x256 .bf16) (a : Fin 1024) :
    k0_pay6 p s v x w e (ix2 a 0) = s (ix2 a 0) + (∑ n : Fin 256, v (ix2 a n) * v (ix2 a n)) + ∑ n : Fin 256, k0_pay4 p x w e (ix2 a n) * k0_pay4 p x w e (ix2 a n) := by
  unfold k0_pay6
  generalize k0_pay4 p x w e = u
  pointwise
  try exact (rfl)

/-- A row's factor. -/
theorem pay1_apply (s : Vec Ideal S1024x1 .f32) (a : Fin 1024) :
    k0_pay1 s (ix2 a 0) = Ideal.rsqrt (s (ix2 a 0) * Ideal.ofBits .f32 0x39800000#32 + Ideal.ofBits .f32 0x358637BD#32) := by
  pointwise [k0_pay1]
  try exact (rfl)

/-- The sums of squares start at zero. -/
theorem pay2_apply (a : Fin 1024) : k0_pay2 (F := Ideal) (ix2 a 0) = (0 : EReal) := by
  refine Eq.trans ?_ Ideal.ofBits_zero_f32
  pointwise [k0_pay2]
  try exact (rfl)

/-- A finished element. -/
theorem pay11_apply (x : Vec Ideal S1024x512 .f32) (g : Vec Ideal S1x1024x512 .f32) (v : Vec Ideal S1024x1 .f32) (n : Vec Ideal S1x512 .f32) (a : Fin 1024) (q : Fin 512) :
    k0_pay11 x g v n (ix2 a q) = x (ix2 a q) + g (ix3 0 a q) * v (ix2 a 0) * n (ix2 0 q) := by
  pointwise [k0_pay11]
  try exact (rfl)

end Cert.Emb
end
-- ==== Proof.Ple.Idx.lean ====
module
public import proofs.«01_k».proof.Proof.Gen.PleIdeal.Frame
public import Idealize.ShloMosaic.Lib.Pipeline.ValueKit

/-! Which block of each array a step works on, and at which steps a finished block is written back. -/

@[expose] public section
set_option maxRecDepth 16384
noncomputable section
namespace Cert.Emb
open Cert.PleIdeal Cert.PleIdeal.Gen Idealize.ShloMosaic Idealize.ShloMosaic.TcCoe

/-- The coordinates of a step. -/
theorem coords_eq : ∀ t : Fin cfg0.N, (grid0.coords t 0).val = t.val / 8 ∧ (grid0.coords t 1).val = t.val % 8 :=
  (by decide +kernel : ∀ t : Fin grid0.N, _)

/-- The blocks of the operands and of the result at a step. -/
theorem idx : ∀ t : Fin cfg0.N, win0_0.index t = ![min (t.val / 8) 15, 0] ∧ win0_1.index t = ![0, if t.val / 8 < 16 then t.val % 8 else 7]
    ∧ win0_2.index t = ![min (t.val / 8) 15, 0] ∧ win0_3.index t = ![0, if t.val / 8 < 16 then t.val % 8 else 7]
    ∧ win0_4.index t = ![t.val / 8 - 1, if 0 < t.val / 8 then t.val % 8 else 0] ∧ win0_5.index t = ![0, if 0 < t.val / 8 then t.val % 8 else 0]
    ∧ win0_6.index t = ![t.val / 8 - 1, if 0 < t.val / 8 then t.val % 8 else 0] :=
  (by decide +kernel : ∀ t : Fin grid0.N, _)

/-- A block is only written back once it is finished. -/
theorem flush_late : ∀ t : Fin cfg0.N, (cfg0.win 6).flush t = true → 0 < t.val / 8 :=
  (by decide +kernel : ∀ t : Fin grid0.N, ((win0 6).flush t = true → _))

end Cert.Emb
end
-- ==== Proof.Ple.Step.lean ====
module
public import proofs.«01_k».proof.Proof.Ple.Pay
public import proofs.«01_k».proof.Proof.Ple.Idx

/-! A step of the gated embedding keeps what is said of the three carried buffers, and finishes a tile of the row block before. -/

@[expose] public section
set_option maxRecDepth 16384
noncomputable section
namespace Cert.Emb
open Cert.Carry Cert.PleIdeal Cert.PleIdeal.Gen Idealize.ShloMosaic Idealize.ShloMosaic.TcCoe Idealize.ShloMosaic.Tactic Idealize.SL.Sem
open Idealize.ShloMosaic.VecWindow (window put)

variable (X : Vec Ideal S16384x4096 .bf16) (W : Vec Ideal S4096x4096 .bf16) (P : Vec Ideal S16384x256 .f32) (E : Vec Ideal S256x4096 .bf16)

/-- The gated product of a row and a column. -/
def GE (r k : ℕ) : EReal :=
  gated (dot (fun d => X (ix2 (Fin.ofNat 16384 r) d)) (fun d => W (ix2 d (Fin.ofNat 4096 k))))
    (dot (fun d => P (ix2 (Fin.ofNat 16384 r) d)) (fun d => E (ix2 d (Fin.ofNat 4096 k))))

variable {X W P E}

/-- A step's blocks of the operands: the row block's rows, and the column block's columns of the weights. -/
structure Blocks (t : Fin cfg0.N) (x : Vec Ideal S1024x4096 .bf16) (w : Vec Ideal S4096x512 .bf16) (p : Vec Ideal S1024x256 .f32) (e : Vec Ideal S256x512 .bf16) : Prop where
  hx : t.val / 8 < 16 → ∀ (a : Fin 1024) (d : Fin 4096), x (ix2 a d) = X (ix2 (Fin.ofNat 16384 (1024 * (t.val / 8) + a)) d)
  hw : t.val / 8 < 16 → ∀ (d : Fin 4096) (q : Fin 512), w (ix2 d q) = W (ix2 d (Fin.ofNat 4096 (512 * (t.val % 8) + q)))
  hp : t.val / 8 < 16 → ∀ (a : Fin 1024) (d : Fin 256), p (ix2 a d) = P (ix2 (Fin.ofNat 16384 (1024 * (t.val / 8) + a)) d)
  he : t.val / 8 < 16 → ∀ (d : Fin 256) (q : Fin 512), e (ix2 d q) = E (ix2 d (Fin.ofNat 4096 (512 * (t.val % 8) + q)))

/-- An element of the products of a step's first columns, -/
theorem lo_apply {t : Fin cfg0.N} {x : Vec Ideal S1024x4096 .bf16} {w : Vec Ideal S4096x512 .bf16} {p : Vec Ideal S1024x256 .f32} {e : Vec Ideal S256x512 .bf16}
    (hB : Blocks (X := X) (W := W) (P := P) (E := E) t x w p e) (h : t.val / 8 < 16) (a : Fin 1024) (q : Fin 256) :
    k0_pay4 (k0_pay12 p) x (wlo w) (elo e) (ix2 a q) = GE X W P E (1024 * (t.val / 8) + a) (512 * (t.val % 8) + q) := by
  rw [pay4_apply]
  refine congrArg₂ gated (congrArg₂ dot (funext fun d => hB.hx h a d) (funext fun d => ?_)) (congrArg₂ dot (funext fun d => (pay12_apply p a d).trans (hB.hp h a d)) (funext fun d => ?_))
  · refine (window_apply (n := 4096) (o := 0) w (by omega) _ d q).trans ((hB.hw h d _).trans ?_)
    exact congrArg (fun k => W (ix2 d (Fin.ofNat 4096 k))) (show 512 * (t.val % 8) + (0 + q.val) = _ by omega)
  · refine (window_apply (n := 256) (o := 0) e (by omega) _ d q).trans ((hB.he h d _).trans ?_)
    exact congrArg (fun k => E (ix2 d (Fin.ofNat 4096 k))) (show 512 * (t.val % 8) + (0 + q.val) = _ by omega)

/-- and of its others. -/
theorem hi_apply {t : Fin cfg0.N} {x : Vec Ideal S1024x4096 .bf16} {w : Vec Ideal S4096x512 .bf16} {p : Vec Ideal S1024x256 .f32} {e : Vec Ideal S256x512 .bf16}
    (hB : Blocks (X := X) (W := W) (P := P) (E := E) t x w p e) (h : t.val / 8 < 16) (a : Fin 1024) (q : Fin 256) :
    k0_pay4 (k0_pay12 p) x (whi w) (ehi e) (ix2 a q) = GE X W P E (1024 * (t.val / 8) + a) (512 * (t.val % 8) + (256 + q)) := by
  rw [pay4_apply]
  refine congrArg₂ gated (congrArg₂ dot (funext fun d => hB.hx h a d) (funext fun d => ?_)) (congrArg₂ dot (funext fun d => (pay12_apply p a d).trans (hB.hp h a d)) (funext fun d => ?_))
  · exact (window_apply (n := 4096) (o := 256) w (by omega) _ d q).trans (hB.hw h d _)
  · exact (window_apply (n := 256) (o := 256) e (by omega) _ d q).trans (hB.he h d _)

/-- The products kept after a step: in its own slot its own, in the others what was there. -/
theorem gAfter_apply {t : Fin cfg0.N} {x : Vec Ideal S1024x4096 .bf16} {w : Vec Ideal S4096x512 .bf16} {p : Vec Ideal S1024x256 .f32} {e : Vec Ideal S256x512 .bf16}
    (hB : Blocks (X := X) (W := W) (P := P) (E := E) t x w p e) (h : t.val / 8 < 16) (g : Vec Ideal S8x1024x512 .f32) (k : Fin 8) (a : Fin 1024) (q : Fin 512) :
    gAfter (grid0.coords t) x w p e g (ix3 k a q) = if k.val = t.val % 8 then GE X W P E (1024 * (t.val / 8) + a) (512 * k + q) else g (ix3 k a q) := by
  obtain ⟨e0, e1⟩ := coords_eq t
  unfold gAfter
  rw [if_pos (e0 ▸ h), e1]
  refine put_both g (t.val % 8) (1024 * (t.val / 8) + a) a _ _ (fun q => ?_) (fun q => ?_) k q
  · rw [pay13_eq, pay3_apply, lo_apply hB h]
  · rw [pay5_eq, pay3_apply, hi_apply hB h]

/-- The sums of squares after a step. -/
theorem sAfter_apply {t : Fin cfg0.N} {x : Vec Ideal S1024x4096 .bf16} {w : Vec Ideal S4096x512 .bf16} {p : Vec Ideal S1024x256 .f32} {e : Vec Ideal S256x512 .bf16}
    (hB : Blocks (X := X) (W := W) (P := P) (E := E) t x w p e) {g : Vec Ideal S8x1024x512 .f32} {s v : Vec Ideal S1024x1 .f32} (hI : Inv (GE X W P E) t.val g s v) (h : t.val / 8 < 16) (a : Fin 1024) :
    sAfter (grid0.coords t) x w p e s (ix2 a 0) = SQ (GE X W P E) (1024 * (t.val / 8) + a) (512 * (t.val % 8) + 512) := by
  obtain ⟨e0, e1⟩ := coords_eq t
  unfold sAfter
  rw [if_pos (e0 ▸ h), pay6_apply, ← SQ_add]
  refine congrArg₂ (fun a b : EReal => a + b) (congrArg₂ (fun a b : EReal => a + b) ?_ (Finset.sum_congr rfl fun q _ => ?_)) (Finset.sum_congr rfl fun q _ => ?_)
  · unfold sMid
    by_cases hz : t.val % 8 = 0
    · rw [if_pos (e1.trans hz), pay2_apply, hz]
      rfl
    · rw [if_neg (fun hc => hz (e1.symm.trans hc))]
      exact hI.2.2.1 (Nat.pos_of_ne_zero hz) h a
  · rw [pay13_eq, lo_apply hB h]
  · rw [hi_apply hB h]

/-- The rows' factors after a step. -/
theorem vAfter_apply {t : Fin cfg0.N} {g : Vec Ideal S8x1024x512 .f32} {s v : Vec Ideal S1024x1 .f32} (hI : Inv (GE X W P E) t.val g s v) (h : 0 < t.val / 8) (a : Fin 1024) :
    vAfter (grid0.coords t) s v (ix2 a 0) = FA (GE X W P E) (1024 * (t.val / 8 - 1) + a) := by
  have hN : t.val < 136 := lt_of_lt_of_eq t.isLt N_0
  obtain ⟨e0, e1⟩ := coords_eq t
  unfold vAfter
  by_cases hz : t.val % 8 = 0
  · rw [if_pos ⟨e1.trans hz, e0 ▸ h⟩, pay1_apply, hI.2.2.2.1 hz h (by omega) a]
    rfl
  · rw [if_neg (fun hc => hz (e1.symm.trans hc.1))]
    exact hI.2.2.2.2 (Nat.pos_of_ne_zero hz) h a

/-- A step keeps what the carried buffers hold. -/
theorem step_inv {t : Fin cfg0.N} {x : Vec Ideal S1024x4096 .bf16} {w : Vec Ideal S4096x512 .bf16} {p : Vec Ideal S1024x256 .f32} {e : Vec Ideal S256x512 .bf16}
    (hB : Blocks (X := X) (W := W) (P := P) (E := E) t x w p e) {g : Vec Ideal S8x1024x512 .f32} {s v : Vec Ideal S1024x1 .f32} (hI : Inv (GE X W P E) t.val g s v) :
    Inv (GE X W P E) (t.val + 1) (gAfter (grid0.coords t) x w p e g) (sAfter (grid0.coords t) x w p e s) (vAfter (grid0.coords t) s v) :=
  inv_succ (lt_of_lt_of_eq t.isLt N_0) hI (fun h => gAfter_apply hB h g) (fun h => if_neg ((coords_eq t).1 ▸ h)) (fun h => sAfter_apply hB hI h) (fun h => vAfter_apply hI h)

/-- A step's finished tile, of the row block before: each row's products times its factor and its column's weight, over the stream. -/
theorem oAfter_apply {t : Fin cfg0.N} {g : Vec Ideal S8x1024x512 .f32} {s v : Vec Ideal S1024x1 .f32} (hI : Inv (GE X W P E) t.val g s v) (h : 0 < t.val / 8)
    (x : Vec Ideal S1024x512 .f32) (n : Vec Ideal S1x512 .f32) (o : Vec Ideal S1024x512 .f32) (a : Fin 1024) (q : Fin 512) :
    oAfter (grid0.coords t) x n o g s v (ix2 a q)
      = x (ix2 a q) + GE X W P E (1024 * (t.val / 8 - 1) + a) (512 * (t.val % 8) + q) * FA (GE X W P E) (1024 * (t.val / 8 - 1) + a) * n (ix2 0 q) := by
  have hN : t.val < 136 := lt_of_lt_of_eq t.isLt N_0
  obtain ⟨e0, e1⟩ := coords_eq t
  unfold oAfter
  rw [if_pos (e0 ▸ h), pay11_apply, vAfter_apply hI h]
  have hs : slot g (grid0.coords t 1) (ix3 0 a q) = GE X W P E (1024 * (t.val / 8 - 1) + a) (512 * (t.val % 8) + q) := by
    refine (hI.2.1 (grid0.coords t 1) a q (le_of_eq e1.symm) h (by omega)).trans ?_
    rw [e1]
  rw [hs]

end Cert.Emb
end
-- ==== Proof.Ple.Tiles.lean ====
module
public import proofs.«01_k».proof.Proof.Ple.Step
public import Idealize.ShloMosaic.Lib.Pipeline.DatRel

/-! The operands' blocks at a step as parts of the arrays, and what the result's buffer holds after it. -/

@[expose] public section
set_option maxRecDepth 16384
noncomputable section
namespace Cert.Emb
open Cert.Carry Cert.PleIdeal Cert.PleIdeal.Gen Idealize.ShloMosaic Idealize.ShloMosaic.TcCoe Idealize.ShloMosaic.Tactic Idealize.SL.Sem

variable (m : (ℓ : Loc nD τ sig) → Buf (Elt Ideal) ℓ) (c : Dev nD)

/-- The rows, as the program's grid finds them. -/
abbrev XB : Vec Ideal S16384x4096 .bf16 := V m c main_v0
/-- The gate's weights. -/
abbrev WG : Vec Ideal S4096x4096 .bf16 := V m c main_v1
/-- The embeddings' rows. -/
abbrev PB : Vec Ideal S16384x256 .f32 := V m c main_v2
/-- The embeddings' weights. -/
abbrev WP : Vec Ideal S256x4096 .bf16 := V m c main_v3
/-- The stream. -/
abbrev X1 : Vec Ideal S16384x4096 .f32 := V m c main_arg0
/-- The normalisation's weights. -/
abbrev NW : Vec Ideal S1x4096 .f32 := V m c main_v4

/-- A step's blocks of the four factors. -/
theorem blocks (t : Fin cfg0.N) : Blocks (X := XB m c) (W := WG m c) (P := PB m c) (E := WP m c) t (iblk m c 0 t) (iblk m c 1 t) (iblk m c 2 t) (iblk m c 3 t) where
  hx h a d := by
    obtain ⟨hi, -⟩ := idx t
    refine congrArg (V m c main_v0) (funext fun b => ?_)
    have ha := a.isLt
    match b with
    | ⟨0, _⟩ => exact Fin.ext (show win0_0.index t (0 : Fin 2) * 1024 + 1 * a.val = (1024 * (t.val / 8) + a) % 16384 by
        rw [hi]; show min (t.val / 8) 15 * 1024 + 1 * a.val = _; omega)
    | ⟨1, _⟩ => exact Fin.ext (show win0_0.index t (1 : Fin 2) * 4096 + 1 * d.val = d.val by rw [hi]; show 0 * 4096 + 1 * d.val = _; omega)
  hw h d q := by
    obtain ⟨-, hi, -⟩ := idx t
    refine congrArg (V m c main_v1) (funext fun b => ?_)
    have hq := q.isLt
    match b with
    | ⟨0, _⟩ => exact Fin.ext (show win0_1.index t (0 : Fin 2) * 4096 + 1 * d.val = d.val by rw [hi]; show 0 * 4096 + 1 * d.val = _; omega)
    | ⟨1, _⟩ => exact Fin.ext (show win0_1.index t (1 : Fin 2) * 512 + 1 * q.val = (512 * (t.val % 8) + q) % 4096 by
        rw [hi, if_pos h]; show t.val % 8 * 512 + 1 * q.val = _; omega)
  hp h a d := by
    obtain ⟨-, -, hi, -⟩ := idx t
    refine congrArg (V m c main_v2) (funext fun b => ?_)
    have ha := a.isLt
    match b with
    | ⟨0, _⟩ => exact Fin.ext (show win0_2.index t (0 : Fin 2) * 1024 + 1 * a.val = (1024 * (t.val / 8) + a) % 16384 by
        rw [hi]; show min (t.val / 8) 15 * 1024 + 1 * a.val = _; omega)
    | ⟨1, _⟩ => exact Fin.ext (show win0_2.index t (1 : Fin 2) * 256 + 1 * d.val = d.val by rw [hi]; show 0 * 256 + 1 * d.val = _; omega)
  he h d q := by
    obtain ⟨-, -, -, hi, -⟩ := idx t
    refine congrArg (V m c main_v3) (funext fun b => ?_)
    have hq := q.isLt
    match b with
    | ⟨0, _⟩ => exact Fin.ext (show win0_3.index t (0 : Fin 2) * 256 + 1 * d.val = d.val by rw [hi]; show 0 * 256 + 1 * d.val = _; omega)
    | ⟨1, _⟩ => exact Fin.ext (show win0_3.index t (1 : Fin 2) * 512 + 1 * q.val = (512 * (t.val % 8) + q) % 4096 by
        rw [hi, if_pos h]; show t.val % 8 * 512 + 1 * q.val = _; omega)

/-- An element of the stream's tile at a step, -/
theorem block4 (t : Fin cfg0.N) (h : 0 < t.val / 8) (a : Fin 1024) (q : Fin 512) :
    iblk m c 4 t (ix2 a q) = X1 m c (ix2 (Fin.ofNat 16384 (1024 * (t.val / 8 - 1) + a)) (Fin.ofNat 4096 (512 * (t.val % 8) + q))) := by
  have hN : t.val < 136 := lt_of_lt_of_eq t.isLt N_0
  obtain ⟨-, -, -, -, hi, -⟩ := idx t
  refine congrArg (V m c main_arg0) (funext fun b => ?_)
  have ha := a.isLt
  have hq := q.isLt
  match b with
  | ⟨0, _⟩ => exact Fin.ext (show win0_4.index t (0 : Fin 2) * 1024 + 1 * a.val = (1024 * (t.val / 8 - 1) + a) % 16384 by
      rw [hi]; show (t.val / 8 - 1) * 1024 + 1 * a.val = _; omega)
  | ⟨1, _⟩ => exact Fin.ext (show win0_4.index t (1 : Fin 2) * 512 + 1 * q.val = (512 * (t.val % 8) + q) % 4096 by
      rw [hi, if_pos h]; show t.val % 8 * 512 + 1 * q.val = _; omega)

/-- and of the normalisation's weights. -/
theorem block5 (t : Fin cfg0.N) (h : 0 < t.val / 8) (q : Fin 512) :
    iblk m c 5 t (ix2 0 q) = NW m c (ix2 0 (Fin.ofNat 4096 (512 * (t.val % 8) + q))) := by
  obtain ⟨-, -, -, -, -, hi, -⟩ := idx t
  refine congrArg (V m c main_v4) (funext fun b => ?_)
  have hq := q.isLt
  match b with
  | ⟨0, _⟩ => exact Fin.ext (show win0_5.index t (0 : Fin 2) * 1 + 1 * 0 = 0 by rw [hi]; rfl)
  | ⟨1, _⟩ => exact Fin.ext (show win0_5.index t (1 : Fin 2) * 512 + 1 * q.val = (512 * (t.val % 8) + q) % 4096 by
      rw [hi, if_pos h]; show t.val % 8 * 512 + 1 * q.val = _; omega)

/-- An element of the result: the stream's, and the product times its row's factor and its column's weight. -/
def OUT (r k : ℕ) : EReal :=
  X1 m c (ix2 (Fin.ofNat 16384 r) (Fin.ofNat 4096 k))
    + GE (XB m c) (WG m c) (PB m c) (WP m c) r k * FA (GE (XB m c) (WG m c) (PB m c) (WP m c)) r * NW m c (ix2 0 (Fin.ofNat 4096 k))

/-- What is asked of the result's buffer after a step: past the first row block, the finished tile of the row block before. -/
def Rl (w : Fin cfg0.W) (t : Fin cfg0.N) : ((cfg0.win w).block.Idx → Elt Ideal (cfg0.win w).elt) → Prop :=
  match w with
  | ⟨6, _⟩ => fun Y : S1024x512.Idx → EReal => 0 < t.val / 8 → ∀ (a : Fin 1024) (q : Fin 512), Y (ix2 a q) = OUT m c (1024 * (t.val / 8 - 1) + a) (512 * (t.val % 8) + q)
  | _ => fun _ => True

/-- The result's buffer, of which only that is asked. -/
def fgt (w : Fin cfg0.W) : Bool := match w with
  | ⟨6, _⟩ => true
  | _ => false

variable {m c}

/-- A step's result is as asked. -/
theorem rel6 {t : Fin cfg0.N} {g : Vec Ideal S8x1024x512 .f32} {s v : Vec Ideal S1024x1 .f32} (hI : Inv (GE (XB m c) (WG m c) (PB m c) (WP m c)) t.val g s v) (o : Vec Ideal S1024x512 .f32) :
    Rl m c 6 t (oAfter (grid0.coords t) (iblk m c 4 t) (iblk m c 5 t) o g s v) := by
  intro h a q
  refine (oAfter_apply hI h (iblk m c 4 t) (iblk m c 5 t) o a q).trans ?_
  rw [block4 m c t h, block5 m c t h]
  rfl

end Cert.Emb
end
-- ==== Proof.Ple.Body.lean ====
module
public import proofs.«01_k».proof.Proof.Ple.Tiles
public import Idealize.ShloMosaic.Lib.Pipeline.FrameBody

/-! The grid's steps one after another: the carried buffers keep what is said of them, and the result's buffer holds its tile. -/

@[expose] public section
set_option maxRecDepth 16384
noncomputable section
namespace Cert.Emb
open Cert.Carry Cert.PleIdeal Cert.PleIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

local notation "𝕄" => MT nD τ sig Unit (Elt Ideal) ℕ (UR sig nD τ) ℕ

variable (m : (ℓ : Loc nD τ sig) → Buf (Elt Ideal) ℓ) (ρ : Dev nD → PrngReg)

/-- The buffer of the products kept. -/
abbrev gM : Memref sig .tc .vmem S8x1024x512 .f32 := Memref.whole cc0_scratch0
/-- The buffer of the sums of squares. -/
abbrev sM : Memref sig .tc .vmem S1024x1 .f32 := Memref.whole cc0_scratch1
/-- The buffer of the rows' factors. -/
abbrev vM : Memref sig .tc .vmem S1024x1 .f32 := Memref.whole cc0_scratch2

/-- Before a step: the carried buffers at contents of which `Inv` holds, and the generator's register. -/
def carried (c : Dev nD) (n : ℕ) : sProp 𝕄 :=
  iprop(∃ g, ∃ s, ∃ v, ⌜Inv (GE (XB m c) (WG m c) (PB m c) (WP m c)) n g s v⌝ ∗ owns (c : Thread nD τ) gM fullShare g ∗ owns (c : Thread nD τ) sM fullShare s ∗ owns (c : Thread nD τ) vM fullShare v ∗ (∃ r, prngReg c r))

/-- The grid's arrays, what the operands' buffers hold at each step, and what is carried. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.choice inferInstance
  Φ t := carried m c t.val
  q _ := fullShare
  owed _ := 0

theorem dat_A (c : Dev nD) (w : Fin cfg0.W) : (dat m c).A w = V m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = iblk m c 5 t := by dsimp only [dat]
theorem before0 (c : Dev nD) (t : Fin cfg0.N) (d) : (dat m c).before 0 t d = iblk m c 0 t := before0_0_of m (dat m c) (dat_A m c 0) (after0 m c) t d
theorem before1 (c : Dev nD) (t : Fin cfg0.N) (d) : (dat m c).before 1 t d = iblk m c 1 t := before0_1_of m (dat m c) (dat_A m c 1) (after1 m c) t d
theorem before2 (c : Dev nD) (t : Fin cfg0.N) (d) : (dat m c).before 2 t d = iblk m c 2 t := before0_2_of m (dat m c) (dat_A m c 2) (after2 m c) t d
theorem before3 (c : Dev nD) (t : Fin cfg0.N) (d) : (dat m c).before 3 t d = iblk m c 3 t := before0_3_of m (dat m c) (dat_A m c 3) (after3 m c) t d
theorem before4 (c : Dev nD) (t : Fin cfg0.N) (d) : (dat m c).before 4 t d = iblk m c 4 t := before0_4_of m (dat m c) (dat_A m c 4) (after4 m c) t d
theorem before5 (c : Dev nD) (t : Fin cfg0.N) (d) : (dat m c).before 5 t d = iblk m c 5 t := before0_5_of m (dat m c) (dat_A m c 5) (after5 m c) t d

/-- What the result's buffer may be found to hold before a step. -/
abbrev Found (c : Dev nD) (w : Fin cfg0.W) (t : Fin cfg0.N) (Y : (cfg0.win w).block.Idx → Elt Ideal (cfg0.win w).elt) : Prop :=
  ((dat m c).toRRel fgt (Rl m c)).Finds w t Y

/-- What a step is called with, buffer by buffer, -/
def stepPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜Found m c 6 t Y⌝ ∗ owns (c : Thread nD τ) (st0_6 t) fullShare Y))

/-- and what it returns. -/
def stepPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜Rl m c 6 t X⌝ ∗ owns (c : Thread nD τ) (st0_6 t) fullShare X))

set_option maxHeartbeats 1600000 in
/-- One step. -/
theorem step_body (c : Dev nD) (t : Fin cfg0.N) :
    stepPre m c t ⊢ wp frame (wpE (defs₀ (F := Ideal)) Variants.none c none) Set.univ (bodyAt0 t) (fun _ => stepPost m c t) := by
  unfold stepPre stepPost bodyAt0
  simp only [before0, before1, before2, before3, before4, before5]
  rw [show (dat m c).owesAt () t.succ = (dat m c).owesAt () t.castSucc from rfl, after0, after1, after2, after3, after4, after5,
    show (dat m c).Φ t.castSucc = carried m c t.val from rfl, show (dat m c).Φ t.succ = carried m c (t.val + 1) from rfl]
  unfold carried
  iintro ⟨⟨%g, %s, %v, %hI, HA, HB, HC, Hg⟩, Ho, ⟨%d0, H0⟩, ⟨%d1, H1⟩, ⟨%d2, H2⟩, ⟨%d3, H3⟩, ⟨%d4, H4⟩, ⟨%d5, H5⟩, ⟨%Y6, -, H6⟩⟩
  iapply (body_run (F := Ideal) c (grid0.coords t) _ _ _ _ _ _ _ _ _ _ _ _ _ _ _ _ _ _ _ _ (iblk m c 0 t) (iblk m c 1 t) (iblk m c 2 t) (iblk m c 3 t) (iblk m c 4 t) (iblk m c 5 t) Y6 g s v Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HA]; · iexact HA
  isplitl [HB]; · iexact HB
  isplitl [HC]; · iexact HC
  iintro ⟨H0, H1, H2, H3, H4, H5, H6, HA, HB, HC⟩
  isplitl [HA HB HC Hg]
  · iexists _, _, _
    isplitr
    · ipureintro; exact step_inv (blocks m c t) hI
    isplitl [HA]; · iexact HA
    isplitl [HB]; · iexact HB
    isplitl [HC]; · iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _
  isplitr
  swap; · iexact H6
  ipureintro; exact rel6 hI Y6

/-- The body the grid calls at a step. -/
theorem defs_row (t : Fin cfg0.N) : defs₀ (F := Ideal) .tc cfg0.body (cfg0.bodyArgs t (cfg0.slots t)) = bodyAt0 t := by
  unfold defs₀; rw [Defs.onTc_tc]

/-- Every step, as the grid calls it. -/
theorem steps_ok (c : Dev nD) : Pipeline.BodyObligationRel (dat m c) (defs₀ (F := Ideal)) Variants.none () Set.univ fgt (Rl m c) := fun t => by
  rw [bigSep_W0, bigSep_W0, defs_row]
  exact triple_restated (step_body m c t) rfl .rfl fun _ => .rfl

end Cert.Emb
end
-- ==== Proof.Ple.Launch.lean ====
module
public import proofs.«01_k».proof.Proof.Ple.Body
public import Idealize.ShloMosaic.Lib.Pipeline.ArrRel
public import Idealize.ShloMosaic.Lib.Claim

/-! The whole grid run, and what the result's array holds after it. -/

@[expose] public section
set_option maxRecDepth 16384
noncomputable section
namespace Cert.Emb
open Cert.Carry Cert.PleIdeal Cert.PleIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

local notation "𝕄" => MT nD τ sig Unit (Elt Ideal) ℕ (UR sig nD τ) ℕ

variable (m : (ℓ : Loc nD τ sig) → Buf (Elt Ideal) ℓ) (ρ : Dev nD → PrngReg)

/-- The program's own buffers outside the grid's, and the generator's register. -/
theorem rest_eq (c : Dev nD) : (Pipeline.ΦA spec0 c : sProp 𝕄)
    = iprop(iprop((∃ d, owns (c : Thread nD τ) gM fullShare d) ∗ (∃ d, owns (c : Thread nD τ) sM fullShare d) ∗ (∃ d, owns (c : Thread nD τ) vM fullShare d)) ∗ (∃ r, prngReg c r)) := by
  unfold Pipeline.ΦA; rw [scopedRest0_eq]; simp only [gM, sM, vM, owns_whole]; try rfl

/-- Before the first step nothing is asked of the carried buffers. -/
theorem enter (c : Dev nD) : (Pipeline.ΦA spec0 c : sProp 𝕄) ⊢ carried m c 0 := by
  rw [rest_eq]
  unfold carried
  iintro ⟨⟨⟨%g, HA⟩, ⟨%s, HB⟩, ⟨%v, HC⟩⟩, Hg⟩
  iexists g, s, v
  isplitr
  · ipureintro; exact inv_zero g s v
  isplitl [HA]; · iexact HA
  isplitl [HB]; · iexact HB
  isplitl [HC]; · iexact HC
  iexact Hg

/-- After the last step nothing is said of them any more. -/
theorem leave (c : Dev nD) (n : ℕ) : carried m c n ⊢ (Pipeline.ΦA spec0 c : sProp 𝕄) := by
  rw [rest_eq]
  unfold carried
  iintro ⟨%g, %s, %v, -, HA, HB, HC, Hg⟩
  isplitl [HA HB HC]
  · isplitl [HA]
    · iexists g; iexact HA
    isplitl [HB]
    · iexists s; iexact HB
    iexists v; iexact HC
  iexact Hg

/-- The grid's data. -/
abbrev rdat (c : Dev nD) := (dat m c).toRRel fgt (Rl m c)

set_option backward.isDefEq.respectTransparency.types false in
/-- The program runs, its arrays as the grid's data say, with every counter at zero at the end. -/
theorem run : θ_run defs (onTc (τ := τ) (main (F := Ideal))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (steps_ok m c).toRRel) (hshare := fun c => (dat m c).share_full fun _ => rfl)
    (howed := fun _ _ => rfl) (V := V m) (hmain := hmain m Variants.none) (hA := dat_A m)
    (hin := enter m) (hout := fun c => leave m c _)

variable {m}

/-- The argument arrays end as they were. -/
theorem args {r : PUnit × MemSt nD τ sig (Elt Ideal)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  obtain ⟨after, -, hG⟩ := RDat.FramePost.exists_exact h c
  exact ⟨(hG 4).trans ((Dat.arrAt_in _ 4 rfl _).trans ((dat_A m c 4).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The program frames its arguments. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args h.1 c, h.2⟩) (run m ρ)

/-- The result's array. -/
theorem array6 {r : PUnit × MemSt nD τ sig (Elt Ideal)} (h : RDat.FramePost cfg0 (rdat m) (V m) r) (c : Dev nD) :
    r.2.mem ((c.tc : Thread nD τ).loc main_v5) = (fun y => OUT m c (y 0).val (y 1).val : Vec Ideal S16384x4096 .f32) := by
  obtain ⟨after, hL, hG⟩ := RDat.FramePost.exists_exact h c
  refine (hG 6).trans (Dat.arrAt_eq_of_covers _ 6 _ (by decide +kernel) fun t hf y => ?_)
  have hT : Rl m c 6 t (after 6 t) := Dat.toRRel_leaves _ rfl (hL 6 t hf)
  have h0 := flush_late t hf
  obtain ⟨-, -, -, -, -, -, hx⟩ := idx t
  obtain ⟨a, n, rfl⟩ : ∃ (a : Fin 1024) (n : Fin 512), y = ix2 a n := ⟨y 0, y 1, eq_ix2 y⟩
  refine (hT h0 a n).trans (congrArg₂ (OUT m c) ?_ ?_)
  · show 1024 * (t.val / 8 - 1) + a.val = win0_6.index t (0 : Fin 2) * 1024 + 1 * a.val
    rw [hx]
    show _ = (t.val / 8 - 1) * 1024 + 1 * a.val
    omega
  · show 512 * (t.val % 8) + n.val = win0_6.index t (1 : Fin 2) * 512 + 1 * n.val
    rw [hx, if_pos h0]
    show _ = t.val % 8 * 512 + 1 * n.val
    omega

end Cert.Emb
end
-- ==== Proof.Ple.Host.lean ====
module
public import proofs.«01_k».proof.Proof.Ple.Tiles
public import Idealize.ShloMosaic.Lib.KernelVsHost

/-! What the program's host prepares for the grid, and the result, in terms of the arguments. -/

@[expose] public section
set_option maxRecDepth 16384
noncomputable section
namespace Cert.Emb
open Cert.Carry Cert.PleIdeal Cert.PleIdeal.Gen Idealize.ShloMosaic Idealize.ShloMosaic.TcCoe Idealize.ShloMosaic.Tactic Idealize.SL.Sem

/-- The gated embedding of row `r`, over all the sequences, at column `k`. -/
def gem (x : Vec Ideal S16384x4096 .f32) (p : Vec Ideal S8x2048x256 .f32) (G : Vec Ideal S4096x4096 .f32) (E : Vec Ideal S256x4096 .f32) (r k : ℕ) : EReal :=
  gated (dot (fun d => x (ix2 (Fin.ofNat 16384 r) d)) (fun d => G (ix2 d (Fin.ofNat 4096 k))))
    (dot (fun d => p (ix3 (Fin.ofNat 8 (r / 2048)) (Fin.ofNat 2048 r) d)) (fun d => E (ix2 d (Fin.ofNat 4096 k))))

/-- The mean of a row's squares. -/
def msq (x : Vec Ideal S16384x4096 .f32) (p : Vec Ideal S8x2048x256 .f32) (G : Vec Ideal S4096x4096 .f32) (E : Vec Ideal S256x4096 .f32) (r : ℕ) : EReal :=
  Ideal.div (∑ k : Fin 4096, gem x p G E r k * gem x p G E r k) (Ideal.ofBits .f32 0x45800000#32)

/-- The stream with the normalised gated embedding added. -/
def emb (x : Vec Ideal S16384x4096 .f32) (p : Vec Ideal S8x2048x256 .f32) (G : Vec Ideal S4096x4096 .f32) (E : Vec Ideal S256x4096 .f32) (w : Vec Ideal S4096 .f32) (r k : ℕ) : EReal :=
  x (ix2 (Fin.ofNat 16384 r) (Fin.ofNat 4096 k))
    + gem x p G E r k * Ideal.rsqrt (msq x p G E r + Ideal.ofBits .f32 0x358637BD#32) * w (ix1 (Fin.ofNat 4096 k))

/-- Multiplying by the reciprocal of the number of columns divides by that number. -/
theorem mean_eq (a : EReal) : a * Ideal.ofBits .f32 0x39800000#32 = Ideal.div a (Ideal.ofBits .f32 0x45800000#32) := by
  have h1 : Ideal.ofBits .f32 0x39800000#32 = ((4096⁻¹ : ℝ) : EReal) := by
    simp [Ideal.ofBits, Ideal.ieee]
    rw [← EReal.coe_mul]
    norm_num
  have h2 : Ideal.ofBits .f32 0x45800000#32 = ((4096 : ℝ) : EReal) := by
    simp [Ideal.ofBits, Ideal.ieee]
    rw [← EReal.coe_mul]
    norm_num
  rw [h1, h2, Ideal.div_coe (by norm_num), one_div]

variable (m : (ℓ : Loc nD τ sig) → Buf (Elt Ideal) ℓ) (c : Dev nD)

/-- The rows are the stream's, -/
theorem XB_apply (i : S16384x4096.Idx) : XB m c i = (m ((c : Thread nD τ).loc main_arg0) : Vec Ideal S16384x4096 .f32) i := by
  unfold XB
  entry_read
  rfl

/-- the gate's weights, -/
theorem WG_apply (i : S4096x4096.Idx) : WG m c i = (m ((c : Thread nD τ).loc main_arg2) : Vec Ideal S4096x4096 .f32) i := by
  unfold WG
  entry_read
  rfl

/-- the embeddings, one sequence after the other, -/
theorem PB_apply (r : ℕ) (d : Fin 256) :
    PB m c (ix2 (Fin.ofNat 16384 r) d) = m ((c : Thread nD τ).loc main_arg1) (ix3 (Fin.ofNat 8 (r / 2048)) (Fin.ofNat 2048 r) d) := by
  unfold PB
  entry_read
  refine shapeCast_apply _ shapeCasts_S8x2048x256_S16384x256 _ _ ?_
  rewrite [Shape.rowMajor_val_three, Shape.rowMajor_val_two]
  have hd := d.isLt
  show ((r / 2048 % 8) * 2048 + r % 2048) * 256 + d.val = (r % 16384) * 256 + d.val
  omega

/-- the embeddings' weights, -/
theorem WP_apply (i : S256x4096.Idx) : WP m c i = (m ((c : Thread nD τ).loc main_arg3) : Vec Ideal S256x4096 .f32) i := by
  unfold WP
  entry_read
  rfl

/-- and the normalisation's weights, as one row. -/
theorem NW_apply (k : Fin 4096) : NW m c (ix2 0 k) = m ((c : Thread nD τ).loc main_arg4) (ix1 k) := by
  unfold NW
  entry_read
  refine shapeCast_apply _ shapeCasts_S4096_S1x4096 _ _ ?_
  rewrite [Shape.rowMajor_val_one, Shape.rowMajor_val_two]
  show k.val = 0 * 4096 + k.val
  omega

/-- The kernel's products are the gated embedding, -/
theorem GE_eq (r k : ℕ) : GE (XB m c) (WG m c) (PB m c) (WP m c) r k
    = gem (m ((c : Thread nD τ).loc main_arg0)) (m ((c : Thread nD τ).loc main_arg1)) (m ((c : Thread nD τ).loc main_arg2)) (m ((c : Thread nD τ).loc main_arg3)) r k :=
  congrArg₂ gated (congrArg₂ dot (funext fun d => XB_apply m c _) (funext fun d => WG_apply m c _)) (congrArg₂ dot (funext fun d => PB_apply m c r d) (funext fun d => WP_apply m c _))

/-- and its rows' factors those of the normalisation. -/
theorem FA_eq (r : ℕ) : FA (GE (XB m c) (WG m c) (PB m c) (WP m c)) r
    = Ideal.rsqrt (msq (m ((c : Thread nD τ).loc main_arg0)) (m ((c : Thread nD τ).loc main_arg1)) (m ((c : Thread nD τ).loc main_arg2)) (m ((c : Thread nD τ).loc main_arg3)) r + Ideal.ofBits .f32 0x358637BD#32) := by
  unfold FA msq SQ
  rw [mean_eq, Finset.sum_range]
  refine congrArg (fun a : EReal => Ideal.rsqrt (Ideal.div a _ + _)) (Finset.sum_congr rfl fun k _ => ?_)
  rw [GE_eq m c r k.val]

/-- The kernel's result is the stream with the normalised gated embedding added. -/
theorem OUT_eq (r k : ℕ) : OUT m c r k = emb (m ((c : Thread nD τ).loc main_arg0)) (m ((c : Thread nD τ).loc main_arg1)) (m ((c : Thread nD τ).loc main_arg2)) (m ((c : Thread nD τ).loc main_arg3))
    (m ((c : Thread nD τ).loc main_arg4)) r k := by
  unfold OUT emb
  rw [GE_eq, FA_eq, NW_apply]
  exact congrArg (fun a : EReal => a + _) (congrFun (V_main_arg0 m c) _)

end Cert.Emb
end
-- ==== Proof.Ple.Ref.lean ====
module
public import proofs.«01_k».proof.Proof.Ple.Host
public import proofs.«01_k».proof.Proof.Gen.PleRefIdeal.Read

/-! The reference's result is the same stream with the same normalised gated embedding added. -/

@[expose] public section
set_option maxRecDepth 16384
noncomputable section
namespace Cert.Emb
open Cert.Carry Cert.PleRefIdeal Cert.PleRefIdeal.Gen Cert.PleRefIdeal.Read Idealize.ShloMosaic Idealize.ShloMosaic.TcCoe Idealize.ShloMosaic.Tactic Idealize.SL.Sem

variable (x : Vec Ideal S16384x4096 .f32) (p : Vec Ideal S8x2048x256 .f32) (G : Vec Ideal S4096x4096 .f32) (E : Vec Ideal S256x4096 .f32) (w : Vec Ideal S4096 .f32)

/-- The reference's gated embedding. -/
theorem v9_eq (i : S16384x4096.Idx) : val_main_v9 (F := Ideal) x p G E i = gem x p G E (i 0).val (i 1).val := by
  have h0 : (i 0).val < 16384 := (i 0).isLt
  have h1 : (i 1).val < 4096 := (i 1).isLt
  rw [val_main_v9_apply, val_main_v8_apply, val_main_v7_apply, val_main_v6_apply, val_main_v5_apply, val_main_v4_apply, val_main_v3_apply, val_main_v2_apply, val_main_v1_apply,
    val_main_cst_apply, val_main_cst_0_apply]
  refine congrArg₂ gated (Finset.sum_congr rfl fun d _ => congrArg₂ (fun a b : EReal => a * b) (congrArg x ?_) (congrArg G ?_)) (Finset.sum_congr rfl fun d _ => congrArg₂ (fun a b : EReal => a * b) ?_ (congrArg E ?_))
  · funext a
    match a with
    | ⟨0, _⟩ => exact Fin.ext (Nat.mod_eq_of_lt h0).symm
    | ⟨1, _⟩ => rfl
  · funext a
    match a with
    | ⟨0, _⟩ => rfl
    | ⟨1, _⟩ => exact Fin.ext (Nat.mod_eq_of_lt h1).symm
  · rw [val_main_v0_apply]
    refine congrArg p (funext fun a => ?_)
    have hd := d.isLt
    match a with
    | ⟨0, _⟩ => exact Fin.ext (show ((i 0).val * 256 + d.val) / 524288 = (i 0).val / 2048 % 8 by omega)
    | ⟨1, _⟩ => exact Fin.ext (show ((i 0).val * 256 + d.val) / 256 % 2048 = (i 0).val % 2048 by omega)
    | ⟨2, _⟩ => exact Fin.ext (show ((i 0).val * 256 + d.val) % 256 = d.val by omega)
  · funext a
    match a with
    | ⟨0, _⟩ => rfl
    | ⟨1, _⟩ => exact Fin.ext (Nat.mod_eq_of_lt h1).symm

/-- The reference's sum of a row's squares. -/
theorem v11_eq (i : S16384.Idx) : val_main_v11 (F := Ideal) x p G E i = ∑ k : Fin 4096, gem x p G E (i 0).val k * gem x p G E (i 0).val k := by
  have h0 : Ideal.ofBits .f32 0x00000000#32 = 0 := Ideal.ofBits_zero_f32
  rw [val_main_v11_apply, val_main_cst_1_apply]
  refine (congrArg (fun z : EReal => z + _) h0).trans ((zero_add _).trans (Finset.sum_congr rfl fun k _ => ?_))
  rw [val_main_v10_apply, v9_eq]
  rfl

/-- The reference's result. -/
theorem v23_eq : val_main_v23 (F := Ideal) x p G E w = fun i => emb x p G E w (i 0).val (i 1).val := by
  funext i
  have h0 : (i 0).val < 16384 := (i 0).isLt
  have h1 : (i 1).val < 4096 := (i 1).isLt
  rw [val_main_v23_apply, val_main_v22_apply, val_main_v21_apply, val_main_v20_apply, val_main_v19_apply, val_main_v18_apply, val_main_v17_apply, val_main_v16_apply, val_main_v15_apply,
    val_main_v14_apply, val_main_v13_apply, val_main_v12_apply, val_main_cst_2_apply, val_main_cst_3_apply, v9_eq, v11_eq]
  unfold emb msq
  refine congrArg₂ (fun a b : EReal => a + b) (congrArg x (funext fun a => ?_)) (congrArg₂ (fun a b : EReal => a * b) rfl (congrArg w (funext fun a => ?_)))
  · match a with
    | ⟨0, _⟩ => exact Fin.ext (Nat.mod_eq_of_lt h0).symm
    | ⟨1, _⟩ => exact Fin.ext (Nat.mod_eq_of_lt h1).symm
  · match a with
    | ⟨0, _⟩ => exact Fin.ext (Nat.mod_eq_of_lt h1).symm

end Cert.Emb
end
-- ==== Proof.Opj.Conds.lean ====
module
public import proofs.«01_k».proof.Proof.Gen.OutProjIdeal.Skeleton

/-! The branch conditions of the output projection's body, and the slots it keeps products in, in terms of the row block `i 0` and the column block `i 1`. -/

@[expose] public section
set_option maxRecDepth 16384
noncomputable section
namespace Cert.Opj
open Cert.OutProjIdeal Cert.OutProjIdeal.Gen Idealize.ShloMosaic Idealize.SL.Sem

/-- The first condition: a row block's first step. -/
abbrev cond1 (i : grid0.Coords) : BitVec 1 :=
  Scalar.cmpi .ne (Scalar.extui (Scalar.cmpi .eq (BitVec.ofNat 32 (i 1).val) 0#32) : BitVec 32) 0#32
/-- The condition within it: a row block has gone before. -/
abbrev cond2 (i : grid0.Coords) : BitVec 1 :=
  Scalar.cmpi .ne (Scalar.extui (Scalar.cmpi .sgt (BitVec.ofNat 32 (i 0).val) 0#32) : BitVec 32) 0#32

/-- A statement of a row block and a column block, decided over all of them. -/
theorem grid_forall {p : grid0.Coords → Prop} (h : ∀ (a : Fin 17) (b : Fin 8), p (fun | 0 => a | 1 => b)) (i : grid0.Coords) : p i := by
  have e : i = (fun | 0 => i 0 | 1 => i 1) := by
    funext t
    match t with
    | 0 => rfl
    | 1 => rfl
  rw [e]; exact h (i 0) (i 1)

theorem cond1_iff (i : grid0.Coords) : cond1 i = 1#1 ↔ (i 1).val = 0 :=
  grid_forall (p := fun i => cond1 i = 1#1 ↔ (i 1).val = 0) (by decide +kernel) i
theorem cond2_iff (i : grid0.Coords) : cond2 i = 1#1 ↔ 0 < (i 0).val :=
  grid_forall (p := fun i => cond2 i = 1#1 ↔ 0 < (i 0).val) (by decide +kernel) i
theorem cond3_iff (i : grid0.Coords) : k0_cond3 i = 1#1 ↔ (i 1).val = 0 ∧ 0 < (i 0).val ∧ (i 0).val < 16 :=
  grid_forall (p := fun i => k0_cond3 i = 1#1 ↔ (i 1).val = 0 ∧ 0 < (i 0).val ∧ (i 0).val < 16) (by decide +kernel) i
theorem cond4_iff (i : grid0.Coords) : k0_cond4 i = 1#1 ↔ (i 1).val = 0 ∧ (i 0).val = 0 :=
  grid_forall (p := fun i => k0_cond4 i = 1#1 ↔ (i 1).val = 0 ∧ (i 0).val = 0) (by decide +kernel) i
theorem cond5_iff (i : grid0.Coords) : k0_cond5 i = 1#1 ↔ (i 1).val = 0 ∧ (i 0).val = 16 :=
  grid_forall (p := fun i => k0_cond5 i = 1#1 ↔ (i 1).val = 0 ∧ (i 0).val = 16) (by decide +kernel) i
theorem cond6_iff (i : grid0.Coords) : k0_cond6 i = 1#1 ↔ 0 < (i 1).val ∧ 0 < (i 0).val ∧ (i 0).val < 16 :=
  grid_forall (p := fun i => k0_cond6 i = 1#1 ↔ 0 < (i 1).val ∧ 0 < (i 0).val ∧ (i 0).val < 16) (by decide +kernel) i
theorem cond7_iff (i : grid0.Coords) : k0_cond7 i = 1#1 ↔ 0 < (i 1).val ∧ (i 0).val = 0 :=
  grid_forall (p := fun i => k0_cond7 i = 1#1 ↔ 0 < (i 1).val ∧ (i 0).val = 0) (by decide +kernel) i
theorem cond8_iff (i : grid0.Coords) : k0_cond8 i = 1#1 ↔ 0 < (i 1).val ∧ (i 0).val = 16 :=
  grid_forall (p := fun i => k0_cond8 i = 1#1 ↔ 0 < (i 1).val ∧ (i 0).val = 16) (by decide +kernel) i
theorem off1_eq (i : grid0.Coords) : k0_off1 i = ![(i 1).val, 0, 0] :=
  grid_forall (p := fun i => k0_off1 i = ![(i 1).val, 0, 0]) (by decide +kernel) i
theorem off2_eq (i : grid0.Coords) : k0_off2 i = ![(i 1).val, 0, 0] :=
  grid_forall (p := fun i => k0_off2 i = ![(i 1).val, 0, 0]) (by decide +kernel) i
theorem off3_eq (i : grid0.Coords) : k0_off3 i = ![(i 1).val, 0, 256] :=
  grid_forall (p := fun i => k0_off3 i = ![(i 1).val, 0, 256]) (by decide +kernel) i
theorem off4_eq (i : grid0.Coords) : k0_off4 i = ![(i 1).val, 0, 0] :=
  grid_forall (p := fun i => k0_off4 i = ![(i 1).val, 0, 0]) (by decide +kernel) i
theorem off5_eq (i : grid0.Coords) : k0_off5 i = ![(i 1).val, 0, 256] :=
  grid_forall (p := fun i => k0_off5 i = ![(i 1).val, 0, 256]) (by decide +kernel) i
theorem off6_eq (i : grid0.Coords) : k0_off6 i = ![(i 1).val, 0, 0] :=
  grid_forall (p := fun i => k0_off6 i = ![(i 1).val, 0, 0]) (by decide +kernel) i
theorem off7_eq (i : grid0.Coords) : k0_off7 i = ![(i 1).val, 0, 0] :=
  grid_forall (p := fun i => k0_off7 i = ![(i 1).val, 0, 0]) (by decide +kernel) i
theorem off8_eq (i : grid0.Coords) : k0_off8 i = ![(i 1).val, 0, 0] :=
  grid_forall (p := fun i => k0_off8 i = ![(i 1).val, 0, 0]) (by decide +kernel) i
theorem off9_eq (i : grid0.Coords) : k0_off9 i = ![(i 1).val, 0, 256] :=
  grid_forall (p := fun i => k0_off9 i = ![(i 1).val, 0, 256]) (by decide +kernel) i
theorem off10_eq (i : grid0.Coords) : k0_off10 i = ![(i 1).val, 0, 0] :=
  grid_forall (p := fun i => k0_off10 i = ![(i 1).val, 0, 0]) (by decide +kernel) i
theorem off11_eq (i : grid0.Coords) : k0_off11 i = ![(i 1).val, 0, 256] :=
  grid_forall (p := fun i => k0_off11 i = ![(i 1).val, 0, 256]) (by decide +kernel) i
theorem off12_eq (i : grid0.Coords) : k0_off12 i = ![(i 1).val, 0, 0] :=
  grid_forall (p := fun i => k0_off12 i = ![(i 1).val, 0, 0]) (by decide +kernel) i

/-- The six kinds of step. -/
theorem steps (i : grid0.Coords) :
    ((i 0).val = 0 ∧ (i 1).val = 0) ∨ ((i 0).val = 0 ∧ 0 < (i 1).val)
    ∨ (0 < (i 0).val ∧ (i 0).val < 16 ∧ (i 1).val = 0) ∨ (0 < (i 0).val ∧ (i 0).val < 16 ∧ 0 < (i 1).val)
    ∨ ((i 0).val = 16 ∧ (i 1).val = 0) ∨ ((i 0).val = 16 ∧ 0 < (i 1).val) := by
  have h : (i 0).val < 17 := (i 0).isLt
  generalize (i 0).val = a at *
  generalize (i 1).val = b at *
  omega

end Cert.Opj
end
-- ==== Proof.Opj.Raw.lean ====
module
public import proofs.«01_k».proof.Proof.Opj.Conds
public import proofs.«01_k».proof.Proof.Gen.OutProj.Frame
public import proofs.«01_k».proof.Proof.Gen.OutProj.Skeleton
public import Idealize.ShloMosaic.Lib.Pipeline.ReadBack
public import Idealize.ShloMosaic.Lib.Pipeline.FrameBody
public import Idealize.ShloMosaic.Lib.Pipeline.DatRel
public import Idealize.ShloMosaic.Lib.Pipeline.ArrRel
public import Idealize.ShloMosaic.Lib.Claim

/-! The output projection's program, as it is, frames its arguments: the same steps, with nothing said of what the results hold. -/

@[expose] public section
set_option maxRecDepth 16384
noncomputable section
namespace Cert.OpjRaw
open Cert.OutProj Cert.OutProj.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]
local notation "𝕄" => MT nD τ sig Unit (Elt F) ℕ (UR sig nD τ) ℕ

set_option maxHeartbeats 4000000 in
/-- The body at any step, on whole buffers at any contents: it ends, and leaves the operands. -/
theorem body_ends (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S8x1024x512 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S2x1024x1 .f32) (harg13 : arg13.IsWhole)
    (x2 : Vec F S1024x2048 .bf16) (x3 : Vec F S1024x2048 .bf16) (x4 : Vec F S2048x512 .bf16) (x5 : Vec F S2048x512 .bf16) (x6 : Vec F S1024x512 .f32) (x7 : Vec F S1x512 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x)) -∗ K ⟨⟩))
    ⊢ wp frame (wpE (defs₀ (F := F)) Variants.none c none) E (cc0_out_proj i arg2 harg2 arg3 harg3 arg4 harg4 arg5 harg5 arg6 harg6 arg7 harg7 arg8 harg8 arg9 harg9 arg10 harg10 arg11 harg11 arg12 harg12 arg13 harg13) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%x8, %f8, %hf8, H8⟩, ⟨%x9, %f9, %hf9, H9⟩, ⟨%x10, %f10, %hf10, H10⟩, ⟨%x11, %f11, %hf11, H11⟩, ⟨%x12, %f12, %hf12, H12⟩, ⟨%x13, %f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  simp only [cc0_out_proj_eq_skeleton]; unfold cc0_out_proj_skel
  simp only [k0_part1_eq_skeleton, k0_part2_eq_skeleton, k0_part3_eq_skeleton, k0_part4_eq_skeleton, k0_part5_eq_skeleton, k0_part6_eq_skeleton]
  rcases Cert.Opj.steps i with h | h | h | h | h | h
  all_goals
    first | have h1 : Cert.Opj.cond1 i = 1#1 := (Cert.Opj.cond1_iff i).mpr (by clear * - h; omega)
          | have h1 : ¬ Cert.Opj.cond1 i = 1#1 := fun hc => absurd ((Cert.Opj.cond1_iff i).mp hc) (by clear * - h; omega)
    first | have h2 : Cert.Opj.cond2 i = 1#1 := (Cert.Opj.cond2_iff i).mpr (by clear * - h; omega)
          | have h2 : ¬ Cert.Opj.cond2 i = 1#1 := fun hc => absurd ((Cert.Opj.cond2_iff i).mp hc) (by clear * - h; omega)
    first | have h3 : k0_cond3 i = 1#1 := (Cert.Opj.cond3_iff i).mpr (by clear * - h; omega)
          | have h3 : ¬ k0_cond3 i = 1#1 := fun hc => absurd ((Cert.Opj.cond3_iff i).mp hc) (by clear * - h; omega)
    first | have h4 : k0_cond4 i = 1#1 := (Cert.Opj.cond4_iff i).mpr (by clear * - h; omega)
          | have h4 : ¬ k0_cond4 i = 1#1 := fun hc => absurd ((Cert.Opj.cond4_iff i).mp hc) (by clear * - h; omega)
    first | have h5 : k0_cond5 i = 1#1 := (Cert.Opj.cond5_iff i).mpr (by clear * - h; omega)
          | have h5 : ¬ k0_cond5 i = 1#1 := fun hc => absurd ((Cert.Opj.cond5_iff i).mp hc) (by clear * - h; omega)
    first | have h6 : k0_cond6 i = 1#1 := (Cert.Opj.cond6_iff i).mpr (by clear * - h; omega)
          | have h6 : ¬ k0_cond6 i = 1#1 := fun hc => absurd ((Cert.Opj.cond6_iff i).mp hc) (by clear * - h; omega)
    first | have h7 : k0_cond7 i = 1#1 := (Cert.Opj.cond7_iff i).mpr (by clear * - h; omega)
          | have h7 : ¬ k0_cond7 i = 1#1 := fun hc => absurd ((Cert.Opj.cond7_iff i).mp hc) (by clear * - h; omega)
    first | have h8 : k0_cond8 i = 1#1 := (Cert.Opj.cond8_iff i).mpr (by clear * - h; omega)
          | have h8 : ¬ k0_cond8 i = 1#1 := fun hc => absurd ((Cert.Opj.cond8_iff i).mp hc) (by clear * - h; omega)
    sl_exec
    sl_step
    iapply Hk
    isplitl [H2]
    · iexists _; isplitr; swap; · iexact H2
      ipureintro
      exact harg2.read_unread _
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact harg5.read_unread _
    isplitl [H6]
    · iexists _; isplitr; swap; · iexact H6
      ipureintro
      exact harg6.read_unread _
    isplitl [H7]
    · iexists _; isplitr; swap; · iexact H7
      ipureintro
      exact harg7.read_unread _
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

variable (m : (ℓ : Loc nD τ sig) → Buf (Elt F) ℓ) (ρ : Dev nD → PrngReg)

/-- The buffer of the products kept. -/
abbrev gM : Memref sig .tc .vmem S8x1024x512 .f32 := Memref.whole cc0_scratch0
/-- The buffer of the sums of squares. -/
abbrev sM : Memref sig .tc .vmem S1024x1 .f32 := Memref.whole cc0_scratch1
/-- The buffer of the rows' factors. -/
abbrev vM : Memref sig .tc .vmem S1024x1 .f32 := Memref.whole cc0_scratch2
/-- The buffer of the two halves' factors. -/
abbrev yM : Memref sig .tc .vmem S2x1024x1 .f32 := Memref.whole cc0_scratch3

/-- The program's own buffers outside the grid's, and the generator's register. -/
theorem rest_eq (c : Dev nD) : (Pipeline.ΦA spec0 c : sProp 𝕄)
    = iprop(iprop((∃ d, owns (c : Thread nD τ) gM fullShare d) ∗ (∃ d, owns (c : Thread nD τ) sM fullShare d) ∗ (∃ d, owns (c : Thread nD τ) vM fullShare d) ∗ (∃ d, owns (c : Thread nD τ) yM fullShare d)) ∗ (∃ r, prngReg c r)) := by
  unfold Pipeline.ΦA; rw [scopedRest0_eq]; simp only [gM, sM, vM, yM, owns_whole]; try rfl

/-- The results' windows. -/
def fgt (w : Fin cfg0.W) : Bool := match w with
  | ⟨6, _⟩ => true
  | ⟨7, _⟩ => true
  | _ => false

/-- The grid's arrays, and what the operands' buffers hold at each step. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.choice inferInstance
    | ⟨7, _⟩ => fun _ => Classical.choice inferInstance
  Φ _ := Pipeline.ΦA spec0 c
  q _ := fullShare
  owed _ := 0

theorem dat_A (c : Dev nD) (w : Fin cfg0.W) : (dat m c).A w = V m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = iblk m c 5 t := by dsimp only [dat]
theorem before0 (c : Dev nD) (t : Fin cfg0.N) (d) : (dat m c).before 0 t d = iblk m c 0 t := before0_0_of m (dat m c) (dat_A m c 0) (after0 m c) t d
theorem before1 (c : Dev nD) (t : Fin cfg0.N) (d) : (dat m c).before 1 t d = iblk m c 1 t := before0_1_of m (dat m c) (dat_A m c 1) (after1 m c) t d
theorem before2 (c : Dev nD) (t : Fin cfg0.N) (d) : (dat m c).before 2 t d = iblk m c 2 t := before0_2_of m (dat m c) (dat_A m c 2) (after2 m c) t d
theorem before3 (c : Dev nD) (t : Fin cfg0.N) (d) : (dat m c).before 3 t d = iblk m c 3 t := before0_3_of m (dat m c) (dat_A m c 3) (after3 m c) t d
theorem before4 (c : Dev nD) (t : Fin cfg0.N) (d) : (dat m c).before 4 t d = iblk m c 4 t := before0_4_of m (dat m c) (dat_A m c 4) (after4 m c) t d
theorem before5 (c : Dev nD) (t : Fin cfg0.N) (d) : (dat m c).before 5 t d = iblk m c 5 t := before0_5_of m (dat m c) (dat_A m c 5) (after5 m c) t d

/-- Of the results' buffers after a step nothing is asked. -/
abbrev Rl (w : Fin cfg0.W) (_ : Fin cfg0.N) : ((cfg0.win w).block.Idx → Elt F (cfg0.win w).elt) → Prop := fun _ => True
/-- What the results' buffers may be found to hold before a step. -/
abbrev Found (c : Dev nD) (w : Fin cfg0.W) (t : Fin cfg0.N) (Y : (cfg0.win w).block.Idx → Elt F (cfg0.win w).elt) : Prop :=
  ((dat m c).toRRel fgt Rl).Finds w t Y

/-- What a step is called with, buffer by buffer, -/
def stepPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜Found m c 6 t Y⌝ ∗ owns (c : Thread nD τ) (st0_6 t) fullShare Y)
    ∗ (∃ Y, ⌜Found m c 7 t Y⌝ ∗ owns (c : Thread nD τ) (st0_7 t) fullShare Y))

/-- and what it returns. -/
def stepPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜Rl (F := F) 6 t X⌝ ∗ owns (c : Thread nD τ) (st0_6 t) fullShare X)
    ∗ (∃ X, ⌜Rl (F := F) 7 t X⌝ ∗ owns (c : Thread nD τ) (st0_7 t) fullShare X))

set_option maxHeartbeats 1600000 in
/-- One step. -/
theorem step_body (c : Dev nD) (t : Fin cfg0.N) :
    stepPre m c t ⊢ wp frame (wpE (defs₀ (F := F)) Variants.none c none) Set.univ (bodyAt0 t) (fun _ => stepPost m c t) := by
  unfold stepPre stepPost bodyAt0
  simp only [before0, before1, before2, before3, before4, before5]
  rw [show (dat m c).owesAt () t.succ = (dat m c).owesAt () t.castSucc from rfl, after0, after1, after2, after3, after4, after5,
    show (dat m c).Φ t.castSucc = Pipeline.ΦA spec0 c from rfl, show (dat m c).Φ t.succ = Pipeline.ΦA spec0 c from rfl, rest_eq]
  iintro ⟨⟨⟨HA, HB, HC, HD⟩, Hg⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩⟩
  iapply (body_ends (F := F) c (grid0.coords t) _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HA]; · iexact HA
  isplitl [HB]; · iexact HB
  isplitl [HC]; · iexact HC
  isplitl [HD]; · iexact HD
  iintro ⟨H0, H1, H2, H3, H4, H5, ⟨%Z6, H6⟩, ⟨%Z7, H7⟩, HA, HB, HC, HD⟩
  isplitl [HA HB HC HD Hg]
  · isplitl [HA HB HC HD]
    · isplitl [HA]; · iexact HA
      isplitl [HB]; · iexact HB
      isplitl [HC]; · iexact HC
      iexact HD
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _
    isplitr
    swap; · iexact H6
    ipureintro; trivial
  iexists _
  isplitr
  swap; · iexact H7
  ipureintro; trivial

/-- The body the grid calls at a step. -/
theorem defs_row (t : Fin cfg0.N) : defs₀ (F := F) .tc cfg0.body (cfg0.bodyArgs t (cfg0.slots t)) = bodyAt0 t := by
  unfold defs₀; rw [Defs.onTc_tc]

/-- Every step, as the grid calls it. -/
theorem steps_ok (c : Dev nD) : Pipeline.BodyObligationRel (dat m c) (defs₀ (F := F)) Variants.none () Set.univ fgt Rl := fun t => by
  rw [bigSep_W0, bigSep_W0, defs_row]
  exact triple_restated (step_body m c t) rfl .rfl fun _ => .rfl

/-- The grid's data. -/
abbrev rdat (c : Dev nD) := (dat m c).toRRel fgt Rl

set_option backward.isDefEq.respectTransparency.types false in
/-- The program runs, its arrays as the grid's data say, with every counter at zero at the end. -/
theorem run : θ_run defs (onTc (τ := τ) (main (F := F))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (steps_ok m c).toRRel) (hshare := fun c => (dat m c).share_full fun _ => rfl)
    (howed := fun _ _ => rfl) (V := V m) (hmain := hmain m Variants.none) (hA := dat_A m)
    (hin := fun _ => .rfl) (hout := fun _ => .rfl)

variable {m}

/-- The argument arrays end as they were. -/
theorem args {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  obtain ⟨after, -, hG⟩ := RDat.FramePost.exists_exact h c
  exact ⟨(hG 0).trans ((Dat.arrAt_in _ 0 rfl _).trans ((dat_A m c 0).trans (V_main_arg0 m c))),
    (hG 1).trans ((Dat.arrAt_in _ 1 rfl _).trans ((dat_A m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (hG 4).trans ((Dat.arrAt_in _ 4 rfl _).trans ((dat_A m c 4).trans (V_main_arg5 m c))),
    ((h c).2 main_arg6 (Pipeline.mem_restRefs_of main_arg6 (by decide) (by decide))).trans (V_main_arg6 m c)⟩

/-- The program frames its arguments. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args h.1 c, h.2⟩) (run m ρ)

end Cert.OpjRaw
end
-- ==== Proof.Opj.Run.lean ====
module
public import proofs.«01_k».proof.Proof.Opj.Conds
public import proofs.«01_k».proof.Proof.Carry.Mem
public import proofs.«01_k».proof.Proof.Gen.OutProjIdeal.Frame

/-! One step of the output projection's body: what it leaves in each buffer, of what it found there. -/

@[expose] public section
set_option maxRecDepth 16384
noncomputable section
namespace Cert.Opj
open Cert.Carry Cert.OutProjIdeal Cert.OutProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]
local notation "𝕄" => MT nD τ sig Unit (Elt F) ℕ (UR sig nD τ) ℕ

/-- The first 256 columns of a tile of weights, -/
abbrev wlo (w : Vec F S2048x512 .bf16) : Vec F S2048x256 .bf16 := window w ![0, 0] S2048x256.size inb_S2048x512_S2048x256_0_0
/-- and the other 256. -/
abbrev whi (w : Vec F S2048x512 .bf16) : Vec F S2048x256 .bf16 := window w ![0, 256] S2048x256.size inb_S2048x512_S2048x256_0_256

/-- The kept factors of the first half of the rows' columns, -/
abbrev ylo (y : Vec F S2x1024x1 .f32) : Vec F S1x1024x1 .f32 := window y ![0, 0, 0] S1x1024x1.size inb_S2x1024x1_S1x1024x1_0_0_0
/-- and of the second. -/
abbrev yhi (y : Vec F S2x1024x1 .f32) : Vec F S1x1024x1 .f32 := window y ![1, 0, 0] S1x1024x1.size inb_S2x1024x1_S1x1024x1_1_0_0

/-- The products kept for a column block. -/
def slot (g : Vec F S8x1024x512 .f32) (j : Fin 8) : Vec F S1x1024x512 .f32 := fun y => g (ix3 j (y 1) (y 2))

/-- The factors a step multiplies the first half's products with: its own rows' at a row block's first step, later those kept, -/
def fLo (i : grid0.Coords) (u : Vec F S1024x2048 .bf16) (y : Vec F S2x1024x1 .f32) : FVec F S1024x1 .f32 := if (i 1).val = 0 then k0_pay21 u else k0_pay42 (ylo y)
/-- and the second half's. -/
def fHi (i : grid0.Coords) (u : Vec F S1024x2048 .bf16) (y : Vec F S2x1024x1 .f32) : FVec F S1024x1 .f32 := if (i 1).val = 0 then k0_pay21 u else k0_pay42 (yhi y)

/-- The factors kept after a step. -/
def yAfter (i : grid0.Coords) (u v : Vec F S1024x2048 .bf16) (y : Vec F S2x1024x1 .f32) : Vec F S2x1024x1 .f32 :=
  if (i 1).val = 0 ∧ (i 0).val < 16 then put (put y ![0, 0, 0] S1x1024x1.size (k0_pay22 u)) ![1, 0, 0] S1x1024x1.size (k0_pay22 v) else y

/-- One half's products, times the rows' factors. -/
def half (a : FVec F S1024x1 .f32) (u : Vec F S1024x2048 .bf16) (w : Vec F S2048x256 .bf16) : FVec F S1024x256 .f32 :=
  mulf (k0_pay29 u w) (broadcastTo S1024x256 a broadcasts_S1024x1_S1024x256)

/-- The sums of squares with two pieces of products added. -/
def sums (a b : FVec F S1024x1 .f32) (s : Vec F S1024x1 .f32) (u v : Vec F S1024x2048 .bf16) (w w' z z' : Vec F S2048x256 .bf16) : FVec F S1024x1 .f32 :=
  k0_pay6 (k0_pay39 a b s (half a u w) v z u w' v z')

/-- The rows' factors after a step: at a row block's first step those of the row block before, of the sums of squares found. -/
def vAfter (i : grid0.Coords) (s v : Vec F S1024x1 .f32) : Vec F S1024x1 .f32 := if (i 1).val = 0 ∧ 0 < (i 0).val then k0_pay1 s else v

/-- The sums of squares a step adds to: none at a row block's first. -/
def sMid (i : grid0.Coords) (s : Vec F S1024x1 .f32) : Vec F S1024x1 .f32 := if (i 1).val = 0 then k0_pay2 else s

/-- The sums of squares after a step, with its own columns'. -/
def sAfter (i : grid0.Coords) (u v : Vec F S1024x2048 .bf16) (w z : Vec F S2048x512 .bf16) (s : Vec F S1024x1 .f32) (y : Vec F S2x1024x1 .f32) : Vec F S1024x1 .f32 :=
  if (i 0).val < 16 then sums (fLo i u y) (fHi i v y) (sMid i s) u v (wlo w) (whi w) (wlo z) (whi z) else sMid i s

/-- The products kept after a step, with its own columns'. -/
def gAfter (i : grid0.Coords) (u v : Vec F S1024x2048 .bf16) (w z : Vec F S2048x512 .bf16) (g : Vec F S8x1024x512 .f32) (y : Vec F S2x1024x1 .f32) : Vec F S8x1024x512 .f32 :=
  if (i 0).val < 16 then put (put g ![(i 1).val, 0, 0] S1x1024x256.size (k0_pay12 (fLo i u y) (fHi i v y) u (wlo w) v (wlo z))) ![(i 1).val, 0, 256] S1x1024x256.size (k0_pay12 (fLo i u y) (fHi i v y) u (whi w) v (whi z)) else g

/-- The first result's buffer after a step: the row block before, finished, -/
def oAfter (i : grid0.Coords) (x : Vec F S1024x512 .f32) (n : Vec F S1x512 .f32) (o : Vec F S1024x512 .f32) (g : Vec F S8x1024x512 .f32) (s v : Vec F S1024x1 .f32) : Vec F S1024x512 .f32 :=
  if 0 < (i 0).val then k0_pay7 x (slot g (i 1)) (vAfter i s v) n else o
/-- and the second's, the same in the other format. -/
def bAfter (i : grid0.Coords) (x : Vec F S1024x512 .f32) (n : Vec F S1x512 .f32) (o : Vec F S1024x512 .bf16) (g : Vec F S8x1024x512 .f32) (s v : Vec F S1024x1 .f32) : Vec F S1024x512 .bf16 :=
  if 0 < (i 0).val then k0_pay8 x (slot g (i 1)) (vAfter i s v) n else o

/-- A load of a column block's products. -/
theorem load_slot (a : Memref sig .tc .vmem S8x1024x512 .f32) (h : a.IsWhole) (g : Vec F S8x1024x512 .f32) (j : Fin 8) {off : Fin 3 → Nat} (ho : off = ![j.val, 0, 0])
    (inb : ∀ t, off t + S1x1024x512.size t ≤ S8x1024x512.size t) :
    View.readAt (Elt F) a.view (Rect.unit (s := S8x1024x512) off S1x1024x512.size inb).toLoadRect (h.unread g) = slot g j := by
  subst ho
  rw [load_part]
  funext y
  refine congrArg g (funext fun b => ?_)
  have h0 : (y 0).val < 1 := (y 0).isLt
  match b with
  | ⟨0, _⟩ => exact Fin.ext (show j.val + 1 * (y 0).val = j.val by omega)
  | ⟨1, _⟩ => exact Fin.ext (show 0 + 1 * (y 1).val = (y 1).val by omega)
  | ⟨2, _⟩ => exact Fin.ext (show 0 + 1 * (y 2).val = (y 2).val by omega)

/-- What a step computes depends on what it reads only: the finished tile, -/
theorem fin_congr {x x' : Vec F S1024x512 .f32} {g g' : Vec F S1x1024x512 .f32} {v v' : Vec F S1024x1 .f32} {n n' : Vec F S1x512 .f32}
    (hx : x = x') (hg : g = g') (hv : v = v') (hn : n = n') : k0_pay7 x g v n = k0_pay7 x' g' v' n' ∧ k0_pay8 x g v n = k0_pay8 x' g' v' n' := by rw [hx, hg, hv, hn]; exact ⟨rfl, rfl⟩

variable {a a' b b' : FVec F S1024x1 .f32} {u u' v v' : Vec F S1024x2048 .bf16} {w w' p p' z z' q q' : Vec F S2048x256 .bf16} {s s' : Vec F S1024x1 .f32}

/-- a piece of the products, -/
theorem pay12_congr (ha : a = a') (hb : b = b') (hu : u = u') (hw : w = w') (hv : v = v') (hz : z = z') : k0_pay12 a b u w v z = k0_pay12 a' b' u' w' v' z' := by rw [ha, hb, hu, hw, hv, hz]
/-- and the sums of squares. -/
theorem sums_congr (ha : a = a') (hb : b = b') (hs : s = s') (hu : u = u') (hv : v = v') (hw : w = w') (hp : p = p') (hz : z = z') (hq : q = q') :
    sums a b s u v w p z q = sums a' b' s' u' v' w' p' z' q' := by rw [ha, hb, hs, hu, hv, hw, hp, hz, hq]

set_option maxHeartbeats 8000000 in
/-- The body at any step, on whole buffers at any contents. -/
theorem body_run (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S8x1024x512 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S2x1024x1 .f32) (harg13 : arg13.IsWhole)
    (x2 : Vec F S1024x2048 .bf16) (x3 : Vec F S1024x2048 .bf16) (x4 : Vec F S2048x512 .bf16) (x5 : Vec F S2048x512 .bf16) (x6 : Vec F S1024x512 .f32) (x7 : Vec F S1x512 .f32) (x8 : Vec F S1024x512 .f32) (x9 : Vec F S1024x512 .bf16) (x10 : Vec F S8x1024x512 .f32) (x11 : Vec F S1024x1 .f32) (x12 : Vec F S1024x1 .f32) (x13 : Vec F S2x1024x1 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (oAfter i x6 x7 x8 x10 x11 x12) ∗ owns (c : Thread nD τ) arg9 fullShare (bAfter i x6 x7 x9 x10 x11 x12) ∗ owns (c : Thread nD τ) arg10 fullShare (gAfter i x2 x3 x4 x5 x10 x13) ∗ owns (c : Thread nD τ) arg11 fullShare (sAfter i x2 x3 x4 x5 x11 x13) ∗ owns (c : Thread nD τ) arg12 fullShare (vAfter i x11 x12) ∗ owns (c : Thread nD τ) arg13 fullShare (yAfter i x2 x3 x13)) -∗ K ⟨⟩))
    ⊢ wp frame (wpE (defs₀ (F := F)) Variants.none c none) E (cc0_out_proj i arg2 harg2 arg3 harg3 arg4 harg4 arg5 harg5 arg6 harg6 arg7 harg7 arg8 harg8 arg9 harg9 arg10 harg10 arg11 harg11 arg12 harg12 arg13 harg13) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  simp only [cc0_out_proj_eq_skeleton]; unfold cc0_out_proj_skel
  simp only [k0_part1_eq_skeleton, k0_part2_eq_skeleton, k0_part3_eq_skeleton, k0_part4_eq_skeleton, k0_part5_eq_skeleton, k0_part6_eq_skeleton]
  have o1 := off1_eq i
  have o2 := off2_eq i
  have o3 := off3_eq i
  have o4 := off4_eq i
  have o5 := off5_eq i
  have o6 := off6_eq i
  have o7 := off7_eq i
  have o8 := off8_eq i
  have o9 := off9_eq i
  have o10 := off10_eq i
  have o11 := off11_eq i
  have o12 := off12_eq i
  rcases steps i with h | h | h | h | h | h
  all_goals
    first | have h1 : cond1 i = 1#1 := by rw [cond1_iff]; clear * - h; omega
          | have h1 : ¬ cond1 i = 1#1 := by rw [cond1_iff]; clear * - h; omega
    first | have h2 : cond2 i = 1#1 := by rw [cond2_iff]; clear * - h; omega
          | have h2 : ¬ cond2 i = 1#1 := by rw [cond2_iff]; clear * - h; omega
    first | have h3 : k0_cond3 i = 1#1 := by rw [cond3_iff]; clear * - h; omega
          | have h3 : ¬ k0_cond3 i = 1#1 := by rw [cond3_iff]; clear * - h; omega
    first | have h4 : k0_cond4 i = 1#1 := by rw [cond4_iff]; clear * - h; omega
          | have h4 : ¬ k0_cond4 i = 1#1 := by rw [cond4_iff]; clear * - h; omega
    first | have h5 : k0_cond5 i = 1#1 := by rw [cond5_iff]; clear * - h; omega
          | have h5 : ¬ k0_cond5 i = 1#1 := by rw [cond5_iff]; clear * - h; omega
    first | have h6 : k0_cond6 i = 1#1 := by rw [cond6_iff]; clear * - h; omega
          | have h6 : ¬ k0_cond6 i = 1#1 := by rw [cond6_iff]; clear * - h; omega
    first | have h7 : k0_cond7 i = 1#1 := by rw [cond7_iff]; clear * - h; omega
          | have h7 : ¬ k0_cond7 i = 1#1 := by rw [cond7_iff]; clear * - h; omega
    first | have h8 : k0_cond8 i = 1#1 := by rw [cond8_iff]; clear * - h; omega
          | have h8 : ¬ k0_cond8 i = 1#1 := by rw [cond8_iff]; clear * - h; omega
    first | have e1 : (i 1).val = 0 := by clear * - h; omega
          | have e1 : ¬ ((i 1).val = 0) := by clear * - h; omega
    first | have e2 : 0 < (i 0).val := by clear * - h; omega
          | have e2 : ¬ (0 < (i 0).val) := by clear * - h; omega
    first | have e3 : (i 0).val < 16 := by clear * - h; omega
          | have e3 : ¬ ((i 0).val < 16) := by clear * - h; omega
    first | have e4 : (i 1).val = 0 ∧ 0 < (i 0).val := by clear * - h; omega
          | have e4 : ¬ ((i 1).val = 0 ∧ 0 < (i 0).val) := by clear * - h; omega
    first | have e5 : (i 1).val = 0 ∧ (i 0).val < 16 := by clear * - h; omega
          | have e5 : ¬ ((i 1).val = 0 ∧ (i 0).val < 16) := by clear * - h; omega
    sl_exec
    sl_step
    iapply Hk
    isplitl [H2]
    · iexists _; isplitr; swap; · iexact H2
      ipureintro
      exact harg2.read_unread _
    isplitl [H3]
    · iexists _; isplitr; swap; · iexact H3
      ipureintro
      exact harg3.read_unread _
    isplitl [H4]
    · iexists _; isplitr; swap; · iexact H4
      ipureintro
      exact harg4.read_unread _
    isplitl [H5]
    · iexists _; isplitr; swap; · iexact H5
      ipureintro
      exact harg5.read_unread _
    isplitl [H6]
    · iexists _; isplitr; swap; · iexact H6
      ipureintro
      exact harg6.read_unread _
    isplitl [H7]
    · iexists _; isplitr; swap; · iexact H7
      ipureintro
      exact harg7.read_unread _
    isplitl [H8]
    · iexists _; isplitr; swap; · iexact H8
      ipureintro
      first | (rw [oAfter, if_neg e2]; exact harg8.read_unread _)
            | (replace e1 : (i 1).val = 0 := e1; replace e3 : (i 0).val < 16 := e3; rw [oAfter, if_pos e2, vAfter, if_pos e4]; refine (store_whole arg8 _ _ _ _).trans ?_; exact (fin_congr (load_whole arg6 harg6 x6 _) (load_slot arg10 harg10 x10 (i 1) o1 _) ((load_stored arg12 _ _ _).trans (congrArg k0_pay1 (load_whole arg11 harg11 x11 _))) (load_whole arg7 harg7 x7 _)).1)
            | (replace e1 : (i 1).val = 0 := e1; replace e3 : ¬ ((i 0).val < 16) := e3; rw [oAfter, if_pos e2, vAfter, if_pos e4]; refine (store_whole arg8 _ _ _ _).trans ?_; exact (fin_congr (load_whole arg6 harg6 x6 _) (load_slot arg10 harg10 x10 (i 1) o6 _) ((load_stored arg12 _ _ _).trans (congrArg k0_pay1 (load_whole arg11 harg11 x11 _))) (load_whole arg7 harg7 x7 _)).1)
            | (replace e1 : ¬ ((i 1).val = 0) := e1; replace e3 : (i 0).val < 16 := e3; rw [oAfter, if_pos e2, vAfter, if_neg e4]; refine (store_whole arg8 _ _ _ _).trans ?_; exact (fin_congr (load_whole arg6 harg6 x6 _) (load_slot arg10 harg10 x10 (i 1) o7 _) (load_whole arg12 harg12 x12 _) (load_whole arg7 harg7 x7 _)).1)
            | (replace e1 : ¬ ((i 1).val = 0) := e1; replace e3 : ¬ ((i 0).val < 16) := e3; rw [oAfter, if_pos e2, vAfter, if_neg e4]; refine (store_whole arg8 _ _ _ _).trans ?_; exact (fin_congr (load_whole arg6 harg6 x6 _) (load_slot arg10 harg10 x10 (i 1) o12 _) (load_whole arg12 harg12 x12 _) (load_whole arg7 harg7 x7 _)).1)
    isplitl [H9]
    · iexists _; isplitr; swap; · iexact H9
      ipureintro
      first | (rw [bAfter, if_neg e2]; exact harg9.read_unread _)
            | (replace e1 : (i 1).val = 0 := e1; replace e3 : (i 0).val < 16 := e3; rw [bAfter, if_pos e2, vAfter, if_pos e4]; refine (store_whole arg9 _ _ _ _).trans ?_; exact (fin_congr (load_whole arg6 harg6 x6 _) (load_slot arg10 harg10 x10 (i 1) o1 _) ((load_stored arg12 _ _ _).trans (congrArg k0_pay1 (load_whole arg11 harg11 x11 _))) (load_whole arg7 harg7 x7 _)).2)
            | (replace e1 : (i 1).val = 0 := e1; replace e3 : ¬ ((i 0).val < 16) := e3; rw [bAfter, if_pos e2, vAfter, if_pos e4]; refine (store_whole arg9 _ _ _ _).trans ?_; exact (fin_congr (load_whole arg6 harg6 x6 _) (load_slot arg10 harg10 x10 (i 1) o6 _) ((load_stored arg12 _ _ _).trans (congrArg k0_pay1 (load_whole arg11 harg11 x11 _))) (load_whole arg7 harg7 x7 _)).2)
            | (replace e1 : ¬ ((i 1).val = 0) := e1; replace e3 : (i 0).val < 16 := e3; rw [bAfter, if_pos e2, vAfter, if_neg e4]; refine (store_whole arg9 _ _ _ _).trans ?_; exact (fin_congr (load_whole arg6 harg6 x6 _) (load_slot arg10 harg10 x10 (i 1) o7 _) (load_whole arg12 harg12 x12 _) (load_whole arg7 harg7 x7 _)).2)
            | (replace e1 : ¬ ((i 1).val = 0) := e1; replace e3 : ¬ ((i 0).val < 16) := e3; rw [bAfter, if_pos e2, vAfter, if_neg e4]; refine (store_whole arg9 _ _ _ _).trans ?_; exact (fin_congr (load_whole arg6 harg6 x6 _) (load_slot arg10 harg10 x10 (i 1) o12 _) (load_whole arg12 harg12 x12 _) (load_whole arg7 harg7 x7 _)).2)
    isplitl [H10]
    · iexists _; isplitr; swap; · iexact H10
      ipureintro
      first | (rw [gAfter, if_neg e3]; exact harg10.read_unread _)
            | (replace e1 : (i 1).val = 0 := e1; replace e2 : 0 < (i 0).val := e2; rw [gAfter, if_pos e3, fLo, fHi, if_pos e1, if_pos e1]; refine (store_two arg10 harg10 x10 _ _ _ _ o3 o2).trans ?_; refine congrArg₂ (fun a b => put (put x10 ![(i 1).val, 0, 0] S1x1024x256.size a) ![(i 1).val, 0, 256] S1x1024x256.size b) ?_ ?_; exact pay12_congr (congrArg k0_pay21 (load_whole arg2 harg2 x2 _)) (congrArg k0_pay21 (load_whole arg3 harg3 x3 _)) (load_whole arg2 harg2 x2 _) (load_part arg4 harg4 x4 _) (load_whole arg3 harg3 x3 _) (load_part arg5 harg5 x5 _); exact pay12_congr (congrArg k0_pay21 (load_whole arg2 harg2 x2 _)) (congrArg k0_pay21 (load_whole arg3 harg3 x3 _)) (load_whole arg2 harg2 x2 _) (load_part arg4 harg4 x4 _) (load_whole arg3 harg3 x3 _) (load_part arg5 harg5 x5 _))
            | (replace e1 : (i 1).val = 0 := e1; replace e2 : ¬ (0 < (i 0).val) := e2; rw [gAfter, if_pos e3, fLo, fHi, if_pos e1, if_pos e1]; refine (store_two arg10 harg10 x10 _ _ _ _ o5 o4).trans ?_; refine congrArg₂ (fun a b => put (put x10 ![(i 1).val, 0, 0] S1x1024x256.size a) ![(i 1).val, 0, 256] S1x1024x256.size b) ?_ ?_; exact pay12_congr (congrArg k0_pay21 (load_whole arg2 harg2 x2 _)) (congrArg k0_pay21 (load_whole arg3 harg3 x3 _)) (load_whole arg2 harg2 x2 _) (load_part arg4 harg4 x4 _) (load_whole arg3 harg3 x3 _) (load_part arg5 harg5 x5 _); exact pay12_congr (congrArg k0_pay21 (load_whole arg2 harg2 x2 _)) (congrArg k0_pay21 (load_whole arg3 harg3 x3 _)) (load_whole arg2 harg2 x2 _) (load_part arg4 harg4 x4 _) (load_whole arg3 harg3 x3 _) (load_part arg5 harg5 x5 _))
            | (replace e1 : ¬ ((i 1).val = 0) := e1; replace e2 : 0 < (i 0).val := e2; rw [gAfter, if_pos e3, fLo, fHi, if_neg e1, if_neg e1]; refine (store_two arg10 harg10 x10 _ _ _ _ o9 o8).trans ?_; refine congrArg₂ (fun a b => put (put x10 ![(i 1).val, 0, 0] S1x1024x256.size a) ![(i 1).val, 0, 256] S1x1024x256.size b) ?_ ?_; exact pay12_congr (congrArg k0_pay42 (load_part arg13 harg13 x13 _)) (congrArg k0_pay42 (load_part arg13 harg13 x13 _)) (load_whole arg2 harg2 x2 _) (load_part arg4 harg4 x4 _) (load_whole arg3 harg3 x3 _) (load_part arg5 harg5 x5 _); exact pay12_congr (congrArg k0_pay42 (load_part arg13 harg13 x13 _)) (congrArg k0_pay42 (load_part arg13 harg13 x13 _)) (load_whole arg2 harg2 x2 _) (load_part arg4 harg4 x4 _) (load_whole arg3 harg3 x3 _) (load_part arg5 harg5 x5 _))
            | (replace e1 : ¬ ((i 1).val = 0) := e1; replace e2 : ¬ (0 < (i 0).val) := e2; rw [gAfter, if_pos e3, fLo, fHi, if_neg e1, if_neg e1]; refine (store_two arg10 harg10 x10 _ _ _ _ o11 o10).trans ?_; refine congrArg₂ (fun a b => put (put x10 ![(i 1).val, 0, 0] S1x1024x256.size a) ![(i 1).val, 0, 256] S1x1024x256.size b) ?_ ?_; exact pay12_congr (congrArg k0_pay42 (load_part arg13 harg13 x13 _)) (congrArg k0_pay42 (load_part arg13 harg13 x13 _)) (load_whole arg2 harg2 x2 _) (load_part arg4 harg4 x4 _) (load_whole arg3 harg3 x3 _) (load_part arg5 harg5 x5 _); exact pay12_congr (congrArg k0_pay42 (load_part arg13 harg13 x13 _)) (congrArg k0_pay42 (load_part arg13 harg13 x13 _)) (load_whole arg2 harg2 x2 _) (load_part arg4 harg4 x4 _) (load_whole arg3 harg3 x3 _) (load_part arg5 harg5 x5 _))
    isplitl [H11]
    · iexists _; isplitr; swap; · iexact H11
      ipureintro
      first | (rw [sAfter, if_neg e3, sMid, if_neg e1]; exact harg11.read_unread _)
            | (rw [sAfter, if_neg e3, sMid, if_pos e1]; exact store_whole arg11 _ _ _ _)
            | (replace e1 : (i 1).val = 0 := e1; replace e2 : 0 < (i 0).val := e2; rw [sAfter, if_pos e3, fLo, fHi, sMid, if_pos e1, if_pos e1, if_pos e1]; refine (store_whole arg11 _ _ _ _).trans ?_; exact sums_congr (congrArg k0_pay21 (load_whole arg2 harg2 x2 _)) (congrArg k0_pay21 (load_whole arg3 harg3 x3 _)) (load_stored arg11 _ _ _) (load_whole arg2 harg2 x2 _) (load_whole arg3 harg3 x3 _) (load_part arg4 harg4 x4 _) (load_part arg4 harg4 x4 _) (load_part arg5 harg5 x5 _) (load_part arg5 harg5 x5 _))
            | (replace e1 : (i 1).val = 0 := e1; replace e2 : ¬ (0 < (i 0).val) := e2; rw [sAfter, if_pos e3, fLo, fHi, sMid, if_pos e1, if_pos e1, if_pos e1]; refine (store_whole arg11 _ _ _ _).trans ?_; exact sums_congr (congrArg k0_pay21 (load_whole arg2 harg2 x2 _)) (congrArg k0_pay21 (load_whole arg3 harg3 x3 _)) (load_stored arg11 _ _ _) (load_whole arg2 harg2 x2 _) (load_whole arg3 harg3 x3 _) (load_part arg4 harg4 x4 _) (load_part arg4 harg4 x4 _) (load_part arg5 harg5 x5 _) (load_part arg5 harg5 x5 _))
            | (replace e1 : ¬ ((i 1).val = 0) := e1; replace e2 : 0 < (i 0).val := e2; rw [sAfter, if_pos e3, fLo, fHi, sMid, if_neg e1, if_neg e1, if_neg e1]; refine (store_whole arg11 _ _ _ _).trans ?_; exact sums_congr (congrArg k0_pay42 (load_part arg13 harg13 x13 _)) (congrArg k0_pay42 (load_part arg13 harg13 x13 _)) (load_whole arg11 harg11 x11 _) (load_whole arg2 harg2 x2 _) (load_whole arg3 harg3 x3 _) (load_part arg4 harg4 x4 _) (load_part arg4 harg4 x4 _) (load_part arg5 harg5 x5 _) (load_part arg5 harg5 x5 _))
            | (replace e1 : ¬ ((i 1).val = 0) := e1; replace e2 : ¬ (0 < (i 0).val) := e2; rw [sAfter, if_pos e3, fLo, fHi, sMid, if_neg e1, if_neg e1, if_neg e1]; refine (store_whole arg11 _ _ _ _).trans ?_; exact sums_congr (congrArg k0_pay42 (load_part arg13 harg13 x13 _)) (congrArg k0_pay42 (load_part arg13 harg13 x13 _)) (load_whole arg11 harg11 x11 _) (load_whole arg2 harg2 x2 _) (load_whole arg3 harg3 x3 _) (load_part arg4 harg4 x4 _) (load_part arg4 harg4 x4 _) (load_part arg5 harg5 x5 _) (load_part arg5 harg5 x5 _))
    isplitl [H12]
    · iexists _; isplitr; swap; · iexact H12
      ipureintro
      first | (rw [vAfter, if_neg e4]; exact harg12.read_unread _)
            | (rw [vAfter, if_pos e4]; refine (store_whole arg12 _ _ _ _).trans ?_; exact congrArg k0_pay1 (load_whole arg11 harg11 x11 _))
    iexists _; isplitr; swap; · iexact H13
    ipureintro
    first | (rw [yAfter, if_neg e5]; exact harg13.read_unread _)
          | (rw [yAfter, if_pos e5]; refine (store_two arg13 harg13 x13 _ _ _ _ rfl rfl).trans ?_; exact congrArg₂ (fun a b => put (put x13 ![0, 0, 0] S1x1024x1.size a) ![1, 0, 0] S1x1024x1.size b) (congrArg k0_pay22 (load_whole arg2 harg2 x2 _)) (congrArg k0_pay22 (load_whole arg3 harg3 x3 _)))

end Cert.Opj
end
-- ==== Proof.Opj.Pay.lean ====
module
public import proofs.«01_k».proof.Proof.Opj.Run
public import proofs.«01_k».proof.Proof.Carry.Inv

/-! The values one step computes, element by element: a half's factor, a product, a row's sum of squares, and the finished element. -/

@[expose] public section
set_option maxRecDepth 16384
noncomputable section
namespace Cert.Opj
open Cert.Carry Cert.OutProjIdeal Cert.OutProjIdeal.Gen Idealize.ShloMosaic Idealize.ShloMosaic.TcCoe Idealize.ShloMosaic.Tactic Idealize.SL.Sem

/-- The factor of a half of a row: one over the root of the mean of its squares. -/
def factor {n : ℕ} (f : Fin n → EReal) : EReal := Ideal.rsqrt (Ideal.div (dot f f) (Ideal.ofBits .f32 0x45000000#32) + Ideal.ofBits .f32 0x358637BD#32)

/-- A half's factor, -/
theorem pay21_apply (u : Vec Ideal S1024x2048 .bf16) (a : Fin 1024) : k0_pay21 u (ix2 a 0) = factor fun d => u (ix2 a d) := by
  unfold factor dot
  pointwise [k0_pay21]
  try exact (rfl)

/-- as it is kept, -/
theorem pay22_apply (u : Vec Ideal S1024x2048 .bf16) (z z' : Fin 1) (a : Fin 1024) : k0_pay22 u (ix3 z a z') = factor fun d => u (ix2 a d) := by
  have hz : z = 0 := Subsingleton.elim _ _
  have hz' : z' = 0 := Subsingleton.elim _ _
  subst hz hz'
  rw [← pay21_apply]
  unfold k0_pay22
  generalize k0_pay21 u = x
  pointwise
  try exact (rfl)

/-- and read again. -/
theorem pay42_apply (y : Vec Ideal S1x1024x1 .f32) (a : Fin 1024) : k0_pay42 y (ix2 a 0) = y (ix3 0 a 0) := by
  pointwise [k0_pay42]
  try exact (rfl)

/-- An element of the products. -/
theorem pay11_apply (x y : FVec Ideal S1024x1 .f32) (u v : Vec Ideal S1024x2048 .bf16) (w z : Vec Ideal S2048x256 .bf16) (a : Fin 1024) (n : Fin 256) :
    k0_pay11 x y u w v z (ix2 a n)
      = dot (fun d => u (ix2 a d)) (fun d => w (ix2 d n)) * x (ix2 a 0) + dot (fun d => v (ix2 a d)) (fun d => z (ix2 d n)) * y (ix2 a 0) := by
  pointwise [k0_pay11]
  exact (rfl)

/-- The products as they are kept. -/
theorem pay12_apply (x y : FVec Ideal S1024x1 .f32) (u v : Vec Ideal S1024x2048 .bf16) (w z : Vec Ideal S2048x256 .bf16) (a : Fin 1024) (n : Fin 256) :
    k0_pay12 x y u w v z (ix3 0 a n) = k0_pay11 x y u w v z (ix2 a n) := by
  unfold k0_pay12
  generalize k0_pay11 x y u w v z = p
  pointwise
  try exact (rfl)

/-- A row's sum of squares, with two pieces of products added. -/
theorem sums_apply (x y : FVec Ideal S1024x1 .f32) (s : Vec Ideal S1024x1 .f32) (u v : Vec Ideal S1024x2048 .bf16) (w w' z z' : Vec Ideal S2048x256 .bf16) (a : Fin 1024) :
    sums x y s u v w w' z z' (ix2 a 0) = s (ix2 a 0) + (∑ n : Fin 256, k0_pay11 x y u w v z (ix2 a n) * k0_pay11 x y u w v z (ix2 a n))
      + ∑ n : Fin 256, k0_pay11 x y u w' v z' (ix2 a n) * k0_pay11 x y u w' v z' (ix2 a n) := by
  unfold sums k0_pay6 k0_pay39
  rw [show k0_pay35 y (half x u w) v z = k0_pay11 x y u w v z from rfl, show k0_pay37 x y u w' v z' = k0_pay11 x y u w' v z' from rfl]
  generalize k0_pay11 x y u w v z = p
  generalize k0_pay11 x y u w' v z' = q
  pointwise
  try exact (rfl)

/-- A row's factor. -/
theorem pay1_apply (s : Vec Ideal S1024x1 .f32) (a : Fin 1024) :
    k0_pay1 s (ix2 a 0) = Ideal.rsqrt (s (ix2 a 0) * Ideal.ofBits .f32 0x39800000#32 + Ideal.ofBits .f32 0x358637BD#32) := by
  pointwise [k0_pay1]
  try exact (rfl)

/-- The sums of squares start at zero. -/
theorem pay2_apply (a : Fin 1024) : k0_pay2 (F := Ideal) (ix2 a 0) = (0 : EReal) := by
  refine Eq.trans ?_ Ideal.ofBits_zero_f32
  pointwise [k0_pay2]
  try exact (rfl)

/-- A finished element, -/
theorem pay7_apply (x : Vec Ideal S1024x512 .f32) (g : Vec Ideal S1x1024x512 .f32) (v : Vec Ideal S1024x1 .f32) (n : Vec Ideal S1x512 .f32) (a : Fin 1024) (q : Fin 512) :
    k0_pay7 x g v n (ix2 a q) = x (ix2 a q) + g (ix3 0 a q) * v (ix2 a 0) * n (ix2 0 q) := by
  pointwise [k0_pay7]
  try exact (rfl)

/-- and the same in the other format. -/
theorem pay8_apply (x : Vec Ideal S1024x512 .f32) (g : Vec Ideal S1x1024x512 .f32) (v : Vec Ideal S1024x1 .f32) (n : Vec Ideal S1x512 .f32) (a : Fin 1024) (q : Fin 512) :
    k0_pay8 x g v n (ix2 a q) = x (ix2 a q) + g (ix3 0 a q) * v (ix2 a 0) * n (ix2 0 q) :=
  (rfl : k0_pay8 x g v n (ix2 a q) = k0_pay7 x g v n (ix2 a q)).trans (pay7_apply x g v n a q)

end Cert.Opj
end
-- ==== Proof.Opj.Idx.lean ====
module
public import proofs.«01_k».proof.Proof.Gen.OutProjIdeal.Frame
public import Idealize.ShloMosaic.Lib.Pipeline.ValueKit

/-! Which block of each array a step works on, and at which steps finished blocks are written back. -/

@[expose] public section
set_option maxRecDepth 16384
noncomputable section
namespace Cert.Opj
open Cert.OutProjIdeal Cert.OutProjIdeal.Gen Idealize.ShloMosaic Idealize.ShloMosaic.TcCoe

/-- The coordinates of a step. -/
theorem coords_eq : ∀ t : Fin cfg0.N, (grid0.coords t 0).val = t.val / 8 ∧ (grid0.coords t 1).val = t.val % 8 :=
  (by decide +kernel : ∀ t : Fin grid0.N, _)

/-- The blocks of the operands and of the results at a step. -/
theorem idx : ∀ t : Fin cfg0.N, win0_0.index t = ![min (t.val / 8) 15, 0] ∧ win0_1.index t = ![min (t.val / 8) 15, 0]
    ∧ win0_2.index t = ![0, if t.val / 8 < 16 then t.val % 8 else 7] ∧ win0_3.index t = ![0, if t.val / 8 < 16 then t.val % 8 else 7]
    ∧ win0_4.index t = ![t.val / 8 - 1, if 0 < t.val / 8 then t.val % 8 else 0] ∧ win0_5.index t = ![0, if 0 < t.val / 8 then t.val % 8 else 0]
    ∧ win0_6.index t = ![t.val / 8 - 1, if 0 < t.val / 8 then t.val % 8 else 0] ∧ win0_7.index t = ![t.val / 8 - 1, if 0 < t.val / 8 then t.val % 8 else 0] :=
  (by decide +kernel : ∀ t : Fin grid0.N, _)

/-- A block of the first result is only written back once it is finished, -/
theorem flush_late : ∀ t : Fin cfg0.N, (cfg0.win 6).flush t = true → 0 < t.val / 8 :=
  (by decide +kernel : ∀ t : Fin grid0.N, ((win0 6).flush t = true → _))

/-- and one of the second. -/
theorem flush_late7 : ∀ t : Fin cfg0.N, (cfg0.win 7).flush t = true → 0 < t.val / 8 :=
  (by decide +kernel : ∀ t : Fin grid0.N, ((win0 7).flush t = true → _))

end Cert.Opj
end
-- ==== Proof.Opj.Step.lean ====
module
public import proofs.«01_k».proof.Proof.Opj.Pay
public import proofs.«01_k».proof.Proof.Opj.Idx

/-! What a step computes of the carried buffers, and that it keeps what is said of them. -/

@[expose] public section
set_option maxRecDepth 16384
noncomputable section
namespace Cert.Opj
open Cert.Carry Cert.OutProjIdeal Cert.OutProjIdeal.Gen Idealize.ShloMosaic Idealize.ShloMosaic.TcCoe Idealize.ShloMosaic.Tactic Idealize.SL.Sem
open Idealize.ShloMosaic.VecWindow (window put)

variable (U V : Vec Ideal S16384x2048 .bf16) (W Z : Vec Ideal S2048x4096 .bf16)

/-- The factor of one half of a row. -/
def GI (r : ℕ) : EReal := factor fun d => U (ix2 (Fin.ofNat 16384 r) d)

/-- The product of a row and a column: each half's, times its factor. -/
def MX (r k : ℕ) : EReal :=
  dot (fun d => U (ix2 (Fin.ofNat 16384 r) d)) (fun d => W (ix2 d (Fin.ofNat 4096 k))) * GI U r
    + dot (fun d => V (ix2 (Fin.ofNat 16384 r) d)) (fun d => Z (ix2 d (Fin.ofNat 4096 k))) * GI V r

/-- Before step `n`, past a row block's first: the kept factors are the row block's. -/
def Kept (n : ℕ) (y : Vec Ideal S2x1024x1 .f32) : Prop :=
  0 < n % 8 → n / 8 < 16 → ∀ a : Fin 1024, y (ix3 0 a 0) = GI U (1024 * (n / 8) + a) ∧ y (ix3 1 a 0) = GI V (1024 * (n / 8) + a)

variable {U V W Z}

/-- A step's blocks of the operands: the row block's rows, and the column block's columns of the weights. -/
structure Blocks (t : Fin cfg0.N) (u v : Vec Ideal S1024x2048 .bf16) (w z : Vec Ideal S2048x512 .bf16) : Prop where
  hu : t.val / 8 < 16 → ∀ (a : Fin 1024) (d : Fin 2048), u (ix2 a d) = U (ix2 (Fin.ofNat 16384 (1024 * (t.val / 8) + a)) d)
  hv : t.val / 8 < 16 → ∀ (a : Fin 1024) (d : Fin 2048), v (ix2 a d) = V (ix2 (Fin.ofNat 16384 (1024 * (t.val / 8) + a)) d)
  hw : t.val / 8 < 16 → ∀ (d : Fin 2048) (q : Fin 512), w (ix2 d q) = W (ix2 d (Fin.ofNat 4096 (512 * (t.val % 8) + q)))
  hz : t.val / 8 < 16 → ∀ (d : Fin 2048) (q : Fin 512), z (ix2 d q) = Z (ix2 d (Fin.ofNat 4096 (512 * (t.val % 8) + q)))

section
variable {t : Fin cfg0.N} {u v : Vec Ideal S1024x2048 .bf16} {w z : Vec Ideal S2048x512 .bf16} (hB : Blocks (U := U) (V := V) (W := W) (Z := Z) t u v w z)
  {y : Vec Ideal S2x1024x1 .f32} (hY : Kept U V t.val y) {g : Vec Ideal S8x1024x512 .f32} {s x : Vec Ideal S1024x1 .f32}
include hB

/-- A row block's factors, computed of its rows. -/
theorem own_lo (h : t.val / 8 < 16) (a : Fin 1024) : (factor fun d => u (ix2 a d)) = GI U (1024 * (t.val / 8) + a) := congrArg factor (funext fun d => hB.hu h a d)
theorem own_hi (h : t.val / 8 < 16) (a : Fin 1024) : (factor fun d => v (ix2 a d)) = GI V (1024 * (t.val / 8) + a) := congrArg factor (funext fun d => hB.hv h a d)

include hY

/-- The factors a step multiplies with are its rows', -/
theorem fLo_apply (h : t.val / 8 < 16) (a : Fin 1024) : fLo (grid0.coords t) u y (ix2 a 0) = GI U (1024 * (t.val / 8) + a) := by
  obtain ⟨-, e1⟩ := coords_eq t
  unfold fLo
  by_cases hz : t.val % 8 = 0
  · rw [if_pos (e1.trans hz), pay21_apply, own_lo hB h]
  · rw [if_neg (fun hc => hz (e1.symm.trans hc)), pay42_apply]
    refine Eq.trans (congrArg y (funext fun b => ?_)) (hY (Nat.pos_of_ne_zero hz) h a).1
    match b with
    | ⟨0, _⟩ => rfl
    | ⟨1, _⟩ => exact Fin.ext (show 0 + 1 * a.val = a.val by omega)
    | ⟨2, _⟩ => rfl

/-- in both halves. -/
theorem fHi_apply (h : t.val / 8 < 16) (a : Fin 1024) : fHi (grid0.coords t) v y (ix2 a 0) = GI V (1024 * (t.val / 8) + a) := by
  obtain ⟨-, e1⟩ := coords_eq t
  unfold fHi
  by_cases hz : t.val % 8 = 0
  · rw [if_pos (e1.trans hz), pay21_apply, own_hi hB h]
  · rw [if_neg (fun hc => hz (e1.symm.trans hc)), pay42_apply]
    refine Eq.trans (congrArg y (funext fun b => ?_)) (hY (Nat.pos_of_ne_zero hz) h a).2
    match b with
    | ⟨0, _⟩ => rfl
    | ⟨1, _⟩ => exact Fin.ext (show 0 + 1 * a.val = a.val by omega)
    | ⟨2, _⟩ => rfl

/-- An element of the products of a step's columns from `o` on. -/
theorem piece_apply (h : t.val / 8 < 16) {o : ℕ} (ho : o + 256 ≤ 512) (inb : ∀ b, (![0, o] : Fin 2 → ℕ) b + (![2048, 256] : Fin 2 → ℕ) b ≤ (⟨2, ![2048, 512]⟩ : Shape).size b) (a : Fin 1024) (q : Fin 256) :
    k0_pay11 (fLo (grid0.coords t) u y) (fHi (grid0.coords t) v y) u (window w ![0, o] ![2048, 256] inb) v (window z ![0, o] ![2048, 256] inb) (ix2 a q)
      = MX U V W Z (1024 * (t.val / 8) + a) (512 * (t.val % 8) + (o + q)) := by
  rw [pay11_apply, fLo_apply hB hY h, fHi_apply hB hY h]
  unfold MX
  refine congrArg₂ (fun c d : EReal => c * GI U _ + d * GI V _) (congrArg₂ dot (funext fun d => hB.hu h a d) (funext fun d => ?_)) (congrArg₂ dot (funext fun d => hB.hv h a d) (funext fun d => ?_))
  · exact (window_apply w ho inb d q).trans (hB.hw h d _)
  · exact (window_apply z ho inb d q).trans (hB.hz h d _)

/-- An element of the products of a step's first columns, -/
theorem lo_apply (h : t.val / 8 < 16) (a : Fin 1024) (q : Fin 256) :
    k0_pay11 (fLo (grid0.coords t) u y) (fHi (grid0.coords t) v y) u (wlo w) v (wlo z) (ix2 a q) = MX U V W Z (1024 * (t.val / 8) + a) (512 * (t.val % 8) + q) := by
  have e := piece_apply hB hY h (o := 0) (by omega) inb_S2048x512_S2048x256_0_0 a q
  rw [Nat.zero_add] at e
  exact e

/-- and of its others. -/
theorem hi_apply (h : t.val / 8 < 16) (a : Fin 1024) (q : Fin 256) :
    k0_pay11 (fLo (grid0.coords t) u y) (fHi (grid0.coords t) v y) u (whi w) v (whi z) (ix2 a q) = MX U V W Z (1024 * (t.val / 8) + a) (512 * (t.val % 8) + (256 + q)) :=
  piece_apply hB hY h (o := 256) (by omega) _ a q

/-- The products kept after a step: in its own slot its own, in the others what was there. -/
theorem gAfter_apply (h : t.val / 8 < 16) (k : Fin 8) (a : Fin 1024) (q : Fin 512) :
    gAfter (grid0.coords t) u v w z g y (ix3 k a q) = if k.val = t.val % 8 then MX U V W Z (1024 * (t.val / 8) + a) (512 * k + q) else g (ix3 k a q) := by
  obtain ⟨e0, e1⟩ := coords_eq t
  unfold gAfter
  rw [if_pos (e0 ▸ h), e1]
  exact put_both g (t.val % 8) (1024 * (t.val / 8) + a) a _ _ (fun q => (pay12_apply _ _ _ _ _ _ a q).trans (lo_apply hB hY h a q))
    (fun q => (pay12_apply _ _ _ _ _ _ a q).trans (hi_apply hB hY h a q)) k q

/-- The sums of squares after a step. -/
theorem sAfter_apply (hI : Inv (MX U V W Z) t.val g s x) (h : t.val / 8 < 16) (a : Fin 1024) :
    sAfter (grid0.coords t) u v w z s y (ix2 a 0) = SQ (MX U V W Z) (1024 * (t.val / 8) + a) (512 * (t.val % 8) + 512) := by
  obtain ⟨e0, e1⟩ := coords_eq t
  unfold sAfter
  rw [if_pos (e0 ▸ h), sums_apply, ← SQ_add]
  refine congrArg₂ (fun a b : EReal => a + b) (congrArg₂ (fun a b : EReal => a + b) ?_ (Finset.sum_congr rfl fun q _ => ?_)) (Finset.sum_congr rfl fun q _ => ?_)
  · unfold sMid
    by_cases hz : t.val % 8 = 0
    · rw [if_pos (e1.trans hz), pay2_apply, hz]
      rfl
    · rw [if_neg (fun hc => hz (e1.symm.trans hc))]
      exact hI.2.2.1 (Nat.pos_of_ne_zero hz) h a
  · rw [lo_apply hB hY h]
  · rw [hi_apply hB hY h]

end

/-- One half's factors put over what a buffer held. -/
theorem put_half (y : Vec Ideal S2x1024x1 .f32) (j : ℕ) (w : Vec Ideal S1x1024x1 .f32) (k : Fin 2) (a : Fin 1024) :
    put y ![j, 0, 0] S1x1024x1.size w (ix3 k a 0) = if k.val = j then w (ix3 0 a 0) else y (ix3 k a 0) := by
  have ha := a.isLt
  unfold put
  by_cases h : k.val = j
  · have hm : ∀ b, (![j, 0, 0] : Fin 3 → ℕ) b ≤ ((ix3 k a 0 : S2x1024x1.Idx) b).val ∧ ((ix3 k a 0 : S2x1024x1.Idx) b).val < (![j, 0, 0] : Fin 3 → ℕ) b + S1x1024x1.size b := by
      intro b
      match b with
      | ⟨0, _⟩ => exact show j ≤ k.val ∧ k.val < j + 1 by omega
      | ⟨1, _⟩ => exact show 0 ≤ a.val ∧ a.val < 0 + 1024 by omega
      | ⟨2, _⟩ => exact show 0 ≤ 0 ∧ 0 < 0 + 1 by omega
    rw [if_pos h, dif_pos hm]
    refine congrArg w (funext fun b => ?_)
    match b with
    | ⟨0, _⟩ => exact Fin.ext (show k.val - j = 0 by omega)
    | ⟨1, _⟩ => exact Fin.ext (show a.val - 0 = a.val by omega)
    | ⟨2, _⟩ => rfl
  · rw [if_neg h, dif_neg]
    intro hm
    have h0 : j ≤ k.val ∧ k.val < j + 1 := hm 0
    exact h (by omega)

/-- A step keeps what is said of the factors. -/
theorem kept_succ {t : Fin cfg0.N} {u v : Vec Ideal S1024x2048 .bf16} {w z : Vec Ideal S2048x512 .bf16} (hB : Blocks (U := U) (V := V) (W := W) (Z := Z) t u v w z)
    {y : Vec Ideal S2x1024x1 .f32} (hY : Kept U V t.val y) : Kept U V (t.val + 1) (yAfter (grid0.coords t) u v y) := by
  intro hj hl a
  obtain ⟨e0, e1⟩ := coords_eq t
  have hd : (t.val + 1) / 8 = t.val / 8 := by omega
  rw [hd] at hl ⊢
  unfold yAfter
  by_cases hz : t.val % 8 = 0
  · rw [if_pos ⟨e1.trans hz, e0 ▸ hl⟩, put_half, put_half, put_half]
    exact ⟨(pay22_apply u 0 0 a).trans (own_lo hB hl a), (pay22_apply v 0 0 a).trans (own_hi hB hl a)⟩
  · rw [if_neg (fun hc => hz (e1.symm.trans hc.1))]
    exact hY (Nat.pos_of_ne_zero hz) hl a

/-- The rows' factors after a step. -/
theorem vAfter_apply {f : ℕ → ℕ → EReal} {t : Fin cfg0.N} {g : Vec Ideal S8x1024x512 .f32} {s v : Vec Ideal S1024x1 .f32} (hI : Inv f t.val g s v) (h : 0 < t.val / 8) (a : Fin 1024) :
    vAfter (grid0.coords t) s v (ix2 a 0) = FA f (1024 * (t.val / 8 - 1) + a) := by
  have hN : t.val < 136 := lt_of_lt_of_eq t.isLt N_0
  obtain ⟨e0, e1⟩ := coords_eq t
  unfold vAfter
  by_cases hz : t.val % 8 = 0
  · rw [if_pos ⟨e1.trans hz, e0 ▸ h⟩, pay1_apply, hI.2.2.2.1 hz h (by omega) a]
    rfl
  · rw [if_neg (fun hc => hz (e1.symm.trans hc.1))]
    exact hI.2.2.2.2 (Nat.pos_of_ne_zero hz) h a

/-- A step keeps what the carried buffers hold. -/
theorem step_inv {t : Fin cfg0.N} {u v : Vec Ideal S1024x2048 .bf16} {w z : Vec Ideal S2048x512 .bf16} (hB : Blocks (U := U) (V := V) (W := W) (Z := Z) t u v w z)
    {y : Vec Ideal S2x1024x1 .f32} (hY : Kept U V t.val y) {g : Vec Ideal S8x1024x512 .f32} {s x : Vec Ideal S1024x1 .f32} (hI : Inv (MX U V W Z) t.val g s x) :
    Inv (MX U V W Z) (t.val + 1) (gAfter (grid0.coords t) u v w z g y) (sAfter (grid0.coords t) u v w z s y) (vAfter (grid0.coords t) s x) :=
  inv_succ (lt_of_lt_of_eq t.isLt N_0) hI (fun h => gAfter_apply hB hY h) (fun h => if_neg ((coords_eq t).1 ▸ h)) (fun h => sAfter_apply hB hY hI h) (fun h => vAfter_apply hI h)

/-- A step's finished tile, of the row block before: each row's products times its factor and its column's weight, over the stream, -/
theorem oAfter_apply {f : ℕ → ℕ → EReal} {t : Fin cfg0.N} {g : Vec Ideal S8x1024x512 .f32} {s v : Vec Ideal S1024x1 .f32} (hI : Inv f t.val g s v) (h : 0 < t.val / 8)
    (x : Vec Ideal S1024x512 .f32) (n : Vec Ideal S1x512 .f32) (o : Vec Ideal S1024x512 .f32) (a : Fin 1024) (q : Fin 512) :
    oAfter (grid0.coords t) x n o g s v (ix2 a q)
      = x (ix2 a q) + f (1024 * (t.val / 8 - 1) + a) (512 * (t.val % 8) + q) * FA f (1024 * (t.val / 8 - 1) + a) * n (ix2 0 q) := by
  have hN : t.val < 136 := lt_of_lt_of_eq t.isLt N_0
  obtain ⟨e0, e1⟩ := coords_eq t
  unfold oAfter
  rw [if_pos (e0 ▸ h), pay7_apply, vAfter_apply hI h]
  have hs : slot g (grid0.coords t 1) (ix3 0 a q) = f (1024 * (t.val / 8 - 1) + a) (512 * (t.val % 8) + q) := by
    refine (hI.2.1 (grid0.coords t 1) a q (le_of_eq e1.symm) h (by omega)).trans ?_
    rw [e1]
  rw [hs]

/-- and the second result's, which holds the same numbers. -/
theorem bAfter_apply {t : Fin cfg0.N} {g : Vec Ideal S8x1024x512 .f32} {s v : Vec Ideal S1024x1 .f32} (h : 0 < t.val / 8)
    (x : Vec Ideal S1024x512 .f32) (n : Vec Ideal S1x512 .f32) (o : Vec Ideal S1024x512 .f32) (o' : Vec Ideal S1024x512 .bf16) (a : Fin 1024) (q : Fin 512) :
    bAfter (grid0.coords t) x n o' g s v (ix2 a q) = (oAfter (grid0.coords t) x n o g s v (ix2 a q) : EReal) := by
  have h' : 0 < (grid0.coords t 0).val := (coords_eq t).1 ▸ h
  unfold bAfter oAfter
  rw [if_pos h', if_pos h', pay8_apply, pay7_apply]

end Cert.Opj
end
-- ==== Proof.Opj.Tiles.lean ====
module
public import proofs.«01_k».proof.Proof.Opj.Step
public import Idealize.ShloMosaic.Lib.Pipeline.DatRel

/-! The operands' blocks at a step as parts of the arrays, and what the results' buffers hold after it. -/

@[expose] public section
set_option maxRecDepth 16384
noncomputable section
namespace Cert.Opj
open Cert.Carry Cert.OutProjIdeal Cert.OutProjIdeal.Gen Idealize.ShloMosaic Idealize.ShloMosaic.TcCoe Idealize.ShloMosaic.Tactic Idealize.SL.Sem

variable (m : (ℓ : Loc nD τ sig) → Buf (Elt Ideal) ℓ) (c : Dev nD)

/-- The first halves of the rows, as the program's grid finds them. -/
abbrev UB : Vec Ideal S16384x2048 .bf16 := V m c main_arg0
/-- The second halves. -/
abbrev VB : Vec Ideal S16384x2048 .bf16 := V m c main_arg1
/-- The first half's weights. -/
abbrev WU : Vec Ideal S2048x4096 .bf16 := V m c main_v4
/-- The second half's. -/
abbrev WV : Vec Ideal S2048x4096 .bf16 := V m c main_v9
/-- The stream. -/
abbrev XS : Vec Ideal S16384x4096 .f32 := V m c main_arg5
/-- The normalisation's weights. -/
abbrev NW : Vec Ideal S1x4096 .f32 := V m c main_v10

/-- A step's blocks of the factors. -/
theorem blocks (t : Fin cfg0.N) : Blocks (U := UB m c) (V := VB m c) (W := WU m c) (Z := WV m c) t (iblk m c 0 t) (iblk m c 1 t) (iblk m c 2 t) (iblk m c 3 t) where
  hu h a d := by
    have hi := (idx t).1
    refine congrArg (V m c main_arg0) (funext fun b => ?_)
    have ha := a.isLt
    match b with
    | ⟨0, _⟩ => exact Fin.ext (show win0_0.index t (0 : Fin 2) * 1024 + 1 * a.val = (1024 * (t.val / 8) + a) % 16384 by
        rw [hi]; show min (t.val / 8) 15 * 1024 + 1 * a.val = _; omega)
    | ⟨1, _⟩ => exact Fin.ext (show win0_0.index t (1 : Fin 2) * 2048 + 1 * d.val = d.val by rw [hi]; show 0 * 2048 + 1 * d.val = _; omega)
  hv h a d := by
    have hi := (idx t).2.1
    refine congrArg (V m c main_arg1) (funext fun b => ?_)
    have ha := a.isLt
    match b with
    | ⟨0, _⟩ => exact Fin.ext (show win0_1.index t (0 : Fin 2) * 1024 + 1 * a.val = (1024 * (t.val / 8) + a) % 16384 by
        rw [hi]; show min (t.val / 8) 15 * 1024 + 1 * a.val = _; omega)
    | ⟨1, _⟩ => exact Fin.ext (show win0_1.index t (1 : Fin 2) * 2048 + 1 * d.val = d.val by rw [hi]; show 0 * 2048 + 1 * d.val = _; omega)
  hw h d q := by
    have hi := (idx t).2.2.1
    refine congrArg (V m c main_v4) (funext fun b => ?_)
    have hq := q.isLt
    match b with
    | ⟨0, _⟩ => exact Fin.ext (show win0_2.index t (0 : Fin 2) * 2048 + 1 * d.val = d.val by rw [hi]; show 0 * 2048 + 1 * d.val = _; omega)
    | ⟨1, _⟩ => exact Fin.ext (show win0_2.index t (1 : Fin 2) * 512 + 1 * q.val = (512 * (t.val % 8) + q) % 4096 by
        rw [hi, if_pos h]; show t.val % 8 * 512 + 1 * q.val = _; omega)
  hz h d q := by
    have hi := (idx t).2.2.2.1
    refine congrArg (V m c main_v9) (funext fun b => ?_)
    have hq := q.isLt
    match b with
    | ⟨0, _⟩ => exact Fin.ext (show win0_3.index t (0 : Fin 2) * 2048 + 1 * d.val = d.val by rw [hi]; show 0 * 2048 + 1 * d.val = _; omega)
    | ⟨1, _⟩ => exact Fin.ext (show win0_3.index t (1 : Fin 2) * 512 + 1 * q.val = (512 * (t.val % 8) + q) % 4096 by
        rw [hi, if_pos h]; show t.val % 8 * 512 + 1 * q.val = _; omega)

/-- An element of the stream's tile at a step, -/
theorem block4 (t : Fin cfg0.N) (h : 0 < t.val / 8) (a : Fin 1024) (q : Fin 512) :
    iblk m c 4 t (ix2 a q) = XS m c (ix2 (Fin.ofNat 16384 (1024 * (t.val / 8 - 1) + a)) (Fin.ofNat 4096 (512 * (t.val % 8) + q))) := by
  have hN : t.val < 136 := lt_of_lt_of_eq t.isLt N_0
  have hi := (idx t).2.2.2.2.1
  refine congrArg (V m c main_arg5) (funext fun b => ?_)
  have ha := a.isLt
  have hq := q.isLt
  match b with
  | ⟨0, _⟩ => exact Fin.ext (show win0_4.index t (0 : Fin 2) * 1024 + 1 * a.val = (1024 * (t.val / 8 - 1) + a) % 16384 by
      rw [hi]; show (t.val / 8 - 1) * 1024 + 1 * a.val = _; omega)
  | ⟨1, _⟩ => exact Fin.ext (show win0_4.index t (1 : Fin 2) * 512 + 1 * q.val = (512 * (t.val % 8) + q) % 4096 by
      rw [hi, if_pos h]; show t.val % 8 * 512 + 1 * q.val = _; omega)

/-- and of the normalisation's weights. -/
theorem block5 (t : Fin cfg0.N) (h : 0 < t.val / 8) (q : Fin 512) :
    iblk m c 5 t (ix2 0 q) = NW m c (ix2 0 (Fin.ofNat 4096 (512 * (t.val % 8) + q))) := by
  have hi := (idx t).2.2.2.2.2.1
  refine congrArg (V m c main_v10) (funext fun b => ?_)
  have hq := q.isLt
  match b with
  | ⟨0, _⟩ => exact Fin.ext (show win0_5.index t (0 : Fin 2) * 1 + 1 * 0 = 0 by rw [hi]; rfl)
  | ⟨1, _⟩ => exact Fin.ext (show win0_5.index t (1 : Fin 2) * 512 + 1 * q.val = (512 * (t.val % 8) + q) % 4096 by
      rw [hi, if_pos h]; show t.val % 8 * 512 + 1 * q.val = _; omega)

/-- An element of the results: the stream's, and the product times its row's factor and its column's weight. -/
def OUT (r k : ℕ) : EReal :=
  XS m c (ix2 (Fin.ofNat 16384 r) (Fin.ofNat 4096 k))
    + MX (UB m c) (VB m c) (WU m c) (WV m c) r k * FA (MX (UB m c) (VB m c) (WU m c) (WV m c)) r * NW m c (ix2 0 (Fin.ofNat 4096 k))

/-- A tile of the results at a step: the row block before's. -/
def Tile (t : Fin cfg0.N) (Y : S1024x512.Idx → EReal) : Prop :=
  0 < t.val / 8 → ∀ (a : Fin 1024) (q : Fin 512), Y (ix2 a q) = OUT m c (1024 * (t.val / 8 - 1) + a) (512 * (t.val % 8) + q)

/-- What is asked of the results' buffers after a step: past the first row block, the finished tile of the row block before. -/
def Rl (w : Fin cfg0.W) (t : Fin cfg0.N) : ((cfg0.win w).block.Idx → Elt Ideal (cfg0.win w).elt) → Prop :=
  match w with
  | ⟨6, _⟩ => fun Y : S1024x512.Idx → EReal => Tile m c t Y
  | ⟨7, _⟩ => fun Y : S1024x512.Idx → EReal => Tile m c t Y
  | _ => fun _ => True

/-- The results' buffers, of which only that is asked. -/
def fgt (w : Fin cfg0.W) : Bool := match w with
  | ⟨6, _⟩ => true
  | ⟨7, _⟩ => true
  | _ => false

variable {m c}

/-- A step's first result is as asked, -/
theorem rel6 {t : Fin cfg0.N} {g : Vec Ideal S8x1024x512 .f32} {s v : Vec Ideal S1024x1 .f32} (hI : Inv (MX (UB m c) (VB m c) (WU m c) (WV m c)) t.val g s v) (o : Vec Ideal S1024x512 .f32) :
    Rl m c 6 t (oAfter (grid0.coords t) (iblk m c 4 t) (iblk m c 5 t) o g s v) := by
  intro h a q
  refine (oAfter_apply hI h (iblk m c 4 t) (iblk m c 5 t) o a q).trans ?_
  rw [block4 m c t h, block5 m c t h]
  rfl

/-- and its second. -/
theorem rel7 {t : Fin cfg0.N} {g : Vec Ideal S8x1024x512 .f32} {s v : Vec Ideal S1024x1 .f32} (hI : Inv (MX (UB m c) (VB m c) (WU m c) (WV m c)) t.val g s v) (o : Vec Ideal S1024x512 .bf16) :
    Rl m c 7 t (bAfter (grid0.coords t) (iblk m c 4 t) (iblk m c 5 t) o g s v) :=
  fun h a q => (bAfter_apply h (iblk m c 4 t) (iblk m c 5 t) (fun _ => (0 : EReal)) o a q).trans (rel6 hI (fun _ => (0 : EReal)) h a q)

end Cert.Opj
end
-- ==== Proof.Opj.Body.lean ====
module
public import proofs.«01_k».proof.Proof.Opj.Tiles
public import Idealize.ShloMosaic.Lib.Pipeline.FrameBody

/-! The grid's steps one after another: the carried buffers keep what is said of them, and the results' buffers hold their tiles. -/

@[expose] public section
set_option maxRecDepth 16384
noncomputable section
namespace Cert.Opj
open Cert.Carry Cert.OutProjIdeal Cert.OutProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

local notation "𝕄" => MT nD τ sig Unit (Elt Ideal) ℕ (UR sig nD τ) ℕ

variable (m : (ℓ : Loc nD τ sig) → Buf (Elt Ideal) ℓ) (ρ : Dev nD → PrngReg)

/-- The buffer of the products kept. -/
abbrev gM : Memref sig .tc .vmem S8x1024x512 .f32 := Memref.whole cc0_scratch0
/-- The buffer of the sums of squares. -/
abbrev sM : Memref sig .tc .vmem S1024x1 .f32 := Memref.whole cc0_scratch1
/-- The buffer of the rows' factors. -/
abbrev vM : Memref sig .tc .vmem S1024x1 .f32 := Memref.whole cc0_scratch2
/-- The buffer of the two halves' factors. -/
abbrev yM : Memref sig .tc .vmem S2x1024x1 .f32 := Memref.whole cc0_scratch3

/-- Before a step: the carried buffers at contents of which `Inv` and `Kept` hold, and the generator's register. -/
def carried (c : Dev nD) (n : ℕ) : sProp 𝕄 :=
  iprop(∃ g, ∃ s, ∃ v, ∃ y, ⌜Inv (MX (UB m c) (VB m c) (WU m c) (WV m c)) n g s v⌝ ∗ ⌜Kept (UB m c) (VB m c) n y⌝ ∗ owns (c : Thread nD τ) gM fullShare g ∗ owns (c : Thread nD τ) sM fullShare s ∗ owns (c : Thread nD τ) vM fullShare v ∗ owns (c : Thread nD τ) yM fullShare y ∗ (∃ r, prngReg c r))

/-- The grid's arrays, what the operands' buffers hold at each step, and what is carried. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.choice inferInstance
    | ⟨7, _⟩ => fun _ => Classical.choice inferInstance
  Φ t := carried m c t.val
  q _ := fullShare
  owed _ := 0

theorem dat_A (c : Dev nD) (w : Fin cfg0.W) : (dat m c).A w = V m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = iblk m c 5 t := by dsimp only [dat]
theorem before0 (c : Dev nD) (t : Fin cfg0.N) (d) : (dat m c).before 0 t d = iblk m c 0 t := before0_0_of m (dat m c) (dat_A m c 0) (after0 m c) t d
theorem before1 (c : Dev nD) (t : Fin cfg0.N) (d) : (dat m c).before 1 t d = iblk m c 1 t := before0_1_of m (dat m c) (dat_A m c 1) (after1 m c) t d
theorem before2 (c : Dev nD) (t : Fin cfg0.N) (d) : (dat m c).before 2 t d = iblk m c 2 t := before0_2_of m (dat m c) (dat_A m c 2) (after2 m c) t d
theorem before3 (c : Dev nD) (t : Fin cfg0.N) (d) : (dat m c).before 3 t d = iblk m c 3 t := before0_3_of m (dat m c) (dat_A m c 3) (after3 m c) t d
theorem before4 (c : Dev nD) (t : Fin cfg0.N) (d) : (dat m c).before 4 t d = iblk m c 4 t := before0_4_of m (dat m c) (dat_A m c 4) (after4 m c) t d
theorem before5 (c : Dev nD) (t : Fin cfg0.N) (d) : (dat m c).before 5 t d = iblk m c 5 t := before0_5_of m (dat m c) (dat_A m c 5) (after5 m c) t d

/-- What the results' buffers may be found to hold before a step. -/
abbrev Found (c : Dev nD) (w : Fin cfg0.W) (t : Fin cfg0.N) (Y : (cfg0.win w).block.Idx → Elt Ideal (cfg0.win w).elt) : Prop :=
  ((dat m c).toRRel fgt (Rl m c)).Finds w t Y

/-- What a step is called with, buffer by buffer, -/
def stepPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ Y, ⌜Found m c 6 t Y⌝ ∗ owns (c : Thread nD τ) (st0_6 t) fullShare Y)
    ∗ (∃ Y, ⌜Found m c 7 t Y⌝ ∗ owns (c : Thread nD τ) (st0_7 t) fullShare Y))

/-- and what it returns. -/
def stepPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X))

set_option maxHeartbeats 1600000 in
/-- One step. -/
theorem step_body (c : Dev nD) (t : Fin cfg0.N) :
    stepPre m c t ⊢ wp frame (wpE (defs₀ (F := Ideal)) Variants.none c none) Set.univ (bodyAt0 t) (fun _ => stepPost m c t) := by
  unfold stepPre stepPost bodyAt0
  simp only [before0, before1, before2, before3, before4, before5]
  rw [show (dat m c).owesAt () t.succ = (dat m c).owesAt () t.castSucc from rfl, after0, after1, after2, after3, after4, after5,
    show (dat m c).Φ t.castSucc = carried m c t.val from rfl, show (dat m c).Φ t.succ = carried m c (t.val + 1) from rfl]
  unfold carried
  iintro ⟨⟨%g, %s, %v, %y, %hI, %hY, HA, HB, HC, HD, Hg⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩⟩
  iapply (body_run (F := Ideal) c (grid0.coords t) _ _ _ _ _ _ _ _ _ _ _ _ _ _ _ _ _ _ _ _ _ _ _ _ (iblk m c 0 t) (iblk m c 1 t) (iblk m c 2 t) (iblk m c 3 t) (iblk m c 4 t) (iblk m c 5 t) Y6 Y7 g s v y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  isplitl [HB]; · iexact HB
  isplitl [HC]; · iexact HC
  isplitl [HD]; · iexact HD
  iintro ⟨H0, H1, H2, H3, H4, H5, H6, H7, HA, HB, HC, HD⟩
  isplitl [HA HB HC HD Hg]
  · iexists _, _, _, _
    isplitr
    · ipureintro; exact step_inv (blocks m c t) hY hI
    isplitr
    · ipureintro; exact kept_succ (blocks m c t) hY
    isplitl [HA]; · iexact HA
    isplitl [HB]; · iexact HB
    isplitl [HC]; · iexact HC
    isplitl [HD]; · iexact HD
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _
    isplitr
    swap; · iexact H6
    ipureintro; exact rel6 hI Y6
  iexists _
  isplitr
  swap; · iexact H7
  ipureintro; exact rel7 hI Y7

/-- The body the grid calls at a step. -/
theorem defs_row (t : Fin cfg0.N) : defs₀ (F := Ideal) .tc cfg0.body (cfg0.bodyArgs t (cfg0.slots t)) = bodyAt0 t := by
  unfold defs₀; rw [Defs.onTc_tc]

/-- Every step, as the grid calls it. -/
theorem steps_ok (c : Dev nD) : Pipeline.BodyObligationRel (dat m c) (defs₀ (F := Ideal)) Variants.none () Set.univ fgt (Rl m c) := fun t => by
  rw [bigSep_W0, bigSep_W0, defs_row]
  exact triple_restated (step_body m c t) rfl .rfl fun _ => .rfl

end Cert.Opj
end
-- ==== Proof.Opj.Launch.lean ====
module
public import proofs.«01_k».proof.Proof.Opj.Body
public import Idealize.ShloMosaic.Lib.Pipeline.ArrRel
public import Idealize.ShloMosaic.Lib.Claim

/-! The whole grid run, and what the results' arrays hold after it. -/

@[expose] public section
set_option maxRecDepth 16384
noncomputable section
namespace Cert.Opj
open Cert.Carry Cert.OutProjIdeal Cert.OutProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

local notation "𝕄" => MT nD τ sig Unit (Elt Ideal) ℕ (UR sig nD τ) ℕ

variable (m : (ℓ : Loc nD τ sig) → Buf (Elt Ideal) ℓ) (ρ : Dev nD → PrngReg)

/-- The program's own buffers outside the grid's, and the generator's register. -/
theorem rest_eq (c : Dev nD) : (Pipeline.ΦA spec0 c : sProp 𝕄)
    = iprop(iprop((∃ d, owns (c : Thread nD τ) gM fullShare d) ∗ (∃ d, owns (c : Thread nD τ) sM fullShare d) ∗ (∃ d, owns (c : Thread nD τ) vM fullShare d) ∗ (∃ d, owns (c : Thread nD τ) yM fullShare d)) ∗ (∃ r, prngReg c r)) := by
  unfold Pipeline.ΦA; rw [scopedRest0_eq]; simp only [gM, sM, vM, yM, owns_whole]; try rfl

/-- Before the first step nothing is asked of the carried buffers. -/
theorem enter (c : Dev nD) : (Pipeline.ΦA spec0 c : sProp 𝕄) ⊢ carried m c 0 := by
  rw [rest_eq]
  unfold carried
  iintro ⟨⟨⟨%g, HA⟩, ⟨%s, HB⟩, ⟨%v, HC⟩, ⟨%y, HD⟩⟩, Hg⟩
  iexists g, s, v, y
  isplitr
  · ipureintro; exact inv_zero g s v
  isplitr
  · ipureintro; exact fun h => absurd h (by decide)
  isplitl [HA]; · iexact HA
  isplitl [HB]; · iexact HB
  isplitl [HC]; · iexact HC
  isplitl [HD]; · iexact HD
  iexact Hg

/-- After the last step nothing is said of them any more. -/
theorem leave (c : Dev nD) (n : ℕ) : carried m c n ⊢ (Pipeline.ΦA spec0 c : sProp 𝕄) := by
  rw [rest_eq]
  unfold carried
  iintro ⟨%g, %s, %v, %y, -, -, HA, HB, HC, HD, Hg⟩
  isplitl [HA HB HC HD]
  · isplitl [HA]
    · iexists g; iexact HA
    isplitl [HB]
    · iexists s; iexact HB
    isplitl [HC]
    · iexists v; iexact HC
    iexists y; iexact HD
  iexact Hg

/-- The grid's data. -/
abbrev rdat (c : Dev nD) := (dat m c).toRRel fgt (Rl m c)

set_option backward.isDefEq.respectTransparency.types false in
/-- The program runs, its arrays as the grid's data say, with every counter at zero at the end. -/
theorem run : θ_run defs (onTc (τ := τ) (main (F := Ideal))) (s₀ m ρ) (fun r => RDat.FramePost cfg0 (rdat m) (V m) r ∧ r.2.sem = fun _ => 0) :=
  Pipeline.RDat.θ_run_frame_track (Q' := _) cfgs (0 : Fin 1) launch0 defs₀ Variants.none (rdat m) m ρ main
    (hbody := fun c => (steps_ok m c).toRRel) (hshare := fun c => (dat m c).share_full fun _ => rfl)
    (howed := fun _ _ => rfl) (V := V m) (hmain := hmain m Variants.none) (hA := dat_A m)
    (hin := enter m) (hout := fun c => leave m c _)

variable {m}

/-- The argument arrays end as they were. -/
theorem args {r : PUnit × MemSt nD τ sig (Elt Ideal)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  obtain ⟨after, -, hG⟩ := RDat.FramePost.exists_exact h c
  exact ⟨(hG 0).trans ((Dat.arrAt_in _ 0 rfl _).trans ((dat_A m c 0).trans (V_main_arg0 m c))),
    (hG 1).trans ((Dat.arrAt_in _ 1 rfl _).trans ((dat_A m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (hG 4).trans ((Dat.arrAt_in _ 4 rfl _).trans ((dat_A m c 4).trans (V_main_arg5 m c))),
    ((h c).2 main_arg6 (Pipeline.mem_restRefs_of main_arg6 (by decide) (by decide))).trans (V_main_arg6 m c)⟩

/-- The program frames its arguments. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args h.1 c, h.2⟩) (run m ρ)

/-- The place of a tile's element in the results. -/
theorem place {c : Dev nD} (t : Fin cfg0.N) (h0 : 0 < t.val / 8) (a : Fin 1024) (n : Fin 512) {x : Fin 2 → ℕ} (hx : x = ![t.val / 8 - 1, if 0 < t.val / 8 then t.val % 8 else 0]) :
    OUT m c (1024 * (t.val / 8 - 1) + a) (512 * (t.val % 8) + n) = OUT m c (x 0 * 1024 + 1 * a.val) (x 1 * 512 + 1 * n.val) := by
  subst hx
  rw [if_pos h0]
  refine congrArg₂ (OUT m c) ?_ ?_
  · show _ = (t.val / 8 - 1) * 1024 + 1 * a.val
    omega
  · show _ = t.val % 8 * 512 + 1 * n.val
    omega

/-- The first result's array. -/
theorem array6 {r : PUnit × MemSt nD τ sig (Elt Ideal)} (h : RDat.FramePost cfg0 (rdat m) (V m) r) (c : Dev nD) :
    r.2.mem ((c.tc : Thread nD τ).loc main_v11_0) = (fun y => OUT m c (y 0).val (y 1).val : Vec Ideal S16384x4096 .f32) := by
  obtain ⟨after, hL, hG⟩ := RDat.FramePost.exists_exact h c
  refine (hG 6).trans (Dat.arrAt_eq_of_covers _ 6 _ (by decide +kernel) fun t hf y => ?_)
  have hT : Rl m c 6 t (after 6 t) := Dat.toRRel_leaves _ rfl (hL 6 t hf)
  have h0 := flush_late t hf
  obtain ⟨a, n, rfl⟩ : ∃ (a : Fin 1024) (n : Fin 512), y = ix2 a n := ⟨y 0, y 1, eq_ix2 y⟩
  exact (hT h0 a n).trans (place t h0 a n (idx t).2.2.2.2.2.2.1)

/-- The second result's array. -/
theorem array7 {r : PUnit × MemSt nD τ sig (Elt Ideal)} (h : RDat.FramePost cfg0 (rdat m) (V m) r) (c : Dev nD) :
    r.2.mem ((c.tc : Thread nD τ).loc main_v11_1) = (fun y => OUT m c (y 0).val (y 1).val : Vec Ideal S16384x4096 .bf16) := by
  obtain ⟨after, hL, hG⟩ := RDat.FramePost.exists_exact h c
  refine (hG 7).trans (Dat.arrAt_eq_of_covers _ 7 _ (by decide +kernel) fun t hf y => ?_)
  have hT : Rl m c 7 t (after 7 t) := Dat.toRRel_leaves _ rfl (hL 7 t hf)
  have h0 := flush_late7 t hf
  obtain ⟨a, n, rfl⟩ : ∃ (a : Fin 1024) (n : Fin 512), y = ix2 a n := ⟨y 0, y 1, eq_ix2 y⟩
  exact (hT h0 a n).trans (place t h0 a n (idx t).2.2.2.2.2.2.2)

end Cert.Opj
end
-- ==== Proof.Opj.Host.lean ====
module
public import proofs.«01_k».proof.Proof.Opj.Tiles
public import proofs.«01_k».proof.Proof.Ple.Host

/-! What the program's host prepares for the grid, and the results, in terms of the arguments. -/

@[expose] public section
set_option maxRecDepth 16384
noncomputable section
namespace Cert.Opj
open Cert.Carry Cert.OutProjIdeal Cert.OutProjIdeal.Gen Idealize.ShloMosaic Idealize.ShloMosaic.TcCoe Idealize.ShloMosaic.Tactic Idealize.SL.Sem

/-- The mean of a row's squares, the small constant added, is no negative number, -/
theorem mean_pos {n : ℕ} (f : Fin n → EReal) : 0 < Ideal.div (dot f f) (Ideal.ofBits .f32 0x45000000#32) + Ideal.ofBits .f32 0x358637BD#32 := by
  have h1 : Ideal.ofBits .f32 0x45000000#32 = ((2048 : ℝ) : EReal) := by
    simp [Ideal.ofBits, Ideal.ieee]
    rw [← EReal.coe_mul]
    norm_num
  have h2 : (0 : EReal) < Ideal.ofBits .f32 0x358637BD#32 := by
    simp [Ideal.ofBits, Ideal.ieee]
    rw [← EReal.coe_mul]
    norm_num
  have h3 : 0 ≤ dot f f := Finset.sum_nonneg fun d _ => by
    rcases le_total 0 (f d) with h | h
    · exact mul_nonneg h h
    · rw [← neg_mul_neg]
      exact mul_nonneg (EReal.neg_nonneg.mpr h) (EReal.neg_nonneg.mpr h)
  rw [h1, Ideal.div_coe (by norm_num)]
  exact lt_of_lt_of_le h2 (le_add_of_nonneg_left (mul_nonneg h3 (EReal.coe_nonneg.mpr (by norm_num))))

/-- so that a half's factor is neither negative -/
theorem factor_nonneg {n : ℕ} (f : Fin n → EReal) : 0 ≤ factor f ∧ factor f ≠ ⊤ := by
  have h := mean_pos f
  unfold factor
  generalize Ideal.div (dot f f) (Ideal.ofBits .f32 0x45000000#32) + Ideal.ofBits .f32 0x358637BD#32 = x at h ⊢
  induction x using EReal.rec with
  | bot => exact absurd h (by simp)
  | top => exact ⟨by simp, by simp⟩
  | coe r =>
    have hr : 0 < r := EReal.coe_pos.mp h
    rw [Ideal.rsqrt_coe, if_neg (not_lt.mpr hr.le), if_neg hr.ne']
    exact ⟨EReal.coe_nonneg.mpr (inv_nonneg.mpr (Real.sqrt_nonneg r)), EReal.coe_ne_top _⟩

/-- A factor neither negative nor infinite may be taken out of a sum. -/
theorem sum_out {ι : Type} (s : Finset ι) (c : EReal) (h : 0 ≤ c ∧ c ≠ ⊤) (f : ι → EReal) : ∑ d ∈ s, f d * c = (∑ d ∈ s, f d) * c := by
  classical
  induction s using Finset.induction_on with
  | empty => simp
  | insert a s ha e => rw [Finset.sum_insert ha, Finset.sum_insert ha, e, EReal.right_distrib_of_nonneg_of_ne_top h.1 h.2]

/-- Normalising a half before its product, or multiplying the product by the factor after, comes to the same. -/
theorem dot_scaled {n : ℕ} (u g w : Fin n → EReal) : (∑ d, u d * factor u * g d * w d) = dot u (fun d => g d * w d) * factor u := by
  unfold dot
  rw [← sum_out _ _ (factor_nonneg u)]
  exact Finset.sum_congr rfl fun d _ => by rw [mul_assoc (u d * factor u), mul_right_comm]

/-- The product of a normalised row and a column of the weights: over the first half, and over the second. -/
def mix (u v : Vec Ideal S16384x2048 .bf16) (g h : Vec Ideal S2048 .f32) (W : Vec Ideal S4096x4096 .f32) (r k : ℕ) : EReal :=
  (∑ d : Fin 2048, u (ix2 (Fin.ofNat 16384 r) d) * (factor fun d => u (ix2 (Fin.ofNat 16384 r) d)) * g (ix1 d) * W (ix2 (Fin.ofNat 4096 (0 + d)) (Fin.ofNat 4096 k)))
    + ∑ d : Fin 2048, v (ix2 (Fin.ofNat 16384 r) d) * (factor fun d => v (ix2 (Fin.ofNat 16384 r) d)) * h (ix1 d) * W (ix2 (Fin.ofNat 4096 (2048 + d)) (Fin.ofNat 4096 k))

/-- An element of the weights' rows from `o` on, times its row's weight of a half's normalisation. -/
def scaled (g : Vec Ideal S2048 .f32) (W : Vec Ideal S4096x4096 .f32) (o : ℕ) (d : Fin 2048) (k : ℕ) : EReal :=
  g (ix1 d) * W (ix2 (Fin.ofNat 4096 (o + d)) (Fin.ofNat 4096 k))

/-- The mean of a row's squares. -/
def mixsq (u v : Vec Ideal S16384x2048 .bf16) (g h : Vec Ideal S2048 .f32) (W : Vec Ideal S4096x4096 .f32) (r : ℕ) : EReal :=
  Ideal.div (∑ k : Fin 4096, mix u v g h W r k * mix u v g h W r k) (Ideal.ofBits .f32 0x45800000#32)

/-- The stream with the normalised product added. -/
def out (u v : Vec Ideal S16384x2048 .bf16) (g h : Vec Ideal S2048 .f32) (W : Vec Ideal S4096x4096 .f32) (x : Vec Ideal S16384x4096 .f32) (w : Vec Ideal S4096 .f32) (r k : ℕ) : EReal :=
  x (ix2 (Fin.ofNat 16384 r) (Fin.ofNat 4096 k))
    + mix u v g h W r k * Ideal.rsqrt (mixsq u v g h W r + Ideal.ofBits .f32 0x358637BD#32) * w (ix1 (Fin.ofNat 4096 k))

variable (m : (ℓ : Loc nD τ sig) → Buf (Elt Ideal) ℓ) (c : Dev nD)

/-- The weights' first rows, each times its weight of the first normalisation, -/
theorem WU_apply (d : Fin 2048) (k : ℕ) :
    WU m c (ix2 d (Fin.ofNat 4096 k)) = scaled (m ((c : Thread nD τ).loc main_arg2)) (m ((c : Thread nD τ).loc main_arg4)) 0 d k := by
  unfold WU
  entry_read
  refine congrArg₂ (fun a b : EReal => a * b) (congrArg (m ((c : Thread nD τ).loc main_arg2) : Vec Ideal S2048 .f32) (funext fun a => ?_)) (congrArg (m ((c : Thread nD τ).loc main_arg4) : Vec Ideal S4096x4096 .f32) (funext fun a => ?_))
  · match a with
    | ⟨0, _⟩ => exact Fin.ext rfl
  · have hd := d.isLt
    match a with
    | ⟨0, _⟩ => exact Fin.ext (show 0 + d.val = (0 + d.val) % 4096 by omega)
    | ⟨1, _⟩ => exact Fin.ext (show 0 + k % 4096 = k % 4096 by omega)

/-- and the others, each times its weight of the second. -/
theorem WV_apply (d : Fin 2048) (k : ℕ) :
    WV m c (ix2 d (Fin.ofNat 4096 k)) = scaled (m ((c : Thread nD τ).loc main_arg3)) (m ((c : Thread nD τ).loc main_arg4)) 2048 d k := by
  unfold WV
  entry_read
  refine congrArg₂ (fun a b : EReal => a * b) (congrArg (m ((c : Thread nD τ).loc main_arg3) : Vec Ideal S2048 .f32) (funext fun a => ?_)) (congrArg (m ((c : Thread nD τ).loc main_arg4) : Vec Ideal S4096x4096 .f32) (funext fun a => ?_))
  · match a with
    | ⟨0, _⟩ => exact Fin.ext rfl
  · have hd := d.isLt
    match a with
    | ⟨0, _⟩ => exact Fin.ext (show 2048 + d.val = (2048 + d.val) % 4096 by omega)
    | ⟨1, _⟩ => exact Fin.ext (show 0 + k % 4096 = k % 4096 by omega)

/-- The last normalisation's weights, as one row. -/
theorem NW_apply (k : Fin 4096) : NW m c (ix2 0 k) = m ((c : Thread nD τ).loc main_arg6) (ix1 k) := by
  unfold NW
  entry_read
  refine shapeCast_apply _ shapeCasts_S4096_S1x4096 _ _ ?_
  rewrite [Shape.rowMajor_val_one, Shape.rowMajor_val_two]
  show k.val = 0 * 4096 + k.val
  omega

/-- The kernel's products are those of the normalised rows, -/
theorem MX_eq (r k : ℕ) : MX (UB m c) (VB m c) (WU m c) (WV m c) r k
    = mix (m ((c : Thread nD τ).loc main_arg0)) (m ((c : Thread nD τ).loc main_arg1)) (m ((c : Thread nD τ).loc main_arg2)) (m ((c : Thread nD τ).loc main_arg3)) (m ((c : Thread nD τ).loc main_arg4)) r k := by
  unfold MX mix
  rw [dot_scaled, dot_scaled]
  exact congrArg₂ (fun a b : EReal => a + b)
    (congrArg₂ (fun a b : EReal => a * b) (congrArg₂ dot (funext fun d => congrFun (V_main_arg0 m c) _) (funext fun d => WU_apply m c d k)) (congrArg factor (funext fun d => congrFun (V_main_arg0 m c) _)))
    (congrArg₂ (fun a b : EReal => a * b) (congrArg₂ dot (funext fun d => congrFun (V_main_arg1 m c) _) (funext fun d => WV_apply m c d k)) (congrArg factor (funext fun d => congrFun (V_main_arg1 m c) _)))

/-- and its rows' factors those of the last normalisation. -/
theorem FA_eq (r : ℕ) : FA (MX (UB m c) (VB m c) (WU m c) (WV m c)) r
    = Ideal.rsqrt (mixsq (m ((c : Thread nD τ).loc main_arg0)) (m ((c : Thread nD τ).loc main_arg1)) (m ((c : Thread nD τ).loc main_arg2)) (m ((c : Thread nD τ).loc main_arg3)) (m ((c : Thread nD τ).loc main_arg4)) r + Ideal.ofBits .f32 0x358637BD#32) := by
  unfold FA mixsq SQ
  rw [Cert.Emb.mean_eq, Finset.sum_range]
  refine congrArg (fun a : EReal => Ideal.rsqrt (Ideal.div a _ + _)) (Finset.sum_congr rfl fun k _ => ?_)
  rw [MX_eq m c r k.val]

/-- The kernel's results are the stream with the normalised product added. -/
theorem OUT_eq (r k : ℕ) : OUT m c r k = out (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) r k := by
  unfold OUT out
  rw [MX_eq, FA_eq, NW_apply]
  exact congrArg (fun a : EReal => a + _) (congrFun (V_main_arg5 m c) _)

end Cert.Opj
end
-- ==== Proof.Opj.Ref.lean ====
module
public import proofs.«01_k».proof.Proof.Opj.Host
public import proofs.«01_k».proof.Proof.Gen.OutProjRefIdeal.Read
public import Idealize.ShloMosaic.Lib.Pipeline.Value

/-! The reference's results are the same stream with the same normalised product added. -/

@[expose] public section
set_option maxRecDepth 16384
noncomputable section
namespace Cert.Opj
open Cert.Carry Cert.OutProjRefIdeal Cert.OutProjRefIdeal.Gen Cert.OutProjRefIdeal.Read Idealize.ShloMosaic Idealize.ShloMosaic.TcCoe Idealize.ShloMosaic.Tactic Idealize.SL.Sem

variable (u v : Vec Ideal S16384x2048 .bf16) (g h : Vec Ideal S2048 .f32) (W : Vec Ideal S4096x4096 .f32) (x : Vec Ideal S16384x4096 .f32) (w : Vec Ideal S4096 .f32)

/-- The reference's first half, normalised. -/
theorem v13_eq (i : S16384x2048.Idx) : val_main_v13 (F := Ideal) u g i = u i * (factor fun d => u (ix2 (i 0) d)) * g (ix1 (i 1)) := by
  have h0 : Ideal.ofBits .f32 0x00000000#32 = 0 := Ideal.ofBits_zero_f32
  rw [val_main_v13_apply, val_main_v12_apply, val_main_v11_apply, val_main_v10_apply, val_main_v9_apply, val_main_v8_apply, val_main_v7_apply, val_main_v6_apply, val_main_v5_apply,
    val_main_v4_apply, val_main_v3_apply, val_main_v2_apply, val_main_v0_apply, val_main_cst_apply, val_main_cst_0_apply, val_main_cst_1_apply]
  refine congrArg₂ (fun a b : EReal => a * b) (congrArg (fun z : EReal => u i * Ideal.rsqrt (Ideal.div z _ + _)) ?_) (congrArg g (funext fun a => ?_))
  · refine (congrArg (fun z : EReal => z + _) h0).trans ((zero_add _).trans (Finset.sum_congr rfl fun d _ => ?_))
    rw [val_main_v1_apply, val_main_v0_apply]
    refine congrArg (fun j => (u j * u j : EReal)) (funext fun a => ?_)
    match a with
    | ⟨0, _⟩ => rfl
    | ⟨1, _⟩ => rfl
  · match a with
    | ⟨0, _⟩ => rfl

/-- The second half's normalisation is the first's. -/
theorem v27_eq (i : S16384x2048.Idx) : val_main_v27 (F := Ideal) v h i = v i * (factor fun d => v (ix2 (i 0) d)) * h (ix1 (i 1)) :=
  (show val_main_v27 (F := Ideal) v h i = val_main_v13 (F := Ideal) v h i from rfl).trans (v13_eq v h i)

/-- The halves joined: the first columns are the first half's, -/
theorem v28_lo (r : Fin 16384) (d : Fin 2048) : val_main_v28 (F := Ideal) u v g h (ix2 r (Fin.castAdd 2048 d)) = u (ix2 r d) * (factor fun d => u (ix2 r d)) * g (ix1 d) :=
  (concatenate_pair_apply_left (t := S16384x4096) 1 (val_main_v13 (F := Ideal) u g) (val_main_v27 (F := Ideal) v h) concatenates_S16384x2048_S16384x2048_S16384x4096_d1 (ix2 r (Fin.castAdd 2048 d)) rfl (ix2 r d)
    fun b => match b with
      | ⟨0, _⟩ => rfl
      | ⟨1, _⟩ => rfl).trans (v13_eq u g (ix2 r d))

/-- and the others the second's. -/
theorem v28_hi (r : Fin 16384) (d : Fin 2048) : val_main_v28 (F := Ideal) u v g h (ix2 r (Fin.natAdd 2048 d)) = v (ix2 r d) * (factor fun d => v (ix2 r d)) * h (ix1 d) :=
  (concatenate_pair_apply_right (t := S16384x4096) 1 (val_main_v13 (F := Ideal) u g) (val_main_v27 (F := Ideal) v h) concatenates_S16384x2048_S16384x2048_S16384x4096_d1 (ix2 r (Fin.natAdd 2048 d)) rfl rfl (ix2 r d)
    (fun b => match b with
      | ⟨0, _⟩ => fun _ => rfl
      | ⟨1, _⟩ => fun hb => absurd rfl hb) (Nat.add_comm d.val 2048)).trans (v27_eq v h (ix2 r d))

/-- The reference's product. -/
theorem v29_eq (i : S16384x4096.Idx) : val_main_v29 (F := Ideal) u v g h W i = mix u v g h W (i 0).val (i 1).val := by
  have h0 : (i 0).val < 16384 := (i 0).isLt
  have h1 : (i 1).val < 4096 := (i 1).isLt
  have er : Fin.ofNat 16384 (i 0).val = i 0 := Fin.ext (Nat.mod_eq_of_lt h0)
  have hl (k : Fin 4096) : lidx_main_v29 i k = ix2 (i 0) k := funext fun a => match a with
    | ⟨0, _⟩ => rfl
    | ⟨1, _⟩ => rfl
  rw [val_main_v29_apply]
  unfold mix
  rw [er]
  refine (Fin.sum_univ_add (a := 2048) (b := 2048) (M := EReal) fun k : Fin (2048 + 2048) => val_main_v28 (F := Ideal) u v g h (lidx_main_v29 i k) * W (ridx_main_v29 i k)).trans ?_
  refine congrArg₂ (fun a b : EReal => a + b) (Finset.sum_congr rfl fun d _ => ?_) (Finset.sum_congr rfl fun d _ => ?_)
  · rw [hl]
    refine congrArg₂ (fun a b : EReal => a * b) (v28_lo u v g h (i 0) d) (congrArg W (funext fun a => ?_))
    have hd := d.isLt
    match a with
    | ⟨0, _⟩ => exact Fin.ext (show d.val = (0 + d.val) % 4096 by omega)
    | ⟨1, _⟩ => exact Fin.ext (Nat.mod_eq_of_lt h1).symm
  · rw [hl]
    refine congrArg₂ (fun a b : EReal => a * b) (v28_hi u v g h (i 0) d) (congrArg W (funext fun a => ?_))
    have hd := d.isLt
    match a with
    | ⟨0, _⟩ => exact Fin.ext (show 2048 + d.val = (2048 + d.val) % 4096 by omega)
    | ⟨1, _⟩ => exact Fin.ext (Nat.mod_eq_of_lt h1).symm

/-- The reference's sum of a row's squares. -/
theorem v31_eq (i : S16384.Idx) : val_main_v31 (F := Ideal) u v g h W i = ∑ k : Fin 4096, mix u v g h W (i 0).val k * mix u v g h W (i 0).val k := by
  have h0 : Ideal.ofBits .f32 0x00000000#32 = 0 := Ideal.ofBits_zero_f32
  rw [val_main_v31_apply, val_main_cst_5_apply]
  refine (congrArg (fun z : EReal => z + _) h0).trans ((zero_add _).trans (Finset.sum_congr rfl fun k _ => ?_))
  rw [val_main_v30_apply, v29_eq]
  rfl

/-- The reference's first result, -/
theorem v43_eq : val_main_v43 (F := Ideal) u v g h W x w = fun i => out u v g h W x w (i 0).val (i 1).val := by
  funext i
  have h0 : (i 0).val < 16384 := (i 0).isLt
  have h1 : (i 1).val < 4096 := (i 1).isLt
  rw [val_main_v43_apply, val_main_v42_apply, val_main_v41_apply, val_main_v40_apply, val_main_v39_apply, val_main_v38_apply, val_main_v37_apply, val_main_v36_apply, val_main_v35_apply,
    val_main_v34_apply, val_main_v33_apply, val_main_v32_apply, val_main_cst_6_apply, val_main_cst_7_apply, v29_eq, v31_eq]
  unfold out mixsq
  refine congrArg₂ (fun a b : EReal => a + b) (congrArg x (funext fun a => ?_)) (congrArg₂ (fun a b : EReal => a * b) rfl (congrArg w (funext fun a => ?_)))
  · match a with
    | ⟨0, _⟩ => exact Fin.ext (Nat.mod_eq_of_lt h0).symm
    | ⟨1, _⟩ => exact Fin.ext (Nat.mod_eq_of_lt h1).symm
  · match a with
    | ⟨0, _⟩ => exact Fin.ext (Nat.mod_eq_of_lt h1).symm

/-- and its second, which is the first in the narrower format. -/
theorem v44_eq : val_main_v44 (F := Ideal) u v g h W x w = fun i => out u v g h W x w (i 0).val (i 1).val :=
  (show val_main_v44 (F := Ideal) u v g h W x w = val_main_v43 (F := Ideal) u v g h W x w from rfl).trans (v43_eq u v g h W x w)

end Cert.Opj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleRefIdeal.Run
public import proofs.«01_k».proof.Proof.Gen.PleRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.InProjS
public import proofs.«01_k».proof.Proof.Gen.InProjS.Skeleton
public import proofs.«01_k».proof.Proof.Gen.InProjS.Launch
public import proofs.«01_k».proof.Proof.Gen.InProjS.Points
public import proofs.«01_k».proof.Proof.Gen.InProjS.Frame
public import proofs.«01_k».proof.Proof.Gen.InProjSIdeal
public import proofs.«01_k».proof.Proof.Gen.InProjSIdeal.Skeleton
public import proofs.«01_k».proof.Proof.Gen.InProjSIdeal.Launch
public import proofs.«01_k».proof.Proof.Gen.InProjSIdeal.Points
public import proofs.«01_k».proof.Proof.Gen.InProjSIdeal.Frame
public import proofs.«01_k».proof.Proof.Gen.InProjSRefIdeal
public import proofs.«01_k».proof.Proof.Gen.InProjSRefIdeal.Run
public import proofs.«01_k».proof.Proof.Gen.InProjSRefIdeal.Read
public import proofs.«01_k».proof.Proof.Att.Ref
public import proofs.«01_k».proof.Proof.Att.Finite
public import proofs.«01_k».proof.Proof.Inp.Ref
public import proofs.«01_k».proof.Proof.Inp.Launch
public import proofs.«01_k».proof.Proof.Inp.Raw
public import proofs.«01_k».proof.Proof.InpS.Ref
public import proofs.«01_k».proof.Proof.InpS.Launch
public import proofs.«01_k».proof.Proof.InpS.Raw
public import Idealize.ShloMosaic.Lib.Quiescent
public import Idealize.ShloMosaic.Adequacy
public import Idealize.ShloMosaic.Init
public import proofs.«01_k».proof.Proof.Ple.Raw
public import proofs.«01_k».proof.Proof.Ple.Launch
public import proofs.«01_k».proof.Proof.Ple.Ref
public import proofs.«01_k».proof.Proof.Opj.Raw
public import proofs.«01_k».proof.Proof.Opj.Launch
public import proofs.«01_k».proof.Proof.Opj.Ref

@[expose] public section

noncomputable section

namespace Cert.Proof

open Idealize.ShloMosaic Idealize.SL.Sem Cert.Kernel

/-- The attention's reference ends with its arguments unchanged; it declares no semaphore. -/
theorem frame_ri (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  θ_run_mono (Cert.ReferenceIdeal.Value.run m g) fun r h => ⟨fun c => (h c).2, sem_eq_zero_of_no_sems rfl r.2⟩

/-- From finite queries and keys, the attention's kernel and its reference end with the same array. -/
theorem attention : Cert.algebraic_KernelIdeal_ReferenceIdeal_pre_finite := by
  intro m g m' g' hp ha
  refine ⟨fun c => Cert.Att.attArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact θ_run_mono (Cert.KernelIdeal.Value.run_blocks m g) fun r h c =>
      ⟨(h c).1.trans (Cert.Att.array_eq m c), (h c).2⟩
  · refine θ_run_mono (Cert.ReferenceIdeal.Value.run m' g') fun r h c => ⟨(h c).1.trans ?_, (h c).2⟩
    obtain ⟨h0, h1, h2, h3⟩ := ha c
    obtain ⟨hq, hk⟩ := Cert.Att.real_of_pre _ _ _ _ (hp c)
    rw [Cert.ReferenceIdeal.Read.val_main_v29_eq, h0, h1, h2, h3]
    exact Cert.Att.ref_eq _ _ _ _ hq hk

/-- The projection's reference ends with its arguments unchanged; it declares no semaphore. -/
theorem frame_proj (m : (ℓ : Loc Cert.InProjRefIdeal.nD Cert.InProjRefIdeal.τ Cert.InProjRefIdeal.sig) → Buf (Elt Ideal) ℓ) (g : Dev Cert.InProjRefIdeal.nD → PrngReg) :
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
        r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
        ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
        ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
        ∧ r.2.sem = fun _ => 0) :=
  θ_run_mono (Cert.InProjRefIdeal.Value.run m g) fun r h => ⟨fun c => (h c).2.2.2.2.2.2.2, sem_eq_zero_of_no_sems rfl r.2⟩

/-- From the same input and weights, the projection's kernel and its reference end with the same seven arrays. -/
theorem projection : Cert.algebraic_InProjIdeal_InProjRefIdeal := by
  intro m g m' g' _ ha
  refine ⟨fun c y => Cert.Proj.proj (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (y 0).val (0 + (y 1).val) * (Named.named (F := Ideal) Cert.InProjIdeal.κ "q_scale" (φ := .f32) 0x3E0293EE#32 : EReal),
    fun c y => Cert.Proj.proj (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (y 0).val (2048 + (y 1).val),
    fun c y => Cert.Proj.proj (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (y 0).val (4096 + (y 1).val),
    fun c y => Cert.Proj.proj (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (y 0).val (6144 + (y 1).val),
    fun c y => Cert.Proj.proj (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (y 0).val (8192 + (y 1).val),
    fun c y => Cert.Proj.proj (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (y 0).val (12288 + (y 1).val),
    fun c y => (if (y 1).val < 32 then Cert.Proj.proj (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (y 0).val (14336 + (y 1).val) else 0 : EReal), ?_, ?_⟩
  · refine θ_run_mono (Cert.Inp.run m g) fun r h c => ⟨(Cert.Inp.array4 h.1 c).trans ?_, (Cert.Inp.array5 h.1 c).trans ?_, (Cert.Inp.array6 h.1 c).trans ?_,
      (Cert.Inp.array7 h.1 c).trans ?_, (Cert.Inp.array8 h.1 c).trans ?_, (Cert.Inp.array9 h.1 c).trans ?_, (Cert.Inp.array10 h.1 c).trans ?_, Cert.Inp.args h.1 c⟩
    · exact funext fun y => congrArg (fun a : EReal => a * (Named.named (F := Ideal) Cert.InProjIdeal.κ "q_scale" (φ := .f32) 0x3E0293EE#32 : EReal)) (Cert.Inp.PR_eq m c _ _)
    · exact funext fun y => Cert.Inp.PR_eq m c _ _
    · exact funext fun y => Cert.Inp.PR_eq m c _ _
    · exact funext fun y => Cert.Inp.PR_eq m c _ _
    · exact funext fun y => Cert.Inp.PR_eq m c _ _
    · exact funext fun y => Cert.Inp.PR_eq m c _ _
    · exact funext fun y => Cert.Inp.DR_eq m c _ (y 1)
  · refine θ_run_mono (Cert.InProjRefIdeal.Value.run m' g') fun r h c => ?_
    obtain ⟨h0, h1, h2⟩ := ha c
    obtain ⟨e0, e1, e2, e3, e4, e5, e6, hargs⟩ := h c
    rw [Cert.InProjRefIdeal.Read.val_main_v27_eq, h0, h1, h2] at e0
    rw [Cert.InProjRefIdeal.Read.val_main_v16_eq, h0, h1, h2] at e1
    rw [Cert.InProjRefIdeal.Read.val_main_v17_eq, h0, h1, h2] at e2
    rw [Cert.InProjRefIdeal.Read.val_main_v28_eq, h0, h1, h2] at e3
    rw [Cert.InProjRefIdeal.Read.val_main_v19_eq, h0, h1, h2] at e4
    rw [Cert.InProjRefIdeal.Read.val_main_v29_eq, h0, h1, h2] at e5
    rw [Cert.InProjRefIdeal.Read.val_main_v30_eq, h0, h1, h2] at e6
    exact ⟨e0.trans (Cert.Inp.v27_eq _ _ _), e1.trans (Cert.Inp.v16_eq _ _ _), e2.trans (Cert.Inp.v17_eq _ _ _), e3.trans (Cert.Inp.v28_eq _ _ _),
      e4.trans (Cert.Inp.v19_eq _ _ _), e5.trans (Cert.Inp.v29_eq _ _ _), e6.trans (Cert.Inp.v30_eq _ _ _), hargs⟩

/-- The gated embedding's reference ends with its arguments unchanged; it declares no semaphore. -/
theorem frame_emb (m : (ℓ : Loc Cert.PleRefIdeal.nD Cert.PleRefIdeal.τ Cert.PleRefIdeal.sig) → Buf (Elt Ideal) ℓ) (g : Dev Cert.PleRefIdeal.nD → PrngReg) :
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
        r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
        ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
        ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
        ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
        ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
        ∧ r.2.sem = fun _ => 0) :=
  θ_run_mono (Cert.PleRefIdeal.Value.run m g) fun r h => ⟨fun c => (h c).2, sem_eq_zero_of_no_sems rfl r.2⟩

/-- From the same stream, embeddings and weights, the gated embedding's kernel and its reference end with the same array. -/
theorem embedding : Cert.algebraic_PleIdeal_PleRefIdeal := by
  intro m g m' g' _ ha
  refine ⟨fun c y => Cert.Emb.emb (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (y 0).val (y 1).val, ?_, ?_⟩
  · exact θ_run_mono (Cert.Emb.run m g) fun r h c => ⟨(Cert.Emb.array6 h.1 c).trans (funext fun y => Cert.Emb.OUT_eq m c _ _), Cert.Emb.args h.1 c⟩
  · refine θ_run_mono (Cert.PleRefIdeal.Value.run m' g') fun r h c => ⟨(h c).1.trans ?_, (h c).2⟩
    obtain ⟨h0, h1, h2, h3, h4⟩ := ha c
    rw [Cert.PleRefIdeal.Read.val_main_v23_eq, h0, h1, h2, h3, h4]
    exact Cert.Emb.v23_eq _ _ _ _ _

/-- The last product's reference ends with its arguments unchanged; it declares no semaphore. -/
theorem frame_out (m : (ℓ : Loc Cert.OutProjRefIdeal.nD Cert.OutProjRefIdeal.τ Cert.OutProjRefIdeal.sig) → Buf (Elt Ideal) ℓ) (g : Dev Cert.OutProjRefIdeal.nD → PrngReg) :
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
        r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
        ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
        ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
        ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
        ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
        ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
        ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
        ∧ r.2.sem = fun _ => 0) :=
  θ_run_mono (Cert.OutProjRefIdeal.Value.run m g) fun r h => ⟨fun c => (h c).2.2, sem_eq_zero_of_no_sems rfl r.2⟩

/-- From the same halves, stream and weights, the last product's kernel and its reference end with the same two arrays. -/
theorem output : Cert.algebraic_OutProjIdeal_OutProjRefIdeal := by
  intro m g m' g' _ ha
  refine ⟨fun c y => Cert.Opj.out (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (y 0).val (y 1).val,
    fun c y => Cert.Opj.out (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (y 0).val (y 1).val, ?_, ?_⟩
  · exact θ_run_mono (Cert.Opj.run m g) fun r h c => ⟨(Cert.Opj.array6 h.1 c).trans (funext fun y => Cert.Opj.OUT_eq m c _ _),
      (Cert.Opj.array7 h.1 c).trans (funext fun y => Cert.Opj.OUT_eq m c _ _), Cert.Opj.args h.1 c⟩
  · refine θ_run_mono (Cert.OutProjRefIdeal.Value.run m' g') fun r h c => ⟨(h c).1.trans ?_, (h c).2.1.trans ?_, (h c).2.2⟩
    · obtain ⟨h0, h1, h2, h3, h4, h5, h6⟩ := ha c
      rw [Cert.OutProjRefIdeal.Read.val_main_v43_eq, h0, h1, h2, h3, h4, h5, h6]
      exact Cert.Opj.v43_eq _ _ _ _ _ _ _
    · obtain ⟨h0, h1, h2, h3, h4, h5, h6⟩ := ha c
      rw [Cert.OutProjRefIdeal.Read.val_main_v44_eq, h0, h1, h2, h3, h4, h5, h6]
      exact Cert.Opj.v44_eq _ _ _ _ _ _ _

/-- At the sample's shapes, the projection's reference ends with its arguments unchanged; it declares no semaphore. -/
theorem frame_projs (m : (ℓ : Loc Cert.InProjSRefIdeal.nD Cert.InProjSRefIdeal.τ Cert.InProjSRefIdeal.sig) → Buf (Elt Ideal) ℓ) (g : Dev Cert.InProjSRefIdeal.nD → PrngReg) :
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
        r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
        ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
        ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
        ∧ r.2.sem = fun _ => 0) :=
  θ_run_mono (Cert.InProjSRefIdeal.Value.run m g) fun r h => ⟨fun c => (h c).2.2.2.2.2.2.2, sem_eq_zero_of_no_sems rfl r.2⟩

/-- At the sample's shapes, from the same input and weights, the projection's kernel and its reference end with the same seven arrays. -/
theorem projections : Cert.algebraic_InProjSIdeal_InProjSRefIdeal := by
  intro m g m' g' _ ha
  refine ⟨fun c y => Cert.Proj.proj (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)) (m ((c.tc : Thread Cert.InProjSIdeal.nD Cert.InProjSIdeal.τ).loc Cert.InProjSIdeal.main_arg2)) (y 0).val (0 + (y 1).val) * (Named.named (F := Ideal) Cert.InProjSIdeal.κ "q_scale" (φ := .f32) 0x3E0293EE#32 : EReal),
    fun c y => Cert.Proj.proj (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)) (m ((c.tc : Thread Cert.InProjSIdeal.nD Cert.InProjSIdeal.τ).loc Cert.InProjSIdeal.main_arg2)) (y 0).val (2048 + (y 1).val),
    fun c y => Cert.Proj.proj (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)) (m ((c.tc : Thread Cert.InProjSIdeal.nD Cert.InProjSIdeal.τ).loc Cert.InProjSIdeal.main_arg2)) (y 0).val (4096 + (y 1).val),
    fun c y => Cert.Proj.proj (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)) (m ((c.tc : Thread Cert.InProjSIdeal.nD Cert.InProjSIdeal.τ).loc Cert.InProjSIdeal.main_arg2)) (y 0).val (6144 + (y 1).val),
    fun c y => Cert.Proj.proj (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)) (m ((c.tc : Thread Cert.InProjSIdeal.nD Cert.InProjSIdeal.τ).loc Cert.InProjSIdeal.main_arg2)) (y 0).val (8192 + (y 1).val),
    fun c y => Cert.Proj.proj (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)) (m ((c.tc : Thread Cert.InProjSIdeal.nD Cert.InProjSIdeal.τ).loc Cert.InProjSIdeal.main_arg2)) (y 0).val (12288 + (y 1).val),
    fun c y => (if (y 1).val < 32 then Cert.Proj.proj (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)) (m ((c.tc : Thread Cert.InProjSIdeal.nD Cert.InProjSIdeal.τ).loc Cert.InProjSIdeal.main_arg2)) (y 0).val (14336 + (y 1).val) else 0 : EReal), ?_, ?_⟩
  · refine θ_run_mono (Cert.InpS.run m g) fun r h c => ⟨(Cert.InpS.array4 h.1 c).trans ?_, (Cert.InpS.array5 h.1 c).trans ?_, (Cert.InpS.array6 h.1 c).trans ?_,
      (Cert.InpS.array7 h.1 c).trans ?_, (Cert.InpS.array8 h.1 c).trans ?_, (Cert.InpS.array9 h.1 c).trans ?_, (Cert.InpS.array10 h.1 c).trans ?_, Cert.InpS.args h.1 c⟩
    · exact funext fun y => congrArg (fun a : EReal => a * (Named.named (F := Ideal) Cert.InProjSIdeal.κ "q_scale" (φ := .f32) 0x3E0293EE#32 : EReal)) (Cert.InpS.PR_eq m c _ _)
    · exact funext fun y => Cert.InpS.PR_eq m c _ _
    · exact funext fun y => Cert.InpS.PR_eq m c _ _
    · exact funext fun y => Cert.InpS.PR_eq m c _ _
    · exact funext fun y => Cert.InpS.PR_eq m c _ _
    · exact funext fun y => Cert.InpS.PR_eq m c _ _
    · exact funext fun y => Cert.InpS.DR_eq m c _ (y 1)
  · refine θ_run_mono (Cert.InProjSRefIdeal.Value.run m' g') fun r h c => ?_
    obtain ⟨h0, h1, h2⟩ := ha c
    obtain ⟨e0, e1, e2, e3, e4, e5, e6, hargs⟩ := h c
    rw [Cert.InProjSRefIdeal.Read.val_main_v27_eq, h0, h1, h2] at e0
    rw [Cert.InProjSRefIdeal.Read.val_main_v16_eq, h0, h1, h2] at e1
    rw [Cert.InProjSRefIdeal.Read.val_main_v17_eq, h0, h1, h2] at e2
    rw [Cert.InProjSRefIdeal.Read.val_main_v28_eq, h0, h1, h2] at e3
    rw [Cert.InProjSRefIdeal.Read.val_main_v19_eq, h0, h1, h2] at e4
    rw [Cert.InProjSRefIdeal.Read.val_main_v29_eq, h0, h1, h2] at e5
    rw [Cert.InProjSRefIdeal.Read.val_main_v30_eq, h0, h1, h2] at e6
    exact ⟨e0.trans (Cert.InpS.v27_eq _ _ _), e1.trans (Cert.InpS.v16_eq _ _ _), e2.trans (Cert.InpS.v17_eq _ _ _), e3.trans (Cert.InpS.v28_eq _ _ _),
      e4.trans (Cert.InpS.v19_eq _ _ _), e5.trans (Cert.InpS.v29_eq _ _ _), e6.trans (Cert.InpS.v30_eq _ _ _), hargs⟩

/-- Everything that the certificate claims. -/
theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.Ple.Gen.facts, Cert.PleIdeal.Gen.facts, Cert.PleRefIdeal.Gen.facts,
  Cert.OutProj.Gen.facts, Cert.OutProjIdeal.Gen.facts, Cert.OutProjRefIdeal.Gen.facts,
  Cert.InProjS.Gen.facts, Cert.InProjSIdeal.Gen.facts, Cert.InProjSRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_ri m ρ, fun m ρ _ => frame_ri m ρ,
  fun m ρ _ => Cert.InpRaw.frame m ρ, fun m ρ _ => Cert.Inp.frame ρ, fun m ρ _ => frame_proj m ρ,
  fun m ρ _ => Cert.PleRaw.frame ρ, fun m ρ _ => Cert.Emb.frame ρ, fun m ρ _ => frame_emb m ρ,
  fun m ρ _ => Cert.OpjRaw.frame ρ, fun m ρ _ => Cert.Opj.frame ρ, fun m ρ _ => frame_out m ρ,
  fun m ρ _ => Cert.InpSRaw.frame m ρ, fun m ρ _ => Cert.InpS.frame ρ, fun m ρ _ => frame_projs m ρ,
  ⟨IdealRules.named_const.statement Cert.KernelIdeal.κ "inv_ln2" .f32 0x3FB8AA3B#32 _ rfl,
    IdealRules.named_const.statement Cert.KernelIdeal.κ "neg_log2e" .f32 0xBFB8AA3B#32 _ rfl⟩,
  attention,
  IdealRules.named_const.statement Cert.InProjIdeal.κ "q_scale" .f32 0x3E0293EE#32 _ rfl,
  projection,
  IdealRules.named_const.statement Cert.PleIdeal.κ "neg_log2e" .f32 0xBFB8AA3B#32 _ rfl,
  embedding, trivial, output,
  IdealRules.named_const.statement Cert.InProjSIdeal.κ "q_scale" .f32 0x3E0293EE#32 _ rfl,
  projections⟩

end Cert.Proof

end
